-- ==== Defs.lean ====
def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Gather [hPre_idx_in_range : Cert.Pre_idx_in_range.Facts] (m : (ℓ : Loc Cert.Gather.nD Cert.Gather.τ Cert.Gather.sig) → Buf (Elt Bits) ℓ) : Prop :=
  ∀ c : Dev Cert.Gather.nD,
    (Cert.Pre_idx_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_idx_in_range : Cert.Pre_idx_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal [hPre_idx_in_range : Cert.Pre_idx_in_range.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_idx_in_range.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def Pre_Scatter [hPre_idx_in_range2 : Cert.Pre_idx_in_range2.Facts] (m : (ℓ : Loc Cert.Scatter.nD Cert.Scatter.τ Cert.Scatter.sig) → Buf (Elt Bits) ℓ) : Prop :=
  ∀ c : Dev Cert.Scatter.nD,
    (Cert.Pre_idx_in_range2.fn (F := Bits) (m ((c.tc : Thread Cert.Scatter.nD Cert.Scatter.τ).loc Cert.Scatter.main_arg0)) (m ((c.tc : Thread Cert.Scatter.nD Cert.Scatter.τ).loc Cert.Scatter.main_arg1))) = (fun _ => 1#1)

def Pre_ScatterIdeal [hPre_idx_in_range2 : Cert.Pre_idx_in_range2.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_idx_in_range2.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1))) = (fun _ => 1#1)

def Pre_ScatterRefIdeal [hPre_idx_in_range2 : Cert.Pre_idx_in_range2.Facts] (m : (ℓ : Loc Cert.ScatterRefIdeal.nD Cert.ScatterRefIdeal.τ Cert.ScatterRefIdeal.sig) → Buf (Elt Ideal) ℓ) : Prop :=
  ∀ c : Dev Cert.ScatterRefIdeal.nD,
    (Cert.Pre_idx_in_range2.fn (F := Ideal) (m ((c.tc : Thread Cert.ScatterRefIdeal.nD Cert.ScatterRefIdeal.τ).loc Cert.ScatterRefIdeal.main_arg0)) (m ((c.tc : Thread Cert.ScatterRefIdeal.nD Cert.ScatterRefIdeal.τ).loc Cert.ScatterRefIdeal.main_arg1))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge [hPre_merge_finite : Cert.Pre_merge_finite.Facts] (m : (ℓ : Loc Cert.Merge.nD Cert.Merge.τ Cert.Merge.sig) → Buf (Elt Bits) ℓ) : Prop :=
  ∀ c : Dev Cert.Merge.nD,
    (Cert.Pre_merge_finite.fn (F := Bits) (m ((c.tc : Thread Cert.Merge.nD Cert.Merge.τ).loc Cert.Merge.main_arg0)) (m ((c.tc : Thread Cert.Merge.nD Cert.Merge.τ).loc Cert.Merge.main_arg1)) (m ((c.tc : Thread Cert.Merge.nD Cert.Merge.τ).loc Cert.Merge.main_arg2)) (m ((c.tc : Thread Cert.Merge.nD Cert.Merge.τ).loc Cert.Merge.main_arg3)) (m ((c.tc : Thread Cert.Merge.nD Cert.Merge.τ).loc Cert.Merge.main_arg4)) (m ((c.tc : Thread Cert.Merge.nD Cert.Merge.τ).loc Cert.Merge.main_arg5)) (m ((c.tc : Thread Cert.Merge.nD Cert.Merge.τ).loc Cert.Merge.main_arg6)) (m ((c.tc : Thread Cert.Merge.nD Cert.Merge.τ).loc Cert.Merge.main_arg7)) (m ((c.tc : Thread Cert.Merge.nD Cert.Merge.τ).loc Cert.Merge.main_arg8)) (m ((c.tc : Thread Cert.Merge.nD Cert.Merge.τ).loc Cert.Merge.main_arg9)) (m ((c.tc : Thread Cert.Merge.nD Cert.Merge.τ).loc Cert.Merge.main_arg10)) (m ((c.tc : Thread Cert.Merge.nD Cert.Merge.τ).loc Cert.Merge.main_arg11)) (m ((c.tc : Thread Cert.Merge.nD Cert.Merge.τ).loc Cert.Merge.main_arg12)) (m ((c.tc : Thread Cert.Merge.nD Cert.Merge.τ).loc Cert.Merge.main_arg13)) (m ((c.tc : Thread Cert.Merge.nD Cert.Merge.τ).loc Cert.Merge.main_arg14)) (m ((c.tc : Thread Cert.Merge.nD Cert.Merge.τ).loc Cert.Merge.main_arg15)) (m ((c.tc : Thread Cert.Merge.nD Cert.Merge.τ).loc Cert.Merge.main_arg16)) (m ((c.tc : Thread Cert.Merge.nD Cert.Merge.τ).loc Cert.Merge.main_arg17))) = (fun _ => 1#1)

def Pre_MergeIdeal [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17))) = (fun _ => 1#1)

def Pre_MergeRefIdeal [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16)) (m ((c.tc : Thread Cert.MergeRefIdeal.nD Cert.MergeRefIdeal.τ).loc Cert.MergeRefIdeal.main_arg17))) = (fun _ => 1#1)

def Pre_Prep [hPre_prep_finite : Cert.Pre_prep_finite.Facts] (m : (ℓ : Loc Cert.Prep.nD Cert.Prep.τ Cert.Prep.sig) → Buf (Elt Bits) ℓ) : Prop :=
  ∀ c : Dev Cert.Prep.nD,
    (Cert.Pre_prep_finite.fn (F := Bits) (m ((c.tc : Thread Cert.Prep.nD Cert.Prep.τ).loc Cert.Prep.main_arg0)) (m ((c.tc : Thread Cert.Prep.nD Cert.Prep.τ).loc Cert.Prep.main_arg1)) (m ((c.tc : Thread Cert.Prep.nD Cert.Prep.τ).loc Cert.Prep.main_arg2)) (m ((c.tc : Thread Cert.Prep.nD Cert.Prep.τ).loc Cert.Prep.main_arg3)) (m ((c.tc : Thread Cert.Prep.nD Cert.Prep.τ).loc Cert.Prep.main_arg4)) (m ((c.tc : Thread Cert.Prep.nD Cert.Prep.τ).loc Cert.Prep.main_arg5)) (m ((c.tc : Thread Cert.Prep.nD Cert.Prep.τ).loc Cert.Prep.main_arg6)) (m ((c.tc : Thread Cert.Prep.nD Cert.Prep.τ).loc Cert.Prep.main_arg7)) (m ((c.tc : Thread Cert.Prep.nD Cert.Prep.τ).loc Cert.Prep.main_arg8)) (m ((c.tc : Thread Cert.Prep.nD Cert.Prep.τ).loc Cert.Prep.main_arg9))) = (fun _ => 1#1)

def Pre_PrepIdeal [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))) = (fun _ => 1#1)

def Pre_PrepRefIdeal [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))) = (fun _ => 1#1)

def Pre_Ctxproj (m : (ℓ : Loc Cert.Ctxproj.nD Cert.Ctxproj.τ Cert.Ctxproj.sig) → Buf (Elt Bits) ℓ) : Prop :=
  True

def Pre_CtxprojIdeal (m : (ℓ : Loc Cert.CtxprojIdeal.nD Cert.CtxprojIdeal.τ Cert.CtxprojIdeal.sig) → Buf (Elt Ideal) ℓ) : Prop :=
  True

def Pre_CtxprojRefIdeal (m : (ℓ : Loc Cert.CtxprojRefIdeal.nD Cert.CtxprojRefIdeal.τ Cert.CtxprojRefIdeal.sig) → Buf (Elt Ideal) ℓ) : Prop :=
  True

def Pre_Hypre (m : (ℓ : Loc Cert.Hypre.nD Cert.Hypre.τ Cert.Hypre.sig) → Buf (Elt Bits) ℓ) : Prop :=
  True

def Pre_HypreIdeal (m : (ℓ : Loc Cert.HypreIdeal.nD Cert.HypreIdeal.τ Cert.HypreIdeal.sig) → Buf (Elt Ideal) ℓ) : Prop :=
  True

def Pre_HypreRefIdeal (m : (ℓ : Loc Cert.HypreRefIdeal.nD Cert.HypreRefIdeal.τ Cert.HypreRefIdeal.sig) → Buf (Elt Ideal) ℓ) : Prop :=
  True

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModulRefIdeal (m : (ℓ : Loc Cert.ModulRefIdeal.nD Cert.ModulRefIdeal.τ Cert.ModulRefIdeal.sig) → Buf (Elt Ideal) ℓ) : Prop :=
  True

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Gather [hGather : Cert.Gather.Facts] [hPre_idx_in_range : Cert.Pre_idx_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_idx_in_range : Cert.Pre_idx_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] [hPre_idx_in_range : Cert.Pre_idx_in_range.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_Scatter [hScatter : Cert.Scatter.Facts] [hPre_idx_in_range2 : Cert.Pre_idx_in_range2.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ScatterIdeal [hScatterIdeal : Cert.ScatterIdeal.Facts] [hPre_idx_in_range2 : Cert.Pre_idx_in_range2.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0)

def quiescent_ScatterRefIdeal [hScatterRefIdeal : Cert.ScatterRefIdeal.Facts] [hPre_idx_in_range2 : Cert.Pre_idx_in_range2.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Merge [hMerge : Cert.Merge.Facts] [hPre_merge_finite : Cert.Pre_merge_finite.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17))
      ∧ r.2.sem = fun _ => 0)

def quiescent_MergeIdeal [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17))
      ∧ r.2.sem = fun _ => 0)

def quiescent_MergeRefIdeal [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17))
      ∧ r.2.sem = fun _ => 0)

def quiescent_Prep [hPrep : Cert.Prep.Facts] [hPre_prep_finite : Cert.Pre_prep_finite.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepRefIdeal [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_Ctxproj [hCtxproj : Cert.Ctxproj.Facts] : Prop :=
  ∀ (m : (ℓ : Loc Cert.Ctxproj.nD Cert.Ctxproj.τ Cert.Ctxproj.sig) → Buf (Elt Bits) ℓ) (g : Dev Cert.Ctxproj.nD → PrngReg), Pre_Ctxproj m →
    θ_run (Cert.Ctxproj.defs (F := Bits)) (onTc (τ := Cert.Ctxproj.τ) (Cert.Ctxproj.main (F := Bits))) ⟨m, fun _ => 0, g⟩ (fun r => (∀ c : Dev Cert.Ctxproj.nD,
      r.2.mem ((c.tc : Thread Cert.Ctxproj.nD Cert.Ctxproj.τ).loc Cert.Ctxproj.main_arg0) = m ((c.tc : Thread Cert.Ctxproj.nD Cert.Ctxproj.τ).loc Cert.Ctxproj.main_arg0)
      ∧ r.2.mem ((c.tc : Thread Cert.Ctxproj.nD Cert.Ctxproj.τ).loc Cert.Ctxproj.main_arg1) = m ((c.tc : Thread Cert.Ctxproj.nD Cert.Ctxproj.τ).loc Cert.Ctxproj.main_arg1)
      ∧ r.2.mem ((c.tc : Thread Cert.Ctxproj.nD Cert.Ctxproj.τ).loc Cert.Ctxproj.main_arg2) = m ((c.tc : Thread Cert.Ctxproj.nD Cert.Ctxproj.τ).loc Cert.Ctxproj.main_arg2)
      ∧ r.2.mem ((c.tc : Thread Cert.Ctxproj.nD Cert.Ctxproj.τ).loc Cert.Ctxproj.main_arg3) = m ((c.tc : Thread Cert.Ctxproj.nD Cert.Ctxproj.τ).loc Cert.Ctxproj.main_arg3)
      ∧ r.2.mem ((c.tc : Thread Cert.Ctxproj.nD Cert.Ctxproj.τ).loc Cert.Ctxproj.main_arg4) = m ((c.tc : Thread Cert.Ctxproj.nD Cert.Ctxproj.τ).loc Cert.Ctxproj.main_arg4))
      ∧ r.2.sem = fun _ => 0)

def quiescent_CtxprojIdeal [hCtxprojIdeal : Cert.CtxprojIdeal.Facts] : Prop :=
  ∀ (m : (ℓ : Loc Cert.CtxprojIdeal.nD Cert.CtxprojIdeal.τ Cert.CtxprojIdeal.sig) → Buf (Elt Ideal) ℓ) (g : Dev Cert.CtxprojIdeal.nD → PrngReg), Pre_CtxprojIdeal m →
    θ_run (Cert.CtxprojIdeal.defs (F := Ideal)) (onTc (τ := Cert.CtxprojIdeal.τ) (Cert.CtxprojIdeal.main (F := Ideal))) ⟨m, fun _ => 0, g⟩ (fun r => (∀ c : Dev Cert.CtxprojIdeal.nD,
      r.2.mem ((c.tc : Thread Cert.CtxprojIdeal.nD Cert.CtxprojIdeal.τ).loc Cert.CtxprojIdeal.main_arg0) = m ((c.tc : Thread Cert.CtxprojIdeal.nD Cert.CtxprojIdeal.τ).loc Cert.CtxprojIdeal.main_arg0)
      ∧ r.2.mem ((c.tc : Thread Cert.CtxprojIdeal.nD Cert.CtxprojIdeal.τ).loc Cert.CtxprojIdeal.main_arg1) = m ((c.tc : Thread Cert.CtxprojIdeal.nD Cert.CtxprojIdeal.τ).loc Cert.CtxprojIdeal.main_arg1)
      ∧ r.2.mem ((c.tc : Thread Cert.CtxprojIdeal.nD Cert.CtxprojIdeal.τ).loc Cert.CtxprojIdeal.main_arg2) = m ((c.tc : Thread Cert.CtxprojIdeal.nD Cert.CtxprojIdeal.τ).loc Cert.CtxprojIdeal.main_arg2)
      ∧ r.2.mem ((c.tc : Thread Cert.CtxprojIdeal.nD Cert.CtxprojIdeal.τ).loc Cert.CtxprojIdeal.main_arg3) = m ((c.tc : Thread Cert.CtxprojIdeal.nD Cert.CtxprojIdeal.τ).loc Cert.CtxprojIdeal.main_arg3)
      ∧ r.2.mem ((c.tc : Thread Cert.CtxprojIdeal.nD Cert.CtxprojIdeal.τ).loc Cert.CtxprojIdeal.main_arg4) = m ((c.tc : Thread Cert.CtxprojIdeal.nD Cert.CtxprojIdeal.τ).loc Cert.CtxprojIdeal.main_arg4))
      ∧ r.2.sem = fun _ => 0)

def quiescent_CtxprojRefIdeal [hCtxprojRefIdeal : Cert.CtxprojRefIdeal.Facts] : Prop :=
  ∀ (m : (ℓ : Loc Cert.CtxprojRefIdeal.nD Cert.CtxprojRefIdeal.τ Cert.CtxprojRefIdeal.sig) → Buf (Elt Ideal) ℓ) (g : Dev Cert.CtxprojRefIdeal.nD → PrngReg), Pre_CtxprojRefIdeal m →
    θ_run (Cert.CtxprojRefIdeal.defs (F := Ideal)) (onTc (τ := Cert.CtxprojRefIdeal.τ) (Cert.CtxprojRefIdeal.main (F := Ideal))) ⟨m, fun _ => 0, g⟩ (fun r => (∀ c : Dev Cert.CtxprojRefIdeal.nD,
      r.2.mem ((c.tc : Thread Cert.CtxprojRefIdeal.nD Cert.CtxprojRefIdeal.τ).loc Cert.CtxprojRefIdeal.main_arg0) = m ((c.tc : Thread Cert.CtxprojRefIdeal.nD Cert.CtxprojRefIdeal.τ).loc Cert.CtxprojRefIdeal.main_arg0)
      ∧ r.2.mem ((c.tc : Thread Cert.CtxprojRefIdeal.nD Cert.CtxprojRefIdeal.τ).loc Cert.CtxprojRefIdeal.main_arg1) = m ((c.tc : Thread Cert.CtxprojRefIdeal.nD Cert.CtxprojRefIdeal.τ).loc Cert.CtxprojRefIdeal.main_arg1)
      ∧ r.2.mem ((c.tc : Thread Cert.CtxprojRefIdeal.nD Cert.CtxprojRefIdeal.τ).loc Cert.CtxprojRefIdeal.main_arg2) = m ((c.tc : Thread Cert.CtxprojRefIdeal.nD Cert.CtxprojRefIdeal.τ).loc Cert.CtxprojRefIdeal.main_arg2)
      ∧ r.2.mem ((c.tc : Thread Cert.CtxprojRefIdeal.nD Cert.CtxprojRefIdeal.τ).loc Cert.CtxprojRefIdeal.main_arg3) = m ((c.tc : Thread Cert.CtxprojRefIdeal.nD Cert.CtxprojRefIdeal.τ).loc Cert.CtxprojRefIdeal.main_arg3)
      ∧ r.2.mem ((c.tc : Thread Cert.CtxprojRefIdeal.nD Cert.CtxprojRefIdeal.τ).loc Cert.CtxprojRefIdeal.main_arg4) = m ((c.tc : Thread Cert.CtxprojRefIdeal.nD Cert.CtxprojRefIdeal.τ).loc Cert.CtxprojRefIdeal.main_arg4))
      ∧ r.2.sem = fun _ => 0)

def quiescent_Hypre [hHypre : Cert.Hypre.Facts] : Prop :=
  ∀ (m : (ℓ : Loc Cert.Hypre.nD Cert.Hypre.τ Cert.Hypre.sig) → Buf (Elt Bits) ℓ) (g : Dev Cert.Hypre.nD → PrngReg), Pre_Hypre m →
    θ_run (Cert.Hypre.defs (F := Bits)) (onTc (τ := Cert.Hypre.τ) (Cert.Hypre.main (F := Bits))) ⟨m, fun _ => 0, g⟩ (fun r => (∀ c : Dev Cert.Hypre.nD,
      r.2.mem ((c.tc : Thread Cert.Hypre.nD Cert.Hypre.τ).loc Cert.Hypre.main_arg0) = m ((c.tc : Thread Cert.Hypre.nD Cert.Hypre.τ).loc Cert.Hypre.main_arg0)
      ∧ r.2.mem ((c.tc : Thread Cert.Hypre.nD Cert.Hypre.τ).loc Cert.Hypre.main_arg1) = m ((c.tc : Thread Cert.Hypre.nD Cert.Hypre.τ).loc Cert.Hypre.main_arg1)
      ∧ r.2.mem ((c.tc : Thread Cert.Hypre.nD Cert.Hypre.τ).loc Cert.Hypre.main_arg2) = m ((c.tc : Thread Cert.Hypre.nD Cert.Hypre.τ).loc Cert.Hypre.main_arg2))
      ∧ r.2.sem = fun _ => 0)

def quiescent_HypreIdeal [hHypreIdeal : Cert.HypreIdeal.Facts] : Prop :=
  ∀ (m : (ℓ : Loc Cert.HypreIdeal.nD Cert.HypreIdeal.τ Cert.HypreIdeal.sig) → Buf (Elt Ideal) ℓ) (g : Dev Cert.HypreIdeal.nD → PrngReg), Pre_HypreIdeal m →
    θ_run (Cert.HypreIdeal.defs (F := Ideal)) (onTc (τ := Cert.HypreIdeal.τ) (Cert.HypreIdeal.main (F := Ideal))) ⟨m, fun _ => 0, g⟩ (fun r => (∀ c : Dev Cert.HypreIdeal.nD,
      r.2.mem ((c.tc : Thread Cert.HypreIdeal.nD Cert.HypreIdeal.τ).loc Cert.HypreIdeal.main_arg0) = m ((c.tc : Thread Cert.HypreIdeal.nD Cert.HypreIdeal.τ).loc Cert.HypreIdeal.main_arg0)
      ∧ r.2.mem ((c.tc : Thread Cert.HypreIdeal.nD Cert.HypreIdeal.τ).loc Cert.HypreIdeal.main_arg1) = m ((c.tc : Thread Cert.HypreIdeal.nD Cert.HypreIdeal.τ).loc Cert.HypreIdeal.main_arg1)
      ∧ r.2.mem ((c.tc : Thread Cert.HypreIdeal.nD Cert.HypreIdeal.τ).loc Cert.HypreIdeal.main_arg2) = m ((c.tc : Thread Cert.HypreIdeal.nD Cert.HypreIdeal.τ).loc Cert.HypreIdeal.main_arg2))
      ∧ r.2.sem = fun _ => 0)

def quiescent_HypreRefIdeal [hHypreRefIdeal : Cert.HypreRefIdeal.Facts] : Prop :=
  ∀ (m : (ℓ : Loc Cert.HypreRefIdeal.nD Cert.HypreRefIdeal.τ Cert.HypreRefIdeal.sig) → Buf (Elt Ideal) ℓ) (g : Dev Cert.HypreRefIdeal.nD → PrngReg), Pre_HypreRefIdeal m →
    θ_run (Cert.HypreRefIdeal.defs (F := Ideal)) (onTc (τ := Cert.HypreRefIdeal.τ) (Cert.HypreRefIdeal.main (F := Ideal))) ⟨m, fun _ => 0, g⟩ (fun r => (∀ c : Dev Cert.HypreRefIdeal.nD,
      r.2.mem ((c.tc : Thread Cert.HypreRefIdeal.nD Cert.HypreRefIdeal.τ).loc Cert.HypreRefIdeal.main_arg0) = m ((c.tc : Thread Cert.HypreRefIdeal.nD Cert.HypreRefIdeal.τ).loc Cert.HypreRefIdeal.main_arg0)
      ∧ r.2.mem ((c.tc : Thread Cert.HypreRefIdeal.nD Cert.HypreRefIdeal.τ).loc Cert.HypreRefIdeal.main_arg1) = m ((c.tc : Thread Cert.HypreRefIdeal.nD Cert.HypreRefIdeal.τ).loc Cert.HypreRefIdeal.main_arg1)
      ∧ r.2.mem ((c.tc : Thread Cert.HypreRefIdeal.nD Cert.HypreRefIdeal.τ).loc Cert.HypreRefIdeal.main_arg2) = m ((c.tc : Thread Cert.HypreRefIdeal.nD Cert.HypreRefIdeal.τ).loc Cert.HypreRefIdeal.main_arg2))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ r.2.sem = fun _ => 0)

def quiescent_ModulRefIdeal [hModulRefIdeal : Cert.ModulRefIdeal.Facts] : Prop :=
  ∀ (m : (ℓ : Loc Cert.ModulRefIdeal.nD Cert.ModulRefIdeal.τ Cert.ModulRefIdeal.sig) → Buf (Elt Ideal) ℓ) (g : Dev Cert.ModulRefIdeal.nD → PrngReg), Pre_ModulRefIdeal m →
    θ_run (Cert.ModulRefIdeal.defs (F := Ideal)) (onTc (τ := Cert.ModulRefIdeal.τ) (Cert.ModulRefIdeal.main (F := Ideal))) ⟨m, fun _ => 0, g⟩ (fun r => (∀ c : Dev Cert.ModulRefIdeal.nD,
      r.2.mem ((c.tc : Thread Cert.ModulRefIdeal.nD Cert.ModulRefIdeal.τ).loc Cert.ModulRefIdeal.main_arg0) = m ((c.tc : Thread Cert.ModulRefIdeal.nD Cert.ModulRefIdeal.τ).loc Cert.ModulRefIdeal.main_arg0)
      ∧ r.2.mem ((c.tc : Thread Cert.ModulRefIdeal.nD Cert.ModulRefIdeal.τ).loc Cert.ModulRefIdeal.main_arg1) = m ((c.tc : Thread Cert.ModulRefIdeal.nD Cert.ModulRefIdeal.τ).loc Cert.ModulRefIdeal.main_arg1)
      ∧ r.2.mem ((c.tc : Thread Cert.ModulRefIdeal.nD Cert.ModulRefIdeal.τ).loc Cert.ModulRefIdeal.main_arg2) = m ((c.tc : Thread Cert.ModulRefIdeal.nD Cert.ModulRefIdeal.τ).loc Cert.ModulRefIdeal.main_arg2))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v1) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v11) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Gather_GatherIdeal : Prop :=
  True

def algebraic_GatherIdeal_GatherRefIdeal [hGatherIdeal : Cert.GatherIdeal.Facts] [hGatherRefIdeal : Cert.GatherRefIdeal.Facts] [hPre_idx_in_range : Cert.Pre_idx_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v1)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v7) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def preserves_Scatter_ScatterIdeal : Prop :=
  True

def algebraic_ScatterIdeal_ScatterRefIdeal [hScatterIdeal : Cert.ScatterIdeal.Facts] [hScatterRefIdeal : Cert.ScatterRefIdeal.Facts] [hPre_idx_in_range2 : Cert.Pre_idx_in_range2.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m' ((c.tc : Thread Cert.ScatterRefIdeal.nD Cert.ScatterRefIdeal.τ).loc Cert.ScatterRefIdeal.main_arg0) = m ((c.tc : Thread Cert.ScatterIdeal.nD Cert.ScatterIdeal.τ).loc Cert.ScatterIdeal.main_arg0)
      ∧ m' ((c.tc : Thread Cert.ScatterRefIdeal.nD Cert.ScatterRefIdeal.τ).loc Cert.ScatterRefIdeal.main_arg1) = m ((c.tc : Thread Cert.ScatterIdeal.nD Cert.ScatterIdeal.τ).loc Cert.ScatterIdeal.main_arg1)) →
    ∃ (v0 : (c : Dev Cert.ScatterIdeal.nD) → Buf (Elt Ideal) ((c.tc : Thread Cert.ScatterIdeal.nD Cert.ScatterIdeal.τ).loc Cert.ScatterIdeal.main_v1)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ θ_run (Cert.ScatterRefIdeal.defs (F := Ideal)) (onTc (τ := Cert.ScatterRefIdeal.τ) (Cert.ScatterRefIdeal.main (F := Ideal))) ⟨m', fun _ => 0, g'⟩ (fun r => ∀ c : Dev Cert.ScatterRefIdeal.nD,
          r.2.mem ((c.tc : Thread Cert.ScatterRefIdeal.nD Cert.ScatterRefIdeal.τ).loc Cert.ScatterRefIdeal.main_v19) = v0 c
          ∧ r.2.mem ((c.tc : Thread Cert.ScatterRefIdeal.nD Cert.ScatterRefIdeal.τ).loc Cert.ScatterRefIdeal.main_arg0) = m' ((c.tc : Thread Cert.ScatterRefIdeal.nD Cert.ScatterRefIdeal.τ).loc Cert.ScatterRefIdeal.main_arg0)
          ∧ r.2.mem ((c.tc : Thread Cert.ScatterRefIdeal.nD Cert.ScatterRefIdeal.τ).loc Cert.ScatterRefIdeal.main_arg1) = m' ((c.tc : Thread Cert.ScatterRefIdeal.nD Cert.ScatterRefIdeal.τ).loc Cert.ScatterRefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v15) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v7_0)) (v1 : (c : Dev Cert.InprojIdeal.nD) → Buf (Elt Ideal) ((c.tc : Thread Cert.InprojIdeal.nD Cert.InprojIdeal.τ).loc Cert.InprojIdeal.main_v7_1)) (v2 : (c : Dev Cert.InprojIdeal.nD) → Buf (Elt Ideal) ((c.tc : Thread Cert.InprojIdeal.nD Cert.InprojIdeal.τ).loc Cert.InprojIdeal.main_v7_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v7_0) = v0 c
          ∧ r.2.mem ((c.tc : Thread Cert.InprojIdeal.nD Cert.InprojIdeal.τ).loc Cert.InprojIdeal.main_v7_1) = v1 c
          ∧ r.2.mem ((c.tc : Thread Cert.InprojIdeal.nD Cert.InprojIdeal.τ).loc Cert.InprojIdeal.main_v7_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v20) = v0 c
          ∧ r.2.mem ((c.tc : Thread Cert.InprojRefIdeal.nD Cert.InprojRefIdeal.τ).loc Cert.InprojRefIdeal.main_v21) = v1 c
          ∧ r.2.mem ((c.tc : Thread Cert.InprojRefIdeal.nD Cert.InprojRefIdeal.τ).loc Cert.InprojRefIdeal.main_v23) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Merge_MergeIdeal : Prop :=
  IdealRules.named_const.Statement Cert.MergeIdeal.κ "mask" .f32 0xF149F2CA#32 ⊥

def algebraic_MergeIdeal_MergeRefIdeal [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)
      ∧ m' ((c.tc : Thread Cert.MergeRefIdeal.nD Cert.MergeRefIdeal.τ).loc Cert.MergeRefIdeal.main_arg17) = m ((c.tc : Thread Cert.MergeIdeal.nD Cert.MergeIdeal.τ).loc Cert.MergeIdeal.main_arg17)) →
    ∃ (v0 : (c : Dev Cert.MergeIdeal.nD) → Buf (Elt Ideal) ((c.tc : Thread Cert.MergeIdeal.nD Cert.MergeIdeal.τ).loc Cert.MergeIdeal.main_v27_0)) (v1 : (c : Dev Cert.MergeIdeal.nD) → Buf (Elt Ideal) ((c.tc : Thread Cert.MergeIdeal.nD Cert.MergeIdeal.τ).loc Cert.MergeIdeal.main_v27_1)) (v2 : (c : Dev Cert.MergeIdeal.nD) → Buf (Elt Ideal) ((c.tc : Thread Cert.MergeIdeal.nD Cert.MergeIdeal.τ).loc Cert.MergeIdeal.main_v27_2)) (v3 : (c : Dev Cert.MergeIdeal.nD) → Buf (Elt Ideal) ((c.tc : Thread Cert.MergeIdeal.nD Cert.MergeIdeal.τ).loc Cert.MergeIdeal.main_v27_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v27_0) = v0 c
          ∧ r.2.mem ((c.tc : Thread Cert.MergeIdeal.nD Cert.MergeIdeal.τ).loc Cert.MergeIdeal.main_v27_1) = v1 c
          ∧ r.2.mem ((c.tc : Thread Cert.MergeIdeal.nD Cert.MergeIdeal.τ).loc Cert.MergeIdeal.main_v27_2) = v2 c
          ∧ r.2.mem ((c.tc : Thread Cert.MergeIdeal.nD Cert.MergeIdeal.τ).loc Cert.MergeIdeal.main_v27_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v62) = v0 c
          ∧ r.2.mem ((c.tc : Thread Cert.MergeRefIdeal.nD Cert.MergeRefIdeal.τ).loc Cert.MergeRefIdeal.main_v81) = v1 c
          ∧ r.2.mem ((c.tc : Thread Cert.MergeRefIdeal.nD Cert.MergeRefIdeal.τ).loc Cert.MergeRefIdeal.main_v94) = v2 c
          ∧ r.2.mem ((c.tc : Thread Cert.MergeRefIdeal.nD Cert.MergeRefIdeal.τ).loc Cert.MergeRefIdeal.main_v95) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16)
          ∧ r.2.mem ((c.tc : Thread Cert.MergeRefIdeal.nD Cert.MergeRefIdeal.τ).loc Cert.MergeRefIdeal.main_arg17) = m' ((c.tc : Thread Cert.MergeRefIdeal.nD Cert.MergeRefIdeal.τ).loc Cert.MergeRefIdeal.main_arg17))

def preserves_Prep_PrepIdeal : Prop :=
  True

def algebraic_PrepIdeal_PrepRefIdeal [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v29_0)) (v1 : (c : Dev Cert.PrepIdeal.nD) → Buf (Elt Ideal) ((c.tc : Thread Cert.PrepIdeal.nD Cert.PrepIdeal.τ).loc Cert.PrepIdeal.main_v29_1)) (v2 : (c : Dev Cert.PrepIdeal.nD) → Buf (Elt Ideal) ((c.tc : Thread Cert.PrepIdeal.nD Cert.PrepIdeal.τ).loc Cert.PrepIdeal.main_v29_2)) (v3 : (c : Dev Cert.PrepIdeal.nD) → Buf (Elt Ideal) ((c.tc : Thread Cert.PrepIdeal.nD Cert.PrepIdeal.τ).loc Cert.PrepIdeal.main_v29_3)) (v4 : (c : Dev Cert.PrepIdeal.nD) → Buf (Elt Ideal) ((c.tc : Thread Cert.PrepIdeal.nD Cert.PrepIdeal.τ).loc Cert.PrepIdeal.main_v29_4)) (v5 : (c : Dev Cert.PrepIdeal.nD) → Buf (Elt Ideal) ((c.tc : Thread Cert.PrepIdeal.nD Cert.PrepIdeal.τ).loc Cert.PrepIdeal.main_v29_5)) (v6 : (c : Dev Cert.PrepIdeal.nD) → Buf (Elt Ideal) ((c.tc : Thread Cert.PrepIdeal.nD Cert.PrepIdeal.τ).loc Cert.PrepIdeal.main_v29_6)) (v7 : (c : Dev Cert.PrepIdeal.nD) → Buf (Elt Ideal) ((c.tc : Thread Cert.PrepIdeal.nD Cert.PrepIdeal.τ).loc Cert.PrepIdeal.main_v29_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v29_0) = v0 c
          ∧ r.2.mem ((c.tc : Thread Cert.PrepIdeal.nD Cert.PrepIdeal.τ).loc Cert.PrepIdeal.main_v29_1) = v1 c
          ∧ r.2.mem ((c.tc : Thread Cert.PrepIdeal.nD Cert.PrepIdeal.τ).loc Cert.PrepIdeal.main_v29_2) = v2 c
          ∧ r.2.mem ((c.tc : Thread Cert.PrepIdeal.nD Cert.PrepIdeal.τ).loc Cert.PrepIdeal.main_v29_3) = v3 c
          ∧ r.2.mem ((c.tc : Thread Cert.PrepIdeal.nD Cert.PrepIdeal.τ).loc Cert.PrepIdeal.main_v29_4) = v4 c
          ∧ r.2.mem ((c.tc : Thread Cert.PrepIdeal.nD Cert.PrepIdeal.τ).loc Cert.PrepIdeal.main_v29_5) = v5 c
          ∧ r.2.mem ((c.tc : Thread Cert.PrepIdeal.nD Cert.PrepIdeal.τ).loc Cert.PrepIdeal.main_v29_6) = v6 c
          ∧ r.2.mem ((c.tc : Thread Cert.PrepIdeal.nD Cert.PrepIdeal.τ).loc Cert.PrepIdeal.main_v29_7) = v7 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v18) = v0 c
          ∧ r.2.mem ((c.tc : Thread Cert.PrepRefIdeal.nD Cert.PrepRefIdeal.τ).loc Cert.PrepRefIdeal.main_v145) = v1 c
          ∧ r.2.mem ((c.tc : Thread Cert.PrepRefIdeal.nD Cert.PrepRefIdeal.τ).loc Cert.PrepRefIdeal.main_v146) = v2 c
          ∧ r.2.mem ((c.tc : Thread Cert.PrepRefIdeal.nD Cert.PrepRefIdeal.τ).loc Cert.PrepRefIdeal.main_v149) = v3 c
          ∧ r.2.mem ((c.tc : Thread Cert.PrepRefIdeal.nD Cert.PrepRefIdeal.τ).loc Cert.PrepRefIdeal.main_v152) = v4 c
          ∧ r.2.mem ((c.tc : Thread Cert.PrepRefIdeal.nD Cert.PrepRefIdeal.τ).loc Cert.PrepRefIdeal.main_v155) = v5 c
          ∧ r.2.mem ((c.tc : Thread Cert.PrepRefIdeal.nD Cert.PrepRefIdeal.τ).loc Cert.PrepRefIdeal.main_v158) = v6 c
          ∧ r.2.mem ((c.tc : Thread Cert.PrepRefIdeal.nD Cert.PrepRefIdeal.τ).loc Cert.PrepRefIdeal.main_v159) = v7 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9))

def preserves_Ctxproj_CtxprojIdeal : Prop :=
  True

def algebraic_CtxprojIdeal_CtxprojRefIdeal [hCtxprojIdeal : Cert.CtxprojIdeal.Facts] [hCtxprojRefIdeal : Cert.CtxprojRefIdeal.Facts] : Prop :=
  ∀ (m : (ℓ : Loc Cert.CtxprojIdeal.nD Cert.CtxprojIdeal.τ Cert.CtxprojIdeal.sig) → Buf (Elt Ideal) ℓ) (g : Dev Cert.CtxprojIdeal.nD → PrngReg)
    (m' : (ℓ : Loc Cert.CtxprojRefIdeal.nD Cert.CtxprojRefIdeal.τ Cert.CtxprojRefIdeal.sig) → Buf (Elt Ideal) ℓ) (g' : Dev Cert.CtxprojRefIdeal.nD → PrngReg), Pre_CtxprojIdeal m →
    (∀ c : Dev Cert.CtxprojIdeal.nD,
      m' ((c.tc : Thread Cert.CtxprojRefIdeal.nD Cert.CtxprojRefIdeal.τ).loc Cert.CtxprojRefIdeal.main_arg0) = m ((c.tc : Thread Cert.CtxprojIdeal.nD Cert.CtxprojIdeal.τ).loc Cert.CtxprojIdeal.main_arg0)
      ∧ m' ((c.tc : Thread Cert.CtxprojRefIdeal.nD Cert.CtxprojRefIdeal.τ).loc Cert.CtxprojRefIdeal.main_arg1) = m ((c.tc : Thread Cert.CtxprojIdeal.nD Cert.CtxprojIdeal.τ).loc Cert.CtxprojIdeal.main_arg1)
      ∧ m' ((c.tc : Thread Cert.CtxprojRefIdeal.nD Cert.CtxprojRefIdeal.τ).loc Cert.CtxprojRefIdeal.main_arg2) = m ((c.tc : Thread Cert.CtxprojIdeal.nD Cert.CtxprojIdeal.τ).loc Cert.CtxprojIdeal.main_arg2)
      ∧ m' ((c.tc : Thread Cert.CtxprojRefIdeal.nD Cert.CtxprojRefIdeal.τ).loc Cert.CtxprojRefIdeal.main_arg3) = m ((c.tc : Thread Cert.CtxprojIdeal.nD Cert.CtxprojIdeal.τ).loc Cert.CtxprojIdeal.main_arg3)
      ∧ m' ((c.tc : Thread Cert.CtxprojRefIdeal.nD Cert.CtxprojRefIdeal.τ).loc Cert.CtxprojRefIdeal.main_arg4) = m ((c.tc : Thread Cert.CtxprojIdeal.nD Cert.CtxprojIdeal.τ).loc Cert.CtxprojIdeal.main_arg4)) →
    ∃ (v0 : (c : Dev Cert.CtxprojIdeal.nD) → Buf (Elt Ideal) ((c.tc : Thread Cert.CtxprojIdeal.nD Cert.CtxprojIdeal.τ).loc Cert.CtxprojIdeal.main_v7)),
      θ_run (Cert.CtxprojIdeal.defs (F := Ideal)) (onTc (τ := Cert.CtxprojIdeal.τ) (Cert.CtxprojIdeal.main (F := Ideal))) ⟨m, fun _ => 0, g⟩ (fun r => ∀ c : Dev Cert.CtxprojIdeal.nD,
          r.2.mem ((c.tc : Thread Cert.CtxprojIdeal.nD Cert.CtxprojIdeal.τ).loc Cert.CtxprojIdeal.main_v7) = v0 c
          ∧ r.2.mem ((c.tc : Thread Cert.CtxprojIdeal.nD Cert.CtxprojIdeal.τ).loc Cert.CtxprojIdeal.main_arg0) = m ((c.tc : Thread Cert.CtxprojIdeal.nD Cert.CtxprojIdeal.τ).loc Cert.CtxprojIdeal.main_arg0)
          ∧ r.2.mem ((c.tc : Thread Cert.CtxprojIdeal.nD Cert.CtxprojIdeal.τ).loc Cert.CtxprojIdeal.main_arg1) = m ((c.tc : Thread Cert.CtxprojIdeal.nD Cert.CtxprojIdeal.τ).loc Cert.CtxprojIdeal.main_arg1)
          ∧ r.2.mem ((c.tc : Thread Cert.CtxprojIdeal.nD Cert.CtxprojIdeal.τ).loc Cert.CtxprojIdeal.main_arg2) = m ((c.tc : Thread Cert.CtxprojIdeal.nD Cert.CtxprojIdeal.τ).loc Cert.CtxprojIdeal.main_arg2)
          ∧ r.2.mem ((c.tc : Thread Cert.CtxprojIdeal.nD Cert.CtxprojIdeal.τ).loc Cert.CtxprojIdeal.main_arg3) = m ((c.tc : Thread Cert.CtxprojIdeal.nD Cert.CtxprojIdeal.τ).loc Cert.CtxprojIdeal.main_arg3)
          ∧ r.2.mem ((c.tc : Thread Cert.CtxprojIdeal.nD Cert.CtxprojIdeal.τ).loc Cert.CtxprojIdeal.main_arg4) = m ((c.tc : Thread Cert.CtxprojIdeal.nD Cert.CtxprojIdeal.τ).loc Cert.CtxprojIdeal.main_arg4))
      ∧ θ_run (Cert.CtxprojRefIdeal.defs (F := Ideal)) (onTc (τ := Cert.CtxprojRefIdeal.τ) (Cert.CtxprojRefIdeal.main (F := Ideal))) ⟨m', fun _ => 0, g'⟩ (fun r => ∀ c : Dev Cert.CtxprojRefIdeal.nD,
          r.2.mem ((c.tc : Thread Cert.CtxprojRefIdeal.nD Cert.CtxprojRefIdeal.τ).loc Cert.CtxprojRefIdeal.main_v22) = v0 c
          ∧ r.2.mem ((c.tc : Thread Cert.CtxprojRefIdeal.nD Cert.CtxprojRefIdeal.τ).loc Cert.CtxprojRefIdeal.main_arg0) = m' ((c.tc : Thread Cert.CtxprojRefIdeal.nD Cert.CtxprojRefIdeal.τ).loc Cert.CtxprojRefIdeal.main_arg0)
          ∧ r.2.mem ((c.tc : Thread Cert.CtxprojRefIdeal.nD Cert.CtxprojRefIdeal.τ).loc Cert.CtxprojRefIdeal.main_arg1) = m' ((c.tc : Thread Cert.CtxprojRefIdeal.nD Cert.CtxprojRefIdeal.τ).loc Cert.CtxprojRefIdeal.main_arg1)
          ∧ r.2.mem ((c.tc : Thread Cert.CtxprojRefIdeal.nD Cert.CtxprojRefIdeal.τ).loc Cert.CtxprojRefIdeal.main_arg2) = m' ((c.tc : Thread Cert.CtxprojRefIdeal.nD Cert.CtxprojRefIdeal.τ).loc Cert.CtxprojRefIdeal.main_arg2)
          ∧ r.2.mem ((c.tc : Thread Cert.CtxprojRefIdeal.nD Cert.CtxprojRefIdeal.τ).loc Cert.CtxprojRefIdeal.main_arg3) = m' ((c.tc : Thread Cert.CtxprojRefIdeal.nD Cert.CtxprojRefIdeal.τ).loc Cert.CtxprojRefIdeal.main_arg3)
          ∧ r.2.mem ((c.tc : Thread Cert.CtxprojRefIdeal.nD Cert.CtxprojRefIdeal.τ).loc Cert.CtxprojRefIdeal.main_arg4) = m' ((c.tc : Thread Cert.CtxprojRefIdeal.nD Cert.CtxprojRefIdeal.τ).loc Cert.CtxprojRefIdeal.main_arg4))

def preserves_Hypre_HypreIdeal : Prop :=
  True

def algebraic_HypreIdeal_HypreRefIdeal [hHypreIdeal : Cert.HypreIdeal.Facts] [hHypreRefIdeal : Cert.HypreRefIdeal.Facts] : Prop :=
  ∀ (m : (ℓ : Loc Cert.HypreIdeal.nD Cert.HypreIdeal.τ Cert.HypreIdeal.sig) → Buf (Elt Ideal) ℓ) (g : Dev Cert.HypreIdeal.nD → PrngReg)
    (m' : (ℓ : Loc Cert.HypreRefIdeal.nD Cert.HypreRefIdeal.τ Cert.HypreRefIdeal.sig) → Buf (Elt Ideal) ℓ) (g' : Dev Cert.HypreRefIdeal.nD → PrngReg), Pre_HypreIdeal m →
    (∀ c : Dev Cert.HypreIdeal.nD,
      m' ((c.tc : Thread Cert.HypreRefIdeal.nD Cert.HypreRefIdeal.τ).loc Cert.HypreRefIdeal.main_arg0) = m ((c.tc : Thread Cert.HypreIdeal.nD Cert.HypreIdeal.τ).loc Cert.HypreIdeal.main_arg0)
      ∧ m' ((c.tc : Thread Cert.HypreRefIdeal.nD Cert.HypreRefIdeal.τ).loc Cert.HypreRefIdeal.main_arg1) = m ((c.tc : Thread Cert.HypreIdeal.nD Cert.HypreIdeal.τ).loc Cert.HypreIdeal.main_arg1)
      ∧ m' ((c.tc : Thread Cert.HypreRefIdeal.nD Cert.HypreRefIdeal.τ).loc Cert.HypreRefIdeal.main_arg2) = m ((c.tc : Thread Cert.HypreIdeal.nD Cert.HypreIdeal.τ).loc Cert.HypreIdeal.main_arg2)) →
    ∃ (v0 : (c : Dev Cert.HypreIdeal.nD) → Buf (Elt Ideal) ((c.tc : Thread Cert.HypreIdeal.nD Cert.HypreIdeal.τ).loc Cert.HypreIdeal.main_v1_0)) (v1 : (c : Dev Cert.HypreIdeal.nD) → Buf (Elt Ideal) ((c.tc : Thread Cert.HypreIdeal.nD Cert.HypreIdeal.τ).loc Cert.HypreIdeal.main_v1_1)),
      θ_run (Cert.HypreIdeal.defs (F := Ideal)) (onTc (τ := Cert.HypreIdeal.τ) (Cert.HypreIdeal.main (F := Ideal))) ⟨m, fun _ => 0, g⟩ (fun r => ∀ c : Dev Cert.HypreIdeal.nD,
          r.2.mem ((c.tc : Thread Cert.HypreIdeal.nD Cert.HypreIdeal.τ).loc Cert.HypreIdeal.main_v1_0) = v0 c
          ∧ r.2.mem ((c.tc : Thread Cert.HypreIdeal.nD Cert.HypreIdeal.τ).loc Cert.HypreIdeal.main_v1_1) = v1 c
          ∧ r.2.mem ((c.tc : Thread Cert.HypreIdeal.nD Cert.HypreIdeal.τ).loc Cert.HypreIdeal.main_arg0) = m ((c.tc : Thread Cert.HypreIdeal.nD Cert.HypreIdeal.τ).loc Cert.HypreIdeal.main_arg0)
          ∧ r.2.mem ((c.tc : Thread Cert.HypreIdeal.nD Cert.HypreIdeal.τ).loc Cert.HypreIdeal.main_arg1) = m ((c.tc : Thread Cert.HypreIdeal.nD Cert.HypreIdeal.τ).loc Cert.HypreIdeal.main_arg1)
          ∧ r.2.mem ((c.tc : Thread Cert.HypreIdeal.nD Cert.HypreIdeal.τ).loc Cert.HypreIdeal.main_arg2) = m ((c.tc : Thread Cert.HypreIdeal.nD Cert.HypreIdeal.τ).loc Cert.HypreIdeal.main_arg2))
      ∧ θ_run (Cert.HypreRefIdeal.defs (F := Ideal)) (onTc (τ := Cert.HypreRefIdeal.τ) (Cert.HypreRefIdeal.main (F := Ideal))) ⟨m', fun _ => 0, g'⟩ (fun r => ∀ c : Dev Cert.HypreRefIdeal.nD,
          r.2.mem ((c.tc : Thread Cert.HypreRefIdeal.nD Cert.HypreRefIdeal.τ).loc Cert.HypreRefIdeal.main_v27) = v0 c
          ∧ r.2.mem ((c.tc : Thread Cert.HypreRefIdeal.nD Cert.HypreRefIdeal.τ).loc Cert.HypreRefIdeal.main_v24) = v1 c
          ∧ r.2.mem ((c.tc : Thread Cert.HypreRefIdeal.nD Cert.HypreRefIdeal.τ).loc Cert.HypreRefIdeal.main_arg0) = m' ((c.tc : Thread Cert.HypreRefIdeal.nD Cert.HypreRefIdeal.τ).loc Cert.HypreRefIdeal.main_arg0)
          ∧ r.2.mem ((c.tc : Thread Cert.HypreRefIdeal.nD Cert.HypreRefIdeal.τ).loc Cert.HypreRefIdeal.main_arg1) = m' ((c.tc : Thread Cert.HypreRefIdeal.nD Cert.HypreRefIdeal.τ).loc Cert.HypreRefIdeal.main_arg1)
          ∧ r.2.mem ((c.tc : Thread Cert.HypreRefIdeal.nD Cert.HypreRefIdeal.τ).loc Cert.HypreRefIdeal.main_arg2) = m' ((c.tc : Thread Cert.HypreRefIdeal.nD Cert.HypreRefIdeal.τ).loc Cert.HypreRefIdeal.main_arg2))

def preserves_Modul_ModulIdeal : Prop :=
  True

def algebraic_ModulIdeal_ModulRefIdeal [hModulIdeal : Cert.ModulIdeal.Facts] [hModulRefIdeal : Cert.ModulRefIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModulRefIdeal.nD Cert.ModulRefIdeal.τ Cert.ModulRefIdeal.sig) → Buf (Elt Ideal) ℓ) (g' : Dev Cert.ModulRefIdeal.nD → PrngReg), Pre_ModulIdeal m →
    (∀ c : Dev Cert.ModulIdeal.nD,
      m' ((c.tc : Thread Cert.ModulRefIdeal.nD Cert.ModulRefIdeal.τ).loc Cert.ModulRefIdeal.main_arg0) = m ((c.tc : Thread Cert.ModulIdeal.nD Cert.ModulIdeal.τ).loc Cert.ModulIdeal.main_arg0)
      ∧ m' ((c.tc : Thread Cert.ModulRefIdeal.nD Cert.ModulRefIdeal.τ).loc Cert.ModulRefIdeal.main_arg1) = m ((c.tc : Thread Cert.ModulIdeal.nD Cert.ModulIdeal.τ).loc Cert.ModulIdeal.main_arg1)
      ∧ m' ((c.tc : Thread Cert.ModulRefIdeal.nD Cert.ModulRefIdeal.τ).loc Cert.ModulRefIdeal.main_arg2) = m ((c.tc : Thread Cert.ModulIdeal.nD Cert.ModulIdeal.τ).loc Cert.ModulIdeal.main_arg2)) →
    ∃ (v0 : (c : Dev Cert.ModulIdeal.nD) → Buf (Elt Ideal) ((c.tc : Thread Cert.ModulIdeal.nD Cert.ModulIdeal.τ).loc Cert.ModulIdeal.main_v1)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v1) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ θ_run (Cert.ModulRefIdeal.defs (F := Ideal)) (onTc (τ := Cert.ModulRefIdeal.τ) (Cert.ModulRefIdeal.main (F := Ideal))) ⟨m', fun _ => 0, g'⟩ (fun r => ∀ c : Dev Cert.ModulRefIdeal.nD,
          r.2.mem ((c.tc : Thread Cert.ModulRefIdeal.nD Cert.ModulRefIdeal.τ).loc Cert.ModulRefIdeal.main_v4) = v0 c
          ∧ r.2.mem ((c.tc : Thread Cert.ModulRefIdeal.nD Cert.ModulRefIdeal.τ).loc Cert.ModulRefIdeal.main_arg0) = m' ((c.tc : Thread Cert.ModulRefIdeal.nD Cert.ModulRefIdeal.τ).loc Cert.ModulRefIdeal.main_arg0)
          ∧ r.2.mem ((c.tc : Thread Cert.ModulRefIdeal.nD Cert.ModulRefIdeal.τ).loc Cert.ModulRefIdeal.main_arg1) = m' ((c.tc : Thread Cert.ModulRefIdeal.nD Cert.ModulRefIdeal.τ).loc Cert.ModulRefIdeal.main_arg1)
          ∧ r.2.mem ((c.tc : Thread Cert.ModulRefIdeal.nD Cert.ModulRefIdeal.τ).loc Cert.ModulRefIdeal.main_arg2) = m' ((c.tc : Thread Cert.ModulRefIdeal.nD Cert.ModulRefIdeal.τ).loc Cert.ModulRefIdeal.main_arg2))

def Claim : Prop :=
  ∃ (hExperts : Cert.Experts.Facts) (hExpertsIdeal : Cert.ExpertsIdeal.Facts) (hExpertsRefIdeal : Cert.ExpertsRefIdeal.Facts) (hGather : Cert.Gather.Facts) (hGatherIdeal : Cert.GatherIdeal.Facts) (hGatherRefIdeal : Cert.GatherRefIdeal.Facts) (hScatter : Cert.Scatter.Facts) (hScatterIdeal : Cert.ScatterIdeal.Facts) (hScatterRefIdeal : Cert.ScatterRefIdeal.Facts) (hFinal : Cert.Final.Facts) (hFinalIdeal : Cert.FinalIdeal.Facts) (hFinalRefIdeal : Cert.FinalRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPrep : Cert.Prep.Facts) (hPrepIdeal : Cert.PrepIdeal.Facts) (hPrepRefIdeal : Cert.PrepRefIdeal.Facts) (hCtxproj : Cert.Ctxproj.Facts) (hCtxprojIdeal : Cert.CtxprojIdeal.Facts) (hCtxprojRefIdeal : Cert.CtxprojRefIdeal.Facts) (hHypre : Cert.Hypre.Facts) (hHypreIdeal : Cert.HypreIdeal.Facts) (hHypreRefIdeal : Cert.HypreRefIdeal.Facts) (hModul : Cert.Modul.Facts) (hModulIdeal : Cert.ModulIdeal.Facts) (hModulRefIdeal : Cert.ModulRefIdeal.Facts) (hPre_idx_in_range : Cert.Pre_idx_in_range.Facts) (hPre_idx_in_range2 : Cert.Pre_idx_in_range2.Facts) (hPre_merge_finite : Cert.Pre_merge_finite.Facts) (hPre_prep_finite : Cert.Pre_prep_finite.Facts),
    quiescent_Experts (hExperts := hExperts)
    ∧ quiescent_ExpertsIdeal (hExpertsIdeal := hExpertsIdeal)
    ∧ quiescent_ExpertsRefIdeal (hExpertsRefIdeal := hExpertsRefIdeal)
    ∧ quiescent_Gather (hGather := hGather) (hPre_idx_in_range := hPre_idx_in_range)
    ∧ quiescent_GatherIdeal (hGatherIdeal := hGatherIdeal) (hPre_idx_in_range := hPre_idx_in_range)
    ∧ quiescent_GatherRefIdeal (hGatherRefIdeal := hGatherRefIdeal) (hPre_idx_in_range := hPre_idx_in_range)
    ∧ quiescent_Scatter (hScatter := hScatter) (hPre_idx_in_range2 := hPre_idx_in_range2)
    ∧ quiescent_ScatterIdeal (hScatterIdeal := hScatterIdeal) (hPre_idx_in_range2 := hPre_idx_in_range2)
    ∧ quiescent_ScatterRefIdeal (hScatterRefIdeal := hScatterRefIdeal) (hPre_idx_in_range2 := hPre_idx_in_range2)
    ∧ quiescent_Final (hFinal := hFinal)
    ∧ quiescent_FinalIdeal (hFinalIdeal := hFinalIdeal)
    ∧ quiescent_FinalRefIdeal (hFinalRefIdeal := hFinalRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge) (hPre_merge_finite := hPre_merge_finite)
    ∧ quiescent_MergeIdeal (hMergeIdeal := hMergeIdeal) (hPre_merge_finite := hPre_merge_finite)
    ∧ quiescent_MergeRefIdeal (hMergeRefIdeal := hMergeRefIdeal) (hPre_merge_finite := hPre_merge_finite)
    ∧ quiescent_Prep (hPrep := hPrep) (hPre_prep_finite := hPre_prep_finite)
    ∧ quiescent_PrepIdeal (hPrepIdeal := hPrepIdeal) (hPre_prep_finite := hPre_prep_finite)
    ∧ quiescent_PrepRefIdeal (hPrepRefIdeal := hPrepRefIdeal) (hPre_prep_finite := hPre_prep_finite)
    ∧ quiescent_Ctxproj (hCtxproj := hCtxproj)
    ∧ quiescent_CtxprojIdeal (hCtxprojIdeal := hCtxprojIdeal)
    ∧ quiescent_CtxprojRefIdeal (hCtxprojRefIdeal := hCtxprojRefIdeal)
    ∧ quiescent_Hypre (hHypre := hHypre)
    ∧ quiescent_HypreIdeal (hHypreIdeal := hHypreIdeal)
    ∧ quiescent_HypreRefIdeal (hHypreRefIdeal := hHypreRefIdeal)
    ∧ quiescent_Modul (hModul := hModul)
    ∧ quiescent_ModulIdeal (hModulIdeal := hModulIdeal)
    ∧ quiescent_ModulRefIdeal (hModulRefIdeal := hModulRefIdeal)
    ∧ preserves_Experts_ExpertsIdeal
    ∧ algebraic_ExpertsIdeal_ExpertsRefIdeal (hExpertsIdeal := hExpertsIdeal) (hExpertsRefIdeal := hExpertsRefIdeal)
    ∧ preserves_Gather_GatherIdeal
    ∧ algebraic_GatherIdeal_GatherRefIdeal (hGatherIdeal := hGatherIdeal) (hGatherRefIdeal := hGatherRefIdeal) (hPre_idx_in_range := hPre_idx_in_range)
    ∧ preserves_Scatter_ScatterIdeal
    ∧ algebraic_ScatterIdeal_ScatterRefIdeal (hScatterIdeal := hScatterIdeal) (hScatterRefIdeal := hScatterRefIdeal) (hPre_idx_in_range2 := hPre_idx_in_range2)
    ∧ preserves_Final_FinalIdeal
    ∧ algebraic_FinalIdeal_FinalRefIdeal (hFinalIdeal := hFinalIdeal) (hFinalRefIdeal := hFinalRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal) (hPre_merge_finite := hPre_merge_finite)
    ∧ preserves_Prep_PrepIdeal
    ∧ algebraic_PrepIdeal_PrepRefIdeal (hPrepIdeal := hPrepIdeal) (hPrepRefIdeal := hPrepRefIdeal) (hPre_prep_finite := hPre_prep_finite)
    ∧ preserves_Ctxproj_CtxprojIdeal
    ∧ algebraic_CtxprojIdeal_CtxprojRefIdeal (hCtxprojIdeal := hCtxprojIdeal) (hCtxprojRefIdeal := hCtxprojRefIdeal)
    ∧ preserves_Hypre_HypreIdeal
    ∧ algebraic_HypreIdeal_HypreRefIdeal (hHypreIdeal := hHypreIdeal) (hHypreRefIdeal := hHypreRefIdeal)
    ∧ preserves_Modul_ModulIdeal
    ∧ algebraic_ModulIdeal_ModulRefIdeal (hModulIdeal := hModulIdeal) (hModulRefIdeal := hModulRefIdeal)
-- ==== Pre_idx_in_range.lean ====
abbrev S4x16x1024 : Shape := ⟨3, ![4, 16, 1024]⟩
abbrev S4x8192x1024 : Shape := ⟨3, ![4, 8192, 1024]⟩
abbrev S_ : Shape := ⟨0, ![]⟩

class Facts : Prop where
  bcast_S_S4x16x1024 : S_.BroadcastsInDim S4x16x1024 (![] : Fin 0 → Fin S4x16x1024.rank)

variable [Facts]

def fn {F : FTy → Type} [FloatOps F] (main_arg0 : IVec S4x16x1024 32) (main_arg1 : FVec F S4x8192x1024 .f32) : IVec S4x16x1024 1 :=
  let main_c : IVec S_ 32 := constantI S_ 32 0#32
  let main_v0 : IVec S4x16x1024 32 := broadcastInDim S4x16x1024 ![] bcast_S_S4x16x1024 main_c
  let main_v1 : IVec S4x16x1024 1 := cmpi .sge main_arg0 main_v0
  let main_c_0 : IVec S_ 32 := constantI S_ 32 8192#32
  let main_v2 : IVec S4x16x1024 32 := broadcastInDim S4x16x1024 ![] bcast_S_S4x16x1024 main_c_0
  let main_v3 : IVec S4x16x1024 1 := cmpi .slt main_arg0 main_v2
  let main_v4 : IVec S4x16x1024 1 := andi main_v1 main_v3
  main_v4
-- ==== Pre_idx_in_range2.lean ====
abbrev S4x16x1024 : Shape := ⟨3, ![4, 16, 1024]⟩
abbrev S4x16x1024x1024 : Shape := ⟨4, ![4, 16, 1024, 1024]⟩
abbrev S_ : Shape := ⟨0, ![]⟩

class Facts : Prop where
  bcast_S_S4x16x1024 : S_.BroadcastsInDim S4x16x1024 (![] : Fin 0 → Fin S4x16x1024.rank)

variable [Facts]

def fn {F : FTy → Type} [FloatOps F] (main_arg0 : IVec S4x16x1024 32) (main_arg1 : FVec F S4x16x1024x1024 .f32) : IVec S4x16x1024 1 :=
  let main_c : IVec S_ 32 := constantI S_ 32 0#32
  let main_v0 : IVec S4x16x1024 32 := broadcastInDim S4x16x1024 ![] bcast_S_S4x16x1024 main_c
  let main_v1 : IVec S4x16x1024 1 := cmpi .sge main_arg0 main_v0
  let main_c_0 : IVec S_ 32 := constantI S_ 32 8192#32
  let main_v2 : IVec S4x16x1024 32 := broadcastInDim S4x16x1024 ![] bcast_S_S4x16x1024 main_c_0
  let main_v3 : IVec S4x16x1024 1 := cmpi .slt main_arg0 main_v2
  let main_v4 : IVec S4x16x1024 1 := andi main_v1 main_v3
  main_v4
-- ==== Pre_merge_finite.lean ====
abbrev S4x8192x512 : Shape := ⟨3, ![4, 8192, 512]⟩
abbrev S4x8192x2048 : Shape := ⟨3, ![4, 8192, 2048]⟩
abbrev S4x8192x1024 : Shape := ⟨3, ![4, 8192, 1024]⟩
abbrev S512x1024 : Shape := ⟨2, ![512, 1024]⟩
abbrev S1024x1024 : Shape := ⟨2, ![1024, 1024]⟩
abbrev S512 : Shape := ⟨1, ![512]⟩
abbrev S4x1x1024 : Shape := ⟨3, ![4, 1, 1024]⟩
abbrev S1024 : Shape := ⟨1, ![1024]⟩
abbrev S1024x16 : Shape := ⟨2, ![1024, 16]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg16 : FVec F S4x1x1024 .f32) (main_arg17 : FVec F S1024x16 .f32) (main_v13 : IVec S_ 1) (main_v16 : IVec S4x1x1024 1) : IVec S_ 1 :=
  let main_c_5 : IVec S_ 1 := constantI S_ 1 1#1
  let main_v17 : IVec S_ 1 := (fun x v => Host.reduce IntOp.andi x v reducesTo_S4x1x1024_S_d0_1_2 h_S_) main_v16 main_c_5
  let main_v18 : IVec S_ 1 := andi main_v13 main_v17
  let main_v19 : FVec F S4x1x1024 .f32 := Host.absf main_arg16
  let main_cst_6 : FVec F S_ .f32 := constant S_ .f32 0x7F800000#32
  let main_v20 : FVec F S4x1x1024 .f32 := broadcastInDim S4x1x1024 ![] bcast_S_S4x1x1024 main_cst_6
  let main_v21 : IVec S4x1x1024 1 := cmpf .olt main_v19 main_v20
  let main_c_7 : IVec S_ 1 := constantI S_ 1 1#1
  let main_v22 : IVec S_ 1 := (fun x v => Host.reduce IntOp.andi x v reducesTo_S4x1x1024_S_d0_1_2 h_S_) main_v21 main_c_7
  let main_v23 : IVec S_ 1 := andi main_v18 main_v22
  let main_v24 : FVec F S1024x16 .f32 := Host.absf main_arg17
  let main_cst_8 : FVec F S_ .f32 := constant S_ .f32 0x7F800000#32
  let main_v25 : FVec F S1024x16 .f32 := broadcastInDim S1024x16 ![] bcast_S_S1024x16 main_cst_8
  let main_v26 : IVec S1024x16 1 := cmpf .olt main_v24 main_v25
  let main_c_9 : IVec S_ 1 := constantI S_ 1 1#1
  let main_v27 : IVec S_ 1 := (fun x v => Host.reduce IntOp.andi x v reducesTo_S1024x16_S_d0_1 h_S_) main_v26 main_c_9
  let main_v28 : IVec S_ 1 := andi main_v23 main_v27
  main_v28

def fn {F : FTy → Type} [FloatOps F] (main_arg0 : FVec F S4x8192x512 .f32) (main_arg1 : FVec F S4x8192x512 .f32) (main_arg2 : FVec F S4x8192x512 .f32) (main_arg3 : FVec F S4x8192x512 .bf16) (main_arg4 : FVec F S4x8192x512 .bf16) (main_arg5 : FVec F S4x8192x2048 .bf16) (main_arg6 : FVec F S4x8192x1024 .f32) (main_arg7 : FVec F S512x1024 .f32) (main_arg8 : FVec F S512x1024 .f32) (main_arg9 : FVec F S1024x1024 .f32) (main_arg10 : FVec F S512 .f32) (main_arg11 : FVec F S512 .f32) (main_arg12 : FVec F S4x1x1024 .f32) (main_arg13 : FVec F S1024 .f32) (main_arg14 : FVec F S1024 .f32) (main_arg15 : FVec F S4x1x1024 .f32) (main_arg16 : FVec F S4x1x1024 .f32) (main_arg17 : FVec F S1024x16 .f32) : IVec S_ 1 :=
  let main_v0 : FVec F S4x8192x512 .f32 := Host.absf main_arg1
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4x8192x512 .f32 := Host.absf main_arg2
  let main_cst_0 : FVec F S_ .f32 := constant S_ .f32 0x7F800000#32
  let main_v5 : FVec F S4x8192x512 .f32 := broadcastInDim S4x8192x512 ![] bcast_S_S4x8192x512 main_cst_0
  let main_v6 : IVec S4x8192x512 1 := cmpf .olt main_v4 main_v5
  let main_c_1 : IVec S_ 1 := constantI S_ 1 1#1
  let main_v7 : IVec S_ 1 := (fun x v => Host.reduce IntOp.andi x v reducesTo_S4x8192x512_S_d0_1_2 h_S_) main_v6 main_c_1
  let main_v8 : IVec S_ 1 := andi main_v3 main_v7
  let main_v9 : FVec F S1024 .f32 := Host.absf main_arg14
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x1x1024 .f32 := Host.absf main_arg15
  let main_cst_4 : FVec F S_ .f32 := constant S_ .f32 0x7F800000#32
  let main_v15 : FVec F S4x1x1024 .f32 := broadcastInDim S4x1x1024 ![] bcast_S_S4x1x1024 main_cst_4
  let main_v16 : IVec S4x1x1024 1 := cmpf .olt main_v14 main_v15
  fn_part1 (F := F) main_arg16 main_arg17 main_v13 main_v16
-- ==== Pre_prep_finite.lean ====
abbrev S4x8192x1792 : Shape := ⟨3, ![4, 8192, 1792]⟩
abbrev S2x1792 : Shape := ⟨2, ![2, 1792]⟩
abbrev S2x64x512 : Shape := ⟨3, ![2, 64, 512]⟩
abbrev S2x512 : Shape := ⟨2, ![2, 512]⟩
abbrev S128x512 : Shape := ⟨2, ![128, 512]⟩
abbrev S512 : Shape := ⟨1, ![512]⟩
abbrev S8x64 : Shape := ⟨2, ![8, 64]⟩
abbrev S_ : Shape := ⟨0, ![]⟩

class Facts : Prop where
  bcast_S_S4x8192x1792 : S_.BroadcastsInDim S4x8192x1792 (![] : Fin 0 → Fin S4x8192x1792.rank)
  reducesTo_S4x8192x1792_S_d0_1_2 : S4x8192x1792.ReducesTo [0, 1, 2] S_
  h_S_ : 0 < S_.numel
  bcast_S_S2x1792 : S_.BroadcastsInDim S2x1792 (![] : Fin 0 → Fin S2x1792.rank)
  reducesTo_S2x1792_S_d0_1 : S2x1792.ReducesTo [0, 1] S_
  bcast_S_S2x64x512 : S_.BroadcastsInDim S2x64x512 (![] : Fin 0 → Fin S2x64x512.rank)
  reducesTo_S2x64x512_S_d0_1_2 : S2x64x512.ReducesTo [0, 1, 2] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg9 : FVec F S8x64 .f32) (main_v33 : IVec S_ 1) : IVec S_ 1 :=
  let main_v34 : FVec F S8x64 .f32 := Host.absf main_arg9
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  main_v38

def fn_part1 {F : FTy → Type} [FloatOps F] (main_arg6 : FVec F S128x512 .f32) (main_arg7 : FVec F S512 .f32) (main_arg8 : FVec F S512 .f32) (main_arg9 : FVec F S8x64 .f32) (main_v13 : IVec S_ 1) (main_v16 : IVec S2x64x512 1) : IVec S_ 1 :=
  let main_c_5 : IVec S_ 1 := constantI S_ 1 1#1
  let main_v17 : IVec S_ 1 := (fun x v => Host.reduce IntOp.andi x v reducesTo_S2x64x512_S_d0_1_2 h_S_) main_v16 main_c_5
  let main_v18 : IVec S_ 1 := andi main_v13 main_v17
  let main_v19 : FVec F S128x512 .f32 := Host.absf main_arg6
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_v33

def fn {F : FTy → Type} [FloatOps F] (main_arg0 : FVec F S4x8192x1792 .f32) (main_arg1 : FVec F S2x1792 .f32) (main_arg2 : FVec F S2x64x512 .f32) (main_arg3 : FVec F S2x64x512 .f32) (main_arg4 : FVec F S2x512 .f32) (main_arg5 : FVec F S2x512 .f32) (main_arg6 : FVec F S128x512 .f32) (main_arg7 : FVec F S512 .f32) (main_arg8 : FVec F S512 .f32) (main_arg9 : FVec F S8x64 .f32) : IVec S_ 1 :=
  let main_v0 : FVec F S4x8192x1792 .f32 := Host.absf main_arg0
  let main_cst : FVec F S_ .f32 := constant S_ .f32 0x7F800000#32
  let main_v1 : FVec F S4x8192x1792 .f32 := broadcastInDim S4x8192x1792 ![] bcast_S_S4x8192x1792 main_cst
  let main_v2 : IVec S4x8192x1792 1 := cmpf .olt main_v0 main_v1
  let main_c : IVec S_ 1 := constantI S_ 1 1#1
  let main_v3 : IVec S_ 1 := (fun x v => Host.reduce IntOp.andi x v reducesTo_S4x8192x1792_S_d0_1_2 h_S_) main_v2 main_c
  let main_v4 : FVec F S2x1792 .f32 := Host.absf main_arg1
  let main_cst_0 : FVec F S_ .f32 := constant S_ .f32 0x7F800000#32
  let main_v5 : FVec F S2x1792 .f32 := broadcastInDim S2x1792 ![] bcast_S_S2x1792 main_cst_0
  let main_v6 : IVec S2x1792 1 := cmpf .olt main_v4 main_v5
  let main_c_1 : IVec S_ 1 := constantI S_ 1 1#1
  let main_v7 : IVec S_ 1 := (fun x v => Host.reduce IntOp.andi x v reducesTo_S2x1792_S_d0_1 h_S_) main_v6 main_c_1
  let main_v8 : IVec S_ 1 := andi main_v3 main_v7
  let main_v9 : FVec F S2x64x512 .f32 := Host.absf main_arg2
  let main_cst_2 : FVec F S_ .f32 := constant S_ .f32 0x7F800000#32
  let main_v10 : FVec F S2x64x512 .f32 := broadcastInDim S2x64x512 ![] bcast_S_S2x64x512 main_cst_2
  let main_v11 : IVec S2x64x512 1 := cmpf .olt main_v9 main_v10
  let main_c_3 : IVec S_ 1 := constantI S_ 1 1#1
  let main_v12 : IVec S_ 1 := (fun x v => Host.reduce IntOp.andi x v reducesTo_S2x64x512_S_d0_1_2 h_S_) main_v11 main_c_3
  let main_v13 : IVec S_ 1 := andi main_v8 main_v12
  let main_v14 : FVec F S2x64x512 .f32 := Host.absf main_arg3
  let main_cst_4 : FVec F S_ .f32 := constant S_ .f32 0x7F800000#32
  let main_v15 : FVec F S2x64x512 .f32 := broadcastInDim S2x64x512 ![] bcast_S_S2x64x512 main_cst_4
  let main_v16 : IVec S2x64x512 1 := cmpf .olt main_v14 main_v15
  fn_part1 (F := F) main_arg6 main_arg7 main_arg8 main_arg9 main_v13 main_v16
-- ==== Experts.lean ====
abbrev S4x16x1024x1024 : Shape := ⟨4, ![4, 16, 1024, 1024]⟩
abbrev S16x1024x2048 : Shape := ⟨3, ![16, 1024, 2048]⟩
abbrev S16x2048x1024 : Shape := ⟨3, ![16, 2048, 1024]⟩
abbrev S4x16x1024 : Shape := ⟨3, ![4, 16, 1024]⟩
abbrev S4x16x1024x1 : Shape := ⟨4, ![4, 16, 1024, 1]⟩
abbrev S1x1x1024x1024 : Shape := ⟨4, ![1, 1, 1024, 1024]⟩
abbrev S1x1024x1024 : Shape := ⟨3, ![1, 1024, 1024]⟩
abbrev S1x1x1024x1 : Shape := ⟨4, ![1, 1, 1024, 1]⟩
abbrev S1024x1024 : Shape := ⟨2, ![1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x16x1024x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S4x16x1024, .f32⟩
  | .hbm, ⟨5, _⟩ => ⟨S4x16x1024x1, .f32⟩
  | .hbm, ⟨6, _⟩ => ⟨S4x16x1024x1024, .f32⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024x1, .f32⟩
  | .local _ .vmem, ⟨9, _⟩ => ⟨S1x1x1024x1, .f32⟩
  | .local _ .vmem, ⟨10, _⟩ => ⟨S1x1x1024x1024, .f32⟩
  | .local _ .vmem, ⟨11, _⟩ => ⟨S1x1x1024x1024, .f32⟩
  | _, _ => ⟨S4x16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 2], ![false, false, false]⟩

def k0_cond1 (i : grid0.Coords) : BitVec 1 :=
  let arg2 : BitVec 32 := BitVec.ofNat 32 (i 2).val
  let c0_i32 : BitVec 32 := 0#32
  let v24 : BitVec 1 := Scalar.cmpi .eq arg2 c0_i32
  let v25 : BitVec 32 := Scalar.extui v24
  let c0_i32_17 : BitVec 32 := 0#32
  let v26 : BitVec 1 := Scalar.cmpi .ne v25 c0_i32_17
  v26

def k0_cond2 (i : grid0.Coords) : BitVec 1 :=
  let arg2 : BitVec 32 := BitVec.ofNat 32 (i 2).val
  let c0_i32_18 : BitVec 32 := 0#32
  let v27 : BitVec 1 := Scalar.cmpi .sgt arg2 c0_i32_18
  let v28 : BitVec 32 := Scalar.extui v27
  let c0_i32_19 : BitVec 32 := 0#32
  let v29 : BitVec 1 := Scalar.cmpi .ne v28 c0_i32_19
  v29

def k0_cond3 (i : grid0.Coords) : BitVec 1 :=
  let arg2 : BitVec 32 := BitVec.ofNat 32 (i 2).val
  let c1_i32 : BitVec 32 := 1#32
  let v30 : BitVec 1 := Scalar.cmpi .eq arg2 c1_i32
  let v31 : BitVec 32 := Scalar.extui v30
  let c0_i32_20 : BitVec 32 := 0#32
  let v32 : BitVec 1 := Scalar.cmpi .ne v31 c0_i32_20
  v32

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ExpertsRefIdeal.lean ====
abbrev S4x16x1024x1024 : Shape := ⟨4, ![4, 16, 1024, 1024]⟩
abbrev S16x1024x2048 : Shape := ⟨3, ![16, 1024, 2048]⟩
abbrev S16x2048x1024 : Shape := ⟨3, ![16, 2048, 1024]⟩
abbrev S4x16x1024 : Shape := ⟨3, ![4, 16, 1024]⟩
abbrev S16x2048x4x1024 : Shape := ⟨4, ![16, 2048, 4, 1024]⟩
abbrev S4x16x1024x2048 : Shape := ⟨4, ![4, 16, 1024, 2048]⟩
abbrev S_ : Shape := ⟨0, ![]⟩
abbrev S16x1024x4x1024 : Shape := ⟨4, ![16, 1024, 4, 1024]⟩
abbrev S4x16x1024x1 : Shape := ⟨4, ![4, 16, 1024, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x16x1024x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S4x16x1024, .f32⟩
  | .hbm, ⟨5, _⟩ => ⟨S4x16x1024x1024, .f32⟩
  | .hbm, ⟨6, _⟩ => ⟨S16x2048x4x1024, .f32⟩
  | .hbm, ⟨7, _⟩ => ⟨S4x16x1024x2048, .f32⟩
  | .hbm, ⟨8, _⟩ => ⟨S4x16x1024x2048, .f32⟩
  | .hbm, ⟨9, _⟩ => ⟨S4x16x1024x2048, .f32⟩
  | .hbm, ⟨10, _⟩ => ⟨S_, .f32⟩
  | .hbm, ⟨11, _⟩ => ⟨S4x16x1024x2048, .f32⟩
  | .hbm, ⟨12, _⟩ => ⟨S4x16x1024x2048, .f32⟩
  | .hbm, ⟨13, _⟩ => ⟨S_, .f32⟩
  | .hbm, ⟨14, _⟩ => ⟨S4x16x1024x2048, .f32⟩
  | .hbm, ⟨15, _⟩ => ⟨S4x16x1024x2048, .f32⟩
  | .hbm, ⟨16, _⟩ => ⟨S4x16x1024x2048, .f32⟩
  | .hbm, ⟨17, _⟩ => ⟨S16x2048x4x1024, .f32⟩
  | .hbm, ⟨18, _⟩ => ⟨S4x16x1024x2048, .f32⟩
  | .hbm, ⟨19, _⟩ => ⟨S4x16x1024x2048, .f32⟩
  | .hbm, ⟨20, _⟩ => ⟨S16x1024x4x1024, .f32⟩
  | .hbm, ⟨21, _⟩ => ⟨S4x16x1024x1024, .f32⟩
  | .hbm, ⟨22, _⟩ => ⟨S4x16x1024x1, .f32⟩
  | .hbm, ⟨23, _⟩ => ⟨S4x16x1024x1024, .f32⟩
  | .hbm, ⟨24, _⟩ => ⟨S4x16x1024x1024, .f32⟩
  | _, _ => ⟨S4x16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Gather.lean ====
abbrev S4x16x1024 : Shape := ⟨3, ![4, 16, 1024]⟩
abbrev S4x8192x1024 : Shape := ⟨3, ![4, 8192, 1024]⟩
abbrev S64x1x1024 : Shape := ⟨3, ![64, 1, 1024]⟩
abbrev S4x16x1024x1024 : Shape := ⟨4, ![4, 16, 1024, 1024]⟩
abbrev S1x1x1024 : Shape := ⟨3, ![1, 1, 1024]⟩
abbrev S1x8192x1024 : Shape := ⟨3, ![1, 8192, 1024]⟩
abbrev S1x1x1024x1024 : Shape := ⟨4, ![1, 1, 1024, 1024]⟩
abbrev S1024x1024 : Shape := ⟨2, ![1024, 1024]⟩
abbrev S8x1024 : Shape := ⟨2, ![8, 1024]⟩
abbrev S1x1x1 : Shape := ⟨3, ![1, 1, 1]⟩
abbrev S1x8x1024 : Shape := ⟨3, ![1, 8, 1024]⟩

abbrev nBuf : Space → Nat
  | .hbm => 4
  | .vmem => 4
  | .smem => 2
  | _ => 0

abbrev bufTy : (tb : Table) → Fin (tcTables nBuf tb) → BufTy
  | .hbm, ⟨0, _⟩ => ⟨S4x16x1024, .i32⟩
  | .hbm, ⟨1, _⟩ => ⟨S4x8192x1024, .f32⟩
  | .hbm, ⟨2, _⟩ => ⟨S64x1x1024, .i32⟩
  | .hbm, ⟨3, _⟩ => ⟨S4x16x1024x1024, .bf16⟩
  | .local _ .vmem, ⟨0, _⟩ => ⟨S1x8192x1024, .f32⟩
  | .local _ .vmem, ⟨1, _⟩ => ⟨S1x1x1024x1024, .bf16⟩
  | .local _ .vmem, ⟨2, _⟩ => ⟨S1x1x1024x1024, .bf16⟩
  | .local _ .vmem, ⟨3, _⟩ => ⟨S1024x1024, .f32⟩
  | .local _ .smem, ⟨0, _⟩ => ⟨S1x1x1024, .i32⟩
  | .local _ .smem, ⟨1, _⟩ => ⟨S1x1x1024, .i32⟩
  | _, _ => ⟨S4x16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_scratch0 : Ref sig .tc := ⟨.vmem, 3, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c128_i32 : BitVec 32 := 128#32
  let v1 : BitVec 32 := Scalar.addi c0_i32 c128_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  v7
def k0_off1 (k0_t1 : Fin k0_t1_loop.trips) : Fin 3 → Nat :=
  let c0_7 : Index := 0#32
  let c0_8 : Index := 0#32
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  let v8 : BitVec 32 := v7
  let c0_i32_6 : BitVec 32 := 0#32
  let v10 : BitVec 32 := Scalar.addi v8 c0_i32_6
  let v11 : Index := Scalar.indexCast v10
  ![0, 0, v11.toNat]
def k0_mult2 (v12 : BitVec 32) : BitVec 32 :=
  let c3_i32 : BitVec 32 := 3#32
  let v13 : BitVec 32 := Scalar.shrsi v12 c3_i32
  let c3_i32_9 : BitVec 32 := 3#32
  let v14 : BitVec 32 := Scalar.shli v13 c3_i32_9
  v14

def k0_off2 (v12 : BitVec 32) : Fin 3 → Nat :=
  let c0_10 : Index := 0#32
  let c3_i32 : BitVec 32 := 3#32
  let v13 : BitVec 32 := Scalar.shrsi v12 c3_i32
  let c3_i32_9 : BitVec 32 := 3#32
  let v14 : BitVec 32 := Scalar.shli v13 c3_i32_9
  let v15 : BitVec 32 := v14
  let v16 : Index := Scalar.indexCast v15
  let c0_11 : Index := 0#32
  ![0, v16.toNat, 0]

def k0_chk1 (v12 : BitVec 32) : Prop :=
  (8 ∣ (k0_mult2 v12).toNat) ∧
  (∀ a, (k0_off2 v12) a + S1x8x1024.size a ≤ S1x8192x1024.size a)
theorem k0_mult2_dvd : ∀ (v12 : BitVec 32) (k0_hw1 : k0_chk1 v12), 8 ∣ (k0_mult2 v12).toNat := fun v12 k0_hw1 => k0_hw1.1
theorem k0_off2_inb : ∀ (v12 : BitVec 32) (k0_hw1 : k0_chk1 v12), ∀ a, (k0_off2 v12) a + S1x8x1024.size a ≤ S1x8192x1024.size a := fun v12 k0_hw1 => k0_hw1.2

def k0_off3 (k0_t1 : Fin k0_t1_loop.trips) : Fin 3 → Nat :=
  let c0_15 : Index := 0#32
  let c0_16 : Index := 0#32
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  let v8 : BitVec 32 := v7
  let c1_i32_14 : BitVec 32 := 1#32
  let v25 : BitVec 32 := Scalar.addi v8 c1_i32_14
  let v26 : Index := Scalar.indexCast v25
  ![0, 0, v26.toNat]
def k0_mult3 (v27 : BitVec 32) : BitVec 32 :=
  let c3_i32_17 : BitVec 32 := 3#32
  let v28 : BitVec 32 := Scalar.shrsi v27 c3_i32_17
  let c3_i32_18 : BitVec 32 := 3#32
  let v29 : BitVec 32 := Scalar.shli v28 c3_i32_18
  v29

def k0_off4 (v27 : BitVec 32) : Fin 3 → Nat :=
  let c0_19 : Index := 0#32
  let c3_i32_17 : BitVec 32 := 3#32
  let v28 : BitVec 32 := Scalar.shrsi v27 c3_i32_17
  let c3_i32_18 : BitVec 32 := 3#32
  let v29 : BitVec 32 := Scalar.shli v28 c3_i32_18
  let v30 : BitVec 32 := v29
  let v31 : Index := Scalar.indexCast v30
  let c0_20 : Index := 0#32
  ![0, v31.toNat, 0]

def k0_chk2 (v27 : BitVec 32) : Prop :=
  (8 ∣ (k0_mult3 v27).toNat) ∧
  (∀ a, (k0_off4 v27) a + S1x8x1024.size a ≤ S1x8192x1024.size a)
theorem k0_mult3_dvd : ∀ (v27 : BitVec 32) (k0_hw2 : k0_chk2 v27), 8 ∣ (k0_mult3 v27).toNat := fun v27 k0_hw2 => k0_hw2.1
theorem k0_off4_inb : ∀ (v27 : BitVec 32) (k0_hw2 : k0_chk2 v27), ∀ a, (k0_off4 v27) a + S1x8x1024.size a ≤ S1x8192x1024.size a := fun v27 k0_hw2 => k0_hw2.2

def k0_off5 (k0_t1 : Fin k0_t1_loop.trips) : Fin 3 → Nat :=
  let c0_24 : Index := 0#32
  let c0_25 : Index := 0#32
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  let v8 : BitVec 32 := v7
  let c2_i32 : BitVec 32 := 2#32
  let v40 : BitVec 32 := Scalar.addi v8 c2_i32
  let v41 : Index := Scalar.indexCast v40
  ![0, 0, v41.toNat]
def k0_mult4 (v42 : BitVec 32) : BitVec 32 :=
  let c3_i32_26 : BitVec 32 := 3#32
  let v43 : BitVec 32 := Scalar.shrsi v42 c3_i32_26
  let c3_i32_27 : BitVec 32 := 3#32
  let v44 : BitVec 32 := Scalar.shli v43 c3_i32_27
  v44

def k0_off6 (v42 : BitVec 32) : Fin 3 → Nat :=
  let c0_28 : Index := 0#32
  let c3_i32_26 : BitVec 32 := 3#32
  let v43 : BitVec 32 := Scalar.shrsi v42 c3_i32_26
  let c3_i32_27 : BitVec 32 := 3#32
  let v44 : BitVec 32 := Scalar.shli v43 c3_i32_27
  let v45 : BitVec 32 := v44
  let v46 : Index := Scalar.indexCast v45
  let c0_29 : Index := 0#32
  ![0, v46.toNat, 0]

def k0_chk3 (v42 : BitVec 32) : Prop :=
  (8 ∣ (k0_mult4 v42).toNat) ∧
  (∀ a, (k0_off6 v42) a + S1x8x1024.size a ≤ S1x8192x1024.size a)
theorem k0_mult4_dvd : ∀ (v42 : BitVec 32) (k0_hw3 : k0_chk3 v42), 8 ∣ (k0_mult4 v42).toNat := fun v42 k0_hw3 => k0_hw3.1
theorem k0_off6_inb : ∀ (v42 : BitVec 32) (k0_hw3 : k0_chk3 v42), ∀ a, (k0_off6 v42) a + S1x8x1024.size a ≤ S1x8192x1024.size a := fun v42 k0_hw3 => k0_hw3.2

def k0_off7 (k0_t1 : Fin k0_t1_loop.trips) : Fin 3 → Nat :=
  let c0_34 : Index := 0#32
  let c0_35 : Index := 0#32
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  let v8 : BitVec 32 := v7
  let c3_i32_33 : BitVec 32 := 3#32
  let v55 : BitVec 32 := Scalar.addi v8 c3_i32_33
  let v56 : Index := Scalar.indexCast v55
  ![0, 0, v56.toNat]
def k0_mult5 (v57 : BitVec 32) : BitVec 32 :=
  let c3_i32_36 : BitVec 32 := 3#32
  let v58 : BitVec 32 := Scalar.shrsi v57 c3_i32_36
  let c3_i32_37 : BitVec 32 := 3#32
  let v59 : BitVec 32 := Scalar.shli v58 c3_i32_37
  v59

def k0_off8 (v57 : BitVec 32) : Fin 3 → Nat :=
  let c0_38 : Index := 0#32
  let c3_i32_36 : BitVec 32 := 3#32
  let v58 : BitVec 32 := Scalar.shrsi v57 c3_i32_36
  let c3_i32_37 : BitVec 32 := 3#32
  let v59 : BitVec 32 := Scalar.shli v58 c3_i32_37
  let v60 : BitVec 32 := v59
  let v61 : Index := Scalar.indexCast v60
  let c0_39 : Index := 0#32
  ![0, v61.toNat, 0]

def k0_chk4 (v57 : BitVec 32) : Prop :=
  (8 ∣ (k0_mult5 v57).toNat) ∧
  (∀ a, (k0_off8 v57) a + S1x8x1024.size a ≤ S1x8192x1024.size a)
theorem k0_mult5_dvd : ∀ (v57 : BitVec 32) (k0_hw4 : k0_chk4 v57), 8 ∣ (k0_mult5 v57).toNat := fun v57 k0_hw4 => k0_hw4.1
theorem k0_off8_inb : ∀ (v57 : BitVec 32) (k0_hw4 : k0_chk4 v57), ∀ a, (k0_off8 v57) a + S1x8x1024.size a ≤ S1x8192x1024.size a := fun v57 k0_hw4 => k0_hw4.2

def k0_off9 (k0_t1 : Fin k0_t1_loop.trips) : Fin 3 → Nat :=
  let c0_43 : Index := 0#32
  let c0_44 : Index := 0#32
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  let v8 : BitVec 32 := v7
  let c4_i32 : BitVec 32 := 4#32
  let v70 : BitVec 32 := Scalar.addi v8 c4_i32
  let v71 : Index := Scalar.indexCast v70
  ![0, 0, v71.toNat]
def k0_mult6 (v72 : BitVec 32) : BitVec 32 :=
  let c3_i32_45 : BitVec 32 := 3#32
  let v73 : BitVec 32 := Scalar.shrsi v72 c3_i32_45
  let c3_i32_46 : BitVec 32 := 3#32
  let v74 : BitVec 32 := Scalar.shli v73 c3_i32_46
  v74

def k0_off10 (v72 : BitVec 32) : Fin 3 → Nat :=
  let c0_47 : Index := 0#32
  let c3_i32_45 : BitVec 32 := 3#32
  let v73 : BitVec 32 := Scalar.shrsi v72 c3_i32_45
  let c3_i32_46 : BitVec 32 := 3#32
  let v74 : BitVec 32 := Scalar.shli v73 c3_i32_46
  let v75 : BitVec 32 := v74
  let v76 : Index := Scalar.indexCast v75
  let c0_48 : Index := 0#32
  ![0, v76.toNat, 0]

def k0_chk5 (v72 : BitVec 32) : Prop :=
  (8 ∣ (k0_mult6 v72).toNat) ∧
  (∀ a, (k0_off10 v72) a + S1x8x1024.size a ≤ S1x8192x1024.size a)
theorem k0_mult6_dvd : ∀ (v72 : BitVec 32) (k0_hw5 : k0_chk5 v72), 8 ∣ (k0_mult6 v72).toNat := fun v72 k0_hw5 => k0_hw5.1
theorem k0_off10_inb : ∀ (v72 : BitVec 32) (k0_hw5 : k0_chk5 v72), ∀ a, (k0_off10 v72) a + S1x8x1024.size a ≤ S1x8192x1024.size a := fun v72 k0_hw5 => k0_hw5.2

def k0_off11 (k0_t1 : Fin k0_t1_loop.trips) : Fin 3 → Nat :=
  let c0_52 : Index := 0#32
  let c0_53 : Index := 0#32
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  let v8 : BitVec 32 := v7
  let c5_i32 : BitVec 32 := 5#32
  let v85 : BitVec 32 := Scalar.addi v8 c5_i32
  let v86 : Index := Scalar.indexCast v85
  ![0, 0, v86.toNat]
def k0_mult7 (v87 : BitVec 32) : BitVec 32 :=
  let c3_i32_54 : BitVec 32 := 3#32
  let v88 : BitVec 32 := Scalar.shrsi v87 c3_i32_54
  let c3_i32_55 : BitVec 32 := 3#32
  let v89 : BitVec 32 := Scalar.shli v88 c3_i32_55
  v89

def k0_off12 (v87 : BitVec 32) : Fin 3 → Nat :=
  let c0_56 : Index := 0#32
  let c3_i32_54 : BitVec 32 := 3#32
  let v88 : BitVec 32 := Scalar.shrsi v87 c3_i32_54
  let c3_i32_55 : BitVec 32 := 3#32
  let v89 : BitVec 32 := Scalar.shli v88 c3_i32_55
  let v90 : BitVec 32 := v89
  let v91 : Index := Scalar.indexCast v90
  let c0_57 : Index := 0#32
  ![0, v91.toNat, 0]

def k0_chk6 (v87 : BitVec 32) : Prop :=
  (8 ∣ (k0_mult7 v87).toNat) ∧
  (∀ a, (k0_off12 v87) a + S1x8x1024.size a ≤ S1x8192x1024.size a)
theorem k0_mult7_dvd : ∀ (v87 : BitVec 32) (k0_hw6 : k0_chk6 v87), 8 ∣ (k0_mult7 v87).toNat := fun v87 k0_hw6 => k0_hw6.1
theorem k0_off12_inb : ∀ (v87 : BitVec 32) (k0_hw6 : k0_chk6 v87), ∀ a, (k0_off12 v87) a + S1x8x1024.size a ≤ S1x8192x1024.size a := fun v87 k0_hw6 => k0_hw6.2

def k0_off13 (k0_t1 : Fin k0_t1_loop.trips) : Fin 3 → Nat :=
  let c0_61 : Index := 0#32
  let c0_62 : Index := 0#32
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  let v8 : BitVec 32 := v7
  let c6_i32 : BitVec 32 := 6#32
  let v100 : BitVec 32 := Scalar.addi v8 c6_i32
  let v101 : Index := Scalar.indexCast v100
  ![0, 0, v101.toNat]
def k0_mult8 (v102 : BitVec 32) : BitVec 32 :=
  let c3_i32_63 : BitVec 32 := 3#32
  let v103 : BitVec 32 := Scalar.shrsi v102 c3_i32_63
  let c3_i32_64 : BitVec 32 := 3#32
  let v104 : BitVec 32 := Scalar.shli v103 c3_i32_64
  v104

def k0_off14 (v102 : BitVec 32) : Fin 3 → Nat :=
  let c0_65 : Index := 0#32
  let c3_i32_63 : BitVec 32 := 3#32
  let v103 : BitVec 32 := Scalar.shrsi v102 c3_i32_63
  let c3_i32_64 : BitVec 32 := 3#32
  let v104 : BitVec 32 := Scalar.shli v103 c3_i32_64
  let v105 : BitVec 32 := v104
  let v106 : Index := Scalar.indexCast v105
  let c0_66 : Index := 0#32
  ![0, v106.toNat, 0]

def k0_chk7 (v102 : BitVec 32) : Prop :=
  (8 ∣ (k0_mult8 v102).toNat) ∧
  (∀ a, (k0_off14 v102) a + S1x8x1024.size a ≤ S1x8192x1024.size a)
theorem k0_mult8_dvd : ∀ (v102 : BitVec 32) (k0_hw7 : k0_chk7 v102), 8 ∣ (k0_mult8 v102).toNat := fun v102 k0_hw7 => k0_hw7.1
theorem k0_off14_inb : ∀ (v102 : BitVec 32) (k0_hw7 : k0_chk7 v102), ∀ a, (k0_off14 v102) a + S1x8x1024.size a ≤ S1x8192x1024.size a := fun v102 k0_hw7 => k0_hw7.2

def k0_off15 (k0_t1 : Fin k0_t1_loop.trips) : Fin 3 → Nat :=
  let c0_71 : Index := 0#32
  let c0_72 : Index := 0#32
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  let v8 : BitVec 32 := v7
  let c7_i32_70 : BitVec 32 := 7#32
  let v115 : BitVec 32 := Scalar.addi v8 c7_i32_70
  let v116 : Index := Scalar.indexCast v115
  ![0, 0, v116.toNat]
def k0_mult9 (v117 : BitVec 32) : BitVec 32 :=
  let c3_i32_73 : BitVec 32 := 3#32
  let v118 : BitVec 32 := Scalar.shrsi v117 c3_i32_73
  let c3_i32_74 : BitVec 32 := 3#32
  let v119 : BitVec 32 := Scalar.shli v118 c3_i32_74
  v119

def k0_off16 (v117 : BitVec 32) : Fin 3 → Nat :=
  let c0_75 : Index := 0#32
  let c3_i32_73 : BitVec 32 := 3#32
  let v118 : BitVec 32 := Scalar.shrsi v117 c3_i32_73
  let c3_i32_74 : BitVec 32 := 3#32
  let v119 : BitVec 32 := Scalar.shli v118 c3_i32_74
  let v120 : BitVec 32 := v119
  let v121 : Index := Scalar.indexCast v120
  let c0_76 : Index := 0#32
  ![0, v121.toNat, 0]

def k0_chk8 (v117 : BitVec 32) : Prop :=
  (8 ∣ (k0_mult9 v117).toNat) ∧
  (∀ a, (k0_off16 v117) a + S1x8x1024.size a ≤ S1x8192x1024.size a)
theorem k0_mult9_dvd : ∀ (v117 : BitVec 32) (k0_hw8 : k0_chk8 v117), 8 ∣ (k0_mult9 v117).toNat := fun v117 k0_hw8 => k0_hw8.1
theorem k0_off16_inb : ∀ (v117 : BitVec 32) (k0_hw8 : k0_chk8 v117), ∀ a, (k0_off16 v117) a + S1x8x1024.size a ≤ S1x8192x1024.size a := fun v117 k0_hw8 => k0_hw8.2

def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v7 : BitVec 32 := Scalar.muli arg6 c8_i32
  let v8 : BitVec 32 := v7
  let v130 : Index := Scalar.indexCast v8
  let c0_80 : Index := 0#32
  ![v130.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatherRefIdeal.lean ====
abbrev S4x16x1024 : Shape := ⟨3, ![4, 16, 1024]⟩
abbrev S4x8192x1024 : Shape := ⟨3, ![4, 8192, 1024]⟩
abbrev S_ : Shape := ⟨0, ![]⟩
abbrev S4x16x1024x1 : Shape := ⟨4, ![4, 16, 1024, 1]⟩
abbrev S4x16x1024x1024 : Shape := ⟨4, ![4, 16, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x16x1024, .i32⟩
  | .hbm, ⟨1, _⟩ => ⟨S4x8192x1024, .f32⟩
  | .hbm, ⟨2, _⟩ => ⟨S_, .i32⟩
  | .hbm, ⟨3, _⟩ => ⟨S4x16x1024, .i32⟩
  | .hbm, ⟨4, _⟩ => ⟨S4x16x1024, .i1⟩
  | .hbm, ⟨5, _⟩ => ⟨S_, .i32⟩
  | .hbm, ⟨6, _⟩ => ⟨S4x16x1024, .i32⟩
  | .hbm, ⟨7, _⟩ => ⟨S4x16x1024, .i32⟩
  | .hbm, ⟨8, _⟩ => ⟨S4x16x1024, .i32⟩
  | .hbm, ⟨9, _⟩ => ⟨S4x16x1024x1, .i32⟩
  | .hbm, ⟨10, _⟩ => ⟨S4x16x1024x1024, .f32⟩
  | .hbm, ⟨11, _⟩ => ⟨S4x16x1024x1024, .bf16⟩
  | _, _ => ⟨S4x16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Scatter.lean ====
abbrev S4x16x1024 : Shape := ⟨3, ![4, 16, 1024]⟩
abbrev S4x16x1024x1024 : Shape := ⟨4, ![4, 16, 1024, 1024]⟩
abbrev S64x1x1024 : Shape := ⟨3, ![64, 1, 1024]⟩
abbrev S4x8192x1024 : Shape := ⟨3, ![4, 8192, 1024]⟩
abbrev S1x1x1024 : Shape := ⟨3, ![1, 1, 1024]⟩
abbrev S1x1x1024x1024 : Shape := ⟨4, ![1, 1, 1024, 1024]⟩
abbrev S1x8192x1024 : Shape := ⟨3, ![1, 8192, 1024]⟩
abbrev S8192x1024 : Shape := ⟨2, ![8192, 1024]⟩
abbrev S8x1024 : Shape := ⟨2, ![8, 1024]⟩
abbrev S1x1x8x1024 : Shape := ⟨4, ![1, 1, 8, 1024]⟩
abbrev S1x1x1 : Shape := ⟨3, ![1, 1, 1]⟩
abbrev S1x1024 : Shape := ⟨2, ![1, 1024]⟩
abbrev S1x8x1024 : Shape := ⟨3, ![1, 8, 1024]⟩

abbrev nBuf : Space → Nat
  | .hbm => 4
  | .vmem => 3
  | .smem => 2
  | _ => 0

abbrev bufTy : (tb : Table) → Fin (tcTables nBuf tb) → BufTy
  | .hbm, ⟨0, _⟩ => ⟨S4x16x1024, .i32⟩
  | .hbm, ⟨1, _⟩ => ⟨S4x16x1024x1024, .f32⟩
  | .hbm, ⟨2, _⟩ => ⟨S64x1x1024, .i32⟩
  | .hbm, ⟨3, _⟩ => ⟨S4x8192x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x8192x1024, .f32⟩
  | .local _ .smem, ⟨0, _⟩ => ⟨S1x1x1024, .i32⟩
  | .local _ .smem, ⟨1, _⟩ => ⟨S1x1x1024, .i32⟩
  | _, _ => ⟨S4x16x1024, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_1 : BitVec 32 := 0#32
  let c128_i32 : BitVec 32 := 128#32
  let v4 : BitVec 32 := Scalar.addi c0_i32_1 c128_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  v5
def k0_off1 (k0_t1 : Fin k0_t1_loop.trips) : Fin 4 → Nat :=
  let c0 : Index := 0#32
  let c0_3 : Index := 0#32
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  let v6 : BitVec 32 := v5
  let v7 : Index := Scalar.indexCast v6
  let c0_4 : Index := 0#32
  ![0, 0, v7.toNat, 0]
def k0_off2 (k0_t1 : Fin k0_t1_loop.trips) : Fin 3 → Nat :=
  let c0_6 : Index := 0#32
  let c0_7 : Index := 0#32
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  let v6 : BitVec 32 := v5
  let c0_i32_5 : BitVec 32 := 0#32
  let v10 : BitVec 32 := Scalar.addi v6 c0_i32_5
  let v11 : Index := Scalar.indexCast v10
  ![0, 0, v11.toNat]
def k0_mult2 (v12 : BitVec 32) : BitVec 32 :=
  let c3_i32 : BitVec 32 := 3#32
  let v13 : BitVec 32 := Scalar.shrsi v12 c3_i32
  let c3_i32_8 : BitVec 32 := 3#32
  let v14 : BitVec 32 := Scalar.shli v13 c3_i32_8
  v14

def k0_off3 (v12 : BitVec 32) : Fin 3 → Nat :=
  let c0_9 : Index := 0#32
  let c3_i32 : BitVec 32 := 3#32
  let v13 : BitVec 32 := Scalar.shrsi v12 c3_i32
  let c3_i32_8 : BitVec 32 := 3#32
  let v14 : BitVec 32 := Scalar.shli v13 c3_i32_8
  let v15 : BitVec 32 := v14
  let v24 : Index := Scalar.indexCast v15
  let c0_10 : Index := 0#32
  ![0, v24.toNat, 0]

def k0_chk1 (v12 : BitVec 32) : Prop :=
  (8 ∣ (k0_mult2 v12).toNat) ∧
  (∀ a, (k0_off3 v12) a + S1x8x1024.size a ≤ S1x8192x1024.size a)
theorem k0_mult2_dvd : ∀ (v12 : BitVec 32) (k0_hw1 : k0_chk1 v12), 8 ∣ (k0_mult2 v12).toNat := fun v12 k0_hw1 => k0_hw1.1
theorem k0_off3_inb : ∀ (v12 : BitVec 32) (k0_hw1 : k0_chk1 v12), ∀ a, (k0_off3 v12) a + S1x8x1024.size a ≤ S1x8192x1024.size a := fun v12 k0_hw1 => k0_hw1.2

def k0_off4 (k0_t1 : Fin k0_t1_loop.trips) : Fin 3 → Nat :=
  let c0_14 : Index := 0#32
  let c0_15 : Index := 0#32
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  let v6 : BitVec 32 := v5
  let c1_i32_13 : BitVec 32 := 1#32
  let v32 : BitVec 32 := Scalar.addi v6 c1_i32_13
  let v33 : Index := Scalar.indexCast v32
  ![0, 0, v33.toNat]
def k0_mult3 (v34 : BitVec 32) : BitVec 32 :=
  let c3_i32_16 : BitVec 32 := 3#32
  let v35 : BitVec 32 := Scalar.shrsi v34 c3_i32_16
  let c3_i32_17 : BitVec 32 := 3#32
  let v36 : BitVec 32 := Scalar.shli v35 c3_i32_17
  v36

def k0_off5 (v34 : BitVec 32) : Fin 3 → Nat :=
  let c0_20 : Index := 0#32
  let c3_i32_16 : BitVec 32 := 3#32
  let v35 : BitVec 32 := Scalar.shrsi v34 c3_i32_16
  let c3_i32_17 : BitVec 32 := 3#32
  let v36 : BitVec 32 := Scalar.shli v35 c3_i32_17
  let v37 : BitVec 32 := v36
  let v46 : Index := Scalar.indexCast v37
  let c0_21 : Index := 0#32
  ![0, v46.toNat, 0]

def k0_chk2 (v34 : BitVec 32) : Prop :=
  (8 ∣ (k0_mult3 v34).toNat) ∧
  (∀ a, (k0_off5 v34) a + S1x8x1024.size a ≤ S1x8192x1024.size a)
theorem k0_mult3_dvd : ∀ (v34 : BitVec 32) (k0_hw2 : k0_chk2 v34), 8 ∣ (k0_mult3 v34).toNat := fun v34 k0_hw2 => k0_hw2.1
theorem k0_off5_inb : ∀ (v34 : BitVec 32) (k0_hw2 : k0_chk2 v34), ∀ a, (k0_off5 v34) a + S1x8x1024.size a ≤ S1x8192x1024.size a := fun v34 k0_hw2 => k0_hw2.2

def k0_off6 (k0_t1 : Fin k0_t1_loop.trips) : Fin 3 → Nat :=
  let c0_24 : Index := 0#32
  let c0_25 : Index := 0#32
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  let v6 : BitVec 32 := v5
  let c2_i32 : BitVec 32 := 2#32
  let v54 : BitVec 32 := Scalar.addi v6 c2_i32
  let v55 : Index := Scalar.indexCast v54
  ![0, 0, v55.toNat]
def k0_mult4 (v56 : BitVec 32) : BitVec 32 :=
  let c3_i32_26 : BitVec 32 := 3#32
  let v57 : BitVec 32 := Scalar.shrsi v56 c3_i32_26
  let c3_i32_27 : BitVec 32 := 3#32
  let v58 : BitVec 32 := Scalar.shli v57 c3_i32_27
  v58

def k0_off7 (v56 : BitVec 32) : Fin 3 → Nat :=
  let c0_30 : Index := 0#32
  let c3_i32_26 : BitVec 32 := 3#32
  let v57 : BitVec 32 := Scalar.shrsi v56 c3_i32_26
  let c3_i32_27 : BitVec 32 := 3#32
  let v58 : BitVec 32 := Scalar.shli v57 c3_i32_27
  let v59 : BitVec 32 := v58
  let v68 : Index := Scalar.indexCast v59
  let c0_31 : Index := 0#32
  ![0, v68.toNat, 0]

def k0_chk3 (v56 : BitVec 32) : Prop :=
  (8 ∣ (k0_mult4 v56).toNat) ∧
  (∀ a, (k0_off7 v56) a + S1x8x1024.size a ≤ S1x8192x1024.size a)
theorem k0_mult4_dvd : ∀ (v56 : BitVec 32) (k0_hw3 : k0_chk3 v56), 8 ∣ (k0_mult4 v56).toNat := fun v56 k0_hw3 => k0_hw3.1
theorem k0_off7_inb : ∀ (v56 : BitVec 32) (k0_hw3 : k0_chk3 v56), ∀ a, (k0_off7 v56) a + S1x8x1024.size a ≤ S1x8192x1024.size a := fun v56 k0_hw3 => k0_hw3.2

def k0_off8 (k0_t1 : Fin k0_t1_loop.trips) : Fin 3 → Nat :=
  let c0_35 : Index := 0#32
  let c0_36 : Index := 0#32
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  let v6 : BitVec 32 := v5
  let c3_i32_34 : BitVec 32 := 3#32
  let v76 : BitVec 32 := Scalar.addi v6 c3_i32_34
  let v77 : Index := Scalar.indexCast v76
  ![0, 0, v77.toNat]
def k0_mult5 (v78 : BitVec 32) : BitVec 32 :=
  let c3_i32_37 : BitVec 32 := 3#32
  let v79 : BitVec 32 := Scalar.shrsi v78 c3_i32_37
  let c3_i32_38 : BitVec 32 := 3#32
  let v80 : BitVec 32 := Scalar.shli v79 c3_i32_38
  v80

def k0_off9 (v78 : BitVec 32) : Fin 3 → Nat :=
  let c0_41 : Index := 0#32
  let c3_i32_37 : BitVec 32 := 3#32
  let v79 : BitVec 32 := Scalar.shrsi v78 c3_i32_37
  let c3_i32_38 : BitVec 32 := 3#32
  let v80 : BitVec 32 := Scalar.shli v79 c3_i32_38
  let v81 : BitVec 32 := v80
  let v90 : Index := Scalar.indexCast v81
  let c0_42 : Index := 0#32
  ![0, v90.toNat, 0]

def k0_chk4 (v78 : BitVec 32) : Prop :=
  (8 ∣ (k0_mult5 v78).toNat) ∧
  (∀ a, (k0_off9 v78) a + S1x8x1024.size a ≤ S1x8192x1024.size a)
theorem k0_mult5_dvd : ∀ (v78 : BitVec 32) (k0_hw4 : k0_chk4 v78), 8 ∣ (k0_mult5 v78).toNat := fun v78 k0_hw4 => k0_hw4.1
theorem k0_off9_inb : ∀ (v78 : BitVec 32) (k0_hw4 : k0_chk4 v78), ∀ a, (k0_off9 v78) a + S1x8x1024.size a ≤ S1x8192x1024.size a := fun v78 k0_hw4 => k0_hw4.2

def k0_off10 (k0_t1 : Fin k0_t1_loop.trips) : Fin 3 → Nat :=
  let c0_45 : Index := 0#32
  let c0_46 : Index := 0#32
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  let v6 : BitVec 32 := v5
  let c4_i32 : BitVec 32 := 4#32
  let v98 : BitVec 32 := Scalar.addi v6 c4_i32
  let v99 : Index := Scalar.indexCast v98
  ![0, 0, v99.toNat]
def k0_mult6 (v100 : BitVec 32) : BitVec 32 :=
  let c3_i32_47 : BitVec 32 := 3#32
  let v101 : BitVec 32 := Scalar.shrsi v100 c3_i32_47
  let c3_i32_48 : BitVec 32 := 3#32
  let v102 : BitVec 32 := Scalar.shli v101 c3_i32_48
  v102

def k0_off11 (v100 : BitVec 32) : Fin 3 → Nat :=
  let c0_51 : Index := 0#32
  let c3_i32_47 : BitVec 32 := 3#32
  let v101 : BitVec 32 := Scalar.shrsi v100 c3_i32_47
  let c3_i32_48 : BitVec 32 := 3#32
  let v102 : BitVec 32 := Scalar.shli v101 c3_i32_48
  let v103 : BitVec 32 := v102
  let v112 : Index := Scalar.indexCast v103
  let c0_52 : Index := 0#32
  ![0, v112.toNat, 0]

def k0_chk5 (v100 : BitVec 32) : Prop :=
  (8 ∣ (k0_mult6 v100).toNat) ∧
  (∀ a, (k0_off11 v100) a + S1x8x1024.size a ≤ S1x8192x1024.size a)
theorem k0_mult6_dvd : ∀ (v100 : BitVec 32) (k0_hw5 : k0_chk5 v100), 8 ∣ (k0_mult6 v100).toNat := fun v100 k0_hw5 => k0_hw5.1
theorem k0_off11_inb : ∀ (v100 : BitVec 32) (k0_hw5 : k0_chk5 v100), ∀ a, (k0_off11 v100) a + S1x8x1024.size a ≤ S1x8192x1024.size a := fun v100 k0_hw5 => k0_hw5.2

def k0_off12 (k0_t1 : Fin k0_t1_loop.trips) : Fin 3 → Nat :=
  let c0_55 : Index := 0#32
  let c0_56 : Index := 0#32
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  let v6 : BitVec 32 := v5
  let c5_i32 : BitVec 32 := 5#32
  let v120 : BitVec 32 := Scalar.addi v6 c5_i32
  let v121 : Index := Scalar.indexCast v120
  ![0, 0, v121.toNat]
def k0_mult7 (v122 : BitVec 32) : BitVec 32 :=
  let c3_i32_57 : BitVec 32 := 3#32
  let v123 : BitVec 32 := Scalar.shrsi v122 c3_i32_57
  let c3_i32_58 : BitVec 32 := 3#32
  let v124 : BitVec 32 := Scalar.shli v123 c3_i32_58
  v124

def k0_off13 (v122 : BitVec 32) : Fin 3 → Nat :=
  let c0_61 : Index := 0#32
  let c3_i32_57 : BitVec 32 := 3#32
  let v123 : BitVec 32 := Scalar.shrsi v122 c3_i32_57
  let c3_i32_58 : BitVec 32 := 3#32
  let v124 : BitVec 32 := Scalar.shli v123 c3_i32_58
  let v125 : BitVec 32 := v124
  let v134 : Index := Scalar.indexCast v125
  let c0_62 : Index := 0#32
  ![0, v134.toNat, 0]

def k0_chk6 (v122 : BitVec 32) : Prop :=
  (8 ∣ (k0_mult7 v122).toNat) ∧
  (∀ a, (k0_off13 v122) a + S1x8x1024.size a ≤ S1x8192x1024.size a)
theorem k0_mult7_dvd : ∀ (v122 : BitVec 32) (k0_hw6 : k0_chk6 v122), 8 ∣ (k0_mult7 v122).toNat := fun v122 k0_hw6 => k0_hw6.1
theorem k0_off13_inb : ∀ (v122 : BitVec 32) (k0_hw6 : k0_chk6 v122), ∀ a, (k0_off13 v122) a + S1x8x1024.size a ≤ S1x8192x1024.size a := fun v122 k0_hw6 => k0_hw6.2

def k0_off14 (k0_t1 : Fin k0_t1_loop.trips) : Fin 3 → Nat :=
  let c0_65 : Index := 0#32
  let c0_66 : Index := 0#32
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  let v6 : BitVec 32 := v5
  let c6_i32 : BitVec 32 := 6#32
  let v142 : BitVec 32 := Scalar.addi v6 c6_i32
  let v143 : Index := Scalar.indexCast v142
  ![0, 0, v143.toNat]
def k0_mult8 (v144 : BitVec 32) : BitVec 32 :=
  let c3_i32_67 : BitVec 32 := 3#32
  let v145 : BitVec 32 := Scalar.shrsi v144 c3_i32_67
  let c3_i32_68 : BitVec 32 := 3#32
  let v146 : BitVec 32 := Scalar.shli v145 c3_i32_68
  v146

def k0_off15 (v144 : BitVec 32) : Fin 3 → Nat :=
  let c0_71 : Index := 0#32
  let c3_i32_67 : BitVec 32 := 3#32
  let v145 : BitVec 32 := Scalar.shrsi v144 c3_i32_67
  let c3_i32_68 : BitVec 32 := 3#32
  let v146 : BitVec 32 := Scalar.shli v145 c3_i32_68
  let v147 : BitVec 32 := v146
  let v156 : Index := Scalar.indexCast v147
  let c0_72 : Index := 0#32
  ![0, v156.toNat, 0]

def k0_chk7 (v144 : BitVec 32) : Prop :=
  (8 ∣ (k0_mult8 v144).toNat) ∧
  (∀ a, (k0_off15 v144) a + S1x8x1024.size a ≤ S1x8192x1024.size a)
theorem k0_mult8_dvd : ∀ (v144 : BitVec 32) (k0_hw7 : k0_chk7 v144), 8 ∣ (k0_mult8 v144).toNat := fun v144 k0_hw7 => k0_hw7.1
theorem k0_off15_inb : ∀ (v144 : BitVec 32) (k0_hw7 : k0_chk7 v144), ∀ a, (k0_off15 v144) a + S1x8x1024.size a ≤ S1x8192x1024.size a := fun v144 k0_hw7 => k0_hw7.2

def k0_off16 (k0_t1 : Fin k0_t1_loop.trips) : Fin 3 → Nat :=
  let c0_76 : Index := 0#32
  let c0_77 : Index := 0#32
  let c0_i32_1 : BitVec 32 := 0#32
  let c1_i32 : BitVec 32 := 1#32
  let arg5 : BitVec 32 := Scf.iv c0_i32_1 c1_i32 k0_t1
  let c8_i32 : BitVec 32 := 8#32
  let v5 : BitVec 32 := Scalar.muli arg5 c8_i32
  let v6 : BitVec 32 := v5
  let c7_i32_75 : BitVec 32 := 7#32
  let v164 : BitVec 32 := Scalar.addi v6 c7_i32_75
  let v165 : Index := Scalar.indexCast v164
  ![0, 0, v165.toNat]
def k0_mult9 (v166 : BitVec 32) : BitVec 32 :=
  let c3_i32_78 : BitVec 32 := 3#32
  let v167 : BitVec 32 := Scalar.shrsi v166 c3_i32_78
  let c3_i32_79 : BitVec 32 := 3#32
  let v168 : BitVec 32 := Scalar.shli v167 c3_i32_79
  v168

def k0_off17 (v166 : BitVec 32) : Fin 3 → Nat :=
  let c0_82 : Index := 0#32
  let c3_i32_78 : BitVec 32 := 3#32
  let v167 : BitVec 32 := Scalar.shrsi v166 c3_i32_78
  let c3_i32_79 : BitVec 32 := 3#32
  let v168 : BitVec 32 := Scalar.shli v167 c3_i32_79
  let v169 : BitVec 32 := v168
  let v178 : Index := Scalar.indexCast v169
  let c0_83 : Index := 0#32
  ![0, v178.toNat, 0]

def k0_chk8 (v166 : BitVec 32) : Prop :=
  (8 ∣ (k0_mult9 v166).toNat) ∧
  (∀ a, (k0_off17 v166) a + S1x8x1024.size a ≤ S1x8192x1024.size a)
theorem k0_mult9_dvd : ∀ (v166 : BitVec 32) (k0_hw8 : k0_chk8 v166), 8 ∣ (k0_mult9 v166).toNat := fun v166 k0_hw8 => k0_hw8.1
theorem k0_off17_inb : ∀ (v166 : BitVec 32) (k0_hw8 : k0_chk8 v166), ∀ a, (k0_off17 v166) a + S1x8x1024.size a ≤ S1x8192x1024.size a := fun v166 k0_hw8 => k0_hw8.2

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ScatterRefIdeal.lean ====
abbrev S4x16x1024 : Shape := ⟨3, ![4, 16, 1024]⟩
abbrev S4x16x1024x1024 : Shape := ⟨4, ![4, 16, 1024, 1024]⟩
abbrev S4 : Shape := ⟨1, ![4]⟩
abbrev S4x1 : Shape := ⟨2, ![4, 1]⟩
abbrev S_ : Shape := ⟨0, ![]⟩
abbrev S4x8192x1024 : Shape := ⟨3, ![4, 8192, 1024]⟩
abbrev S4x16384 : Shape := ⟨2, ![4, 16384]⟩
abbrev S4x16384x1024 : Shape := ⟨3, ![4, 16384, 1024]⟩
abbrev S4x16384x1 : Shape := ⟨3, ![4, 16384, 1]⟩
abbrev S4x16384x2 : Shape := ⟨3, ![4, 16384, 2]⟩

abbrev nBuf : Space → Nat
  | .hbm => 27
  | .vmem => 0
  | .smem => 0
  | _ => 0

abbrev bufTy : (tb : Table) → Fin (tcTables nBuf tb) → BufTy
  | .hbm, ⟨0, _⟩ => ⟨S4x16x1024, .i32⟩
  | .hbm, ⟨1, _⟩ => ⟨S4x16x1024x1024, .f32⟩
  | .hbm, ⟨2, _⟩ => ⟨S4, .i32⟩
  | .hbm, ⟨3, _⟩ => ⟨S4x1, .i32⟩
  | .hbm, ⟨4, _⟩ => ⟨S_, .f32⟩
  | .hbm, ⟨5, _⟩ => ⟨S4x8192x1024, .f32⟩
  | .hbm, ⟨6, _⟩ => ⟨S4x16384, .i32⟩
  | .hbm, ⟨7, _⟩ => ⟨S4x16384x1024, .f32⟩
  | .hbm, ⟨8, _⟩ => ⟨S_, .i32⟩
  | .hbm, ⟨9, _⟩ => ⟨S4x1, .i32⟩
  | .hbm, ⟨10, _⟩ => ⟨S4x1, .i1⟩
  | .hbm, ⟨11, _⟩ => ⟨S_, .i32⟩
  | .hbm, ⟨12, _⟩ => ⟨S4x1, .i32⟩
  | .hbm, ⟨13, _⟩ => ⟨S4x1, .i32⟩
  | .hbm, ⟨14, _⟩ => ⟨S4x1, .i32⟩
  | .hbm, ⟨15, _⟩ => ⟨S_, .i32⟩
  | .hbm, ⟨16, _⟩ => ⟨S4x16384, .i32⟩
  | .hbm, ⟨17, _⟩ => ⟨S4x16384, .i1⟩
  | .hbm, ⟨18, _⟩ => ⟨S_, .i32⟩
  | .hbm, ⟨19, _⟩ => ⟨S4x16384, .i32⟩
  | .hbm, ⟨20, _⟩ => ⟨S4x16384, .i32⟩
  | .hbm, ⟨21, _⟩ => ⟨S4x16384, .i32⟩
  | .hbm, ⟨22, _⟩ => ⟨S4x16384, .i32⟩
  | .hbm, ⟨23, _⟩ => ⟨S4x16384x1, .i32⟩
  | .hbm, ⟨24, _⟩ => ⟨S4x16384x1, .i32⟩
  | .hbm, ⟨25, _⟩ => ⟨S4x16384x2, .i32⟩
  | .hbm, ⟨26, _⟩ => ⟨S4x8192x1024, .f32⟩
  | _, _ => ⟨S4x16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Final.lean ====
abbrev S4x8192x1024 : Shape := ⟨3, ![4, 8192, 1024]⟩
abbrev S4x1x1024 : Shape := ⟨3, ![4, 1, 1024]⟩
abbrev S1024 : Shape := ⟨1, ![1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x1x1024, .f32⟩
  | .hbm, ⟨3, _⟩ => ⟨S1024, .f32⟩
  | .hbm, ⟨4, _⟩ => ⟨S1x1024, .f32⟩
  | .hbm, ⟨5, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S4x8192x1024 : Shape := ⟨3, ![4, 8192, 1024]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x1x1024, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Inproj.lean ====
abbrev S4x8192x1024 : Shape := ⟨3, ![4, 8192, 1024]⟩
abbrev S1024 : Shape := ⟨1, ![1024]⟩
abbrev S4x1x1024 : Shape := ⟨3, ![4, 1, 1024]⟩
abbrev S1024x5376 : Shape := ⟨2, ![1024, 5376]⟩
abbrev S1024x1536 : Shape := ⟨2, ![1024, 1536]⟩
abbrev S1024x1792 : Shape := ⟨2, ![1024, 1792]⟩
abbrev S1024x2048 : Shape := ⟨2, ![1024, 2048]⟩
abbrev S_ : Shape := ⟨0, ![]⟩
abbrev S1x1024 : Shape := ⟨2, ![1, 1024]⟩
abbrev S4x8192x1536 : Shape := ⟨3, ![4, 8192, 1536]⟩
abbrev S4x8192x1792 : Shape := ⟨3, ![4, 8192, 1792]⟩
abbrev S4x8192x2048 : Shape := ⟨3, ![4, 8192, 2048]⟩
abbrev S1x1024x1024 : Shape := ⟨3, ![1, 1024, 1024]⟩
abbrev S1x1x1024 : Shape := ⟨3, ![1, 1, 1024]⟩
abbrev S1024x768 : Shape := ⟨2, ![1024, 768]⟩
abbrev S1024x896 : Shape := ⟨2, ![1024, 896]⟩
abbrev S1024x1024 : Shape := ⟨2, ![1024, 1024]⟩
abbrev S1x1024x768 : Shape := ⟨3, ![1, 1024, 768]⟩
abbrev S1x1024x896 : Shape := ⟨3, ![1, 1024, 896]⟩
abbrev S1024x1 : Shape := ⟨2, ![1024, 1]⟩

abbrev nBuf : Space → Nat
  | .hbm => 16
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x5376, .f32⟩
  | .hbm, ⟨5, _⟩ => ⟨S1024x5376, .bf16⟩
  | .hbm, ⟨6, _⟩ => ⟨S1024x1536, .bf16⟩
  | .hbm, ⟨7, _⟩ => ⟨S1024x1792, .bf16⟩
  | .hbm, ⟨8, _⟩ => ⟨S1024x2048, .bf16⟩
  | .hbm, ⟨9, _⟩ => ⟨S_, .f32⟩
  | .hbm, ⟨10, _⟩ => ⟨S4x1x1024, .f32⟩
  | .hbm, ⟨11, _⟩ => ⟨S4x1x1024, .f32⟩
  | .hbm, ⟨12, _⟩ => ⟨S1x1024, .f32⟩
  | .hbm, ⟨13, _⟩ => ⟨S4x8192x1536, .f32⟩
  | .hbm, ⟨14, _⟩ => ⟨S4x8192x1792, .f32⟩
  | .hbm, ⟨15, _⟩ => ⟨S4x8192x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x768, .bf16⟩
  | .local _ .vmem, ⟨8, _⟩ => ⟨S1024x768, .bf16⟩
  | .local _ .vmem, ⟨9, _⟩ => ⟨S1024x896, .bf16⟩
  | .local _ .vmem, ⟨10, _⟩ => ⟨S1024x896, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024x768, .f32⟩
  | .local _ .vmem, ⟨14, _⟩ => ⟨S1x1024x768, .f32⟩
  | .local _ .vmem, ⟨15, _⟩ => ⟨S1x1024x896, .f32⟩
  | .local _ .vmem, ⟨16, _⟩ => ⟨S1x1024x896, .f32⟩
  | .local _ .vmem, ⟨17, _⟩ => ⟨S1x1024x1024, .bf16⟩
  | .local _ .vmem, ⟨18, _⟩ => ⟨S1x1024x1024, .bf16⟩
  | .local _ .vmem, ⟨19, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== InprojRefIdeal.lean ====
abbrev S4x8192x1024 : Shape := ⟨3, ![4, 8192, 1024]⟩
abbrev S1024 : Shape := ⟨1, ![1024]⟩
abbrev S4x1x1024 : Shape := ⟨3, ![4, 1, 1024]⟩
abbrev S1024x5376 : Shape := ⟨2, ![1024, 5376]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5376 : Shape := ⟨3, ![4, 8192, 5376]⟩
abbrev S4x8192x1536 : Shape := ⟨3, ![4, 8192, 1536]⟩
abbrev S4x8192x1792 : Shape := ⟨3, ![4, 8192, 1792]⟩
abbrev S4x8192x2048 : Shape := ⟨3, ![4, 8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x5376, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x5376, .f32⟩
  | .hbm, ⟨29, _⟩ => ⟨S4x8192x1536, .f32⟩
  | .hbm, ⟨30, _⟩ => ⟨S4x8192x1792, .f32⟩
  | .hbm, ⟨31, _⟩ => ⟨S4x8192x2048, .f32⟩
  | .hbm, ⟨32, _⟩ => ⟨S4x8192x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Merge.lean ====
abbrev S4x8192x512 : Shape := ⟨3, ![4, 8192, 512]⟩
abbrev S4x8192x2048 : Shape := ⟨3, ![4, 8192, 2048]⟩
abbrev S4x8192x1024 : Shape := ⟨3, ![4, 8192, 1024]⟩
abbrev S512x1024 : Shape := ⟨2, ![512, 1024]⟩
abbrev S1024x1024 : Shape := ⟨2, ![1024, 1024]⟩
abbrev S512 : Shape := ⟨1, ![512]⟩
abbrev S4x1x1024 : Shape := ⟨3, ![4, 1, 1024]⟩
abbrev S1024 : Shape := ⟨1, ![1024]⟩
abbrev S1024x16 : Shape := ⟨2, ![1024, 16]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1024x128 : Shape := ⟨2, ![1024, 128]⟩
abbrev S1 : Shape := ⟨1, ![1]⟩
abbrev S1x1024 : Shape := ⟨2, ![1, 1024]⟩
abbrev S4x8192x128 : Shape := ⟨3, ![4, 8192, 128]⟩
abbrev S4x16x8192 : Shape := ⟨3, ![4, 16, 8192]⟩
abbrev S1x256x512 : Shape := ⟨3, ![1, 256, 512]⟩
abbrev S1x256x2048 : Shape := ⟨3, ![1, 256, 2048]⟩
abbrev S1x256x1024 : Shape := ⟨3, ![1, 256, 1024]⟩
abbrev S1x1x1024 : Shape := ⟨3, ![1, 1, 1024]⟩
abbrev S1x256x128 : Shape := ⟨3, ![1, 256, 128]⟩
abbrev S1x16x256 : Shape := ⟨3, ![1, 16, 256]⟩
abbrev S256x512 : Shape := ⟨2, ![256, 512]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S16x256 : Shape := ⟨2, ![16, 256]⟩

abbrev nBuf : Space → Nat
  | .hbm => 53
  | .vmem => 38
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x512, .bf16⟩
  | .hbm, ⟨4, _⟩ => ⟨S4x8192x512, .bf16⟩
  | .hbm, ⟨5, _⟩ => ⟨S4x8192x2048, .bf16⟩
  | .hbm, ⟨6, _⟩ => ⟨S4x8192x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S512, .f32⟩
  | .hbm, ⟨11, _⟩ => ⟨S512, .f32⟩
  | .hbm, ⟨12, _⟩ => ⟨S4x1x1024, .f32⟩
  | .hbm, ⟨13, _⟩ => ⟨S1024, .f32⟩
  | .hbm, ⟨14, _⟩ => ⟨S1024, .f32⟩
  | .hbm, ⟨15, _⟩ => ⟨S4x1x1024, .f32⟩
  | .hbm, ⟨16, _⟩ => ⟨S4x1x1024, .f32⟩
  | .hbm, ⟨17, _⟩ => ⟨S1024x16, .f32⟩
  | .hbm, ⟨18, _⟩ => ⟨S_, .f32⟩
  | .hbm, ⟨19, _⟩ => ⟨S4x1x1024, .f32⟩
  | .hbm, ⟨20, _⟩ => ⟨S4x1x1024, .f32⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .bf16⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1024x128, .f32⟩
  | .hbm, ⟨38, _⟩ => ⟨S_, .i32⟩
  | .hbm, ⟨39, _⟩ => ⟨S1, .i32⟩
  | .hbm, ⟨40, _⟩ => ⟨S1024x128, .f32⟩
  | .hbm, ⟨41, _⟩ => ⟨S1024x128, .bf16⟩
  | .hbm, ⟨42, _⟩ => ⟨S1024x128, .f32⟩
  | .hbm, ⟨43, _⟩ => ⟨S1024x128, .f32⟩
  | .hbm, ⟨44, _⟩ => ⟨S1024x128, .bf16⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S4x8192x1024, .f32⟩
  | .hbm, ⟨50, _⟩ => ⟨S4x8192x1024, .f32⟩
  | .hbm, ⟨51, _⟩ => ⟨S4x8192x128, .f32⟩
  | .hbm, ⟨52, _⟩ => ⟨S4x16x8192, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x1024, .f32⟩
  | .local _ .vmem, ⟨13, _⟩ => ⟨S1x256x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x512, .bf16⟩
  | .local _ .vmem, ⟨18, _⟩ => ⟨S1x512, .f32⟩
  | .local _ .vmem, ⟨19, _⟩ => ⟨S1x512, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1024x128, .bf16⟩
  | .local _ .vmem, ⟨29, _⟩ => ⟨S1024x128, .bf16⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x128, .f32⟩
  | .local _ .vmem, ⟨35, _⟩ => ⟨S1x256x128, .f32⟩
  | .local _ .vmem, ⟨36, _⟩ => ⟨S1x16x256, .f32⟩
  | .local _ .vmem, ⟨37, _⟩ => ⟨S1x16x256, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_v27_2 : Ref sig .tc := ⟨.hbm, 51, rfl⟩
abbrev main_v27_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x16x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== MergeIdeal.lean ====
variable {F : FTy → Type} [FloatOps F] [Named F]
def κ : String → Option EReal := fun
  | "mask" => some ⊥
  | _ => none
-- ==== MergeRefIdeal.lean ====
abbrev S4x8192x512 : Shape := ⟨3, ![4, 8192, 512]⟩
abbrev S4x8192x2048 : Shape := ⟨3, ![4, 8192, 2048]⟩
abbrev S4x8192x1024 : Shape := ⟨3, ![4, 8192, 1024]⟩
abbrev S512x1024 : Shape := ⟨2, ![512, 1024]⟩
abbrev S1024x1024 : Shape := ⟨2, ![1024, 1024]⟩
abbrev S512 : Shape := ⟨1, ![512]⟩
abbrev S4x1x1024 : Shape := ⟨3, ![4, 1, 1024]⟩
abbrev S1024 : Shape := ⟨1, ![1024]⟩
abbrev S1024x16 : Shape := ⟨2, ![1024, 16]⟩
abbrev S4x8192x8x64 : Shape := ⟨4, ![4, 8192, 8, 64]⟩
abbrev S_ : Shape := ⟨0, ![]⟩
abbrev S4x8192x8 : Shape := ⟨3, ![4, 8192, 8]⟩
abbrev S4x8192x8x1 : Shape := ⟨4, ![4, 8192, 8, 1]⟩
abbrev S1x1x512 : Shape := ⟨3, ![1, 1, 512]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16 : Shape := ⟨3, ![4, 8192, 16]⟩
abbrev S4x8192x128 : Shape := ⟨3, ![4, 8192, 128]⟩
abbrev S4x16x8192 : Shape := ⟨3, ![4, 16, 8192]⟩

abbrev nBuf : Space → Nat
  | .hbm => 133
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x8192x512, .f32⟩
  | 3 => ⟨S4x8192x512, .bf16⟩
  | 4 => ⟨S4x8192x512, .bf16⟩
  | 5 => ⟨S4x8192x2048, .bf16⟩
  | 6 => ⟨S4x8192x1024, .f32⟩
  | 7 => ⟨S512x1024, .f32⟩
  | 8 => ⟨S512x1024, .f32⟩
  | 9 => ⟨S1024x1024, .f32⟩
  | 10 => ⟨S512, .f32⟩
  | 11 => ⟨S512, .f32⟩
  | 12 => ⟨S4x1x1024, .f32⟩
  | 13 => ⟨S1024, .f32⟩
  | 14 => ⟨S1024, .f32⟩
  | 15 => ⟨S4x1x1024, .f32⟩
  | 16 => ⟨S4x1x1024, .f32⟩
  | 17 => ⟨S1024x16, .f32⟩
  | 18 => ⟨S4x8192x8x64, .f32⟩
  | 19 => ⟨S4x8192x8x64, .f32⟩
  | 20 => ⟨S4x8192x8x64, .f32⟩
  | 21 => ⟨S_, .f32⟩
  | 22 => ⟨S4x8192x8, .f32⟩
  | 23 => ⟨S4x8192x8x1, .f32⟩
  | 24 => ⟨S_, .f32⟩
  | 25 => ⟨S4x8192x8x1, .f32⟩
  | 26 => ⟨S4x8192x8x1, .f32⟩
  | 27 => ⟨S4x8192x8x64, .f32⟩
  | 28 => ⟨S4x8192x8x64, .f32⟩
  | 29 => ⟨S4x8192x8x64, .f32⟩
  | 30 => ⟨S_, .f32⟩
  | 31 => ⟨S4x8192x8, .f32⟩
  | 32 => ⟨S4x8192x8x1, .f32⟩
  | 33 => ⟨S_, .f32⟩
  | 34 => ⟨S4x8192x8x1, .f32⟩
  | 35 => ⟨S4x8192x8x1, .f32⟩
  | 36 => ⟨S4x8192x8x64, .f32⟩
  | 37 => ⟨S4x8192x8x64, .f32⟩
  | 38 => ⟨S_, .f32⟩
  | 39 => ⟨S4x8192x8x1, .f32⟩
  | 40 => ⟨S4x8192x8x1, .f32⟩
  | 41 => ⟨S4x8192x8x1, .f32⟩
  | 42 => ⟨S4x8192x8x64, .f32⟩
  | 43 => ⟨S4x8192x8x64, .f32⟩
  | 44 => ⟨S4x8192x512, .f32⟩
  | 45 => ⟨S1x1x512, .f32⟩
  | 46 => ⟨S4x8192x512, .f32⟩
  | 47 => ⟨S4x8192x512, .f32⟩
  | 48 => ⟨S1x1x512, .f32⟩
  | 49 => ⟨S4x8192x512, .f32⟩
  | 50 => ⟨S4x8192x512, .f32⟩
  | 51 => ⟨S4x8192x512, .f32⟩
  | 52 => ⟨S4x8192x512, .f32⟩
  | 53 => ⟨S4x8192x512, .f32⟩
  | 54 => ⟨S4x8192x512, .f32⟩
  | 55 => ⟨S4x8192x2048, .f32⟩
  | 56 => ⟨S4x8192x2048, .f32⟩
  | 57 => ⟨S4x8192x2048, .f32⟩
  | 58 => ⟨S_, .f32⟩
  | 59 => ⟨S4x8192x2048, .f32⟩
  | 60 => ⟨S4x8192x2048, .f32⟩
  | 61 => ⟨S_, .f32⟩
  | 62 => ⟨S4x8192x2048, .f32⟩
  | 63 => ⟨S4x8192x2048, .f32⟩
  | 64 => ⟨S4x8192x1024, .f32⟩
  | 65 => ⟨S4x8192x1024, .f32⟩
  | 66 => ⟨S4x8192x1024, .f32⟩
  | 67 => ⟨S4x8192x1024, .f32⟩
  | 68 => ⟨S4x8192x1024, .f32⟩
  | 69 => ⟨S4x8192x1024, .f32⟩
  | 70 => ⟨S4x8192x1024, .f32⟩
  | 71 => ⟨S4x8192x1024, .f32⟩
  | 72 => ⟨S4x8192x1024, .f32⟩
  | 73 => ⟨S_, .f32⟩
  | 74 => ⟨S4x8192, .f32⟩
  | 75 => ⟨S4x8192x1, .f32⟩
  | 76 => ⟨S_, .f32⟩
  | 77 => ⟨S4x8192x1, .f32⟩
  | 78 => ⟨S4x8192x1, .f32⟩
  | 79 => ⟨S_, .f32⟩
  | 80 => ⟨S4x8192x1, .f32⟩
  | 81 => ⟨S4x8192x1, .f32⟩
  | 82 => ⟨S4x8192x1, .f32⟩
  | 83 => ⟨S4x8192x1024, .f32⟩
  | 84 => ⟨S4x8192x1024, .f32⟩
  | 85 => ⟨S1x1x1024, .f32⟩
  | 86 => ⟨S4x8192x1024, .f32⟩
  | 87 => ⟨S4x8192x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S_, .f32⟩
  | 93 => ⟨S4x8192, .f32⟩
  | 94 => ⟨S4x8192x1, .f32⟩
  | 95 => ⟨S_, .f32⟩
  | 96 => ⟨S4x8192x1, .f32⟩
  | 97 => ⟨S4x8192x1, .f32⟩
  | 98 => ⟨S_, .f32⟩
  | 99 => ⟨S4x8192x1, .f32⟩
  | 100 => ⟨S4x8192x1, .f32⟩
  | 101 => ⟨S4x8192x1, .f32⟩
  | 102 => ⟨S4x8192x1024, .f32⟩
  | 103 => ⟨S4x8192x1024, .f32⟩
  | 104 => ⟨S1x1x1024, .f32⟩
  | 105 => ⟨S4x8192x1024, .f32⟩
  | 106 => ⟨S4x8192x1024, .f32⟩
  | 107 => ⟨S_, .f32⟩
  | 108 => ⟨S4x1x1024, .f32⟩
  | 109 => ⟨S4x1x1024, .f32⟩
  | 110 => ⟨S4x8192x1024, .f32⟩
  | 111 => ⟨S4x8192x1024, .f32⟩
  | 112 => ⟨S4x8192x1024, .f32⟩
  | 113 => ⟨S4x8192x1024, .f32⟩
  | 114 => ⟨S4x8192x16, .f32⟩
  | 115 => ⟨S_, .f32⟩
  | 116 => ⟨S4x8192, .f32⟩
  | 117 => ⟨S_, .f32⟩
  | 118 => ⟨S4x8192, .f32⟩
  | 119 => ⟨S4x8192, .f32⟩
  | 120 => ⟨S4x8192x1, .f32⟩
  | 121 => ⟨S4x8192x16, .f32⟩
  | 122 => ⟨S4x8192x16, .f32⟩
  | 123 => ⟨S4x8192x16, .f32⟩
  | 124 => ⟨S_, .f32⟩
  | 125 => ⟨S4x8192, .f32⟩
  | 126 => ⟨S4x8192x1, .f32⟩
  | 127 => ⟨S4x8192x16, .f32⟩
  | _ => ⟨S4x8192x512, .f32⟩

abbrev hbmTy0_1 (i : Nat) : BufTy := match i % 128 with
  | 0 => ⟨S4x8192x16, .f32⟩
  | 1 => ⟨S_, .i32⟩
  | 2 => ⟨S_, .f32⟩
  | 3 => ⟨S4x8192x128, .f32⟩
  | 4 => ⟨S4x16x8192, .f32⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_13 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_15 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c : Ref sig .tc := ⟨.hbm, 129, rfl⟩
abbrev main_call0_v0 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Prep.lean ====
abbrev S4x8192x1792 : Shape := ⟨3, ![4, 8192, 1792]⟩
abbrev S2x1792 : Shape := ⟨2, ![2, 1792]⟩
abbrev S2x64x512 : Shape := ⟨3, ![2, 64, 512]⟩
abbrev S2x512 : Shape := ⟨2, ![2, 512]⟩
abbrev S128x512 : Shape := ⟨2, ![128, 512]⟩
abbrev S512 : Shape := ⟨1, ![512]⟩
abbrev S8x64 : Shape := ⟨2, ![8, 64]⟩
abbrev S_ : Shape := ⟨0, ![]⟩
abbrev S2x128x1024 : Shape := ⟨3, ![2, 128, 1024]⟩
abbrev S1 : Shape := ⟨1, ![1]⟩
abbrev S2 : Shape := ⟨1, ![2]⟩
abbrev S1x512 : Shape := ⟨2, ![1, 512]⟩
abbrev S512x1 : Shape := ⟨2, ![512, 1]⟩
abbrev S512x512 : Shape := ⟨2, ![512, 512]⟩
abbrev S4x8192x512 : Shape := ⟨3, ![4, 8192, 512]⟩
abbrev S2x4x8192x512 : Shape := ⟨4, ![2, 4, 8192, 512]⟩
abbrev S1x512x1792 : Shape := ⟨3, ![1, 512, 1792]⟩
abbrev S1x8x1792 : Shape := ⟨3, ![1, 8, 1792]⟩
abbrev S1x512x512 : Shape := ⟨3, ![1, 512, 512]⟩
abbrev S2x1x512x512 : Shape := ⟨4, ![2, 1, 512, 512]⟩
abbrev S512x1792 : Shape := ⟨2, ![512, 1792]⟩
abbrev S1x1x1792 : Shape := ⟨3, ![1, 1, 1792]⟩
abbrev S1x1792 : Shape := ⟨2, ![1, 1792]⟩
abbrev S512x128 : Shape := ⟨2, ![512, 128]⟩
abbrev S1x128x1024 : Shape := ⟨3, ![1, 128, 1024]⟩
abbrev S128x1024 : Shape := ⟨2, ![128, 1024]⟩
abbrev S512x1024 : Shape := ⟨2, ![512, 1024]⟩
abbrev S1x1x512x512 : Shape := ⟨4, ![1, 1, 512, 512]⟩

abbrev nBuf : Space → Nat
  | .hbm => 53
  | .vmem => 33
  | .smem => 0
  | _ => 0

abbrev bufTy : (tb : Table) → Fin (tcTables nBuf tb) → BufTy
  | .hbm, ⟨0, _⟩ => ⟨S4x8192x1792, .f32⟩
  | .hbm, ⟨1, _⟩ => ⟨S2x1792, .f32⟩
  | .hbm, ⟨2, _⟩ => ⟨S2x64x512, .f32⟩
  | .hbm, ⟨3, _⟩ => ⟨S2x64x512, .f32⟩
  | .hbm, ⟨4, _⟩ => ⟨S2x512, .f32⟩
  | .hbm, ⟨5, _⟩ => ⟨S2x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S_, .f32⟩
  | .hbm, ⟨11, _⟩ => ⟨S2x128x1024, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S2x128x1024, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S2x128x1024, .f32⟩
  | .hbm, ⟨24, _⟩ => ⟨S2x128x1024, .bf16⟩
  | .hbm, ⟨25, _⟩ => ⟨S2x128x1024, .f32⟩
  | .hbm, ⟨26, _⟩ => ⟨S2x128x1024, .f32⟩
  | .hbm, ⟨27, _⟩ => ⟨S2x128x1024, .bf16⟩
  | .hbm, ⟨28, _⟩ => ⟨S128x512, .bf16⟩
  | .hbm, ⟨29, _⟩ => ⟨S128x512, .f32⟩
  | .hbm, ⟨30, _⟩ => ⟨S128x512, .f32⟩
  | .hbm, ⟨31, _⟩ => ⟨S128x512, .bf16⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S1x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S512x512, .bf16⟩
  | .hbm, ⟨45, _⟩ => ⟨S4x8192x512, .f32⟩
  | .hbm, ⟨46, _⟩ => ⟨S4x8192x512, .bf16⟩
  | .hbm, ⟨47, _⟩ => ⟨S4x8192x512, .f32⟩
  | .hbm, ⟨48, _⟩ => ⟨S2x4x8192x512, .f32⟩
  | .hbm, ⟨49, _⟩ => ⟨S2x4x8192x512, .f32⟩
  | .hbm, ⟨50, _⟩ => ⟨S2x4x8192x512, .f32⟩
  | .hbm, ⟨51, _⟩ => ⟨S4x8192x512, .bf16⟩
  | .hbm, ⟨52, _⟩ => ⟨S4x8192x512, .bf16⟩
  | .local _ .vmem, ⟨0, _⟩ => ⟨S1x512x1792, .f32⟩
  | .local _ .vmem, ⟨1, _⟩ => ⟨S1x512x1792, .f32⟩
  | .local _ .vmem, ⟨2, _⟩ => ⟨S1x8x1792, .f32⟩
  | .local _ .vmem, ⟨3, _⟩ => ⟨S1x8x1792, .f32⟩
  | .local _ .vmem, ⟨4, _⟩ => ⟨S1x8x1792, .f32⟩
  | .local _ .vmem, ⟨5, _⟩ => ⟨S1x8x1792, .f32⟩
  | .local _ .vmem, ⟨6, _⟩ => ⟨S2x1792, .f32⟩
  | .local _ .vmem, ⟨7, _⟩ => ⟨S2x128x1024, .bf16⟩
  | .local _ .vmem, ⟨8, _⟩ => ⟨S2x128x1024, .bf16⟩
  | .local _ .vmem, ⟨9, _⟩ => ⟨S2x512, .f32⟩
  | .local _ .vmem, ⟨10, _⟩ => ⟨S2x512, .f32⟩
  | .local _ .vmem, ⟨11, _⟩ => ⟨S128x512, .bf16⟩
  | .local _ .vmem, ⟨12, _⟩ => ⟨S128x512, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S1x512x512, .f32⟩
  | .local _ .vmem, ⟨18, _⟩ => ⟨S1x512x512, .f32⟩
  | .local _ .vmem, ⟨19, _⟩ => ⟨S1x512x512, .bf16⟩
  | .local _ .vmem, ⟨20, _⟩ => ⟨S1x512x512, .bf16⟩
  | .local _ .vmem, ⟨21, _⟩ => ⟨S1x512x512, .f32⟩
  | .local _ .vmem, ⟨22, _⟩ => ⟨S1x512x512, .f32⟩
  | .local _ .vmem, ⟨23, _⟩ => ⟨S2x1x512x512, .f32⟩
  | .local _ .vmem, ⟨24, _⟩ => ⟨S2x1x512x512, .f32⟩
  | .local _ .vmem, ⟨25, _⟩ => ⟨S2x1x512x512, .f32⟩
  | .local _ .vmem, ⟨26, _⟩ => ⟨S2x1x512x512, .f32⟩
  | .local _ .vmem, ⟨27, _⟩ => ⟨S2x1x512x512, .f32⟩
  | .local _ .vmem, ⟨28, _⟩ => ⟨S2x1x512x512, .f32⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | _, _ => ⟨S4x8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v29_4 : Ref sig .tc := ⟨.hbm, 49, rfl⟩
abbrev main_v29_5 : Ref sig .tc := ⟨.hbm, 50, rfl⟩
abbrev main_v29_6 : Ref sig .tc := ⟨.hbm, 51, rfl⟩
abbrev main_v29_7 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S2x1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== PrepRefIdeal.lean ====
abbrev S4x8192x1792 : Shape := ⟨3, ![4, 8192, 1792]⟩
abbrev S2x1792 : Shape := ⟨2, ![2, 1792]⟩
abbrev S2x64x512 : Shape := ⟨3, ![2, 64, 512]⟩
abbrev S2x512 : Shape := ⟨2, ![2, 512]⟩
abbrev S128x512 : Shape := ⟨2, ![128, 512]⟩
abbrev S512 : Shape := ⟨1, ![512]⟩
abbrev S8x64 : Shape := ⟨2, ![8, 64]⟩
abbrev S1x1792 : Shape := ⟨2, ![1, 1792]⟩
abbrev S1792 : Shape := ⟨1, ![1792]⟩
abbrev S_ : Shape := ⟨0, ![]⟩
abbrev S4x8193x1792 : Shape := ⟨3, ![4, 8193, 1792]⟩
abbrev S1x1x1792 : Shape := ⟨3, ![1, 1, 1792]⟩
abbrev S4x8192x512 : Shape := ⟨3, ![4, 8192, 512]⟩
abbrev S4x8192x64 : Shape := ⟨3, ![4, 8192, 64]⟩
abbrev S4x8192x128 : Shape := ⟨3, ![4, 8192, 128]⟩
abbrev S4x8192x8x64 : Shape := ⟨4, ![4, 8192, 8, 64]⟩
abbrev S1x1x512 : Shape := ⟨3, ![1, 1, 512]⟩
abbrev S4x8192x8 : Shape := ⟨3, ![4, 8192, 8]⟩
abbrev S4x8192x8x1 : Shape := ⟨4, ![4, 8192, 8, 1]⟩
abbrev S1x512 : Shape := ⟨2, ![1, 512]⟩
abbrev S1x64x512 : Shape := ⟨3, ![1, 64, 512]⟩
abbrev S64x512 : Shape := ⟨2, ![64, 512]⟩
abbrev S1x1x8x64 : Shape := ⟨4, ![1, 1, 8, 64]⟩
abbrev S1x4x8192x512 : Shape := ⟨4, ![1, 4, 8192, 512]⟩
abbrev S2x4x8192x512 : Shape := ⟨4, ![2, 4, 8192, 512]⟩

abbrev nBuf : Space → Nat
  | .hbm => 216
  | .vmem => 0
  | .smem => 0
  | _ => 0

abbrev hbmTy0_0 (i : Nat) : BufTy := match i % 128 with
  | 0 => ⟨S4x8192x1792, .f32⟩
  | 1 => ⟨S2x1792, .f32⟩
  | 2 => ⟨S2x64x512, .f32⟩
  | 3 => ⟨S2x64x512, .f32⟩
  | 4 => ⟨S2x512, .f32⟩
  | 5 => ⟨S2x512, .f32⟩
  | 6 => ⟨S128x512, .f32⟩
  | 7 => ⟨S512, .f32⟩
  | 8 => ⟨S512, .f32⟩
  | 9 => ⟨S8x64, .f32⟩
  | 10 => ⟨S1x1792, .f32⟩
  | 11 => ⟨S1792, .f32⟩
  | 12 => ⟨S_, .i32⟩
  | 13 => ⟨S_, .f32⟩
  | 14 => ⟨S4x8193x1792, .f32⟩
  | 15 => ⟨S4x8192x1792, .f32⟩
  | 16 => ⟨S4x8192x1792, .f32⟩
  | 17 => ⟨S1x1x1792, .f32⟩
  | 18 => ⟨S4x8192x1792, .f32⟩
  | 19 => ⟨S4x8192x1792, .f32⟩
  | 20 => ⟨S4x8192x1792, .f32⟩
  | 21 => ⟨S1x1792, .f32⟩
  | 22 => ⟨S1792, .f32⟩
  | 23 => ⟨S_, .i32⟩
  | 24 => ⟨S_, .f32⟩
  | 25 => ⟨S4x8193x1792, .f32⟩
  | 26 => ⟨S4x8192x1792, .f32⟩
  | 27 => ⟨S4x8192x1792, .f32⟩
  | 28 => ⟨S1x1x1792, .f32⟩
  | 29 => ⟨S4x8192x1792, .f32⟩
  | 30 => ⟨S4x8192x1792, .f32⟩
  | 31 => ⟨S4x8192x1792, .f32⟩
  | 32 => ⟨S4x8192x512, .f32⟩
  | 33 => ⟨S4x8192x512, .f32⟩
  | 34 => ⟨S4x8192x512, .f32⟩
  | 35 => ⟨S4x8192x64, .f32⟩
  | 36 => ⟨S4x8192x64, .f32⟩
  | 37 => ⟨S4x8192x128, .f32⟩
  | 38 => ⟨S4x8192x8x64, .f32⟩
  | 39 => ⟨S4x8192x8x64, .f32⟩
  | 40 => ⟨S1x1x512, .f32⟩
  | 41 => ⟨S4x8192x512, .f32⟩
  | 42 => ⟨S4x8192x512, .f32⟩
  | 43 => ⟨S4x8192x8x64, .f32⟩
  | 44 => ⟨S4x8192x8x64, .f32⟩
  | 45 => ⟨S_, .f32⟩
  | 46 => ⟨S4x8192x8, .f32⟩
  | 47 => ⟨S4x8192x8x1, .f32⟩
  | 48 => ⟨S_, .f32⟩
  | 49 => ⟨S4x8192x8x1, .f32⟩
  | 50 => ⟨S4x8192x8x1, .f32⟩
  | 51 => ⟨S4x8192x8x1, .f32⟩
  | 52 => ⟨S4x8192x8x64, .f32⟩
  | 53 => ⟨S4x8192x8x64, .f32⟩
  | 54 => ⟨S1x512, .f32⟩
  | 55 => ⟨S512, .f32⟩
  | 56 => ⟨S4x8192x64, .f32⟩
  | 57 => ⟨S1x64x512, .f32⟩
  | 58 => ⟨S64x512, .f32⟩
  | 59 => ⟨S4x8192x512, .f32⟩
  | 60 => ⟨S1x1x512, .f32⟩
  | 61 => ⟨S4x8192x512, .f32⟩
  | 62 => ⟨S4x8192x512, .f32⟩
  | 63 => ⟨S4x8192x512, .f32⟩
  | 64 => ⟨S_, .f32⟩
  | 65 => ⟨S4x8192x512, .f32⟩
  | 66 => ⟨S4x8192x512, .f32⟩
  | 67 => ⟨S4x8192x512, .f32⟩
  | 68 => ⟨S4x8192x512, .f32⟩
  | 69 => ⟨S4x8192x512, .i1⟩
  | 70 => ⟨S4x8192x512, .f32⟩
  | 71 => ⟨S4x8192x512, .f32⟩
  | 72 => ⟨S4x8192x512, .f32⟩
  | 73 => ⟨S4x8192x512, .f32⟩
  | 74 => ⟨S4x8192x512, .f32⟩
  | 75 => ⟨S4x8192x512, .f32⟩
  | 76 => ⟨S4x8192x512, .f32⟩
  | 77 => ⟨S4x8192x512, .f32⟩
  | 78 => ⟨S4x8192x512, .f32⟩
  | 79 => ⟨S_, .f32⟩
  | 80 => ⟨S4x8192x512, .f32⟩
  | 81 => ⟨S4x8192x512, .f32⟩
  | 82 => ⟨S1x512, .f32⟩
  | 83 => ⟨S512, .f32⟩
  | 84 => ⟨S1x64x512, .f32⟩
  | 85 => ⟨S64x512, .f32⟩
  | 86 => ⟨S4x8192x512, .f32⟩
  | 87 => ⟨S1x1x512, .f32⟩
  | 88 => ⟨S4x8192x512, .f32⟩
  | 89 => ⟨S4x8192x512, .f32⟩
  | 90 => ⟨S4x8192x512, .f32⟩
  | 91 => ⟨S4x8192x512, .f32⟩
  | 92 => ⟨S_, .f32⟩
  | 93 => ⟨S4x8192x512, .f32⟩
  | 94 => ⟨S4x8192x512, .f32⟩
  | 95 => ⟨S_, .f32⟩
  | 96 => ⟨S4x8192x512, .f32⟩
  | 97 => ⟨S4x8192x512, .f32⟩
  | 98 => ⟨S_, .f32⟩
  | 99 => ⟨S4x8192x512, .f32⟩
  | 100 => ⟨S4x8192x512, .f32⟩
  | 101 => ⟨S1x1x512, .f32⟩
  | 102 => ⟨S4x8192x512, .f32⟩
  | 103 => ⟨S4x8192x512, .f32⟩
  | 104 => ⟨S_, .f32⟩
  | 105 => ⟨S4x8192x512, .f32⟩
  | 106 => ⟨S4x8192x512, .f32⟩
  | 107 => ⟨S4x8192x512, .f32⟩
  | 108 => ⟨S4x8192x8x64, .f32⟩
  | 109 => ⟨S4x8192x512, .f32⟩
  | 110 => ⟨S4x8192x512, .f32⟩
  | 111 => ⟨S4x8192x8x64, .f32⟩
  | 112 => ⟨S4x8192x8x64, .f32⟩
  | 113 => ⟨S4x8192x512, .f32⟩
  | 114 => ⟨S4x8192x8x64, .f32⟩
  | 115 => ⟨S1x1x8x64, .f32⟩
  | 116 => ⟨S4x8192x8x64, .f32⟩
  | 117 => ⟨S4x8192x8x64, .f32⟩
  | 118 => ⟨S_, .f32⟩
  | 119 => ⟨S4x8192x8, .f32⟩
  | 120 => ⟨S4x8192x8x1, .f32⟩
  | 121 => ⟨S4x8192x8x64, .f32⟩
  | 122 => ⟨S4x8192x8x64, .f32⟩
  | 123 => ⟨S1x512, .f32⟩
  | 124 => ⟨S512, .f32⟩
  | 125 => ⟨S4x8192x64, .f32⟩
  | 126 => ⟨S1x64x512, .f32⟩
  | 127 => ⟨S64x512, .f32⟩
  | _ => ⟨S4x8192x1792, .f32⟩

abbrev hbmTy0_1 (i : Nat) : BufTy := match i % 128 with
  | 0 => ⟨S4x8192x512, .f32⟩
  | 1 => ⟨S1x1x512, .f32⟩
  | 2 => ⟨S4x8192x512, .f32⟩
  | 3 => ⟨S4x8192x512, .f32⟩
  | 4 => ⟨S4x8192x512, .f32⟩
  | 5 => ⟨S_, .f32⟩
  | 6 => ⟨S4x8192x512, .f32⟩
  | 7 => ⟨S4x8192x512, .f32⟩
  | 8 => ⟨S4x8192x512, .f32⟩
  | 9 => ⟨S4x8192x512, .f32⟩
  | 10 => ⟨S4x8192x512, .i1⟩
  | 11 => ⟨S4x8192x512, .f32⟩
  | 12 => ⟨S4x8192x512, .f32⟩
  | 13 => ⟨S4x8192x512, .f32⟩
  | 14 => ⟨S4x8192x512, .f32⟩
  | 15 => ⟨S4x8192x512, .f32⟩
  | 16 => ⟨S4x8192x512, .f32⟩
  | 17 => ⟨S4x8192x512, .f32⟩
  | 18 => ⟨S4x8192x512, .f32⟩
  | 19 => ⟨S4x8192x512, .f32⟩
  | 20 => ⟨S_, .f32⟩
  | 21 => ⟨S4x8192x512, .f32⟩
  | 22 => ⟨S4x8192x512, .f32⟩
  | 23 => ⟨S1x512, .f32⟩
  | 24 => ⟨S512, .f32⟩
  | 25 => ⟨S1x64x512, .f32⟩
  | 26 => ⟨S64x512, .f32⟩
  | 27 => ⟨S4x8192x512, .f32⟩
  | 28 => ⟨S1x1x512, .f32⟩
  | 29 => ⟨S4x8192x512, .f32⟩
  | 30 => ⟨S4x8192x512, .f32⟩
  | 31 => ⟨S4x8192x512, .f32⟩
  | 32 => ⟨S4x8192x512, .f32⟩
  | 33 => ⟨S_, .f32⟩
  | 34 => ⟨S4x8192x512, .f32⟩
  | 35 => ⟨S4x8192x512, .f32⟩
  | 36 => ⟨S_, .f32⟩
  | 37 => ⟨S4x8192x512, .f32⟩
  | 38 => ⟨S4x8192x512, .f32⟩
  | 39 => ⟨S_, .f32⟩
  | 40 => ⟨S4x8192x512, .f32⟩
  | 41 => ⟨S4x8192x512, .f32⟩
  | 42 => ⟨S1x1x512, .f32⟩
  | 43 => ⟨S4x8192x512, .f32⟩
  | 44 => ⟨S4x8192x512, .f32⟩
  | 45 => ⟨S_, .f32⟩
  | 46 => ⟨S4x8192x512, .f32⟩
  | 47 => ⟨S4x8192x512, .f32⟩
  | 48 => ⟨S4x8192x512, .f32⟩
  | 49 => ⟨S4x8192x8x64, .f32⟩
  | 50 => ⟨S4x8192x512, .f32⟩
  | 51 => ⟨S4x8192x512, .f32⟩
  | 52 => ⟨S4x8192x8x64, .f32⟩
  | 53 => ⟨S4x8192x8x64, .f32⟩
  | 54 => ⟨S4x8192x512, .f32⟩
  | 55 => ⟨S4x8192x8x64, .f32⟩
  | 56 => ⟨S1x1x8x64, .f32⟩
  | 57 => ⟨S4x8192x8x64, .f32⟩
  | 58 => ⟨S4x8192x8x64, .f32⟩
  | 59 => ⟨S_, .f32⟩
  | 60 => ⟨S4x8192x8, .f32⟩
  | 61 => ⟨S4x8192x8x1, .f32⟩
  | 62 => ⟨S4x8192x8x64, .f32⟩
  | 63 => ⟨S4x8192x8x64, .f32⟩
  | 64 => ⟨S4x8192x128, .f32⟩
  | 65 => ⟨S4x8192x128, .f32⟩
  | 66 => ⟨S_, .f32⟩
  | 67 => ⟨S4x8192x128, .f32⟩
  | 68 => ⟨S4x8192x128, .f32⟩
  | 69 => ⟨S_, .f32⟩
  | 70 => ⟨S4x8192x128, .f32⟩
  | 71 => ⟨S4x8192x128, .f32⟩
  | 72 => ⟨S4x8192x512, .f32⟩
  | 73 => ⟨S4x8192x512, .bf16⟩
  | 74 => ⟨S4x8192x512, .f32⟩
  | 75 => ⟨S1x4x8192x512, .f32⟩
  | 76 => ⟨S1x4x8192x512, .f32⟩
  | 77 => ⟨S2x4x8192x512, .f32⟩
  | 78 => ⟨S1x4x8192x512, .f32⟩
  | 79 => ⟨S1x4x8192x512, .f32⟩
  | 80 => ⟨S2x4x8192x512, .f32⟩
  | 81 => ⟨S1x4x8192x512, .f32⟩
  | 82 => ⟨S1x4x8192x512, .f32⟩
  | 83 => ⟨S2x4x8192x512, .f32⟩
  | 84 => ⟨S4x8192x8x64, .f32⟩
  | 85 => ⟨S4x8192x512, .f32⟩
  | 86 => ⟨S4x8192x512, .bf16⟩
  | 87 => ⟨S4x8192x512, .bf16⟩
  | _ => ⟨S4x8192x1792, .f32⟩

abbrev hbmTy (i : Nat) : BufTy := match i / 128 with
  | 0 => hbmTy0_0 i
  | 1 => hbmTy0_1 i
  | _ => ⟨S4x8192x1792, .f32⟩

abbrev bufTy : (tb : Table) → Fin (tcTables nBuf tb) → BufTy
  | .hbm, ⟨i, _⟩ => hbmTy i
  | _, _ => ⟨S4x8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_v48 : Ref sig .tc := ⟨.hbm, 77, rfl⟩
abbrev main_v49 : Ref sig .tc := ⟨.hbm, 78, rfl⟩
abbrev main_cst_2 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_3 : Ref sig .tc := ⟨.hbm, 92, rfl⟩
abbrev main_v62 : Ref sig .tc := ⟨.hbm, 93, rfl⟩
abbrev main_v63 : Ref sig .tc := ⟨.hbm, 94, rfl⟩
abbrev main_cst_4 : Ref sig .tc := ⟨.hbm, 95, rfl⟩
abbrev main_v64 : Ref sig .tc := ⟨.hbm, 96, rfl⟩
abbrev main_v65 : Ref sig .tc := ⟨.hbm, 97, rfl⟩
abbrev main_cst_5 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_6 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_7 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_v6 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_v98 : Ref sig .tc := ⟨.hbm, 146, rfl⟩
abbrev main_v99 : Ref sig .tc := ⟨.hbm, 147, rfl⟩
abbrev main_cst_8 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_9 : Ref sig .tc := ⟨.hbm, 161, rfl⟩
abbrev main_v112 : Ref sig .tc := ⟨.hbm, 162, rfl⟩
abbrev main_v113 : Ref sig .tc := ⟨.hbm, 163, rfl⟩
abbrev main_cst_10 : Ref sig .tc := ⟨.hbm, 164, rfl⟩
abbrev main_v114 : Ref sig .tc := ⟨.hbm, 165, rfl⟩
abbrev main_v115 : Ref sig .tc := ⟨.hbm, 166, rfl⟩
abbrev main_cst_11 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_12 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_13 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_14 : Ref sig .tc := ⟨.hbm, 194, rfl⟩
abbrev main_v140 : Ref sig .tc := ⟨.hbm, 195, rfl⟩
abbrev main_v141 : Ref sig .tc := ⟨.hbm, 196, rfl⟩
abbrev main_cst_15 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩

abbrev nD : Nat := 1
abbrev τ : Topo := Topo.v7x

variable {F : FTy → Type} [FloatOps F]
-- ==== Ctxproj.lean ====
abbrev S4x256x1024 : Shape := ⟨3, ![4, 256, 1024]⟩
abbrev S1024 : Shape := ⟨1, ![1024]⟩
abbrev S1024x5376 : Shape := ⟨2, ![1024, 5376]⟩
abbrev S1024x1792 : Shape := ⟨2, ![1024, 1792]⟩
abbrev S4x1x1024 : Shape := ⟨3, ![4, 1, 1024]⟩
abbrev S_ : Shape := ⟨0, ![]⟩
abbrev S1x1024 : Shape := ⟨2, ![1, 1024]⟩
abbrev S4x256x1792 : Shape := ⟨3, ![4, 256, 1792]⟩
abbrev S1x256x1024 : Shape := ⟨3, ![1, 256, 1024]⟩
abbrev S1x1x1024 : Shape := ⟨3, ![1, 1, 1024]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩

abbrev nBuf : Space → Nat
  | .hbm => 14
  | .vmem => 11
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5376, .f32⟩
  | .hbm, ⟨5, _⟩ => ⟨S1024x5376, .bf16⟩
  | .hbm, ⟨6, _⟩ => ⟨S1024x1792, .bf16⟩
  | .hbm, ⟨7, _⟩ => ⟨S4x1x1024, .f32⟩
  | .hbm, ⟨8, _⟩ => ⟨S4x1x1024, .f32⟩
  | .hbm, ⟨9, _⟩ => ⟨S_, .f32⟩
  | .hbm, ⟨10, _⟩ => ⟨S4x1x1024, .f32⟩
  | .hbm, ⟨11, _⟩ => ⟨S4x1x1024, .f32⟩
  | .hbm, ⟨12, _⟩ => ⟨S1x1024, .f32⟩
  | .hbm, ⟨13, _⟩ => ⟨S4x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1792, .bf16⟩
  | .local _ .vmem, ⟨8, _⟩ => ⟨S1x256x1792, .f32⟩
  | .local _ .vmem, ⟨9, _⟩ => ⟨S1x256x1792, .f32⟩
  | .local _ .vmem, ⟨10, _⟩ => ⟨S256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== CtxprojRefIdeal.lean ====
abbrev S4x256x1024 : Shape := ⟨3, ![4, 256, 1024]⟩
abbrev S1024 : Shape := ⟨1, ![1024]⟩
abbrev S1024x5376 : Shape := ⟨2, ![1024, 5376]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x1792 : Shape := ⟨2, ![1024, 1792]⟩
abbrev S4x256x1792 : Shape := ⟨3, ![4, 256, 1792]⟩

abbrev nBuf : Space → Nat
  | .hbm => 32
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5376, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1x1024, .f32⟩
  | .hbm, ⟨25, _⟩ => ⟨S4x256x1024, .f32⟩
  | .hbm, ⟨26, _⟩ => ⟨S4x256x1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S1024x1792, .f32⟩
  | .hbm, ⟨31, _⟩ => ⟨S4x256x1792, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Hypre.lean ====
abbrev S4x8192x1536 : Shape := ⟨3, ![4, 8192, 1536]⟩
abbrev S3x1536 : Shape := ⟨2, ![3, 1536]⟩
abbrev S1536 : Shape := ⟨1, ![1536]⟩
abbrev S1x1536 : Shape := ⟨2, ![1, 1536]⟩
abbrev S4x8192x512 : Shape := ⟨3, ![4, 8192, 512]⟩
abbrev S1x512x1536 : Shape := ⟨3, ![1, 512, 1536]⟩
abbrev S1x8x1536 : Shape := ⟨3, ![1, 8, 1536]⟩
abbrev S1x512x512 : Shape := ⟨3, ![1, 512, 512]⟩
abbrev S512x1536 : Shape := ⟨2, ![512, 1536]⟩
abbrev S1x1x1536 : Shape := ⟨3, ![1, 1, 1536]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4x8192x1536, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S4x8192x512, .f32⟩
  | .hbm, ⟨5, _⟩ => ⟨S4x8192x512, .f32⟩
  | .local _ .vmem, ⟨0, _⟩ => ⟨S1x512x1536, .f32⟩
  | .local _ .vmem, ⟨1, _⟩ => ⟨S1x512x1536, .f32⟩
  | .local _ .vmem, ⟨2, _⟩ => ⟨S1x8x1536, .f32⟩
  | .local _ .vmem, ⟨3, _⟩ => ⟨S1x8x1536, .f32⟩
  | .local _ .vmem, ⟨4, _⟩ => ⟨S1x8x1536, .f32⟩
  | .local _ .vmem, ⟨5, _⟩ => ⟨S1x8x1536, .f32⟩
  | .local _ .vmem, ⟨6, _⟩ => ⟨S3x1536, .f32⟩
  | .local _ .vmem, ⟨7, _⟩ => ⟨S1x1536, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | _, _ => ⟨S4x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HypreRefIdeal.lean ====
abbrev S4x8192x1536 : Shape := ⟨3, ![4, 8192, 1536]⟩
abbrev S3x1536 : Shape := ⟨2, ![3, 1536]⟩
abbrev S1536 : Shape := ⟨1, ![1536]⟩
abbrev S1x1536 : Shape := ⟨2, ![1, 1536]⟩
abbrev S_ : Shape := ⟨0, ![]⟩
abbrev S4x8193x1536 : Shape := ⟨3, ![4, 8193, 1536]⟩
abbrev S1x1x1536 : Shape := ⟨3, ![1, 1, 1536]⟩
abbrev S4x8192x512 : Shape := ⟨3, ![4, 8192, 512]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1536, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S1536, .f32⟩
  | .hbm, ⟨5, _⟩ => ⟨S_, .i32⟩
  | .hbm, ⟨6, _⟩ => ⟨S_, .f32⟩
  | .hbm, ⟨7, _⟩ => ⟨S4x8193x1536, .f32⟩
  | .hbm, ⟨8, _⟩ => ⟨S4x8192x1536, .f32⟩
  | .hbm, ⟨9, _⟩ => ⟨S1x1x1536, .f32⟩
  | .hbm, ⟨10, _⟩ => ⟨S4x8192x1536, .f32⟩
  | .hbm, ⟨11, _⟩ => ⟨S4x8192x1536, .f32⟩
  | .hbm, ⟨12, _⟩ => ⟨S1x1536, .f32⟩
  | .hbm, ⟨13, _⟩ => ⟨S1536, .f32⟩
  | .hbm, ⟨14, _⟩ => ⟨S1x1x1536, .f32⟩
  | .hbm, ⟨15, _⟩ => ⟨S4x8192x1536, .f32⟩
  | .hbm, ⟨16, _⟩ => ⟨S4x8192x1536, .f32⟩
  | .hbm, ⟨17, _⟩ => ⟨S4x8192x1536, .f32⟩
  | .hbm, ⟨18, _⟩ => ⟨S1x1536, .f32⟩
  | .hbm, ⟨19, _⟩ => ⟨S1536, .f32⟩
  | .hbm, ⟨20, _⟩ => ⟨S_, .i32⟩
  | .hbm, ⟨21, _⟩ => ⟨S_, .f32⟩
  | .hbm, ⟨22, _⟩ => ⟨S4x8193x1536, .f32⟩
  | .hbm, ⟨23, _⟩ => ⟨S4x8192x1536, .f32⟩
  | .hbm, ⟨24, _⟩ => ⟨S1x1x1536, .f32⟩
  | .hbm, ⟨25, _⟩ => ⟨S4x8192x1536, .f32⟩
  | .hbm, ⟨26, _⟩ => ⟨S4x8192x1536, .f32⟩
  | .hbm, ⟨27, _⟩ => ⟨S4x8192x1536, .f32⟩
  | .hbm, ⟨28, _⟩ => ⟨S1x1x1536, .f32⟩
  | .hbm, ⟨29, _⟩ => ⟨S4x8192x1536, .f32⟩
  | .hbm, ⟨30, _⟩ => ⟨S4x8192x1536, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S4x8192x512, .f32⟩
  | _, _ => ⟨S4x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Modul.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulRefIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.ExpertsValue.lean ====
/-
  The experts' feed-forward kernel at the extended reals: what its result array holds after the run is the plain
  mixture-of-experts formula that the reference computes.
-/
module

public import proofs.«01_k».proof.Defs
public import proofs.«01_k».proof.Proof.Gen.ExpertsIdeal.Value
public import proofs.«01_k».proof.Proof.Gen.ExpertsRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ExpertsIdeal.Final

open Cert.ExpertsIdeal Cert.ExpertsIdeal.Gen

variable (m : (ℓ : Loc nD τ sig) → Buf (Elt Ideal) ℓ)

/-- The gated hidden value of one feature: `a · (1 / (1 + exp (−a))) · b`. -/
def gated (a b : EReal) : EReal :=
  a * Ideal.div 1 (1 + Ideal.exp (-a)) * b

theorem idx : ∀ t : Fin cfg0.N,
    win0_0.index t = ![t.val / 32, t.val / 2 % 16, 0, 0] ∧ win0_1.index t = ![t.val / 2 % 16, 0, t.val % 2]
    ∧ win0_2.index t = ![t.val / 2 % 16, 0, t.val % 2] ∧ win0_3.index t = ![t.val / 2 % 16, t.val % 2, 0]
    ∧ win0_4.index t = ![t.val / 32, t.val / 2 % 16, 0, 0] ∧ win0_5.index t = ![t.val / 32, t.val / 2 % 16, 0, 0] :=
  (by decide +kernel : ∀ t : Fin grid0.N, _)

/-- One block product at an index. -/
theorem pay2_at (x : FVec Ideal S1x1x1024x1024 .bf16) (a b w : FVec Ideal S1x1024x1024 .f32) (r l : Fin 1024) :
    k0_pay2 (F := Ideal) x a b w (ix2 r l)
      = ∑ f : Fin 1024, gated (∑ k : Fin 1024, x (ix4 0 0 r k) * a (ix3 0 k f)) (∑ k : Fin 1024, x (ix4 0 0 r k) * b (ix3 0 k f))
          * w (ix3 0 f l) := by
  pointwise [k0_pay2, gated]
  simp only [zero_sub]

/-- Batch of point `t`. -/
def bOf (t : Fin cfg0.N) : Fin 4 := ⟨t.val / 32, by have := t.isLt; have hN : cfg0.N = 128 := N_0; omega⟩

/-- Expert of point `t`. -/
def eOf (t : Fin cfg0.N) : Fin 16 := ⟨t.val / 2 % 16, by omega⟩

/-- Feature `f` of the block of features of point `t`. -/
def fOf (t : Fin cfg0.N) (f : Fin 1024) : Fin 2048 := ⟨t.val % 2 * 1024 + f.val, by omega⟩

/-- The token block read at an index. -/
theorem rd0 (c : Dev nD) (t : Fin cfg0.N) (r k : Fin 1024) :
    (iblk m c 0 t : FVec Ideal S1x1x1024x1024 .bf16) (ix4 0 0 r k) = m ((c : Thread nD τ).loc main_arg0) (ix4 (bOf t) (eOf t) r k) := by
  blk_ext! [iblk, V, idx t, bOf, eOf]

/-- The first weight's block read at an index. -/
theorem rd1 (c : Dev nD) (t : Fin cfg0.N) (k f : Fin 1024) :
    (iblk m c 1 t : FVec Ideal S1x1024x1024 .f32) (ix3 0 k f) = m ((c : Thread nD τ).loc main_arg1) (ix3 (eOf t) k (fOf t f)) := by
  blk_ext! [iblk, V, idx t, fOf, eOf]

/-- The second weight's block read at an index. -/
theorem rd2 (c : Dev nD) (t : Fin cfg0.N) (k f : Fin 1024) :
    (iblk m c 2 t : FVec Ideal S1x1024x1024 .f32) (ix3 0 k f) = m ((c : Thread nD τ).loc main_arg2) (ix3 (eOf t) k (fOf t f)) := by
  blk_ext! [iblk, V, idx t, fOf, eOf]

/-- The output weight's block read at an index. -/
theorem rd3 (c : Dev nD) (t : Fin cfg0.N) (f l : Fin 1024) :
    (iblk m c 3 t : FVec Ideal S1x1024x1024 .f32) (ix3 0 f l) = m ((c : Thread nD τ).loc main_arg3) (ix3 (eOf t) (fOf t f) l) := by
  blk_ext! [iblk, V, idx t, fOf, eOf]

/-- The gates' block read at an index. -/
theorem rd4 (c : Dev nD) (t : Fin cfg0.N) (r : Fin 1024) :
    (iblk m c 4 t : FVec Ideal S1x1x1024x1 .f32) (ix4 0 0 r 0) = m ((c : Thread nD τ).loc main_arg4) (ix3 (bOf t) (eOf t) r) := by
  blk_ext! [iblk, V, idx t, bOf, eOf]

/-- One feature's contribution to an output element. -/
def term (X : FVec Ideal S4x16x1024x1024 .bf16) (W1 W3 : FVec Ideal S16x1024x2048 .f32) (W2 : FVec Ideal S16x2048x1024 .f32)
    (b : Fin 4) (e : Fin 16) (r l : Fin 1024) (f : Fin 2048) : EReal :=
  gated (∑ k : Fin 1024, X (ix4 b e r k) * W1 (ix3 e k f)) (∑ k : Fin 1024, X (ix4 b e r k) * W3 (ix3 e k f)) * W2 (ix3 e f l)

/-- The experts' output: the features' contributions summed, times the gate. -/
def G (X : FVec Ideal S4x16x1024x1024 .bf16) (W1 W3 : FVec Ideal S16x1024x2048 .f32) (W2 : FVec Ideal S16x2048x1024 .f32)
    (g : FVec Ideal S4x16x1024 .f32) (i : S4x16x1024x1024.Idx) : EReal :=
  (∑ f : Fin 2048, term X W1 W3 W2 (i 0) (i 1) (i 2) (i 3) f) * g (ix3 (i 0) (i 1) (i 2))

/-- A point's block product is the sum of the contributions of its features. -/
theorem part (c : Dev nD) (t : Fin cfg0.N) (r l : Fin 1024) :
    k0_pay2 (F := Ideal) (iblk m c 0 t) (iblk m c 1 t) (iblk m c 2 t) (iblk m c 3 t) (ix2 r l)
      = ∑ f : Fin 1024, term (m ((c : Thread nD τ).loc main_arg0)) (m ((c : Thread nD τ).loc main_arg1))
          (m ((c : Thread nD τ).loc main_arg2)) (m ((c : Thread nD τ).loc main_arg3)) (bOf t) (eOf t) r l (fOf t f) := by
  rw [pay2_at]
  refine Finset.sum_congr rfl fun f _ => ?_
  unfold term
  rw [rd3]
  congr 2
  · exact Finset.sum_congr rfl fun k _ => by rw [rd0, rd1]
  · exact Finset.sum_congr rfl fun k _ => by rw [rd0, rd2]

/-- The point before an odd point is an even point of the same batch and expert. -/
def prev (t : Fin cfg0.N) : Fin cfg0.N := ⟨t.val - 1, Nat.lt_of_le_of_lt (Nat.sub_le _ _) t.isLt⟩

/-- The sum over all features is the even point's sum plus the odd point's. -/
theorem halves (t : Fin cfg0.N) (h : t.val % 2 = 1) (g : Fin 2048 → EReal) :
    ∑ f, g f = (∑ f : Fin 1024, g (fOf (prev t) f)) + ∑ f : Fin 1024, g (fOf t f) := by
  rw [Fin.sum_univ_two_halves 1024 1024 rfl g]
  congr 1 <;> refine Finset.sum_congr rfl fun f _ => congrArg g (Fin.ext ?_)
  · simp only [fOf, prev]; omega
  · simp only [fOf]; omega

/-- What an odd point leaves in its output block. -/
theorem after5 (c : Dev nD) (t : Fin cfg0.N) (h : t.val % 2 = 1) (r l : Fin 1024) :
    (outsAt0 m c t.val t.isLt : FVec Ideal S1x1x1024x1024 .f32) (ix4 0 0 r l)
      = G (m ((c : Thread nD τ).loc main_arg0)) (m ((c : Thread nD τ).loc main_arg1)) (m ((c : Thread nD τ).loc main_arg2))
          (m ((c : Thread nD τ).loc main_arg3)) (m ((c : Thread nD τ).loc main_arg4)) (ix4 (bOf t) (eOf t) r l) := by
  have hb : bOf (prev t) = bOf t := Fin.ext (by simp only [bOf, prev]; omega)
  have he : eOf (prev t) = eOf t := Fin.ext (by simp only [eOf, prev]; omega)
  rw [outsAt0_B m c t (by omega) h h]
  frame_out
  have ha : outsAt0 m c (t.val - 1) (prev t).isLt = _ :=
    outsAt0_A m c (prev t) (by simp only [prev]; omega) (by simp only [prev]; omega) (by simp only [prev]; omega)
  rw [ha]
  frame_out
  have hp := part m c (prev t) r l
  have hq := part m c t r l
  rw [hb, he] at hp
  pointwise [k0_pay1, k0_pay4, k0_pay3]
  rw [rd4]
  unfold G
  rw [halves t h]
  pointwise
  rw [hp, hq]

/-- The result array after the run. -/
theorem final (c : Dev nD) : (dats m 0 c).arrAt 5 cfg0.N
    = G (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]
  have h := (flush0_5 t).mp hf
  idx_vars y
  obtain rfl : y0 = 0 := Subsingleton.elim _ _
  obtain rfl : y1 = 0 := Subsingleton.elim _ _
  refine (after5 m c t h y2 y3).trans (congrArg (G _ _ _ _ _) ?_)
  blk_ext [idx t, bOf, eOf]

/-- The reference's composed term is the same formula. -/
theorem ref_eq (X : FVec Ideal S4x16x1024x1024 .bf16) (W1 W3 : FVec Ideal S16x1024x2048 .f32) (W2 : FVec Ideal S16x2048x1024 .f32)
    (g : FVec Ideal S4x16x1024 .f32) :
    mulf (transpose Cert.ExpertsRefIdeal.S4x16x1024x1024 [2, 0, 3, 1] (Host.dotGeneral Cert.ExpertsRefIdeal.dot_S16x2048x1024_S4x16x1024x2048_S16x1024x4x1024_1_3_2_02_0_1 none W2 (mulf (mulf (transpose Cert.ExpertsRefIdeal.S4x16x1024x2048 [2, 0, 3, 1] (Host.dotGeneral Cert.ExpertsRefIdeal.dot_S16x1024x2048_S4x16x1024x1024_S16x2048x4x1024_1_3_2_02_0_1 none W1 (extf .f32 X Cert.ExpertsRefIdeal.Gen.bitsLt_bf16_f32)) Cert.ExpertsRefIdeal.Gen.transposes_S16x2048x4x1024_S4x16x1024x2048_2_0_3_1) (Host.divf (broadcastInDim Cert.ExpertsRefIdeal.S4x16x1024x2048 ![] Cert.ExpertsRefIdeal.Gen.bcast_S_S4x16x1024x2048 (constant Cert.ExpertsRefIdeal.S_ .f32 0x3F800000#32)) (addf (broadcastInDim Cert.ExpertsRefIdeal.S4x16x1024x2048 ![] Cert.ExpertsRefIdeal.Gen.bcast_S_S4x16x1024x2048 (constant Cert.ExpertsRefIdeal.S_ .f32 0x3F800000#32)) (Host.exp (Host.negf (transpose Cert.ExpertsRefIdeal.S4x16x1024x2048 [2, 0, 3, 1] (Host.dotGeneral Cert.ExpertsRefIdeal.dot_S16x1024x2048_S4x16x1024x1024_S16x2048x4x1024_1_3_2_02_0_1 none W1 (extf .f32 X Cert.ExpertsRefIdeal.Gen.bitsLt_bf16_f32)) Cert.ExpertsRefIdeal.Gen.transposes_S16x2048x4x1024_S4x16x1024x2048_2_0_3_1)))))) (transpose Cert.ExpertsRefIdeal.S4x16x1024x2048 [2, 0, 3, 1] (Host.dotGeneral Cert.ExpertsRefIdeal.dot_S16x1024x2048_S4x16x1024x1024_S16x2048x4x1024_1_3_2_02_0_1 none W3 (extf .f32 X Cert.ExpertsRefIdeal.Gen.bitsLt_bf16_f32)) Cert.ExpertsRefIdeal.Gen.transposes_S16x2048x4x1024_S4x16x1024x2048_2_0_3_1))) Cert.ExpertsRefIdeal.Gen.transposes_S16x1024x4x1024_S4x16x1024x1024_2_0_3_1) (broadcastInDim Cert.ExpertsRefIdeal.S4x16x1024x1024 ![0, 1, 2, 3] Cert.ExpertsRefIdeal.Gen.bcast_S4x16x1024x1_S4x16x1024x1024_0_1_2_3 (broadcastInDim Cert.ExpertsRefIdeal.S4x16x1024x1 ![0, 1, 2] Cert.ExpertsRefIdeal.Gen.bcast_S4x16x1024_S4x16x1024x1_0_1_2 g))
      = (G X W1 W3 W2 g : FVec Ideal S4x16x1024x1024 .f32) := by
  funext i
  idx_vars i
  pointwise [G, term, gated]
  refine congrArg (· * g (ix3 i0 i1 i2)) (Finset.sum_congr rfl fun f _ => ?_)
  have hc : ∀ W : FVec Ideal S16x1024x2048 .f32, ∑ k : Fin 1024, W (ix3 i1 k f) * X (ix4 i0 i1 i2 k) = ∑ k : Fin 1024, X (ix4 i0 i1 i2 k) * W (ix3 i1 k f) :=
    fun W => Finset.sum_congr rfl fun k _ => mul_comm _ _
  rw [hc W1, hc W3, mul_comm]

/-- Kernel and reference, run from memories that agree on the arguments, end with the same result. -/
theorem algebraic : Cert.algebraic_ExpertsIdeal_ExpertsRefIdeal := by
  intro m g m' g' _ ha
  refine ⟨fun c => G (m ((c : Thread nD τ).loc main_arg0)) (m ((c : Thread nD τ).loc main_arg1)) (m ((c : Thread nD τ).loc main_arg2))
          (m ((c : Thread nD τ).loc main_arg3)) (m ((c : Thread nD τ).loc main_arg4)), ?_, ?_⟩
  · exact (θ_run defs _ _).mono (fun r h c => ⟨(h c).1.trans (final m c), (h c).2⟩) (Cert.ExpertsIdeal.Value.run_blocks m g)
  · refine (θ_run Cert.ExpertsRefIdeal.defs _ _).mono (fun r h c => ⟨(h c).1.trans ?_, (h c).2⟩) (Cert.ExpertsRefIdeal.Value.run m' g')
    obtain ⟨h0, h1, h2, h3, h4⟩ := ha c
    rw [h0, h1, h2, h3, h4]
    exact ref_eq _ _ _ _ _

end Cert.ExpertsIdeal.Final

end
-- ==== Proof.GatherValue.lean ====
/-
  The expert gather: for each expert slot the kernel reads the aligned tile of eight tokens that holds the slot's token,
  rotates it so that the token comes to the slot's row, and keeps it there; at the extended reals the buffer after the
  loop is the reference's gather of token rows.
-/
module

public import proofs.«01_k».proof.Defs
public import proofs.«01_k».proof.Proof.Gen.Gather
public import proofs.«01_k».proof.Proof.Gen.Gather.Frame
public import proofs.«01_k».proof.Proof.Gen.GatherIdeal.Value
public import proofs.«01_k».proof.Proof.Gen.GatherRefIdeal.Run
public import proofs.«01_k».proof.Proof.Gen.Pre_idx_in_range
public import Idealize.ShloMosaic.Lib.Pipeline.ValueKit
public import Idealize.ShloMosaic.Lib.Pipeline.Covers
public import Idealize.ShloMosaic.Lib.Pointwise
public import Idealize.ShloMosaic.Lib.WritesUnit
public import Idealize.ShloMosaic.Lib.KernelVsHost
public import Idealize.ShloMosaic.Lib.VecWindow
public import Idealize.ShloMosaic.Lib.StableHlo.Predicate

@[expose] public section

set_option maxRecDepth 16384

noncomputable section

open Idealize.ShloMosaic Idealize.ShloMosaic.TcCoe Idealize.SL.Sem
open Idealize.ShloMosaic.Pipeline (Dat)

namespace Cert.GatherIdeal.Final

open Cert.GatherIdeal Cert.GatherIdeal.Gen

variable (m : (ℓ : Loc nD τ sig) → Buf (Elt Ideal) ℓ)

/-- Where the loop's loads and its store lie, trip by trip. -/
theorem loop_facts : ∀ k : Fin k0_t1_loop.trips, k0_off17 k = ![8 * k.val, 0] ∧ k0_off1 k = ![0, 0, 8 * k.val] ∧
    k0_off3 k = ![0, 0, 8 * k.val + 1] ∧ k0_off5 k = ![0, 0, 8 * k.val + 2] ∧ k0_off7 k = ![0, 0, 8 * k.val + 3] ∧
    k0_off9 k = ![0, 0, 8 * k.val + 4] ∧ k0_off11 k = ![0, 0, 8 * k.val + 5] ∧ k0_off13 k = ![0, 0, 8 * k.val + 6] ∧
    k0_off15 k = ![0, 0, 8 * k.val + 7] := by decide +kernel

/-- Shifting a row number down and up by three gives the first row of its tile. -/
theorem low_fact : ∀ n : Fin 8192, (Scalar.shli (Scalar.shrsi (BitVec.ofNat 32 n.val) 3#32) 3#32).toNat = n.val / 8 * 8 := by
  decide +kernel

/-- Two row numbers below eight are equal as words just when they are equal. -/
theorem word_eq : ∀ j n : Fin 8, IntOp.cmpi .eq (BitVec.ofNat 32 j.val) (BitVec.ofNat 32 n.val) = if j = n then 1#1 else 0#1 := by decide

/-- A choice by row number, read at a row. -/
theorem sel (n : ℕ) (hn : n < 8) (A B : FVec Ideal S8x1024 .f32) (j : Fin 8) (d : Fin 1024) :
    select (cmpi .eq (iota .tc S8x1024 32 [0] iota_S8x1024_d0_w32) (broadcast S8x1024 (BitVec.ofNat 32 n))) A B (ix2 j d)
      = if j.val = n then A (ix2 j d) else B (ix2 j d) := by
  have e : (cmpi .eq (iota .tc S8x1024 32 [0] iota_S8x1024_d0_w32) (broadcast S8x1024 (BitVec.ofNat 32 n))) (ix2 j d) = if j.val = n then 1#1 else 0#1 := by
    refine Eq.trans ?_ ((word_eq j ⟨n, hn⟩).trans (if_congr Fin.ext_iff rfl rfl))
    show IntOp.cmpi .eq (BitVec.ofNat 32 (0 * 8 + j.val)) (BitVec.ofNat 32 n) = _
    rw [Nat.zero_mul, Nat.zero_add]
  show Scalar.select ((cmpi .eq (iota .tc S8x1024 32 [0] iota_S8x1024_d0_w32) (broadcast S8x1024 (BitVec.ofNat 32 n))) (ix2 j d)) _ _ = _
  rw [e]
  unfold Scalar.select
  split_ifs <;> first | rfl | contradiction

/-- What a trip stores, read at one of its rows: that row's tile, rotated by that row's amount. -/
theorem pay_row (w0 w1 w2 w3 w4 w5 w6 w7 : BitVec 32) (T0 T1 T2 T3 T4 T5 T6 T7 : Vec Ideal S1x8x1024 .f32) (j : Fin 8) (d : Fin 1024) :
    k0_pay1 (F := Ideal) (k0_pay5 (iota .tc S8x1024 32 [0] iota_S8x1024_d0_w32) (k0_pay4 (iota .tc S8x1024 32 [0] iota_S8x1024_d0_w32) (k0_pay3 (iota .tc S8x1024 32 [0] iota_S8x1024_d0_w32) w0 T0 w1 T1) w2 T2 w3 T3) w4 T4 w5 T5) w6 (k0_pay6 T6) 6#32 w7 T7 (ix2 j d)
      = dynamicRotate 0 (Scalar.andi (Scalar.subi (BitVec.ofNat 32 j.val) (![w0, w1, w2, w3, w4, w5, w6, w7] j)) 7#32) none
          (shapeCast S8x1024 (![T0, T1, T2, T3, T4, T5, T6, T7] j) shapeCasts_S1x8x1024_S8x1024) rotates_S8x1024_d0 (ix2 j d) := by
  unfold k0_pay1 k0_pay5 k0_pay4 k0_pay3 k0_pay6
  refine (congrFun (shapeCast_self _ _) _).trans ?_
  dsimp only
  rw [sel 7 (by decide), sel 6 (by decide), sel 5 (by decide), sel 4 (by decide), sel 3 (by decide), sel 2 (by decide), sel 1 (by decide), sel 0 (by decide)]
  fin_cases j <;> rfl

/-- The amount by which a row's tile is rotated. -/
theorem amount (j : Fin 8) (v : BitVec 32) : (Scalar.andi (Scalar.subi (BitVec.ofNat 32 j.val) v) 7#32).toNat = (j.val + 8 - v.toNat % 8) % 8 := by
  show ((BitVec.ofNat 32 j.val - v) &&& 7#32).toNat = _
  rw [BitVec.toNat_and, show (7#32).toNat = 2 ^ 3 - 1 from rfl, Nat.and_two_pow_sub_one_eq_mod, BitVec.toNat_sub, BitVec.toNat_ofNat]
  have := v.isLt
  have := j.isLt
  omega

/-- Dropping the unit axis of a tile keeps its rows. -/
theorem cast_tile (x : Vec Ideal S1x8x1024 .f32) (r : Fin 8) (d : Fin 1024) :
    shapeCast S8x1024 x shapeCasts_S1x8x1024_S8x1024 (ix2 r d) = x (ix3 0 r d) := by
  pointwise

/-- A tile rotated by that amount holds, at the row, the token the word names. -/
theorem pick (arg3 : Memref sig .tc .vmem S1x8192x1024 .f32) (harg3 : arg3.IsWhole) (x1 : Vec Ideal S1x8192x1024 .f32) (v : BitVec 32)
    (hv : v.toNat < 8192) (j : Fin 8) (d : Fin 1024) (o : Fin 3 → ℕ) (ho : o = ![0, v.toNat / 8 * 8, 0]) (inb : ∀ a, o a + S1x8x1024.size a ≤ S1x8192x1024.size a) :
    dynamicRotate 0 (Scalar.andi (Scalar.subi (BitVec.ofNat 32 j.val) v) 7#32) none
      (shapeCast S8x1024 (arg3.view.readAt (Elt Ideal) (Rect.unit (s := S1x8192x1024) o S1x8x1024.size inb).toLoadRect (harg3.unread x1))
        shapeCasts_S1x8x1024_S8x1024) rotates_S8x1024_d0 (ix2 j d) = x1 (ix3 0 ⟨v.toNat, hv⟩ d) := by
  subst ho
  have h8 : v.toNat % 8 < 8 := Nat.mod_lt _ (by decide)
  refine (dynamicRotate_apply (s := S8x1024) 0 _ _ _ (ix2 j d) (ix2 ⟨v.toNat % 8, h8⟩ d) ?_).trans ?_
  · rw [amount]
    intro b
    fin_cases b
    · have := j.isLt
      show v.toNat % 8 = (j.val + 8 - (j.val + 8 - v.toNat % 8) % 8 % 8) % 8
      omega
    · rfl
  · rw [cast_tile, View.readAt_apply, Memref.IsWhole.read_unread]
    refine congrArg x1 (funext fun a => Fin.ext ?_)
    fin_cases a
    · rfl
    · show v.toNat / 8 * 8 + 1 * (v.toNat % 8) = v.toNat
      omega
    · show 0 + 1 * d.val = d.val
      omega

/-- The bound on the words a block holds. -/
abbrev InRange (x0 : Vec Ideal S1x1x1024 .i32) : Prop := ∀ r : S1x1x1024.Idx, (x0 r : BitVec 32).toNat < 8192

/-- The word a trip loads for one of its rows, by its place in the block. -/
theorem word_at (arg2 : Memref sig .tc .smem S1x1x1024 .i32) (harg2 : arg2.IsWhole) (x0 : Vec Ideal S1x1x1024 .i32) (o : Fin 3 → ℕ) (n : ℕ)
    (hn : n < 1024) (ho : o = ![0, 0, n]) (inb : ∀ a, o a + S1x1x1.size a ≤ S1x1x1024.size a) (z : S1x1x1.Idx) :
    arg2.view.readAt (Elt Ideal) (Rect.unit (s := S1x1x1024) o S1x1x1.size inb).toLoadRect (harg2.unread x0) z = x0 (ix3 0 0 ⟨n, hn⟩) := by
  subst ho
  rw [View.readAt_apply, Memref.IsWhole.read_unread]
  refine congrArg x0 (funext fun a => Fin.ext ?_)
  have hz : ∀ a, (z a).val = 0 := fun a => by
    have := (z a).isLt
    fin_cases a <;> exact Nat.lt_one_iff.mp this
  fin_cases a
  · exact congrArg (fun q => 0 + 1 * q) (hz 0)
  · exact congrArg (fun q => 0 + 1 * q) (hz 1)
  · exact congrArg (fun q => n + 1 * q) (hz 2)

/-- The offset of the tile that holds a word's row. -/
theorem tile_off (v : BitVec 32) (hv : v.toNat < 8192) : (![0, (Scalar.indexCast (Scalar.shli (Scalar.shrsi v 3#32) 3#32)).toNat, 0] : Fin 3 → ℕ) = ![0, v.toNat / 8 * 8, 0] := by
  have h := low_fact ⟨v.toNat, hv⟩
  have hb : BitVec.ofNat 32 v.toNat = v := BitVec.eq_of_toNat_eq (by rw [BitVec.toNat_ofNat]; exact Nat.mod_eq_of_lt v.isLt)
  rw [show (BitVec.ofNat 32 (⟨v.toNat, hv⟩ : Fin 8192).val) = v from hb] at h
  show ![0, (Scalar.shli (Scalar.shrsi v 3#32) 3#32).toNat, 0] = _
  rw [h]

/-- A trip stores one block of eight rows, each the token its word names. -/
theorem trip_row (𝒱 : Variants) (c : Dev nD) (bd : Option 𝒱.V) (i : grid0.Coords) (arg2 : Memref sig .tc .smem S1x1x1024 .i32) (harg2 : arg2.IsWhole) (arg3 : Memref sig .tc .vmem S1x8192x1024 .f32) (harg3 : arg3.IsWhole) (arg4 : Memref sig .tc .vmem S1x1x1024x1024 .bf16) (harg4 : arg4.IsWhole) (arg5 : Memref sig .tc .vmem S1024x1024 .f32) (harg5 : arg5.IsWhole)
    (x0 : Vec Ideal S1x1x1024 .i32) (x1 : Vec Ideal S1x8192x1024 .f32) (hx : InRange x0) (k : Fin k0_t1_loop.trips) (hk : k.val < 128) h1 h2 h3 h4 h5 h6 h7 h8 :
    ∃ w : S8x1024.Idx → EReal, tripL_k0_t1 (F := Ideal) 𝒱 c bd i arg2 harg2 arg3 harg3 arg4 harg4 arg5 harg5 (iota .tc S8x1024 32 [0] iota_S8x1024_d0_w32) (harg2.unread x0) (harg3.unread x1) k h1 h2 h3 h4 h5 h6 h7 h8
        = [⟨Rect.unit (s := S1024x1024) (k0_off17 k) S8x1024.size (k0_off17_inb k), w⟩]
      ∧ ∀ (j : Fin 8) (d : Fin 1024), w (ix2 j d) = x1 (ix3 0 ⟨(x0 (ix3 0 0 ⟨8 * k.val + j.val, by omega⟩)).toNat, hx _⟩ d) := by
  unfold tripL_k0_t1 trip_k0_t1
  refine ⟨_, rfl, fun j d => ?_⟩
  refine (pay_row _ _ _ _ _ _ _ _ _ _ _ _ _ _ _ _ j d).trans ?_
  obtain ⟨-, e1, e2, e3, e4, e5, e6, e7, e8⟩ := loop_facts k
  have key : ∀ (v : BitVec 32) (n : ℕ) (hn : n < 1024) (j : Fin 8) (hw : v = x0 (ix3 0 0 ⟨n, hn⟩)) (o : Fin 3 → ℕ) (ho : o = ![0, (Scalar.indexCast (Scalar.shli (Scalar.shrsi v 3#32) 3#32)).toNat, 0]) inb,
      dynamicRotate 0 (Scalar.andi (Scalar.subi (BitVec.ofNat 32 j.val) v) 7#32) none
        (shapeCast S8x1024 (arg3.view.readAt (Elt Ideal) (Rect.unit (s := S1x8192x1024) o S1x8x1024.size inb).toLoadRect (harg3.unread x1))
          shapeCasts_S1x8x1024_S8x1024) rotates_S8x1024_d0 (ix2 j d) = x1 (ix3 0 ⟨(x0 (ix3 0 0 ⟨n, hn⟩)).toNat, hx _⟩ d) := by
    intro v n hn j hw o ho inb
    subst hw
    exact pick arg3 harg3 x1 _ (hx _) j d o (ho.trans (tile_off _ (hx _))) inb
  fin_cases j
  · exact key _ (8 * k.val + 0) (by omega) 0 (word_at arg2 harg2 x0 _ _ (by omega) e1 _ _) _ rfl _
  · exact key _ (8 * k.val + 1) (by omega) 1 (word_at arg2 harg2 x0 _ _ (by omega) e2 _ _) _ rfl _
  · exact key _ (8 * k.val + 2) (by omega) 2 (word_at arg2 harg2 x0 _ _ (by omega) e3 _ _) _ rfl _
  · exact key _ (8 * k.val + 3) (by omega) 3 (word_at arg2 harg2 x0 _ _ (by omega) e4 _ _) _ rfl _
  · exact key _ (8 * k.val + 4) (by omega) 4 (word_at arg2 harg2 x0 _ _ (by omega) e5 _ _) _ rfl _
  · exact key _ (8 * k.val + 5) (by omega) 5 (word_at arg2 harg2 x0 _ _ (by omega) e6 _ _) _ rfl _
  · exact key _ (8 * k.val + 6) (by omega) 6 (word_at arg2 harg2 x0 _ _ (by omega) e7 _ _) _ rfl _
  · exact key _ (8 * k.val + 7) (by omega) 7 (word_at arg2 harg2 x0 _ _ (by omega) e8 _ _) _ rfl _

/-- The loop makes 128 trips. -/
theorem trips : k0_t1_loop.trips = 128 := by decide +kernel

/-- The rows the loop has filled before trip `n` hold the tokens their words name. -/
theorem filled (𝒱 : Variants) (c : Dev nD) (bd : Option 𝒱.V) (i : grid0.Coords) (arg2 : Memref sig .tc .smem S1x1x1024 .i32) (harg2 : arg2.IsWhole) (arg3 : Memref sig .tc .vmem S1x8192x1024 .f32) (harg3 : arg3.IsWhole) (arg4 : Memref sig .tc .vmem S1x1x1024x1024 .bf16) (harg4 : arg4.IsWhole) (arg5 : Memref sig .tc .vmem S1024x1024 .f32) (harg5 : arg5.IsWhole)
    (x0 : Vec Ideal S1x1x1024 .i32) (x1 : Vec Ideal S1x8192x1024 .f32) (hx : InRange x0) (f : arg5.view.ty.Contents (Elt Ideal)) h1 h2 h3 h4 h5 h6 h7 h8 (n : ℕ) (hn : n ≤ 128) :
    ∀ (r d : Fin 1024), r.val < 8 * n → arg5.view.read (Elt Ideal) (arg5.view.writes (Elt Ideal) f (pb_k0_t1 (F := Ideal) 𝒱 c bd i arg2 harg2 arg3 harg3 arg4 harg4 arg5 harg5 (iota .tc S8x1024 32 [0] iota_S8x1024_d0_w32) (harg2.unread x0) (harg3.unread x1) h1 h2 h3 h4 h5 h6 h7 h8 n)) (ix2 r d)
      = x1 (ix3 0 ⟨(x0 (ix3 0 0 r)).toNat, hx _⟩ d) := by
  induction n with
  | zero => intro r d hr; exact absurd hr (by omega)
  | succ n ih =>
    intro r d hr
    have hk : n < k0_t1_loop.trips := by rw [trips]; omega
    rw [pb_k0_t1_succ 𝒱 c bd i arg2 harg2 arg3 harg3 arg4 harg4 arg5 harg5 _ _ _ h1 h2 h3 h4 h5 h6 h7 h8 ⟨n, hk⟩]
    obtain ⟨w, hw, hrow⟩ := trip_row 𝒱 c bd i arg2 harg2 arg3 harg3 arg4 harg4 arg5 harg5 x0 x1 hx ⟨n, hk⟩ (by show n < 128; omega) (h1 n hk) (h2 n hk) (h3 n hk) (h4 n hk) (h5 n hk) (h6 n hk) (h7 n hk) (h8 n hk)
    rw [hw, List.singleton_append]
    have ho := (loop_facts ⟨n, hk⟩).1
    by_cases hlt : r.val < 8 * n
    · rw [View.read_writes_cons_rows_of_not_mem (d := ![1024, 1024]) _ _ _ _ _ _ ho rfl (Or.inl hlt)]
      exact ih (by omega) r d hlt
    · refine (View.read_writes_cons_rows_of_mem (d := ![1024, 1024]) _ _ _ _ _ (ix2 r d) (ix2 (⟨r.val - 8 * n, by omega⟩ : Fin 8) d) ho ?_ rfl).trans ?_
      · show r.val = 8 * n + (r.val - 8 * n)
        omega
      · rw [hrow]
        have e : (⟨8 * n + (r.val - 8 * n), by omega⟩ : Fin 1024) = r := Fin.ext (by show 8 * n + (r.val - 8 * n) = r.val; omega)
        show x1 (ix3 0 ⟨(x0 (ix3 0 0 ⟨8 * n + (r.val - 8 * n), _⟩)).toNat, _⟩ d) = _
        refine congrArg x1 (congrArg (fun q => ix3 0 q d) (Fin.ext ?_))
        exact congrArg (fun q => (x0 (ix3 0 0 q)).toNat) e

/-- The two facts a trip assumes of a word: its tile starts at a multiple of eight and lies in the array. -/
theorem checks (v : BitVec 32) (hv : v.toNat < 8192) :
    8 ∣ (Scalar.shli (Scalar.shrsi v 3#32) 3#32).toNat
      ∧ ∀ a : Fin 3, (![0, (Scalar.indexCast (Scalar.shli (Scalar.shrsi v 3#32) 3#32)).toNat, 0] : Fin 3 → ℕ) a + S1x8x1024.size a ≤ S1x8192x1024.size a := by
  have h := congrFun (tile_off v hv) 1
  have h' : (Scalar.shli (Scalar.shrsi v 3#32) 3#32).toNat = v.toNat / 8 * 8 := h
  refine ⟨⟨v.toNat / 8, by rw [h', Nat.mul_comm]⟩, fun a => ?_⟩
  rw [tile_off v hv]
  fin_cases a
  · exact Nat.le_refl _
  · show v.toNat / 8 * 8 + 8 ≤ 8192
    omega
  · exact Nat.le_refl _

/-- Every word the kernel is given names a token, by the precondition. -/
theorem word_bound_bits (m : (ℓ : Loc Cert.Gather.nD Cert.Gather.τ Cert.Gather.sig) → Buf (Elt Bits) ℓ) (h : Cert.Pre_Gather m) (c : Dev Cert.Gather.nD) (y : Cert.Gather.S4x16x1024.Idx) :
    (m ((c.tc : Thread Cert.Gather.nD Cert.Gather.τ).loc Cert.Gather.main_arg0) y : BitVec 32).toNat < 8192 := by
  have andi_b (p q : Bool) : IntOp.andi (BitVec.ofBool p) (BitVec.ofBool q) = BitVec.ofBool (p && q) := by
    cases p <;> cases q <;> decide
  have one_b (p : Bool) : (BitVec.ofBool p = 1#1) ↔ p = true := by cases p <;> decide
  have e := congrFun (h c) y
  simp only [Pre_idx_in_range.fn, andi, cmpi, broadcastInDim, constantI, IntOp.cmpi, andi_b, one_b, Bool.and_eq_true] at e
  obtain ⟨hge, hlt⟩ := e
  simp only [BitVec.sle, BitVec.slt, decide_eq_true_eq, BitVec.toInt, BitVec.toNat_ofNat] at hge hlt
  omega

/-- So does every word of a block. -/
theorem block_bound_bits (m : (ℓ : Loc Cert.Gather.nD Cert.Gather.τ Cert.Gather.sig) → Buf (Elt Bits) ℓ) (h : Cert.Pre_Gather m) (c : Dev Cert.Gather.nD) (t : Fin Cert.Gather.cfg0.N) (i : Cert.Gather.S1x1x1024.Idx) :
    (Cert.Gather.Gen.iblk m c 0 t i : BitVec 32).toNat < 8192 := by
  have hv : ∀ z, (Cert.Gather.Gen.V m c Cert.Gather.main_v0 z : BitVec 32).toNat < 8192 := by
    have e : (Cert.Gather.Gen.V m c Cert.Gather.main_v0 : IVec Cert.Gather.S64x1x1024 32) = shapeCast Cert.Gather.S64x1x1024 (m ((c.tc : Thread Cert.Gather.nD Cert.Gather.τ).loc Cert.Gather.main_arg0)) Cert.Gather.Gen.shapeCasts_S4x16x1024_S64x1x1024 := by
      unfold Cert.Gather.Gen.V
      after_results
      rfl
    intro z
    rw [e]
    exact word_bound_bits m h c _
  unfold Cert.Gather.Gen.iblk
  rw [View.read_apply, cast_eq]
  exact hv _

/-- The precondition gives every side condition the body assumes. -/
theorem hyps_of_pre_bits (m : (ℓ : Loc Cert.Gather.nD Cert.Gather.τ Cert.Gather.sig) → Buf (Elt Bits) ℓ) (h : Cert.Pre_Gather m) : Cert.Gather.Gen.Hyps m := by
  intro c t
  have w : ∀ i, (Cert.Gather.Gen.iblk m c 0 t i : BitVec 32).toNat < 8192 := block_bound_bits m h c t
  refine ⟨fun kq hkq => ?_, fun kq hkq => ?_, fun kq hkq => ?_, fun kq hkq => ?_, fun kq hkq => ?_, fun kq hkq => ?_, fun kq hkq => ?_, fun kq hkq => ?_⟩ <;>
    (rw [View.readAt_apply, Memref.IsWhole.read_unread]; exact checks _ (w _))

/-- Every word the kernel is given names a token, by the precondition. -/
theorem word_bound (m : (ℓ : Loc Cert.GatherIdeal.nD Cert.GatherIdeal.τ Cert.GatherIdeal.sig) → Buf (Elt Ideal) ℓ) (h : Cert.Pre_GatherIdeal m) (c : Dev Cert.GatherIdeal.nD) (y : Cert.GatherIdeal.S4x16x1024.Idx) :
    (m ((c.tc : Thread Cert.GatherIdeal.nD Cert.GatherIdeal.τ).loc Cert.GatherIdeal.main_arg0) y : BitVec 32).toNat < 8192 := by
  have andi_b (p q : Bool) : IntOp.andi (BitVec.ofBool p) (BitVec.ofBool q) = BitVec.ofBool (p && q) := by
    cases p <;> cases q <;> decide
  have one_b (p : Bool) : (BitVec.ofBool p = 1#1) ↔ p = true := by cases p <;> decide
  have e := congrFun (h c) y
  simp only [Pre_idx_in_range.fn, andi, cmpi, broadcastInDim, constantI, IntOp.cmpi, andi_b, one_b, Bool.and_eq_true] at e
  obtain ⟨hge, hlt⟩ := e
  simp only [BitVec.sle, BitVec.slt, decide_eq_true_eq, BitVec.toInt, BitVec.toNat_ofNat] at hge hlt
  omega

/-- So does every word of a block. -/
theorem block_bound (m : (ℓ : Loc Cert.GatherIdeal.nD Cert.GatherIdeal.τ Cert.GatherIdeal.sig) → Buf (Elt Ideal) ℓ) (h : Cert.Pre_GatherIdeal m) (c : Dev Cert.GatherIdeal.nD) (t : Fin Cert.GatherIdeal.cfg0.N) (i : Cert.GatherIdeal.S1x1x1024.Idx) :
    (Cert.GatherIdeal.Gen.iblk m c 0 t i : BitVec 32).toNat < 8192 := by
  have hv : ∀ z, (Cert.GatherIdeal.Gen.V m c Cert.GatherIdeal.main_v0 z : BitVec 32).toNat < 8192 := by
    have e : (Cert.GatherIdeal.Gen.V m c Cert.GatherIdeal.main_v0 : IVec Cert.GatherIdeal.S64x1x1024 32) = shapeCast Cert.GatherIdeal.S64x1x1024 (m ((c.tc : Thread Cert.GatherIdeal.nD Cert.GatherIdeal.τ).loc Cert.GatherIdeal.main_arg0)) Cert.GatherIdeal.Gen.shapeCasts_S4x16x1024_S64x1x1024 := by
      unfold Cert.GatherIdeal.Gen.V
      after_results
      rfl
    intro z
    rw [e]
    exact word_bound m h c _
  unfold Cert.GatherIdeal.Gen.iblk
  rw [View.read_apply, cast_eq]
  exact hv _

/-- The precondition gives every side condition the body assumes. -/
theorem hyps_of_pre (m : (ℓ : Loc Cert.GatherIdeal.nD Cert.GatherIdeal.τ Cert.GatherIdeal.sig) → Buf (Elt Ideal) ℓ) (h : Cert.Pre_GatherIdeal m) : Cert.GatherIdeal.Gen.Hyps m := by
  intro c t
  have w : ∀ i, (Cert.GatherIdeal.Gen.iblk m c 0 t i : BitVec 32).toNat < 8192 := block_bound m h c t
  refine ⟨fun kq hkq => ?_, fun kq hkq => ?_, fun kq hkq => ?_, fun kq hkq => ?_, fun kq hkq => ?_, fun kq hkq => ?_, fun kq hkq => ?_, fun kq hkq => ?_⟩ <;>
    (rw [View.readAt_apply, Memref.IsWhole.read_unread]; exact checks _ (w _))

/-- The blocks of the grid's points. -/
theorem idx : ∀ t : Fin cfg0.N, win0_0.index t = ![t.val, 0, 0] ∧ win0_1.index t = ![t.val / 16, 0, 0] ∧ win0_2.index t = ![t.val / 16, t.val % 16, 0, 0] :=
  (by decide +kernel : ∀ t : Fin grid0.N, _)

/-- The token array, gathered at the words. -/
abbrev ROWS (I : IVec S4x16x1024 32) (hI : ∀ y, (I y).toNat < 8192) (X : FVec Ideal S4x8192x1024 .f32) : FVec Ideal S4x16x1024x1024 .bf16 :=
  fun j => X (ix3 (j 0 : Fin 4) ⟨(I (ix3 (j 0 : Fin 4) (j 1 : Fin 16) (j 2 : Fin 1024))).toNat, hI _⟩ (j 3 : Fin 1024))

/-- The body's last step narrows the rows and adds two axes of extent one. -/
theorem out_cast (v : Vec Ideal S1024x1024 .f32) (a b : Fin 1) (r d : Fin 1024) : k0_pay2 (F := Ideal) v (ix4 a b r d) = v (ix2 r d) := by
  pointwise [k0_pay2]

/-- The words laid out by sample and expert together. -/
theorem flat (I : IVec S4x16x1024 32) (t : Fin 64) (r : Fin 1024) :
    shapeCast S64x1x1024 I Gen.shapeCasts_S4x16x1024_S64x1x1024 (ix3 t 0 r) = I (ix3 (⟨t.val / 16, by omega⟩ : Fin 4) (⟨t.val % 16, by omega⟩ : Fin 16) r) := by
  pointwise

/-- The word a point's block holds at a place. -/
theorem word_block (c : Dev nD) (t : Fin cfg0.N) (r : Fin 1024) :
    (iblk m c 0 t (ix3 0 0 r) : BitVec 32) = m ((c : Thread nD τ).loc main_arg0) (ix3 (⟨t.val / 16, by have : t.val < 64 := t.isLt; omega⟩ : Fin 4) (⟨t.val % 16, by omega⟩ : Fin 16) r) := by
  have hv : (V m c main_v0 : IVec S64x1x1024 32) = shapeCast S64x1x1024 (m ((c : Thread nD τ).loc main_arg0)) Gen.shapeCasts_S4x16x1024_S64x1x1024 := by
    unfold Gen.V
    after_results
    rfl
  have e0 : ((View.whole main_v0).slice (win0_0.rect t)).emb (ix3 0 0 r) = ix3 (⟨t.val, t.isLt⟩ : Fin 64) (0 : Fin 1) r := by
    blk_ext [idx t]
  unfold iblk
  rw [View.read_apply, cast_eq]
  refine (congrFun hv _).trans ?_
  exact (congrArg _ e0).trans (flat _ _ _)

/-- The token rows a point's block holds. -/
theorem rows_block (c : Dev nD) (t : Fin cfg0.N) (n : Fin 8192) (d : Fin 1024) :
    iblk m c 1 t (ix3 0 n d) = m ((c : Thread nD τ).loc main_arg1) (ix3 (⟨t.val / 16, by have : t.val < 64 := t.isLt; omega⟩ : Fin 4) n d) := by
  have e1 : ((View.whole main_arg1).slice (win0_1.rect t)).emb (ix3 0 n d) = ix3 (⟨t.val / 16, by have : t.val < 64 := t.isLt; omega⟩ : Fin 4) n d := by
    blk_ext [idx t]
  unfold iblk
  rw [View.read_apply, cast_eq]
  exact congrArg (m ((c : Thread nD τ).loc main_arg1)) e1

/-- Where a point's output block lies. -/
theorem out_place (t : Fin cfg0.N) (a b : Fin 1) (r d : Fin 1024) :
    ((View.whole main_v1).slice (win0_2.rect t)).emb (ix4 a b r d) = ix4 (⟨t.val / 16, by have : t.val < 64 := t.isLt; omega⟩ : Fin 4) (⟨t.val % 16, by omega⟩ : Fin 16) r d := by
  blk_ext [idx t]

/-- The result array after the run. -/
theorem final (h : Cert.Pre_GatherIdeal m) (c : Dev nD) : (dats m (hyps_of_pre m h) 0 c).arrAt 2 cfg0.N
    = ROWS (m ((c : Thread nD τ).loc main_arg0)) (word_bound m h c) (m ((c : Thread nD τ).loc main_arg1)) := by
  refine (dats m (hyps_of_pre m h) 0 c).arrAt_eq_of_covers 2 _ (by decide +kernel) fun t hf y => ?_
  blk_simp
  rw [after0_2]
  unfold Gen.outsAt0
  frame_out
  idx_vars y
  rw [out_cast]
  unfold View.readCov
  refine (congrFun (View.readAt_full (View.whole cc0_scratch0) _ _) _).trans ?_
  rw [show Scf.trips (0#32) (Scalar.addi 0#32 128#32) 1#32 = 128 from trips]
  refine (filled Variants.none c none (grid0.coords t) (ms0_0 t) (hs0_0 t) (ms0_1 t) (hs0_1 t) (ms0_2 t) (hs0_2 t) scM0_0 (Memref.isWhole_whole _) (iblk m c 0 t) (iblk m c 1 t) (block_bound m h c t) _ _ _ _ _ _ _ _ _ 128 (Nat.le_refl _) y2 y3 y2.isLt).trans ?_
  have ht : t.val < 64 := t.isLt
  rw [rows_block]
  refine Eq.trans ?_ (congrArg (ROWS (m ((c : Thread nD τ).loc main_arg0)) (word_bound m h c) (m ((c : Thread nD τ).loc main_arg1))) (out_place t y0 y1 y2 y3).symm)
  exact congrArg (fun n => m ((c : Thread nD τ).loc main_arg1) (ix3 (⟨t.val / 16, by omega⟩ : Fin 4) n y3)) (Fin.ext (congrArg BitVec.toNat (word_block m c t y2)))

/-- The reference's gather along the token axis, read at one entry. -/
theorem ref_gather (x : FVec Ideal S4x8192x1024 .f32) (I : IVec Cert.GatherRefIdeal.S4x16x1024x1 32) (b : Fin 4) (e : Fin 16) (r d : Fin 1024) (n : Fin 8192)
    (hn : I (ix4 b e r 0) = BitVec.ofNat 32 n.val) :
    Host.gather Cert.GatherRefIdeal.gather_S4x8192x1024_S4x16x1024x1_S4x16x1024x1024_3_1_0_0_1_3_111024 x I (ix4 b e r d) = x (ix3 b n d) := by
  unfold Host.gather
  refine congrArg x (funext fun a => Fin.ext ?_)
  show GatherDims.start _ _ I a + GatherDims.batchCoord _ _ a + GatherDims.offCoord _ _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by decide), GatherDims.offCoord_eq_zero _ _ _ (by decide)]
    simp only [Nat.add_zero, Nat.zero_add]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : ∀ k, Cert.GatherRefIdeal.gather_S4x8192x1024_S4x16x1024x1_S4x16x1024x1024_3_1_0_0_1_3_111024.siIdx (ix4 b e r d) k = ix4 b e r (0 : Fin 1) := by
      intro k
      funext a'
      apply Fin.ext
      match a' with
      | ⟨0, _⟩ => rfl
      | ⟨1, _⟩ => rfl
      | ⟨2, _⟩ => rfl
      | ⟨3, _⟩ =>
        have : k.val < 1 := k.isLt
        show k.val = 0
        omega
    rw [hsi, hn, StableHlo.Predicate.toInt_ofNat_small _ (by have := n.isLt; omega)]
    have := n.isLt
    show min ((n.val : Int)).toNat (8192 - 1) = n.val
    omega
  · rw [GatherDims.batchCoord_eq_zero _ _ _ (by decide)]
    unfold GatherDims.start GatherDims.offCoord
    rw [dif_neg (by decide), dif_pos (by decide)]
    show 0 + 0 + d.val = d.val
    omega

/-- The reference's composed term is the gathered array, where the words are in range. -/
theorem ref_rows (I : IVec S4x16x1024 32) (hI : ∀ y, (I y).toNat < 8192) (X : FVec Ideal S4x8192x1024 .f32) :
    truncf .bf16 (Host.gather Cert.GatherRefIdeal.gather_S4x8192x1024_S4x16x1024x1_S4x16x1024x1024_3_1_0_0_1_3_111024 X (broadcastInDim Cert.GatherRefIdeal.S4x16x1024x1 ![0, 1, 2] Cert.GatherRefIdeal.Gen.bcast_S4x16x1024_S4x16x1024x1_0_1_2 (select (cmpi .slt I (broadcastInDim Cert.GatherRefIdeal.S4x16x1024 ![] Cert.GatherRefIdeal.Gen.bcast_S_S4x16x1024 (constantI Cert.GatherRefIdeal.S_ 32 0#32))) (addi I (broadcastInDim Cert.GatherRefIdeal.S4x16x1024 ![] Cert.GatherRefIdeal.Gen.bcast_S_S4x16x1024 (constantI Cert.GatherRefIdeal.S_ 32 8192#32))) I))) Cert.GatherRefIdeal.Gen.bitsLt_bf16_f32
      = ROWS I hI X := by
  funext y
  idx_vars y
  refine (ref_gather X _ y0 y1 y2 y3 ⟨(I (ix3 y0 y1 y2)).toNat, hI _⟩ ?_)
  have hlt := hI (ix3 y0 y1 y2)
  have hns : ((I (ix3 y0 y1 y2)).slt 0#32) = false := by
    simp only [BitVec.slt, BitVec.toInt, BitVec.toNat_ofNat, decide_eq_false_iff_not]
    omega
  have hb : ∀ J : IVec S4x16x1024 32, broadcastInDim Cert.GatherRefIdeal.S4x16x1024x1 ![0, 1, 2] Cert.GatherRefIdeal.Gen.bcast_S4x16x1024_S4x16x1024x1_0_1_2 J (ix4 y0 y1 y2 0) = J (ix3 y0 y1 y2) := by
    intro J
    pointwise
  rw [hb]
  show Scalar.select (BitVec.ofBool ((I (ix3 y0 y1 y2)).slt 0#32)) _ (I (ix3 y0 y1 y2)) = BitVec.ofNat 32 (I (ix3 y0 y1 y2)).toNat
  rw [hns]
  exact BitVec.eq_of_toNat_eq (by rw [BitVec.toNat_ofNat]; exact (Nat.mod_eq_of_lt (I _).isLt).symm)

/-- Kernel and reference, run from memories that agree on the arguments, end with the same result. -/
theorem algebraic : Cert.algebraic_GatherIdeal_GatherRefIdeal := by
  intro m g m' g' h ha
  refine ⟨fun c => ROWS (m ((c : Thread nD τ).loc main_arg0)) (word_bound m h c) (m ((c : Thread nD τ).loc main_arg1)), ?_, ?_⟩
  · exact (θ_run defs _ _).mono (fun r k c => ⟨(k c).1.trans (final m h c), (k c).2⟩) (Cert.GatherIdeal.Value.run_blocks m g (hyps_of_pre m h))
  · refine (θ_run Cert.GatherRefIdeal.defs _ _).mono (fun r k c => ⟨(k c).1.trans ?_, (k c).2⟩) (Cert.GatherRefIdeal.Value.run m' g')
    obtain ⟨h0, h1⟩ := ha c
    rw [h0, h1]
    exact ref_rows _ (word_bound m h c) _

end Cert.GatherIdeal.Final

end
-- ==== Proof.ScatterValue.lean ====
/-
  The expert scatter: eight rows at a time, the kernel reads the tile of eight tokens that holds a row's token, adds the
  row in the token's place and stores the tile back; the block of a sample is carried over its sixteen experts. At the
  extended reals the block written back is the reference's sum of expert rows over the tokens their words name.
-/
module

public import proofs.«01_k».proof.Defs
public import proofs.«01_k».proof.Proof.Gen.Scatter.Frame
public import proofs.«01_k».proof.Proof.Gen.ScatterIdeal.Value
public import proofs.«01_k».proof.Proof.Gen.ScatterRefIdeal.Run
public import proofs.«01_k».proof.Proof.Gen.Pre_idx_in_range2
public import Idealize.ShloMosaic.Lib.Pipeline.ValueKit
public import Idealize.ShloMosaic.Lib.Pipeline.Covers
public import Idealize.ShloMosaic.Lib.Pointwise
public import Idealize.ShloMosaic.Lib.WritesUnit
public import Idealize.ShloMosaic.Lib.VecWindow
public import Idealize.ShloMosaic.Lib.Routing.OpsPair
public import Idealize.ShloMosaic.Lib.StableHlo.Predicate

@[expose] public section
set_option maxRecDepth 16384
noncomputable section
namespace Cert.ScatterIdeal.Final
open Cert.ScatterIdeal Cert.ScatterIdeal.Gen Idealize.ShloMosaic Idealize.ShloMosaic.TcCoe Idealize.SL.Sem

/-- Where the loop's loads lie, trip by trip. -/
theorem loop_facts : ∀ k : Fin k0_t1_loop.trips, k0_off1 k = ![0, 0, 8 * k.val, 0] ∧
    k0_off2 k = ![0, 0, 8 * k.val + 0] ∧ k0_off4 k = ![0, 0, 8 * k.val + 1] ∧ k0_off6 k = ![0, 0, 8 * k.val + 2] ∧ k0_off8 k = ![0, 0, 8 * k.val + 3] ∧
    k0_off10 k = ![0, 0, 8 * k.val + 4] ∧ k0_off12 k = ![0, 0, 8 * k.val + 5] ∧ k0_off14 k = ![0, 0, 8 * k.val + 6] ∧ k0_off16 k = ![0, 0, 8 * k.val + 7] := by
  decide +kernel

/-- The loop makes 128 trips. -/
theorem trips : k0_t1_loop.trips = 128 := by decide +kernel

/-- Shifting a row number down and up by three gives the first row of its tile. -/
theorem low_fact : ∀ n : Fin 8192, (Scalar.shli (Scalar.shrsi (BitVec.ofNat 32 n.val) 3#32) 3#32).toNat = n.val / 8 * 8 := by
  decide +kernel
/-- The bound on the words a block holds. -/
abbrev InRange (x0 : Vec Ideal S1x1x1024 .i32) : Prop := ∀ r : S1x1x1024.Idx, (x0 r : BitVec 32).toNat < 8192

/-- The word a trip loads for one of its rows, by its place in the block. -/
theorem word_at (arg2 : Memref sig .tc .smem S1x1x1024 .i32) (harg2 : arg2.IsWhole) (x0 : Vec Ideal S1x1x1024 .i32) (o : Fin 3 → ℕ) (n : ℕ)
    (hn : n < 1024) (ho : o = ![0, 0, n]) (inb : ∀ a, o a + S1x1x1.size a ≤ S1x1x1024.size a) (z : S1x1x1.Idx) :
    arg2.view.readAt (Elt Ideal) (Rect.unit (s := S1x1x1024) o S1x1x1.size inb).toLoadRect (harg2.unread x0) z = x0 (ix3 0 0 ⟨n, hn⟩) := by
  subst ho
  rw [View.readAt_apply, Memref.IsWhole.read_unread]
  refine congrArg x0 (funext fun a => Fin.ext ?_)
  have hz : ∀ a, (z a).val = 0 := fun a => by
    have := (z a).isLt
    fin_cases a <;> exact Nat.lt_one_iff.mp this
  fin_cases a
  · exact congrArg (fun q => 0 + 1 * q) (hz 0)
  · exact congrArg (fun q => 0 + 1 * q) (hz 1)
  · exact congrArg (fun q => n + 1 * q) (hz 2)

/-- The offset of the tile that holds a word's row. -/
theorem tile_off (v : BitVec 32) (hv : v.toNat < 8192) : (![0, (Scalar.indexCast (Scalar.shli (Scalar.shrsi v 3#32) 3#32)).toNat, 0] : Fin 3 → ℕ) = ![0, v.toNat / 8 * 8, 0] := by
  have h := low_fact ⟨v.toNat, hv⟩
  have hb : BitVec.ofNat 32 v.toNat = v := BitVec.eq_of_toNat_eq (by rw [BitVec.toNat_ofNat]; exact Nat.mod_eq_of_lt v.isLt)
  rw [show (BitVec.ofNat 32 (⟨v.toNat, hv⟩ : Fin 8192).val) = v from hb] at h
  show ![0, (Scalar.shli (Scalar.shrsi v 3#32) 3#32).toNat, 0] = _
  rw [h]

/-- The low three bits of a row number are its place in its tile. -/
theorem place (v : BitVec 32) (j : Fin 8) : (BitVec.ofNat 32 j.val = Scalar.andi v 7#32) ↔ j.val = v.toNat % 8 := by
  have h7 : (Scalar.andi v 7#32).toNat = v.toNat % 8 := by
    show (v &&& 7#32).toNat = _
    rw [BitVec.toNat_and, show (7#32).toNat = 2 ^ 3 - 1 from rfl, Nat.and_two_pow_sub_one_eq_mod]
  have hj : (BitVec.ofNat 32 j.val).toNat = j.val := by
    rw [BitVec.toNat_ofNat]
    have := j.isLt
    omega
  constructor
  · intro h
    rw [← hj, h, h7]
  · intro h
    exact BitVec.eq_of_toNat_eq (by rw [hj, h7, h])

/-- What one step stores, read at an entry of its tile: the tile's entry, plus the step's row where the entry lies in the row the word names. -/
theorem core (n : ℕ) (hn : n < 8) (hs : S8x1024.Slices ![n, 0] S1x1024) (v : BitVec 32) (R : FVec Ideal S8x1024 .f32) (T : Vec Ideal S1x8x1024 .f32) (j : Fin 8) (d : Fin 1024) :
    shapeCast S1x8x1024 (addf (shapeCast S8x1024 T shapeCasts_S1x8x1024_S8x1024)
        (select (cmpi .eq (iota .tc S8x1024 32 [0] iota_S8x1024_d0_w32) (broadcast S8x1024 (Scalar.andi v 7#32)))
          (broadcastTo S8x1024 (shapeCast S1x1024 (extractStridedSlice S1x1024 ![n, 0] R hs) shapeCasts_S1x1024_S1x1024) broadcasts_S1x1024_S8x1024)
          (broadcast S8x1024 (Scalar.ofBits (F := Ideal) .f32 0x00000000#32)))) shapeCasts_S8x1024_S1x8x1024 (ix3 0 j d)
      = T (ix3 0 j d) + (if j.val = v.toNat % 8 then R (ix2 ⟨n, hn⟩ d) else 0 : EReal) := by
  pointwise
  refine congrArg (T (ix3 0 j d) + ·) ?_
  have e : IntOp.cmpi CmpIPredicate.eq (BitVec.ofNat 32 j.val) (Scalar.andi v 7#32) = BitVec.ofBool (decide (j.val = v.toNat % 8)) := by
    show BitVec.ofBool (BitVec.ofNat 32 j.val == Scalar.andi v 7#32) = _
    by_cases h : j.val = v.toNat % 8
    · rw [decide_eq_true h, beq_iff_eq.2 ((place v j).2 h)]
    · rw [decide_eq_false h, beq_eq_false_iff_ne.2 fun q => h ((place v j).1 q)]
  rw [e]
  unfold Scalar.select
  by_cases h : j.val = v.toNat % 8
  · rw [if_pos h, decide_eq_true h]
    rfl
  · rw [if_neg h, decide_eq_false h]
    rfl

/-- One step of the accumulation: the row the word names gains the step's row, every other row keeps what it held. -/
theorem rmw (arg4 : Memref sig .tc .vmem S1x8192x1024 .f32) (f : arg4.view.ty.Contents (Elt Ideal)) (L : List (View.Piece (Elt Ideal) S1x8192x1024 .f32))
    (v : BitVec 32) (hv : v.toNat < 8192) (o : Fin 3 → ℕ) (ho : o = ![0, v.toNat / 8 * 8, 0]) (inb : ∀ a, o a + (![1, 8, 1024] : Fin 3 → ℕ) a ≤ S1x8192x1024.size a)
    (w : S1x8x1024.Idx → EReal) (A : Fin 1024 → EReal)
    (hw : ∀ (j : Fin 8) (d : Fin 1024), w (ix3 0 j d) = (arg4.view.readAt (Elt Ideal) (Rect.unit (s := S1x8192x1024) o ![1, 8, 1024] inb).toLoadRect (arg4.view.writes (Elt Ideal) f L) (ix3 0 j d) : EReal)
        + (if j.val = v.toNat % 8 then A d else 0 : EReal)) (r : Fin 8192) (d : Fin 1024) :
    (arg4.view.read (Elt Ideal) (arg4.view.writes (Elt Ideal) f (⟨Rect.unit (s := S1x8192x1024) o ![1, 8, 1024] inb, w⟩ :: L)) (ix3 0 r d) : EReal)
      = (arg4.view.read (Elt Ideal) (arg4.view.writes (Elt Ideal) f L) (ix3 0 r d) : EReal) + (if r.val = v.toNat then A d else 0 : EReal) := by
  by_cases hin : v.toNat / 8 * 8 ≤ r.val ∧ r.val < v.toNat / 8 * 8 + 8
  · have hj : r.val - v.toNat / 8 * 8 < 8 := by omega
    refine (View.read_writes_cons_unit_of_mem _ _ inb w L (ix3 0 r d) (ix3 (0 : Fin 1) (⟨r.val - v.toNat / 8 * 8, hj⟩ : Fin 8) d) ho ?_).trans ?_
    · intro a
      fin_cases a
      · rfl
      · show r.val = v.toNat / 8 * 8 + (r.val - v.toNat / 8 * 8)
        omega
      · show d.val = 0 + d.val
        omega
    · rw [hw, View.readAt_apply]
      subst ho
      congr 1
      · refine congrArg (arg4.view.read (Elt Ideal) (arg4.view.writes (Elt Ideal) f L)) (funext fun a => Fin.ext ?_)
        fin_cases a
        · rfl
        · show v.toNat / 8 * 8 + 1 * (r.val - v.toNat / 8 * 8) = r.val
          omega
        · show 0 + 1 * d.val = d.val
          omega
      · refine if_congr ?_ rfl rfl
        show r.val - v.toNat / 8 * 8 = v.toNat % 8 ↔ r.val = v.toNat
        omega
  · have hne : ¬ r.val = v.toNat := by omega
    rw [if_neg hne, add_zero]
    refine View.read_writes_cons_unit_of_not_mem arg4.view f inb w L (ix3 0 r d) ho (1 : Fin 3) ?_
    show r.val < v.toNat / 8 * 8 ∨ v.toNat / 8 * 8 + 8 ≤ r.val
    omega

/-- The eight rows a trip loads, by their place in the block. -/
theorem rows8 (arg3 : Memref sig .tc .vmem S1x1x1024x1024 .f32) (harg3 : arg3.IsWhole) (x1 : Vec Ideal S1x1x1024x1024 .f32) (o : Fin 4 → ℕ) (k : ℕ)
    (hk : k < 128) (ho : o = ![0, 0, 8 * k, 0]) (inb : ∀ a, o a + S1x1x8x1024.size a ≤ S1x1x1024x1024.size a) (j : Fin 8) (d : Fin 1024) :
    k0_pay4 (F := Ideal) (arg3.view.readAt (Elt Ideal) (Rect.unit (s := S1x1x1024x1024) o S1x1x8x1024.size inb).toLoadRect (harg3.unread x1)) (ix2 j d)
      = x1 (ix4 0 0 ⟨8 * k + j.val, by omega⟩ d) := by
  have hc : ∀ (X : Vec Ideal S1x1x8x1024 .f32), k0_pay4 (F := Ideal) X (ix2 j d) = X (ix4 0 0 j d) := by
    intro X
    pointwise [k0_pay4]
  subst ho
  rw [hc, View.readAt_apply, Memref.IsWhole.read_unread]
  refine congrArg x1 (funext fun a => Fin.ext ?_)
  fin_cases a
  · rfl
  · rfl
  · show 8 * k + 1 * j.val = 8 * k + j.val
    omega
  · show 0 + 1 * d.val = d.val
    omega

/-- What the eight steps of trip `k` add to an entry: the rows whose words name the entry's row. -/
abbrev gain (x0 : Vec Ideal S1x1x1024 .i32) (x1 : Vec Ideal S1x1x1024x1024 .f32) (r : Fin 8192) (d : Fin 1024) (n : ℕ) : EReal :=
  if h : n < 1024 then (if r.val = (x0 (ix3 0 0 ⟨n, h⟩) : BitVec 32).toNat then x1 (ix4 0 0 ⟨n, h⟩ d) else 0) else 0

/-- A trip adds to each entry the rows, among its eight, whose words name the entry's row. -/
theorem trip_row (𝒱 : Variants) (c : Dev nD) (bd : Option 𝒱.V) (i : grid0.Coords) (arg2 : Memref sig .tc .smem S1x1x1024 .i32) (harg2 : arg2.IsWhole) (arg3 : Memref sig .tc .vmem S1x1x1024x1024 .f32) (harg3 : arg3.IsWhole) (arg4 : Memref sig .tc .vmem S1x8192x1024 .f32) (harg4 : arg4.IsWhole)
    (x0 : Vec Ideal S1x1x1024 .i32) (hx : InRange x0) (x1 : Vec Ideal S1x1x1024x1024 .f32) (f : arg4.view.ty.Contents (Elt Ideal)) (k : Fin k0_t1_loop.trips) (hk : k.val < 128) h1 h2 h3 h4 h5 h6 h7 h8 (r : Fin 8192) (d : Fin 1024) :
   (arg4.view.read (Elt Ideal) (arg4.view.writes (Elt Ideal) f (tripL_k0_t1 (F := Ideal) 𝒱 c bd i arg2 harg2 arg3 harg3 arg4 harg4 (iota .tc S8x1024 32 [0] iota_S8x1024_d0_w32) (harg2.unread x0) (harg3.unread x1) k h1 h2 h3 h4 h5 h6 h7 h8 f)) (ix3 0 r d) : EReal)
     = arg4.view.read (Elt Ideal) f (ix3 0 r d) + gain x0 x1 r d (8 * k.val + 0) + gain x0 x1 r d (8 * k.val + 1) + gain x0 x1 r d (8 * k.val + 2) + gain x0 x1 r d (8 * k.val + 3)
        + gain x0 x1 r d (8 * k.val + 4) + gain x0 x1 r d (8 * k.val + 5) + gain x0 x1 r d (8 * k.val + 6) + gain x0 x1 r d (8 * k.val + 7) := by
  obtain ⟨e0, e1, e2, e3, e4, e5, e6, e7, e8⟩ := loop_facts k
  have key : ∀ (j : Fin 8) (n : ℕ) (hn : n < 1024) (hjn : n = 8 * k.val + j.val) (v : BitVec 32) (hv : v = x0 (ix3 0 0 ⟨n, hn⟩)) (o : Fin 3 → ℕ)
      (ho : o = ![0, (Scalar.indexCast (Scalar.shli (Scalar.shrsi v 3#32) 3#32)).toNat, 0]) inb (L : List (View.Piece (Elt Ideal) S1x8192x1024 .f32)) (w : S1x8x1024.Idx → EReal)
      (R : FVec Ideal S8x1024 .f32) (hR : ∀ (j : Fin 8) (d : Fin 1024), R (ix2 j d) = x1 (ix4 0 0 ⟨8 * k.val + j.val, by omega⟩ d))
      (hw : ∀ (l : Fin 8) (d : Fin 1024), w (ix3 0 l d) = (arg4.view.readAt (Elt Ideal) (Rect.unit (s := S1x8192x1024) o ![1, 8, 1024] inb).toLoadRect (arg4.view.writes (Elt Ideal) f L) (ix3 0 l d) : EReal)
        + (if l.val = v.toNat % 8 then R (ix2 j d) else 0 : EReal)),
      (arg4.view.read (Elt Ideal) (arg4.view.writes (Elt Ideal) f (⟨Rect.unit (s := S1x8192x1024) o ![1, 8, 1024] inb, w⟩ :: L)) (ix3 0 r d) : EReal)
        = (arg4.view.read (Elt Ideal) (arg4.view.writes (Elt Ideal) f L) (ix3 0 r d) : EReal) + gain x0 x1 r d n := by
    intro j n hn hjn v hv o ho inb L w R hR hw
    subst hjn
    have hv' : v.toNat < 8192 := by rw [hv]; exact hx _
    refine (rmw arg4 f L v hv' o (ho.trans (tile_off v hv')) inb w (fun d => R (ix2 j d)) hw r d).trans ?_
    refine congrArg _ ?_
    unfold gain
    rw [dif_pos hn, hR, hv]
  have hR : ∀ inb (j : Fin 8) (d : Fin 1024), k0_pay4 (F := Ideal) (arg3.view.readAt (Elt Ideal) (Rect.unit (s := S1x1x1024x1024) (k0_off1 k) S1x1x8x1024.size inb).toLoadRect (harg3.unread x1)) (ix2 j d)
      = x1 (ix4 0 0 ⟨8 * k.val + j.val, by omega⟩ d) := fun inb j d => rows8 arg3 harg3 x1 _ k.val hk e0 inb j d
  unfold tripL_k0_t1 trip_k0_t1
  refine Eq.trans (key 7 (8 * k.val + 7) (by omega) rfl _ (word_at arg2 harg2 x0 _ _ (by omega) e8 _ _) _ rfl _ _ _ _ (hR _) (fun l d => core 7 (by omega) (by decide) _ _ _ l d)) ?_
  refine congrArg (· + gain x0 x1 r d (8 * k.val + 7)) ?_
  unfold trip_k0_t1.sl.HW_arg4_7
  refine Eq.trans (key 6 (8 * k.val + 6) (by omega) rfl _ (word_at arg2 harg2 x0 _ _ (by omega) e7 _ _) _ rfl _ _ _ _ (hR _) (fun l d => core 6 (by omega) (by decide) _ _ _ l d)) ?_
  refine congrArg (· + gain x0 x1 r d (8 * k.val + 6)) ?_
  unfold trip_k0_t1.sl.HW_arg4_6
  refine Eq.trans (key 5 (8 * k.val + 5) (by omega) rfl _ (word_at arg2 harg2 x0 _ _ (by omega) e6 _ _) _ rfl _ _ _ _ (hR _) (fun l d => core 5 (by omega) (by decide) _ _ _ l d)) ?_
  refine congrArg (· + gain x0 x1 r d (8 * k.val + 5)) ?_
  unfold trip_k0_t1.sl.HW_arg4_5
  refine Eq.trans (key 4 (8 * k.val + 4) (by omega) rfl _ (word_at arg2 harg2 x0 _ _ (by omega) e5 _ _) _ rfl _ _ _ _ (hR _) (fun l d => core 4 (by omega) (by decide) _ _ _ l d)) ?_
  refine congrArg (· + gain x0 x1 r d (8 * k.val + 4)) ?_
  unfold trip_k0_t1.sl.HW_arg4_4
  refine Eq.trans (key 3 (8 * k.val + 3) (by omega) rfl _ (word_at arg2 harg2 x0 _ _ (by omega) e4 _ _) _ rfl _ _ _ _ (hR _) (fun l d => core 3 (by omega) (by decide) _ _ _ l d)) ?_
  refine congrArg (· + gain x0 x1 r d (8 * k.val + 3)) ?_
  unfold trip_k0_t1.sl.HW_arg4_3
  refine Eq.trans (key 2 (8 * k.val + 2) (by omega) rfl _ (word_at arg2 harg2 x0 _ _ (by omega) e3 _ _) _ rfl _ _ _ _ (hR _) (fun l d => core 2 (by omega) (by decide) _ _ _ l d)) ?_
  refine congrArg (· + gain x0 x1 r d (8 * k.val + 2)) ?_
  unfold trip_k0_t1.sl.HW_arg4_2
  refine Eq.trans (key 1 (8 * k.val + 1) (by omega) rfl _ (word_at arg2 harg2 x0 _ _ (by omega) e2 _ _) _ rfl _ _ _ _ (hR _) (fun l d => core 1 (by omega) (by decide) _ _ _ l d)) ?_
  refine congrArg (· + gain x0 x1 r d (8 * k.val + 1)) ?_
  unfold trip_k0_t1.sl.HW_arg4_1
  exact key 0 (8 * k.val + 0) (by omega) rfl _ (word_at arg2 harg2 x0 _ _ (by omega) e1 _ _) _ rfl _ [] _ _ (hR _) (fun l d => core 0 (by omega) (by decide) _ _ _ l d)

variable (m : (ℓ : Loc nD τ sig) → Buf (Elt Ideal) ℓ)

/-- What the first `n` trips add to an entry. -/
theorem loop_sum (𝒱 : Variants) (c : Dev nD) (bd : Option 𝒱.V) (i : grid0.Coords) (arg2 : Memref sig .tc .smem S1x1x1024 .i32) (harg2 : arg2.IsWhole) (arg3 : Memref sig .tc .vmem S1x1x1024x1024 .f32) (harg3 : arg3.IsWhole) (arg4 : Memref sig .tc .vmem S1x8192x1024 .f32) (harg4 : arg4.IsWhole)
    (x0 : Vec Ideal S1x1x1024 .i32) (hx : InRange x0) (x1 : Vec Ideal S1x1x1024x1024 .f32) (f : arg4.view.ty.Contents (Elt Ideal)) h1 h2 h3 h4 h5 h6 h7 h8 (r : Fin 8192) (d : Fin 1024) (n : ℕ) (hn : n ≤ 128) :
    (arg4.view.read (Elt Ideal) (arg4.view.writes (Elt Ideal) f (pb_k0_t1 (F := Ideal) 𝒱 c bd i arg2 harg2 arg3 harg3 arg4 harg4 (iota .tc S8x1024 32 [0] iota_S8x1024_d0_w32) (harg2.unread x0) (harg3.unread x1) f h1 h2 h3 h4 h5 h6 h7 h8 n)) (ix3 0 r d) : EReal)
      = arg4.view.read (Elt Ideal) f (ix3 0 r d) + ∑ q ∈ Finset.range (8 * n), gain x0 x1 r d q := by
  induction n with
  | zero => exact (add_zero (M := EReal) _).symm
  | succ n ih =>
    have hk : n < k0_t1_loop.trips := by rw [trips]; omega
    rw [pb_k0_t1_succ 𝒱 c bd i arg2 harg2 arg3 harg3 arg4 harg4 _ _ _ f h1 h2 h3 h4 h5 h6 h7 h8 ⟨n, hk⟩, View.writes_append]
    refine (trip_row 𝒱 c bd i arg2 harg2 arg3 harg3 arg4 harg4 x0 hx x1 _ ⟨n, hk⟩ (by show n < 128; omega) (h1 n hk) (h2 n hk) (h3 n hk) (h4 n hk) (h5 n hk) (h6 n hk) (h7 n hk) (h8 n hk) r d).trans ?_
    dsimp only
    rw [ih (by omega)]
    rw [show 8 * (n + 1) = 8 * n + 1 + 1 + 1 + 1 + 1 + 1 + 1 + 1 by omega]
    simp only [Finset.sum_range_succ, ← add_assoc, add_zero]

/-- The two facts a trip assumes of a word: its tile starts at a multiple of eight and lies in the array. -/
theorem checks (v : BitVec 32) (hv : v.toNat < 8192) :
    8 ∣ (Scalar.shli (Scalar.shrsi v 3#32) 3#32).toNat
      ∧ ∀ a : Fin 3, (![0, (Scalar.indexCast (Scalar.shli (Scalar.shrsi v 3#32) 3#32)).toNat, 0] : Fin 3 → ℕ) a + S1x8x1024.size a ≤ S1x8192x1024.size a := by
  have h := congrFun (tile_off v hv) 1
  have h' : (Scalar.shli (Scalar.shrsi v 3#32) 3#32).toNat = v.toNat / 8 * 8 := h
  refine ⟨⟨v.toNat / 8, by rw [h', Nat.mul_comm]⟩, fun a => ?_⟩
  rw [tile_off v hv]
  fin_cases a
  · exact Nat.le_refl _
  · show v.toNat / 8 * 8 + 8 ≤ 8192
    omega
  · exact Nat.le_refl _

/-- Every word the kernel is given names a row, by the precondition. -/
theorem word_bound_bits (m : (ℓ : Loc Cert.Scatter.nD Cert.Scatter.τ Cert.Scatter.sig) → Buf (Elt Bits) ℓ) (h : Cert.Pre_Scatter m) (c : Dev Cert.Scatter.nD) (y : Cert.Scatter.S4x16x1024.Idx) :
    (m ((c.tc : Thread Cert.Scatter.nD Cert.Scatter.τ).loc Cert.Scatter.main_arg0) y : BitVec 32).toNat < 8192 := by
  have andi_b (p q : Bool) : IntOp.andi (BitVec.ofBool p) (BitVec.ofBool q) = BitVec.ofBool (p && q) := by
    cases p <;> cases q <;> decide
  have one_b (p : Bool) : (BitVec.ofBool p = 1#1) ↔ p = true := by cases p <;> decide
  have e := congrFun (h c) y
  simp only [Pre_idx_in_range2.fn, andi, cmpi, broadcastInDim, constantI, IntOp.cmpi, andi_b, one_b, Bool.and_eq_true] at e
  obtain ⟨hge, hlt⟩ := e
  simp only [BitVec.sle, BitVec.slt, decide_eq_true_eq, BitVec.toInt, BitVec.toNat_ofNat] at hge hlt
  omega

/-- So does every word of a block. -/
theorem block_bound_bits (m : (ℓ : Loc Cert.Scatter.nD Cert.Scatter.τ Cert.Scatter.sig) → Buf (Elt Bits) ℓ) (h : Cert.Pre_Scatter m) (c : Dev Cert.Scatter.nD) (t : Fin Cert.Scatter.cfg0.N) (i : Cert.Scatter.S1x1x1024.Idx) :
    (Cert.Scatter.Gen.iblk m c 0 t i : BitVec 32).toNat < 8192 := by
  have hv : ∀ z, (Cert.Scatter.Gen.V m c Cert.Scatter.main_v0 z : BitVec 32).toNat < 8192 := by
    have e : (Cert.Scatter.Gen.V m c Cert.Scatter.main_v0 : IVec Cert.Scatter.S64x1x1024 32) = shapeCast Cert.Scatter.S64x1x1024 (m ((c.tc : Thread Cert.Scatter.nD Cert.Scatter.τ).loc Cert.Scatter.main_arg0)) Cert.Scatter.Gen.shapeCasts_S4x16x1024_S64x1x1024 := by
      unfold Cert.Scatter.Gen.V
      after_results
      rfl
    intro z
    rw [e]
    exact word_bound_bits m h c _
  unfold Cert.Scatter.Gen.iblk
  rw [View.read_apply, cast_eq]
  exact hv _

/-- The precondition gives every side condition the body assumes. -/
theorem hyps_of_pre_bits (m : (ℓ : Loc Cert.Scatter.nD Cert.Scatter.τ Cert.Scatter.sig) → Buf (Elt Bits) ℓ) (h : Cert.Pre_Scatter m) : Cert.Scatter.Gen.Hyps m := by
  intro c t
  have w : ∀ i, (Cert.Scatter.Gen.iblk m c 0 t i : BitVec 32).toNat < 8192 := block_bound_bits m h c t
  refine ⟨fun kq hkq => ?_, fun kq hkq => ?_, fun kq hkq => ?_, fun kq hkq => ?_, fun kq hkq => ?_, fun kq hkq => ?_, fun kq hkq => ?_, fun kq hkq => ?_⟩ <;>
    (rw [View.readAt_apply, Memref.IsWhole.read_unread]; exact checks _ (w _))

/-- Every word the kernel is given names a row, by the precondition. -/
theorem word_bound (m : (ℓ : Loc Cert.ScatterIdeal.nD Cert.ScatterIdeal.τ Cert.ScatterIdeal.sig) → Buf (Elt Ideal) ℓ) (h : Cert.Pre_ScatterIdeal m) (c : Dev Cert.ScatterIdeal.nD) (y : Cert.ScatterIdeal.S4x16x1024.Idx) :
    (m ((c.tc : Thread Cert.ScatterIdeal.nD Cert.ScatterIdeal.τ).loc Cert.ScatterIdeal.main_arg0) y : BitVec 32).toNat < 8192 := by
  have andi_b (p q : Bool) : IntOp.andi (BitVec.ofBool p) (BitVec.ofBool q) = BitVec.ofBool (p && q) := by
    cases p <;> cases q <;> decide
  have one_b (p : Bool) : (BitVec.ofBool p = 1#1) ↔ p = true := by cases p <;> decide
  have e := congrFun (h c) y
  simp only [Pre_idx_in_range2.fn, andi, cmpi, broadcastInDim, constantI, IntOp.cmpi, andi_b, one_b, Bool.and_eq_true] at e
  obtain ⟨hge, hlt⟩ := e
  simp only [BitVec.sle, BitVec.slt, decide_eq_true_eq, BitVec.toInt, BitVec.toNat_ofNat] at hge hlt
  omega

/-- So does every word of a block. -/
theorem block_bound (m : (ℓ : Loc Cert.ScatterIdeal.nD Cert.ScatterIdeal.τ Cert.ScatterIdeal.sig) → Buf (Elt Ideal) ℓ) (h : Cert.Pre_ScatterIdeal m) (c : Dev Cert.ScatterIdeal.nD) (t : Fin Cert.ScatterIdeal.cfg0.N) (i : Cert.ScatterIdeal.S1x1x1024.Idx) :
    (Cert.ScatterIdeal.Gen.iblk m c 0 t i : BitVec 32).toNat < 8192 := by
  have hv : ∀ z, (Cert.ScatterIdeal.Gen.V m c Cert.ScatterIdeal.main_v0 z : BitVec 32).toNat < 8192 := by
    have e : (Cert.ScatterIdeal.Gen.V m c Cert.ScatterIdeal.main_v0 : IVec Cert.ScatterIdeal.S64x1x1024 32) = shapeCast Cert.ScatterIdeal.S64x1x1024 (m ((c.tc : Thread Cert.ScatterIdeal.nD Cert.ScatterIdeal.τ).loc Cert.ScatterIdeal.main_arg0)) Cert.ScatterIdeal.Gen.shapeCasts_S4x16x1024_S64x1x1024 := by
      unfold Cert.ScatterIdeal.Gen.V
      after_results
      rfl
    intro z
    rw [e]
    exact word_bound m h c _
  unfold Cert.ScatterIdeal.Gen.iblk
  rw [View.read_apply, cast_eq]
  exact hv _

/-- The precondition gives every side condition the body assumes. -/
theorem hyps_of_pre (m : (ℓ : Loc Cert.ScatterIdeal.nD Cert.ScatterIdeal.τ Cert.ScatterIdeal.sig) → Buf (Elt Ideal) ℓ) (h : Cert.Pre_ScatterIdeal m) : Cert.ScatterIdeal.Gen.Hyps m := by
  intro c t
  have w : ∀ i, (Cert.ScatterIdeal.Gen.iblk m c 0 t i : BitVec 32).toNat < 8192 := block_bound m h c t
  refine ⟨fun kq hkq => ?_, fun kq hkq => ?_, fun kq hkq => ?_, fun kq hkq => ?_, fun kq hkq => ?_, fun kq hkq => ?_, fun kq hkq => ?_, fun kq hkq => ?_⟩ <;>
    (rw [View.readAt_apply, Memref.IsWhole.read_unread]; exact checks _ (w _))

/-- The blocks of the grid's points. -/
theorem idx : ∀ t : Fin cfg0.N, win0_0.index t = ![t.val, 0, 0] ∧ win0_1.index t = ![t.val / 16, t.val % 16, 0, 0] ∧ win0_2.index t = ![t.val / 16, 0, 0] :=
  (by decide +kernel : ∀ t : Fin grid0.N, _)

/-- The words laid out by sample and expert together. -/
theorem flat (I : IVec S4x16x1024 32) (t : Fin 64) (r : Fin 1024) :
    shapeCast S64x1x1024 I Gen.shapeCasts_S4x16x1024_S64x1x1024 (ix3 t 0 r) = I (ix3 (⟨t.val / 16, by omega⟩ : Fin 4) (⟨t.val % 16, by omega⟩ : Fin 16) r) := by
  pointwise

/-- The word a point's block holds at a place. -/
theorem word_block (c : Dev nD) (t : Fin cfg0.N) (r : Fin 1024) :
    (iblk m c 0 t (ix3 0 0 r) : BitVec 32) = m ((c : Thread nD τ).loc main_arg0) (ix3 (⟨t.val / 16, by have : t.val < 64 := t.isLt; omega⟩ : Fin 4) (⟨t.val % 16, by omega⟩ : Fin 16) r) := by
  have hv : (V m c main_v0 : IVec S64x1x1024 32) = shapeCast S64x1x1024 (m ((c : Thread nD τ).loc main_arg0)) Gen.shapeCasts_S4x16x1024_S64x1x1024 := by
    unfold Gen.V
    after_results
    rfl
  have e0 : ((View.whole main_v0).slice (win0_0.rect t)).emb (ix3 0 0 r) = ix3 (⟨t.val, t.isLt⟩ : Fin 64) (0 : Fin 1) r := by
    blk_ext [idx t]
  unfold iblk
  rw [View.read_apply, cast_eq]
  refine (congrFun hv _).trans ?_
  exact (congrArg _ e0).trans (flat _ _ _)

/-- The expert rows a point's block holds. -/
theorem rows_block (c : Dev nD) (t : Fin cfg0.N) (n : Fin 1024) (d : Fin 1024) :
    iblk m c 1 t (ix4 0 0 n d) = m ((c : Thread nD τ).loc main_arg1) (ix4 (⟨t.val / 16, by have : t.val < 64 := t.isLt; omega⟩ : Fin 4) (⟨t.val % 16, by omega⟩ : Fin 16) n d) := by
  have e1 : ((View.whole main_arg1).slice (win0_1.rect t)).emb (ix4 0 0 n d) = ix4 (⟨t.val / 16, by have : t.val < 64 := t.isLt; omega⟩ : Fin 4) (⟨t.val % 16, by omega⟩ : Fin 16) n d := by
    blk_ext [idx t]
  unfold iblk
  rw [View.read_apply, cast_eq]
  exact congrArg (m ((c : Thread nD τ).loc main_arg1)) e1

/-- Where a point's output block lies. -/
theorem out_place (t : Fin cfg0.N) (a : Fin 1) (r : Fin 8192) (d : Fin 1024) :
    ((View.whole main_v1).slice (win0_2.rect t)).emb (ix3 a r d) = ix3 (⟨t.val / 16, by have : t.val < 64 := t.isLt; omega⟩ : Fin 4) r d := by
  blk_ext [idx t]

/-- What expert `e` adds to an entry of a sample: the rows whose words name the entry's row. -/
def part (I : IVec S4x16x1024 32) (Y : FVec Ideal S4x16x1024x1024 .f32) (b : Fin 4) (r : Fin 8192) (d : Fin 1024) (e : ℕ) : EReal :=
  if h : e < 16 then ∑ q : Fin 1024, (if r.val = (I (ix3 b ⟨e, h⟩ q)).toNat then Y (ix4 b ⟨e, h⟩ q d) else 0 : EReal) else 0

/-- The expert rows summed into the rows their words name. -/
abbrev SUMS (I : IVec S4x16x1024 32) (Y : FVec Ideal S4x16x1024x1024 .f32) : FVec Ideal S4x8192x1024 .f32 :=
  fun j => ∑ e ∈ Finset.range 16, part I Y (j 0 : Fin 4) (j 1 : Fin 8192) (j 2 : Fin 1024) e

/-- What a point's loop adds to an entry. -/
theorem point_sum (c : Dev nD) (t : Fin cfg0.N) (r : Fin 8192) (d : Fin 1024) :
    ∑ q ∈ Finset.range (8 * 128), gain (iblk m c 0 t) (iblk m c 1 t) r d q
      = part (m ((c : Thread nD τ).loc main_arg0)) (m ((c : Thread nD τ).loc main_arg1)) (⟨t.val / 16, by have : t.val < 64 := t.isLt; omega⟩ : Fin 4) r d (t.val % 16) := by
  unfold part
  rw [dif_pos (by omega : t.val % 16 < 16), Finset.sum_range]
  refine Finset.sum_congr rfl fun q _ => ?_
  have hq : q.val < 1024 := q.isLt
  unfold gain
  rw [dif_pos hq]
  show (if r.val = (iblk m c 0 t (ix3 0 0 q) : BitVec 32).toNat then iblk m c 1 t (ix4 0 0 q d) else 0 : EReal) = _
  rw [word_block, rows_block]

/-- The fill at a sample's first expert reaches every entry. -/
theorem zero_covers (L : List (View.Piece (Elt Ideal) S1x8192x1024 .f32)) (inb : ∀ a, (![0, 0, 0] : Fin 3 → ℕ) a + (![1, 8192, 1024] : Fin 3 → ℕ) a ≤ S1x8192x1024.size a) (r : Fin 8192) (d : Fin 1024) :
    ∃ p ∈ L ++ [(⟨Rect.unit (s := S1x8192x1024) ![0, 0, 0] ![1, 8192, 1024] inb, k0_pay1 (F := Ideal)⟩ : View.Piece (Elt Ideal) S1x8192x1024 .f32)], ix3 (0 : Fin 1) r d ∈ p.1.set := by
  refine ⟨_, List.mem_append_right _ (List.mem_singleton.2 rfl), (Rect.unit (s := S1x8192x1024) ![0, 0, 0] ![1, 8192, 1024] inb).mem_set.mpr fun a => ⟨(ix3 (0 : Fin 1) r d a).val, ?_, ?_⟩⟩
  · fin_cases a
    · exact Nat.one_pos
    · exact r.isLt
    · exact d.isLt
  · fin_cases a
    · rfl
    · show r.val = 0 + 1 * r.val
      omega
    · show d.val = 0 + 1 * d.val
      omega

/-- A store over the whole block leaves what it stored. -/
theorem fill_read (arg4 : Memref sig .tc .vmem S1x8192x1024 .f32) (f : arg4.view.ty.Contents (Elt Ideal)) (o : Fin 3 → ℕ) (ho : o = ![0, 0, 0]) (sz : Fin 3 → ℕ) (inb : ∀ a, o a + sz a ≤ S1x8192x1024.size a)
    (w : (Rect.unit (s := S1x8192x1024) o sz inb).shape.Idx → EReal) (y : S1x8192x1024.Idx) (x : (Rect.unit (s := S1x8192x1024) o sz inb).shape.Idx) (hx : ∀ a, (y a).val = (x a).val) :
    (arg4.view.read (Elt Ideal) (arg4.view.writes (Elt Ideal) f [⟨Rect.unit (s := S1x8192x1024) o sz inb, w⟩]) y : EReal) = w x := by
  refine View.read_writes_cons_unit_of_mem (Val := Elt Ideal) (e := .f32) arg4.view f inb w [] y x ho fun a => ?_
  rw [hx]
  fin_cases a <;> exact (Nat.zero_add _).symm

/-- The fill's value. -/
theorem fill_zero (y : S1x8192x1024.Idx) : (k0_pay1 (F := Ideal) y : EReal) = 0 := Ideal.ofBits_zero_f32

/-- After the fill every entry is zero. -/
theorem zero_fill (arg4 : Memref sig .tc .vmem S1x8192x1024 .f32) (f : arg4.view.ty.Contents (Elt Ideal)) (inb : ∀ a, (![0, 0, 0] : Fin 3 → ℕ) a + (![1, 8192, 1024] : Fin 3 → ℕ) a ≤ S1x8192x1024.size a) (r : Fin 8192) (d : Fin 1024) :
    (arg4.view.read (Elt Ideal) (arg4.view.writes (Elt Ideal) f [⟨Rect.unit (s := S1x8192x1024) ![0, 0, 0] ![1, 8192, 1024] inb, k0_pay1 (F := Ideal)⟩]) (ix3 0 r d) : EReal) = 0 :=
  (fill_read arg4 f _ rfl _ inb (k0_pay1 (F := Ideal)) (ix3 0 r d) (ix3 (0 : Fin 1) r d) fun a => rfl).trans (fill_zero _)

/-- At a sample's first expert the block holds that expert's share. -/
theorem point_first (hH : Hyps m) (c : Dev nD) (hx : ∀ t : Fin cfg0.N, InRange (iblk m c 0 t)) (t : Fin cfg0.N) (h0 : t.val % 16 = 0) (r : Fin 8192) (d : Fin 1024) :
    (outsAt0 m hH c t.val t.isLt (ix3 0 r d) : EReal)
      = part (m ((c : Thread nD τ).loc main_arg0)) (m ((c : Thread nD τ).loc main_arg1)) (⟨t.val / 16, by have : t.val < 64 := t.isLt; omega⟩ : Fin 4) r d (t.val % 16) := by
  rw [outsAt0_A m hH c t h0]
  frame_out
  rw [show Scf.trips (0#32) (Scalar.addi 0#32 128#32) 1#32 = 128 from trips]
  rw [← View.read_writes_apply_eq_canon (ms0_2 t).view (ms0_2 t).view.junk _ _ (zero_covers _ _ r d), View.writes_append]
  refine (loop_sum Variants.none c none (grid0.coords t) (ms0_0 t) (hs0_0 t) (ms0_1 t) (hs0_1 t) (ms0_2 t) (hs0_2 t) (iblk m c 0 t) (hx t) (iblk m c 1 t) _ _ _ _ _ _ _ _ _ r d 128 (Nat.le_refl _)).trans ?_
  rw [point_sum]
  exact (congrArg (· + part _ _ _ r d (t.val % 16)) (zero_fill (ms0_2 t) _ _ r d)).trans (zero_add _)

/-- At every other expert it holds what the point before left, plus that expert's share. -/
theorem point_next (hH : Hyps m) (c : Dev nD) (hx : ∀ t : Fin cfg0.N, InRange (iblk m c 0 t)) (t : Fin cfg0.N) (h0 : ¬ t.val % 16 = 0) (r : Fin 8192) (d : Fin 1024) :
    (outsAt0 m hH c t.val t.isLt (ix3 0 r d) : EReal)
      = (outsAt0 m hH c (t.val - 1) (Nat.lt_of_le_of_lt (Nat.sub_le _ _) t.isLt) (ix3 0 r d) : EReal)
        + part (m ((c : Thread nD τ).loc main_arg0)) (m ((c : Thread nD τ).loc main_arg1)) (⟨t.val / 16, by have : t.val < 64 := t.isLt; omega⟩ : Fin 4) r d (t.val % 16) := by
  rw [outsAt0_B m hH c t h0]
  frame_out
  rw [show Scf.trips (0#32) (Scalar.addi 0#32 128#32) 1#32 = 128 from trips]
  refine (loop_sum Variants.none c none (grid0.coords t) (ms0_0 t) (hs0_0 t) (ms0_1 t) (hs0_1 t) (ms0_2 t) (hs0_2 t) (iblk m c 0 t) (hx t) (iblk m c 1 t) _ _ _ _ _ _ _ _ _ r d 128 (Nat.le_refl _)).trans ?_
  rw [point_sum, Memref.IsWhole.read_unread]

/-- After a point the block holds the shares of the sample's experts so far. -/
theorem point_all (hH : Hyps m) (c : Dev nD) (hx : ∀ t : Fin cfg0.N, InRange (iblk m c 0 t)) (r : Fin 8192) (d : Fin 1024) (n : ℕ) : ∀ (hn : n < cfg0.N),
    (outsAt0 m hH c n hn (ix3 0 r d) : EReal)
      = ∑ e ∈ Finset.range (n % 16 + 1), part (m ((c : Thread nD τ).loc main_arg0)) (m ((c : Thread nD τ).loc main_arg1)) (⟨n / 16, by have : n < 64 := hn; omega⟩ : Fin 4) r d e := by
  induction n with
  | zero =>
    intro hn
    refine (point_first m hH c hx ⟨0, hn⟩ rfl r d).trans ?_
    rw [Finset.sum_range_succ, Finset.sum_range_zero, zero_add]
  | succ n ih =>
    intro hn
    by_cases h0 : (n + 1) % 16 = 0
    · refine (point_first m hH c hx ⟨n + 1, hn⟩ h0 r d).trans ?_
      rw [h0, Finset.sum_range_succ, Finset.sum_range_zero, zero_add]
    · refine (point_next m hH c hx ⟨n + 1, hn⟩ h0 r d).trans ?_
      rw [Finset.sum_range_succ]
      have hd : (n + 1) / 16 = n / 16 := by omega
      have hm : (n + 1) % 16 = n % 16 + 1 := by omega
      have hb : (⟨(n + 1) / 16, by have : n + 1 < 64 := hn; omega⟩ : Fin 4) = ⟨n / 16, by have : n + 1 < 64 := hn; omega⟩ := Fin.ext hd
      rw [hb, hm]
      exact congrArg (· + part _ _ _ r d (n % 16 + 1)) (ih (by omega))

/-- The result array after the run. -/
theorem final (h : Cert.Pre_ScatterIdeal m) (c : Dev nD) : (dats m (hyps_of_pre m h) 0 c).arrAt 2 cfg0.N
    = SUMS (m ((c : Thread nD τ).loc main_arg0)) (m ((c : Thread nD τ).loc main_arg1)) := by
  refine (dats m (hyps_of_pre m h) 0 c).arrAt_eq_of_covers 2 _ (by decide +kernel) fun t hf y => ?_
  have h15 : t.val % 16 = 15 := (by decide +kernel : ∀ t : Fin grid0.N, (cfg0.win 2).flush t = true → t.val % 16 = 15) t hf
  blk_simp
  rw [after0_2]
  idx_vars y
  obtain rfl : y0 = 0 := Subsingleton.elim _ _
  refine (point_all m (hyps_of_pre m h) c (fun t => block_bound m h c t) y1 y2 t.val t.isLt).trans ?_
  rw [h15]
  exact (congrArg (SUMS (m ((c : Thread nD τ).loc main_arg0)) (m ((c : Thread nD τ).loc main_arg1))) (out_place t 0 y1 y2)).symm

/-- Where the reference's update `(b', n, d')` lands. -/
theorem lands (J : IVec Cert.ScatterRefIdeal.S4x16384x2 32) (b b' : Fin 4) (n : Fin 16384) (r : Fin 8192) (d d' : Fin 1024) :
    Cert.ScatterRefIdeal.scatter_S4x8192x1024_S4x16384x2_S4x16384x1024_2_01_01_2.resultIdx? (ix3 b' n d') J = some (ix3 b r d)
      ↔ (J (ix3 b' n 0)).toInt = b.val ∧ (J (ix3 b' n 1)).toInt = r.val ∧ d' = d := by
  rw [Routing.resultIdx?_eq_some]
  have hsi : ∀ k : Fin 2, Cert.ScatterRefIdeal.scatter_S4x8192x1024_S4x16384x2_S4x16384x1024_2_01_01_2.siIdx (ix3 b' n d') k = ix3 b' n k := by
    intro k
    funext a
    apply Fin.ext
    match a with
    | ⟨0, _⟩ => rfl
    | ⟨1, _⟩ => rfl
    | ⟨2, _⟩ => rfl
  have s0 : Cert.ScatterRefIdeal.scatter_S4x8192x1024_S4x16384x2_S4x16384x1024_2_01_01_2.start (ix3 b' n d') J 0 = (J (ix3 b' n 0)).toInt := by
    unfold ScatterDims.start
    rw [dif_pos (by decide)]
    exact congrArg (fun q => (J q).toInt) (hsi 0)
  have s1 : Cert.ScatterRefIdeal.scatter_S4x8192x1024_S4x16384x2_S4x16384x1024_2_01_01_2.start (ix3 b' n d') J 1 = (J (ix3 b' n 1)).toInt := by
    unfold ScatterDims.start
    rw [dif_pos (by decide)]
    exact congrArg (fun q => (J q).toInt) (hsi 1)
  have s2 : Cert.ScatterRefIdeal.scatter_S4x8192x1024_S4x16384x2_S4x16384x1024_2_01_01_2.start (ix3 b' n d') J 2 = 0 := by
    unfold ScatterDims.start
    rw [dif_neg (by decide)]
  have w0 : Cert.ScatterRefIdeal.scatter_S4x8192x1024_S4x16384x2_S4x16384x1024_2_01_01_2.window (ix3 b' n d') 0 = 0 := by
    unfold ScatterDims.window
    rw [dif_neg (by decide)]
  have w1 : Cert.ScatterRefIdeal.scatter_S4x8192x1024_S4x16384x2_S4x16384x1024_2_01_01_2.window (ix3 b' n d') 1 = 0 := by
    unfold ScatterDims.window
    rw [dif_neg (by decide)]
  have w2 : Cert.ScatterRefIdeal.scatter_S4x8192x1024_S4x16384x2_S4x16384x1024_2_01_01_2.window (ix3 b' n d') 2 = d'.val := by
    unfold ScatterDims.window
    rw [dif_pos (by decide)]
    rfl
  constructor
  · intro h
    have q0 := h 0
    have q1 := h 1
    have q2 := h 2
    rw [s0, w0] at q0
    rw [s1, w1] at q1
    rw [s2, w2] at q2
    refine ⟨?_, ?_, Fin.ext ?_⟩
    · exact (add_zero _).symm.trans q0
    · exact (add_zero _).symm.trans q1
    · have q2' : (0 : Int) + (d'.val : Int) = (d.val : Int) := q2
      omega
  · rintro ⟨h0, h1, rfl⟩ a
    have h012 : a = 0 ∨ a = 1 ∨ a = 2 := by
      match a with
      | ⟨0, _⟩ => exact Or.inl rfl
      | ⟨1, _⟩ => exact Or.inr (Or.inl rfl)
      | ⟨2, _⟩ => exact Or.inr (Or.inr rfl)
    rcases h012 with rfl | rfl | rfl
    · rw [s0, w0]
      exact (add_zero _).trans h0
    · rw [s1, w1]
      exact (add_zero _).trans h1
    · rw [s2, w2]
      exact zero_add _

/-- A word below the half range is not negative, so the choice of the reference keeps it. -/
theorem pick_nonneg (v u : BitVec 32) (hv : v.toNat < 2147483648) : Scalar.select (IntOp.cmpi CmpIPredicate.slt v 0#32) u v = v := by
  have hns : (v.slt 0#32) = false := by
    simp only [BitVec.slt, BitVec.toInt, BitVec.toNat_ofNat, decide_eq_false_iff_not]
    omega
  show Scalar.select (BitVec.ofBool (v.slt 0#32)) u v = v
  rw [hns]
  rfl

/-- The reference's row of sample numbers, read at one entry. -/
theorem ref_sample (b : Fin 4) (n : Fin 16384) :
    (broadcastInDim Cert.ScatterRefIdeal.S4x16384x1 ![0, 1] Cert.ScatterRefIdeal.Gen.bcast_S4x16384_S4x16384x1_0_1 (broadcastInDim Cert.ScatterRefIdeal.S4x16384 ![0, 1] Cert.ScatterRefIdeal.Gen.bcast_S4x1_S4x16384_0_1 (select (cmpi .slt (broadcastInDim Cert.ScatterRefIdeal.S4x1 ![0] Cert.ScatterRefIdeal.Gen.bcast_S4_S4x1_0 (iotaInDim Cert.ScatterRefIdeal.S4 32 0)) (broadcastInDim Cert.ScatterRefIdeal.S4x1 ![] Cert.ScatterRefIdeal.Gen.bcast_S_S4x1 (constantI Cert.ScatterRefIdeal.S_ 32 0#32))) (addi (broadcastInDim Cert.ScatterRefIdeal.S4x1 ![0] Cert.ScatterRefIdeal.Gen.bcast_S4_S4x1_0 (iotaInDim Cert.ScatterRefIdeal.S4 32 0)) (broadcastInDim Cert.ScatterRefIdeal.S4x1 ![] Cert.ScatterRefIdeal.Gen.bcast_S_S4x1 (constantI Cert.ScatterRefIdeal.S_ 32 4#32))) (broadcastInDim Cert.ScatterRefIdeal.S4x1 ![0] Cert.ScatterRefIdeal.Gen.bcast_S4_S4x1_0 (iotaInDim Cert.ScatterRefIdeal.S4 32 0))))) (ix3 b n 0) = BitVec.ofNat 32 b.val := by
  pointwise
  exact pick_nonneg _ _ (by rw [BitVec.toNat_ofNat]; have := b.isLt; omega)

/-- The reference's row of words, read at one entry. -/
theorem ref_word (I : IVec S4x16x1024 32) (hI : ∀ y, (I y).toNat < 8192) (b : Fin 4) (n : Fin 16384) :
    (broadcastInDim Cert.ScatterRefIdeal.S4x16384x1 ![0, 1] Cert.ScatterRefIdeal.Gen.bcast_S4x16384_S4x16384x1_0_1 (select (cmpi .slt (shapeCast Cert.ScatterRefIdeal.S4x16384 I Cert.ScatterRefIdeal.Gen.shapeCasts_S4x16x1024_S4x16384) (broadcastInDim Cert.ScatterRefIdeal.S4x16384 ![] Cert.ScatterRefIdeal.Gen.bcast_S_S4x16384 (constantI Cert.ScatterRefIdeal.S_ 32 0#32))) (addi (shapeCast Cert.ScatterRefIdeal.S4x16384 I Cert.ScatterRefIdeal.Gen.shapeCasts_S4x16x1024_S4x16384) (broadcastInDim Cert.ScatterRefIdeal.S4x16384 ![] Cert.ScatterRefIdeal.Gen.bcast_S_S4x16384 (constantI Cert.ScatterRefIdeal.S_ 32 8192#32))) (shapeCast Cert.ScatterRefIdeal.S4x16384 I Cert.ScatterRefIdeal.Gen.shapeCasts_S4x16x1024_S4x16384))) (ix3 b n 0) = I (ix3 b (⟨n.val / 1024, by omega⟩ : Fin 16) (⟨n.val % 1024, by omega⟩ : Fin 1024)) := by
  pointwise
  exact pick_nonneg _ _ (by have := hI (ix3 b (⟨n.val / 1024, by omega⟩ : Fin 16) (⟨n.val % 1024, by omega⟩ : Fin 1024)); omega)

/-- The reference's index pairs: sample, then row. -/
theorem ref_pair (A B : IVec Cert.ScatterRefIdeal.S4x16384x1 32) (b : Fin 4) (n : Fin 16384) :
    concatenate Cert.ScatterRefIdeal.S4x16384x2 2 [⟨Cert.ScatterRefIdeal.S4x16384x1, A⟩, ⟨Cert.ScatterRefIdeal.S4x16384x1, B⟩] Cert.ScatterRefIdeal.Gen.concatenates_S4x16384x1_S4x16384x1_S4x16384x2_d2 (ix3 b n 0) = A (ix3 b n 0)
      ∧ concatenate Cert.ScatterRefIdeal.S4x16384x2 2 [⟨Cert.ScatterRefIdeal.S4x16384x1, A⟩, ⟨Cert.ScatterRefIdeal.S4x16384x1, B⟩] Cert.ScatterRefIdeal.Gen.concatenates_S4x16384x1_S4x16384x1_S4x16384x2_d2 (ix3 b n 1) = B (ix3 b n 0) := by
  constructor
  · pointwise
  · pointwise

/-- The expert rows laid out by expert and position together. -/
theorem ref_flat (Y : FVec Ideal S4x16x1024x1024 .f32) (b : Fin 4) (n : Fin 16384) (d : Fin 1024) :
    shapeCast Cert.ScatterRefIdeal.S4x16384x1024 Y Cert.ScatterRefIdeal.Gen.shapeCasts_S4x16x1024x1024_S4x16384x1024 (ix3 b n d) = Y (ix4 b (⟨n.val / 1024, by omega⟩ : Fin 16) (⟨n.val % 1024, by omega⟩ : Fin 1024) d) := by
  pointwise

/-- The reference's composed term is the summed array, where the words are in range. -/
theorem ref_sums (I : IVec S4x16x1024 32) (hI : ∀ y, (I y).toNat < 8192) (Y : FVec Ideal S4x16x1024x1024 .f32) (A B : IVec Cert.ScatterRefIdeal.S4x16384x1 32)
    (hA : ∀ (b : Fin 4) (n : Fin 16384), A (ix3 b n 0) = BitVec.ofNat 32 b.val)
    (hB : ∀ (b : Fin 4) (n : Fin 16384), B (ix3 b n 0) = I (ix3 b (⟨n.val / 1024, by omega⟩ : Fin 16) (⟨n.val % 1024, by omega⟩ : Fin 1024))) :
    Host.scatterAdd Cert.ScatterRefIdeal.scatter_S4x8192x1024_S4x16384x2_S4x16384x1024_2_01_01_2 (broadcastInDim Cert.ScatterRefIdeal.S4x8192x1024 ![] Cert.ScatterRefIdeal.Gen.bcast_S_S4x8192x1024 (constant Cert.ScatterRefIdeal.S_ .f32 0x00000000#32)) (concatenate Cert.ScatterRefIdeal.S4x16384x2 2 [⟨Cert.ScatterRefIdeal.S4x16384x1, A⟩, ⟨Cert.ScatterRefIdeal.S4x16384x1, B⟩] Cert.ScatterRefIdeal.Gen.concatenates_S4x16384x1_S4x16384x1_S4x16384x2_d2) (shapeCast _ Y Cert.ScatterRefIdeal.Gen.shapeCasts_S4x16x1024x1024_S4x16384x1024)
      = SUMS I Y := by
  funext y
  idx_vars y
  have hl : ∀ (b' : Fin 4) (n : Fin 16384) (d' : Fin 1024), Cert.ScatterRefIdeal.scatter_S4x8192x1024_S4x16384x2_S4x16384x1024_2_01_01_2.resultIdx? (ix3 b' n d') (concatenate Cert.ScatterRefIdeal.S4x16384x2 2 [⟨Cert.ScatterRefIdeal.S4x16384x1, A⟩, ⟨Cert.ScatterRefIdeal.S4x16384x1, B⟩] Cert.ScatterRefIdeal.Gen.concatenates_S4x16384x1_S4x16384x1_S4x16384x2_d2) = some (ix3 y0 y1 y2)
      ↔ b' = y0 ∧ y1.val = (I (ix3 b' (⟨n.val / 1024, by omega⟩ : Fin 16) (⟨n.val % 1024, by omega⟩ : Fin 1024))).toNat ∧ d' = y2 := by
    intro b' n d'
    rw [lands, (ref_pair A B b' n).1, (ref_pair A B b' n).2, hA, hB, StableHlo.Predicate.toInt_ofNat_small _ (by have := b'.isLt; omega)]
    have hlt := hI (ix3 b' (⟨n.val / 1024, by omega⟩ : Fin 16) (⟨n.val % 1024, by omega⟩ : Fin 1024))
    have hi : (I (ix3 b' (⟨n.val / 1024, by omega⟩ : Fin 16) (⟨n.val % 1024, by omega⟩ : Fin 1024))).toInt = ((I (ix3 b' (⟨n.val / 1024, by omega⟩ : Fin 16) (⟨n.val % 1024, by omega⟩ : Fin 1024))).toNat : Int) := by
      simp only [BitVec.toInt]
      omega
    rw [hi, Fin.ext_iff]
    omega
  have hz : broadcastInDim Cert.ScatterRefIdeal.S4x8192x1024 ![] Cert.ScatterRefIdeal.Gen.bcast_S_S4x8192x1024 (constant (F := Ideal) Cert.ScatterRefIdeal.S_ .f32 0x00000000#32) (ix3 y0 y1 y2) = (0 : EReal) := Ideal.ofBits_zero_f32
  refine (congrArg (fun z : EReal => z + ∑ j ∈ Finset.univ.filter (fun j => Cert.ScatterRefIdeal.scatter_S4x8192x1024_S4x16384x2_S4x16384x1024_2_01_01_2.resultIdx? j (concatenate Cert.ScatterRefIdeal.S4x16384x2 2 [⟨Cert.ScatterRefIdeal.S4x16384x1, A⟩, ⟨Cert.ScatterRefIdeal.S4x16384x1, B⟩] Cert.ScatterRefIdeal.Gen.concatenates_S4x16384x1_S4x16384x1_S4x16384x2_d2) = some (ix3 y0 y1 y2)), (shapeCast Cert.ScatterRefIdeal.S4x16384x1024 Y Cert.ScatterRefIdeal.Gen.shapeCasts_S4x16x1024x1024_S4x16384x1024 j : EReal)) hz).trans ?_
  rw [zero_add]
  have hr : ∑ e ∈ Finset.range 16, part I Y y0 y1 y2 e = ∑ p ∈ (Finset.univ : Finset (Fin 16 × Fin 1024)).filter (fun p => y1.val = (I (ix3 y0 p.1 p.2)).toNat), (Y (ix4 y0 p.1 p.2 y2) : EReal) := by
    rw [Finset.sum_filter, Fintype.sum_prod_type, Finset.sum_range]
    refine Finset.sum_congr rfl fun e _ => ?_
    unfold part
    rw [dif_pos e.isLt]
  refine Eq.trans ?_ hr.symm
  refine Finset.sum_nbij' (fun j : Cert.ScatterRefIdeal.S4x16384x1024.Idx => ((⟨(j 1).val / 1024, by have : (j 1).val < 16384 := (j 1).isLt; omega⟩ : Fin 16), (⟨(j 1).val % 1024, by omega⟩ : Fin 1024)))
    (fun p => (ix3 y0 (⟨p.1.val * 1024 + p.2.val, by have := p.1.isLt; have := p.2.isLt; omega⟩ : Fin 16384) y2 : Cert.ScatterRefIdeal.S4x16384x1024.Idx)) ?_ ?_ ?_ ?_ ?_
  · intro j hj
    have hj' := (Finset.mem_filter.1 hj).2
    idx_vars j
    obtain ⟨rfl, h1, rfl⟩ := (hl _ _ _).1 hj'
    exact Finset.mem_filter.2 ⟨Finset.mem_univ _, h1⟩
  · intro p hp
    have hp' := (Finset.mem_filter.1 hp).2
    refine Finset.mem_filter.2 ⟨Finset.mem_univ _, (hl _ _ _).2 ⟨rfl, ?_, rfl⟩⟩
    rw [hp']
    have e1 : (⟨(p.1.val * 1024 + p.2.val) / 1024, by have := p.1.isLt; have := p.2.isLt; omega⟩ : Fin 16) = p.1 := Fin.ext (by have := p.2.isLt; show (p.1.val * 1024 + p.2.val) / 1024 = p.1.val; omega)
    have e2 : (⟨(p.1.val * 1024 + p.2.val) % 1024, by omega⟩ : Fin 1024) = p.2 := Fin.ext (by have := p.2.isLt; show (p.1.val * 1024 + p.2.val) % 1024 = p.2.val; omega)
    show _ = (I (ix3 y0 (⟨(p.1.val * 1024 + p.2.val) / 1024, _⟩ : Fin 16) (⟨(p.1.val * 1024 + p.2.val) % 1024, _⟩ : Fin 1024))).toNat
    rw [e1, e2]
  · intro j hj
    have hj' := (Finset.mem_filter.1 hj).2
    idx_vars j
    obtain ⟨rfl, h1, rfl⟩ := (hl _ _ _).1 hj'
    refine congrArg (fun n => ix3 _ n _) (Fin.ext ?_)
    show j1.val / 1024 * 1024 + j1.val % 1024 = j1.val
    omega
  · intro p hp
    refine Prod.ext (Fin.ext ?_) (Fin.ext ?_)
    · have := p.2.isLt
      show (p.1.val * 1024 + p.2.val) / 1024 = p.1.val
      omega
    · have := p.2.isLt
      show (p.1.val * 1024 + p.2.val) % 1024 = p.2.val
      omega
  · intro j hj
    have hj' := (Finset.mem_filter.1 hj).2
    idx_vars j
    obtain ⟨rfl, h1, rfl⟩ := (hl _ _ _).1 hj'
    exact ref_flat Y _ _ _

/-- Kernel and reference, run from memories that agree on the arguments, end with the same result. -/
theorem algebraic : Cert.algebraic_ScatterIdeal_ScatterRefIdeal := by
  intro m g m' g' h ha
  refine ⟨fun c => SUMS (m ((c : Thread nD τ).loc main_arg0)) (m ((c : Thread nD τ).loc main_arg1)), ?_, ?_⟩
  · exact (θ_run defs _ _).mono (fun r k c => ⟨(k c).1.trans (final m h c), (k c).2⟩) (Cert.ScatterIdeal.Value.run_blocks m g (hyps_of_pre m h))
  · refine (θ_run Cert.ScatterRefIdeal.defs _ _).mono (fun r k c => ⟨(k c).1.trans ?_, (k c).2⟩) (Cert.ScatterRefIdeal.Value.run m' g')
    obtain ⟨h0, h1⟩ := ha c
    rw [h0, h1]
    exact ref_sums _ (word_bound m h c) _ _ _ ref_sample (ref_word _ (word_bound m h c))

end Cert.ScatterIdeal.Final

end
-- ==== Proof.FinalValue.lean ====
/-
  The last residual step: `x1 + m5 · rmsnorm(moe)`, row block by row block, is the reference's formula at the extended reals.
-/
module

public import proofs.«01_k».proof.Defs
public import proofs.«01_k».proof.Proof.Gen.FinalIdeal.Value
public import proofs.«01_k».proof.Proof.Gen.FinalRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FinalIdeal.Final

open Cert.FinalIdeal Cert.FinalIdeal.Gen

variable (m : (ℓ : Loc nD τ sig) → Buf (Elt Ideal) ℓ)

theorem idx : ∀ t : Fin cfg0.N,
    win0_0.index t = ![t.val / 16, t.val % 16, 0] ∧ win0_1.index t = ![t.val / 16, t.val % 16, 0]
    ∧ win0_2.index t = ![t.val / 16, 0, 0] ∧ win0_3.index t = ![0, 0] ∧ win0_4.index t = ![t.val / 16, t.val % 16, 0] :=
  (by decide +kernel : ∀ t : Fin grid0.N, _)

/-- The reference's composed term. -/
abbrev REF (X Y : FVec Ideal S4x8192x1024 .f32) (M : FVec Ideal S4x1x1024 .f32) (g : FVec Ideal S1024 .f32) : FVec Ideal S4x8192x1024 .f32 :=
  addf X (mulf (broadcastInDim Cert.FinalRefIdeal.S4x8192x1024 ![0, 1, 2] Cert.FinalRefIdeal.Gen.bcast_S4x1x1024_S4x8192x1024_0_1_2 M) (mulf (mulf Y (broadcastInDim Cert.FinalRefIdeal.S4x8192x1024 ![0, 1, 2] Cert.FinalRefIdeal.Gen.bcast_S4x8192x1_S4x8192x1024_0_1_2 (Host.rsqrt (addf (Host.divf (broadcastInDim Cert.FinalRefIdeal.S4x8192x1 ![0, 1] Cert.FinalRefIdeal.Gen.bcast_S4x8192_S4x8192x1_0_1 (Host.reduceAdd (mulf Y Y) (constant Cert.FinalRefIdeal.S_ .f32 0x00000000#32) Cert.FinalRefIdeal.Gen.reducesTo_S4x8192x1024_S4x8192_d2 Cert.FinalRefIdeal.Gen.h_S_)) (broadcastInDim Cert.FinalRefIdeal.S4x8192x1 ![] Cert.FinalRefIdeal.Gen.bcast_S_S4x8192x1 (constant Cert.FinalRefIdeal.S_ .f32 0x44800000#32))) (broadcastInDim Cert.FinalRefIdeal.S4x8192x1 ![] Cert.FinalRefIdeal.Gen.bcast_S_S4x8192x1 (constant Cert.FinalRefIdeal.S_ .f32 0x358637BD#32)))))) (broadcastInDim Cert.FinalRefIdeal.S4x8192x1024 ![0, 1, 2] Cert.FinalRefIdeal.Gen.bcast_S1x1x1024_S4x8192x1024_0_1_2 (broadcastInDim Cert.FinalRefIdeal.S1x1x1024 ![2] Cert.FinalRefIdeal.Gen.bcast_S1024_S1x1x1024_2 g))))

/-- The result array after the run. -/
theorem final (c : Dev nD) : (dats m 0 c).arrAt 4 cfg0.N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]
  frame_out
  idx_vars y
  pointwise [k0_pay1, REF]
  blk_point [iblk, V, idx t]

/-- Kernel and reference, run from memories that agree on the arguments, end with the same result. -/
theorem algebraic : Cert.algebraic_FinalIdeal_FinalRefIdeal := by
  intro m g m' g' _ ha
  refine ⟨fun c => REF (m ((c : Thread nD τ).loc main_arg0)) (m ((c : Thread nD τ).loc main_arg1)) (m ((c : Thread nD τ).loc main_arg2))
          (m ((c : Thread nD τ).loc main_arg3)), ?_, ?_⟩
  · exact (θ_run defs _ _).mono (fun r h c => ⟨(h c).1.trans (final m c), (h c).2⟩) (Cert.FinalIdeal.Value.run_blocks m g)
  · refine (θ_run Cert.FinalRefIdeal.defs _ _).mono (fun r h c => ⟨(h c).1.trans ?_, (h c).2⟩) (Cert.FinalRefIdeal.Value.run m' g')
    obtain ⟨h0, h1, h2, h3⟩ := ha c
    rw [h0, h1, h2, h3]

end Cert.FinalIdeal.Final

end
-- ==== Proof.InprojValue.lean ====
/-
  The in-projection: the normalised, modulated tokens are computed once per token block, kept in scratch, and multiplied
  into the three slices of the weight; at the extended reals the three results are the reference's slices of one product.
-/
module

public import proofs.«01_k».proof.Defs
public import proofs.«01_k».proof.Proof.Gen.InprojIdeal.Value
public import proofs.«01_k».proof.Proof.Gen.InprojRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InprojIdeal.Final

open Cert.InprojIdeal Cert.InprojIdeal.Gen

variable (m : (ℓ : Loc nD τ sig) → Buf (Elt Ideal) ℓ)

theorem idx : ∀ t : Fin cfg0.N,
    win0_0.index t = ![t.val / 16, t.val / 2 % 8, 0] ∧ win0_1.index t = ![0, 0]
    ∧ win0_2.index t = ![t.val / 16, 0, 0] ∧ win0_3.index t = ![t.val / 16, 0, 0]
    ∧ win0_4.index t = ![0, t.val % 2] ∧ win0_5.index t = ![0, t.val % 2] ∧ win0_6.index t = ![0, t.val % 2]
    ∧ win0_7.index t = ![t.val / 16, t.val / 2 % 8, t.val % 2] ∧ win0_8.index t = ![t.val / 16, t.val / 2 % 8, t.val % 2]
    ∧ win0_9.index t = ![t.val / 16, t.val / 2 % 8, t.val % 2] :=
  (by decide +kernel : ∀ t : Fin grid0.N, _)

/-- The reference's composed term for the result `main_v20`. -/
abbrev REF0 (X : FVec Ideal S4x8192x1024 .f32) (g : FVec Ideal S1024 .f32) (sc sh : FVec Ideal S4x1x1024 .f32) (W : FVec Ideal S1024x5376 .f32) : FVec Ideal S4x8192x1536 .f32 :=
  extractStridedSlice Cert.InprojRefIdeal.S4x8192x1536 ![0, 0, 0] (Host.dotGeneral Cert.InprojRefIdeal.dot_S4x8192x1024_S1024x5376_S4x8192x5376_2_0_01_1_n_n none (addf (mulf (mulf (mulf X (broadcastInDim Cert.InprojRefIdeal.S4x8192x1024 ![0, 1, 2] Cert.InprojRefIdeal.Gen.bcast_S4x8192x1_S4x8192x1024_0_1_2 (Host.rsqrt (addf (Host.divf (broadcastInDim Cert.InprojRefIdeal.S4x8192x1 ![0, 1] Cert.InprojRefIdeal.Gen.bcast_S4x8192_S4x8192x1_0_1 (Host.reduceAdd (mulf X X) (constant Cert.InprojRefIdeal.S_ .f32 0x00000000#32) Cert.InprojRefIdeal.Gen.reducesTo_S4x8192x1024_S4x8192_d2 Cert.InprojRefIdeal.Gen.h_S_)) (broadcastInDim Cert.InprojRefIdeal.S4x8192x1 ![] Cert.InprojRefIdeal.Gen.bcast_S_S4x8192x1 (constant Cert.InprojRefIdeal.S_ .f32 0x44800000#32))) (broadcastInDim Cert.InprojRefIdeal.S4x8192x1 ![] Cert.InprojRefIdeal.Gen.bcast_S_S4x8192x1 (constant Cert.InprojRefIdeal.S_ .f32 0x358637BD#32)))))) (broadcastInDim Cert.InprojRefIdeal.S4x8192x1024 ![0, 1, 2] Cert.InprojRefIdeal.Gen.bcast_S1x1x1024_S4x8192x1024_0_1_2 (broadcastInDim Cert.InprojRefIdeal.S1x1x1024 ![2] Cert.InprojRefIdeal.Gen.bcast_S1024_S1x1x1024_2 g))) (broadcastInDim Cert.InprojRefIdeal.S4x8192x1024 ![0, 1, 2] Cert.InprojRefIdeal.Gen.bcast_S4x1x1024_S4x8192x1024_0_1_2 (addf (broadcastInDim Cert.InprojRefIdeal.S4x1x1024 ![] Cert.InprojRefIdeal.Gen.bcast_S_S4x1x1024 (constant Cert.InprojRefIdeal.S_ .f32 0x3F800000#32)) sc))) (broadcastInDim Cert.InprojRefIdeal.S4x8192x1024 ![0, 1, 2] Cert.InprojRefIdeal.Gen.bcast_S4x1x1024_S4x8192x1024_0_1_2 sh)) W) Cert.InprojRefIdeal.Gen.slices_S4x8192x5376_S4x8192x1536_0_0_0

/-- The reference's composed term for the result `main_v21`. -/
abbrev REF1 (X : FVec Ideal S4x8192x1024 .f32) (g : FVec Ideal S1024 .f32) (sc sh : FVec Ideal S4x1x1024 .f32) (W : FVec Ideal S1024x5376 .f32) : FVec Ideal S4x8192x1792 .f32 :=
  extractStridedSlice Cert.InprojRefIdeal.S4x8192x1792 ![0, 0, 1536] (Host.dotGeneral Cert.InprojRefIdeal.dot_S4x8192x1024_S1024x5376_S4x8192x5376_2_0_01_1_n_n none (addf (mulf (mulf (mulf X (broadcastInDim Cert.InprojRefIdeal.S4x8192x1024 ![0, 1, 2] Cert.InprojRefIdeal.Gen.bcast_S4x8192x1_S4x8192x1024_0_1_2 (Host.rsqrt (addf (Host.divf (broadcastInDim Cert.InprojRefIdeal.S4x8192x1 ![0, 1] Cert.InprojRefIdeal.Gen.bcast_S4x8192_S4x8192x1_0_1 (Host.reduceAdd (mulf X X) (constant Cert.InprojRefIdeal.S_ .f32 0x00000000#32) Cert.InprojRefIdeal.Gen.reducesTo_S4x8192x1024_S4x8192_d2 Cert.InprojRefIdeal.Gen.h_S_)) (broadcastInDim Cert.InprojRefIdeal.S4x8192x1 ![] Cert.InprojRefIdeal.Gen.bcast_S_S4x8192x1 (constant Cert.InprojRefIdeal.S_ .f32 0x44800000#32))) (broadcastInDim Cert.InprojRefIdeal.S4x8192x1 ![] Cert.InprojRefIdeal.Gen.bcast_S_S4x8192x1 (constant Cert.InprojRefIdeal.S_ .f32 0x358637BD#32)))))) (broadcastInDim Cert.InprojRefIdeal.S4x8192x1024 ![0, 1, 2] Cert.InprojRefIdeal.Gen.bcast_S1x1x1024_S4x8192x1024_0_1_2 (broadcastInDim Cert.InprojRefIdeal.S1x1x1024 ![2] Cert.InprojRefIdeal.Gen.bcast_S1024_S1x1x1024_2 g))) (broadcastInDim Cert.InprojRefIdeal.S4x8192x1024 ![0, 1, 2] Cert.InprojRefIdeal.Gen.bcast_S4x1x1024_S4x8192x1024_0_1_2 (addf (broadcastInDim Cert.InprojRefIdeal.S4x1x1024 ![] Cert.InprojRefIdeal.Gen.bcast_S_S4x1x1024 (constant Cert.InprojRefIdeal.S_ .f32 0x3F800000#32)) sc))) (broadcastInDim Cert.InprojRefIdeal.S4x8192x1024 ![0, 1, 2] Cert.InprojRefIdeal.Gen.bcast_S4x1x1024_S4x8192x1024_0_1_2 sh)) W) Cert.InprojRefIdeal.Gen.slices_S4x8192x5376_S4x8192x1792_0_0_1536

/-- The reference's composed term for the result `main_v23`. -/
abbrev REF2 (X : FVec Ideal S4x8192x1024 .f32) (g : FVec Ideal S1024 .f32) (sc sh : FVec Ideal S4x1x1024 .f32) (W : FVec Ideal S1024x5376 .f32) : FVec Ideal S4x8192x2048 .bf16 :=
  truncf .bf16 (extractStridedSlice Cert.InprojRefIdeal.S4x8192x2048 ![0, 0, 3328] (Host.dotGeneral Cert.InprojRefIdeal.dot_S4x8192x1024_S1024x5376_S4x8192x5376_2_0_01_1_n_n none (addf (mulf (mulf (mulf X (broadcastInDim Cert.InprojRefIdeal.S4x8192x1024 ![0, 1, 2] Cert.InprojRefIdeal.Gen.bcast_S4x8192x1_S4x8192x1024_0_1_2 (Host.rsqrt (addf (Host.divf (broadcastInDim Cert.InprojRefIdeal.S4x8192x1 ![0, 1] Cert.InprojRefIdeal.Gen.bcast_S4x8192_S4x8192x1_0_1 (Host.reduceAdd (mulf X X) (constant Cert.InprojRefIdeal.S_ .f32 0x00000000#32) Cert.InprojRefIdeal.Gen.reducesTo_S4x8192x1024_S4x8192_d2 Cert.InprojRefIdeal.Gen.h_S_)) (broadcastInDim Cert.InprojRefIdeal.S4x8192x1 ![] Cert.InprojRefIdeal.Gen.bcast_S_S4x8192x1 (constant Cert.InprojRefIdeal.S_ .f32 0x44800000#32))) (broadcastInDim Cert.InprojRefIdeal.S4x8192x1 ![] Cert.InprojRefIdeal.Gen.bcast_S_S4x8192x1 (constant Cert.InprojRefIdeal.S_ .f32 0x358637BD#32)))))) (broadcastInDim Cert.InprojRefIdeal.S4x8192x1024 ![0, 1, 2] Cert.InprojRefIdeal.Gen.bcast_S1x1x1024_S4x8192x1024_0_1_2 (broadcastInDim Cert.InprojRefIdeal.S1x1x1024 ![2] Cert.InprojRefIdeal.Gen.bcast_S1024_S1x1x1024_2 g))) (broadcastInDim Cert.InprojRefIdeal.S4x8192x1024 ![0, 1, 2] Cert.InprojRefIdeal.Gen.bcast_S4x1x1024_S4x8192x1024_0_1_2 (addf (broadcastInDim Cert.InprojRefIdeal.S4x1x1024 ![] Cert.InprojRefIdeal.Gen.bcast_S_S4x1x1024 (constant Cert.InprojRefIdeal.S_ .f32 0x3F800000#32)) sc))) (broadcastInDim Cert.InprojRefIdeal.S4x8192x1024 ![0, 1, 2] Cert.InprojRefIdeal.Gen.bcast_S4x1x1024_S4x8192x1024_0_1_2 sh)) W) Cert.InprojRefIdeal.Gen.slices_S4x8192x5376_S4x8192x2048_0_0_3328) Cert.InprojRefIdeal.Gen.bitsLt_bf16_f32

/-- The point before an odd point. -/
def prev (t : Fin cfg0.N) : Fin cfg0.N := ⟨t.val - 1, Nat.lt_of_le_of_lt (Nat.sub_le _ _) t.isLt⟩

/-- The sample of a point. -/
def bOf (t : Fin cfg0.N) : Fin 4 := ⟨t.val / 16, by have : cfg0.N = 64 := N_0; have := t.isLt; omega⟩

/-- The row of a point's block. -/
def rOf (t : Fin cfg0.N) (r : Fin 1024) : Fin 8192 := ⟨t.val / 2 % 8 * 1024 + r.val, by have := r.isLt; omega⟩

/-- The normalised, modulated token. -/
def H (X : FVec Ideal S4x8192x1024 .f32) (g : FVec Ideal S1024 .f32) (sc sh : FVec Ideal S4x1x1024 .f32)
    (b : Fin 4) (r : Fin 8192) (x : Fin 1024) : EReal :=
  X (ix3 b r x) *
              Ideal.rsqrt
                (Ideal.div
                    (∑ x, X (ix3 b r x) * X (ix3 b r x))
                    (Ideal.ofBits FTy.f32 1149239296#32) +
                  Ideal.ofBits FTy.f32 897988541#32) *
            g (ix1 x) *
          (1 + sc (ix3 b 0 x)) +
        sh (ix3 b 0 x)

/-- The reference at an index: a row of the product. -/
theorem REF0_at (X : FVec Ideal S4x8192x1024 .f32) (g : FVec Ideal S1024 .f32) (sc sh : FVec Ideal S4x1x1024 .f32) (W : FVec Ideal S1024x5376 .f32) (b : Fin 4) (r : Fin 8192) (n : Fin 1536) :
    REF0 X g sc sh W (ix3 b r n) = ∑ x : Fin 1024, H X g sc sh b r x * W (ix2 x ⟨n.val, by have := n.isLt; omega⟩) := by
  pointwise [REF0, H]

/-- The reference at an index: a row of the product. -/
theorem REF1_at (X : FVec Ideal S4x8192x1024 .f32) (g : FVec Ideal S1024 .f32) (sc sh : FVec Ideal S4x1x1024 .f32) (W : FVec Ideal S1024x5376 .f32) (b : Fin 4) (r : Fin 8192) (n : Fin 1792) :
    REF1 X g sc sh W (ix3 b r n) = ∑ x : Fin 1024, H X g sc sh b r x * W (ix2 x ⟨1536 + n.val, by have := n.isLt; omega⟩) := by
  pointwise [REF1, H]

/-- The reference at an index: a row of the product. -/
theorem REF2_at (X : FVec Ideal S4x8192x1024 .f32) (g : FVec Ideal S1024 .f32) (sc sh : FVec Ideal S4x1x1024 .f32) (W : FVec Ideal S1024x5376 .f32) (b : Fin 4) (r : Fin 8192) (n : Fin 2048) :
    REF2 X g sc sh W (ix3 b r n) = ∑ x : Fin 1024, H X g sc sh b r x * W (ix2 x ⟨3328 + n.val, by have := n.isLt; omega⟩) := by
  pointwise [REF2, H]

/-- The block computed at an even point, at an index. -/
theorem pay1_at (c : Dev nD) (t : Fin cfg0.N) (y : Fin 1024) (x : Fin 1024) :
    k0_pay1 (iblk m c 0 t) (iblk m c 1 t) (iblk m c 2 t) (iblk m c 3 t) (ix2 y x)
      = H (m ((c : Thread nD τ).loc main_arg0)) (m ((c : Thread nD τ).loc main_arg1)) (m ((c : Thread nD τ).loc main_arg2)) (m ((c : Thread nD τ).loc main_arg3)) (bOf t) (rOf t y) x := by
  have e0 (k : Fin 1024) : (iblk m c 0 t : FVec Ideal S1x1024x1024 .f32) (ix3 0 y k) = m ((c : Thread nD τ).loc main_arg0) (ix3 (bOf t) (rOf t y) k) := by
    blk_ext! [iblk, V, idx t, bOf, rOf]
  have e1 : (iblk m c 1 t : FVec Ideal S1x1024 .f32) (ix2 0 x) = m ((c : Thread nD τ).loc main_arg1) (ix1 x) := by
    blk_ext! [iblk, V, idx t, bOf, rOf]
  have hv : (V m c main_v5 : FVec Ideal S4x1x1024 .f32) = fun j => (1 : EReal) + (m ((c : Thread nD τ).loc main_arg2) : FVec Ideal S4x1x1024 .f32) j := by
    unfold V
    after_results
    funext j
    pointwise
  have e2 : (iblk m c 2 t : FVec Ideal S1x1x1024 .f32) (ix3 0 0 x) = (1 + (m ((c : Thread nD τ).loc main_arg2) : FVec Ideal S4x1x1024 .f32) (ix3 (bOf t) 0 x) : EReal) := by
    refine Eq.trans (b := (V m c main_v5 : FVec Ideal S4x1x1024 .f32) ((win0_2.blk t).view.emb (ix3 0 0 x))) rfl ?_
    rw [hv]
    exact congrArg (fun j => (1 : EReal) + (m ((c : Thread nD τ).loc main_arg2) : FVec Ideal S4x1x1024 .f32) j) (by blk_ext [idx t, bOf])
  have e3 : (iblk m c 3 t : FVec Ideal S1x1x1024 .f32) (ix3 0 0 x) = m ((c : Thread nD τ).loc main_arg3) (ix3 (bOf t) 0 x) := by
    blk_ext! [iblk, V, idx t, bOf, rOf]
  pointwise [k0_pay1, H]
  rw [e0, e1, e2, e3]
  simp only [e0]

/-- What the scratch holds at an odd point: what the even point before it left. -/
theorem scr (c : Dev nD) (t : Fin cfg0.N) (h : ¬ t.val % 2 = 0) (y : Fin 1024) (x : Fin 1024) :
    (outsAt0 m c (t.val - 1) (prev t).isLt).2.2.2 (ix2 y x) = H (m ((c : Thread nD τ).loc main_arg0)) (m ((c : Thread nD τ).loc main_arg1)) (m ((c : Thread nD τ).loc main_arg2)) (m ((c : Thread nD τ).loc main_arg3)) (bOf t) (rOf t y) x := by
  have hN : cfg0.N = 64 := N_0
  have hl := t.isLt
  have ha : outsAt0 m c (t.val - 1) (prev t).isLt = _ := outsAt0_A m c (prev t) (by simp only [prev]; omega)
  rw [ha]
  frame_out
  rw [pay1_at m c (prev t) y x]
  have hb : bOf (prev t) = bOf t := Fin.ext (by simp only [bOf, prev]; omega)
  have hr : rOf (prev t) y = rOf t y := Fin.ext (by simp only [rOf, prev]; omega)
  rw [hb, hr]

/-- The column of a point's block of result 0. -/
def n0 (t : Fin cfg0.N) (k : Fin 768) : Fin 1536 := ⟨t.val % 2 * 768 + k.val, by have := k.isLt; omega⟩

/-- The weight block of result 0 at an index. -/
theorem wblk0 (c : Dev nD) (t : Fin cfg0.N) (x : Fin 1024) (k : Fin 768) :
    (iblk m c 4 t : FVec Ideal S1024x768 .bf16) (ix2 x k)
      = m ((c : Thread nD τ).loc main_arg4) (ix2 x ⟨(n0 t k).val, by have := (n0 t k).isLt; omega⟩) := by
  blk_ext! [iblk, V, idx t, n0]

/-- What a point leaves in the block of result 0. -/
theorem after0 (c : Dev nD) (t : Fin cfg0.N) (y : Fin 1024) (k : Fin 768) :
    (outsAt0 m c t.val t.isLt).1 (ix3 0 y k) = REF0 (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t) (rOf t y) (n0 t k)) := by
  rw [REF0_at]
  by_cases h : t.val % 2 = 0
  · rw [outsAt0_A m c t h]
    frame_out
    pointwise [k0_pay2]
    refine Finset.sum_congr rfl fun x _ => ?_
    rw [wblk0 m c t x k, pay1_at m c t y x]
  · rw [outsAt0_B m c t h]
    frame_out
    pointwise [k0_pay2]
    refine Finset.sum_congr rfl fun x _ => ?_
    rw [wblk0 m c t x k]
    exact congrArg₂ (fun a b : EReal => a * b) ((congrFun ((Memref.isWhole_whole _).read_unread _) _).trans (scr m c t h y x)) rfl

/-- Result array 0 after the run. -/
theorem final0 (c : Dev nD) : (dats m 0 c).arrAt 7 cfg0.N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  idx_vars y
  obtain rfl : y0 = 0 := Subsingleton.elim _ _
  refine (after0 m c t y1 y2).trans (congrArg (REF0 _ _ _ _ _) ?_)
  blk_ext [idx t, bOf, rOf, n0]

/-- The column of a point's block of result 1. -/
def n1 (t : Fin cfg0.N) (k : Fin 896) : Fin 1792 := ⟨t.val % 2 * 896 + k.val, by have := k.isLt; omega⟩

/-- The weight block of result 1 at an index. -/
theorem wblk1 (c : Dev nD) (t : Fin cfg0.N) (x : Fin 1024) (k : Fin 896) :
    (iblk m c 5 t : FVec Ideal S1024x896 .bf16) (ix2 x k)
      = m ((c : Thread nD τ).loc main_arg4) (ix2 x ⟨1536 + (n1 t k).val, by have := (n1 t k).isLt; omega⟩) := by
  blk_ext! [iblk, V, idx t, n1]

/-- What a point leaves in the block of result 1. -/
theorem after1 (c : Dev nD) (t : Fin cfg0.N) (y : Fin 1024) (k : Fin 896) :
    (outsAt0 m c t.val t.isLt).2.1 (ix3 0 y k) = REF1 (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t) (rOf t y) (n1 t k)) := by
  rw [REF1_at]
  by_cases h : t.val % 2 = 0
  · rw [outsAt0_A m c t h]
    frame_out
    pointwise [k0_pay3]
    refine Finset.sum_congr rfl fun x _ => ?_
    rw [wblk1 m c t x k, pay1_at m c t y x]
  · rw [outsAt0_B m c t h]
    frame_out
    pointwise [k0_pay3]
    refine Finset.sum_congr rfl fun x _ => ?_
    rw [wblk1 m c t x k]
    exact congrArg₂ (fun a b : EReal => a * b) ((congrFun ((Memref.isWhole_whole _).read_unread _) _).trans (scr m c t h y x)) rfl

/-- Result array 1 after the run. -/
theorem final1 (c : Dev nD) : (dats m 0 c).arrAt 8 cfg0.N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  idx_vars y
  obtain rfl : y0 = 0 := Subsingleton.elim _ _
  refine (after1 m c t y1 y2).trans (congrArg (REF1 _ _ _ _ _) ?_)
  blk_ext [idx t, bOf, rOf, n1]

/-- The column of a point's block of result 2. -/
def n2 (t : Fin cfg0.N) (k : Fin 1024) : Fin 2048 := ⟨t.val % 2 * 1024 + k.val, by have := k.isLt; omega⟩

/-- The weight block of result 2 at an index. -/
theorem wblk2 (c : Dev nD) (t : Fin cfg0.N) (x : Fin 1024) (k : Fin 1024) :
    (iblk m c 6 t : FVec Ideal S1024x1024 .bf16) (ix2 x k)
      = m ((c : Thread nD τ).loc main_arg4) (ix2 x ⟨3328 + (n2 t k).val, by have := (n2 t k).isLt; omega⟩) := by
  blk_ext! [iblk, V, idx t, n2]

/-- What a point leaves in the block of result 2. -/
theorem after2 (c : Dev nD) (t : Fin cfg0.N) (y : Fin 1024) (k : Fin 1024) :
    (outsAt0 m c t.val t.isLt).2.2.1 (ix3 0 y k) = REF2 (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t) (rOf t y) (n2 t k)) := by
  rw [REF2_at]
  by_cases h : t.val % 2 = 0
  · rw [outsAt0_A m c t h]
    frame_out
    pointwise [k0_pay4]
    refine Finset.sum_congr rfl fun x _ => ?_
    rw [wblk2 m c t x k, pay1_at m c t y x]
  · rw [outsAt0_B m c t h]
    frame_out
    pointwise [k0_pay4]
    refine Finset.sum_congr rfl fun x _ => ?_
    rw [wblk2 m c t x k]
    exact congrArg₂ (fun a b : EReal => a * b) ((congrFun ((Memref.isWhole_whole _).read_unread _) _).trans (scr m c t h y x)) rfl

/-- Result array 2 after the run. -/
theorem final2 (c : Dev nD) : (dats m 0 c).arrAt 9 cfg0.N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  idx_vars y
  obtain rfl : y0 = 0 := Subsingleton.elim _ _
  refine (after2 m c t y1 y2).trans (congrArg (REF2 _ _ _ _ _) ?_)
  blk_ext [idx t, bOf, rOf, n2]

/-- Kernel and reference, run from memories that agree on the arguments, end with the same three results. -/
theorem algebraic : Cert.algebraic_InprojIdeal_InprojRefIdeal := by
  intro m g m' g' _ ha
  refine ⟨fun c => REF0 (m ((c : Thread nD τ).loc main_arg0)) (m ((c : Thread nD τ).loc main_arg1)) (m ((c : Thread nD τ).loc main_arg2)) (m ((c : Thread nD τ).loc main_arg3)) (m ((c : Thread nD τ).loc main_arg4)), fun c => REF1 (m ((c : Thread nD τ).loc main_arg0)) (m ((c : Thread nD τ).loc main_arg1)) (m ((c : Thread nD τ).loc main_arg2)) (m ((c : Thread nD τ).loc main_arg3)) (m ((c : Thread nD τ).loc main_arg4)), fun c => REF2 (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run defs _ _).mono (fun r h c => ⟨(h c).1.trans (final0 m c), (h c).2.1.trans (final1 m c), (h c).2.2.1.trans (final2 m c), (h c).2.2.2⟩)
      (Cert.InprojIdeal.Value.run_blocks m g)
  · refine (θ_run Cert.InprojRefIdeal.defs _ _).mono (fun r h c => ?_) (Cert.InprojRefIdeal.Value.run m' g')
    obtain ⟨h0, h1, h2, h3, h4⟩ := ha c
    obtain ⟨r0, r1, r2, hr⟩ := h c
    rw [h0, h1, h2, h3, h4] at r0 r1 r2
    exact ⟨r0, r1, r2, hr⟩

end Cert.InprojIdeal.Final

end
-- ==== Proof.MergeRow.lean ====
/-
  One token's row through the merge and the router, as formulas over the extended reals: the 8-head group norm, the two gated
  projections, the output projection, two RMS norms and the softmax over 16 experts.
-/
module

public import Idealize.ShloMosaic.Lib.Pointwise

@[expose] public section

noncomputable section

open Idealize.ShloMosaic

namespace Cert.MergeIdeal.Row

/-- The `k`-th channel of the head that channel `c` lies in. -/
def hix (c : Fin 512) (k : Fin 64) : Fin 512 := ⟨c.val / 64 * 64 + k.val, by have := c.isLt; have := k.isLt; omega⟩

/-- The sum over the head of channel `c`. -/
def hd (y : Fin 512 → EReal) (c : Fin 512) : EReal := ∑ k : Fin 64, y (hix c k)

/-- A channel less the mean of its head. -/
def dev (y : Fin 512 → EReal) (c : Fin 512) : EReal := y c - Ideal.div (hd y c) (Ideal.ofBits FTy.f32 0x42800000#32)

/-- The group norm over heads of 64 channels, with its scale and shift. -/
def gn (y g b : Fin 512 → EReal) (c : Fin 512) : EReal :=
  dev y c * Ideal.rsqrt (Ideal.div (hd (fun c' => dev y c' * dev y c') c) (Ideal.ofBits FTy.f32 0x42800000#32) + Ideal.ofBits FTy.f32 0x3A27C5AC#32) * g c + b c

/-- The logistic function. -/
def sig (x : EReal) : EReal := Ideal.div 1 (1 + Ideal.exp (-x))

/-- The gated sum of the two projections. -/
def mix (gates : Fin 2048 → EReal) (hy z : Fin 512 → EReal) (P1 P2 : Fin 512 → Fin 1024 → EReal) (j : Fin 1024) : EReal :=
  sig (gates ⟨j.val, by have := j.isLt; omega⟩) * (∑ k, hy k * P1 k j) + sig (gates ⟨1024 + j.val, by have := j.isLt; omega⟩) * (∑ k, z k * P2 k j)

/-- The RMS norm of a row, without its gain. -/
def rms (v : Fin 1024 → EReal) (j : Fin 1024) : EReal :=
  v j * Ideal.rsqrt (Ideal.div (∑ k, v k * v k) (Ideal.ofBits FTy.f32 0x44800000#32) + Ideal.ofBits FTy.f32 0x358637BD#32)

/-- The token after the merge. -/
def x1 (o x m2 n1 : Fin 1024 → EReal) (j : Fin 1024) : EReal := x j + m2 j * (rms o j * n1 j)

/-- The modulated input of the router. -/
def h2 (x n2 s m3 : Fin 1024 → EReal) (j : Fin 1024) : EReal := rms x j * n2 j * (1 + s j) + m3 j

/-- The router's logits. -/
def logit (h : Fin 1024 → EReal) (rw : Fin 1024 → Fin 16 → EReal) (e : Fin 16) : EReal := ∑ k, h k * rw k e

/-- The largest of 16 numbers, from `⊥`. -/
def mx (l : Fin 16 → EReal) : EReal := Finset.univ.fold max ⊥ l

/-- The softmax over 16 numbers. -/
def smx (l : Fin 16 → EReal) (e : Fin 16) : EReal := Ideal.div (Ideal.exp (l e - mx l)) (∑ e', Ideal.exp (l e' - mx l))

/-- The arguments, entry by entry: sample, token, channel. -/
structure Args where
  hy : Fin 4 → Fin 8192 → Fin 512 → EReal
  yf : Fin 4 → Fin 8192 → Fin 512 → EReal
  yb : Fin 4 → Fin 8192 → Fin 512 → EReal
  bon : Fin 4 → Fin 8192 → Fin 512 → EReal
  g : Fin 4 → Fin 8192 → Fin 512 → EReal
  gates : Fin 4 → Fin 8192 → Fin 2048 → EReal
  x : Fin 4 → Fin 8192 → Fin 1024 → EReal
  P1 : Fin 512 → Fin 1024 → EReal
  P2 : Fin 512 → Fin 1024 → EReal
  W : Fin 1024 → Fin 1024 → EReal
  lg : Fin 512 → EReal
  lb : Fin 512 → EReal
  m2 : Fin 4 → Fin 1024 → EReal
  n1 : Fin 1024 → EReal
  n2 : Fin 1024 → EReal
  s : Fin 4 → Fin 1024 → EReal
  m3 : Fin 4 → Fin 1024 → EReal
  rw : Fin 1024 → Fin 16 → EReal

namespace Args

variable (A : Args) (b : Fin 4) (r : Fin 8192)

/-- Both directions of the scan, summed. -/
def Y (c : Fin 512) : EReal := A.yf b r c + A.yb b r c

/-- The scan's branch before its projection. -/
def Z (c : Fin 512) : EReal := (gn (A.Y b r) A.lg A.lb c + A.bon b r c) * A.g b r c

/-- The merged branches through the output projection. -/
def O (j : Fin 1024) : EReal := ∑ k, mix (A.gates b r) (A.hy b r) (A.Z b r) A.P1 A.P2 k * A.W k j

/-- The token after the merge. -/
def X (j : Fin 1024) : EReal := x1 (A.O b r) (A.x b r) (A.m2 b) A.n1 j

/-- The router's input. -/
def H (j : Fin 1024) : EReal := h2 (A.X b r) A.n2 (A.s b) (A.m3 b) j

/-- The router's affinities. -/
def S (e : Fin 16) : EReal := smx (logit (A.H b r) A.rw) e

end Args

/-- A number that is neither infinity. -/
def fin (a : EReal) : Prop := ∃ r : ℝ, a = (r : EReal)

theorem fin.add {a b : EReal} (ha : fin a) (hb : fin b) : fin (a + b) := by
  obtain ⟨x, rfl⟩ := ha
  obtain ⟨y, rfl⟩ := hb
  exact ⟨x + y, (EReal.coe_add x y).symm⟩

theorem fin.mul {a b : EReal} (ha : fin a) (hb : fin b) : fin (a * b) := by
  obtain ⟨x, rfl⟩ := ha
  obtain ⟨y, rfl⟩ := hb
  exact ⟨x * y, (EReal.coe_mul x y).symm⟩

theorem fin.sub {a b : EReal} (ha : fin a) (hb : fin b) : fin (a - b) := by
  obtain ⟨x, rfl⟩ := ha
  obtain ⟨y, rfl⟩ := hb
  exact ⟨x - y, (EReal.coe_sub x y).symm⟩

theorem fin.one : fin 1 := ⟨1, rfl⟩

theorem fin.sum {ι : Type} (s : Finset ι) {f : ι → EReal} (h : ∀ i, fin (f i)) : fin (∑ i ∈ s, f i) := by
  classical
  induction s using Finset.induction_on with
  | empty => exact ⟨0, by simp⟩
  | insert a s ha ih => rw [Finset.sum_insert ha]; exact (h a).add ih

/-- A finite number less itself is zero. -/
theorem fin.sub_self {a : EReal} (h : fin a) : a - a = 0 := by
  obtain ⟨x, rfl⟩ := h
  rw [← EReal.coe_sub, _root_.sub_self]
  rfl

theorem k64 : Ideal.ofBits FTy.f32 0x42800000#32 = ((64 : ℝ) : EReal) := by
  simp [Ideal.ofBits, Ideal.ieee, -EReal.coe_mul]
  norm_num

theorem k64' : Ideal.ofBits FTy.f32 0x3C800000#32 = ((1 / 64 : ℝ) : EReal) := by
  simp [Ideal.ofBits, Ideal.ieee, -EReal.coe_mul]
  norm_num

theorem k1024 : Ideal.ofBits FTy.f32 0x44800000#32 = ((1024 : ℝ) : EReal) := by
  simp [Ideal.ofBits, Ideal.ieee, -EReal.coe_mul]
  norm_num

theorem keps : ∃ r : ℝ, 0 < r ∧ Ideal.ofBits FTy.f32 0x358637BD#32 = (r : EReal) := by
  refine ⟨8796093 * (2 : ℝ) ^ (-43 : ℤ), by positivity, ?_⟩
  simp [Ideal.ofBits, Ideal.ieee, -EReal.coe_mul]

theorem kinf : Ideal.ofBits FTy.f32 0xFF800000#32 = (⊥ : EReal) := by
  simp [Ideal.ofBits, Ideal.ieee]

theorem kpinf : Ideal.ofBits FTy.f32 0x7F800000#32 = (⊤ : EReal) := by
  simp [Ideal.ofBits, Ideal.ieee]

/-- Times one 64th is divided by 64. -/
theorem mul_k64' (a : EReal) : a * Ideal.ofBits FTy.f32 0x3C800000#32 = Ideal.div a (Ideal.ofBits FTy.f32 0x42800000#32) := by
  rw [k64, k64', Ideal.div_coe (by norm_num)]

/-- The sum over a head of finite numbers is finite. -/
theorem fin.hd {y : Fin 512 → EReal} (h : ∀ c, fin (y c)) (c : Fin 512) : fin (hd y c) := fin.sum _ fun _ => h _

theorem fin.div64 {a : EReal} (h : fin a) : fin (Ideal.div a (Ideal.ofBits FTy.f32 0x42800000#32)) := by
  rw [← mul_k64', k64']
  exact h.mul ⟨_, rfl⟩

theorem fin.dev {y : Fin 512 → EReal} (h : ∀ c, fin (y c)) (c : Fin 512) : fin (dev y c) := (h c).sub (fin.div64 (fin.hd h c))

/-- The table of ones: channels of one head. -/
def one (x c : Fin 512) : EReal := if x.val / 64 = c.val / 64 then 1 else 0

/-- The product with the table of ones sums over the head. -/
theorem sum_one (y : Fin 512 → EReal) (c : Fin 512) : ∑ x, y x * one x c = hd y c := by
  unfold hd
  symm
  refine Finset.sum_of_injOn (hix c) ?_ (fun _ _ => Finset.mem_coe.2 (Finset.mem_univ _)) (fun x _ hx => ?_) (fun k _ => ?_)
  · intro a _ b _ h
    have := congrArg Fin.val h
    simp only [hix] at this
    exact Fin.ext (by omega)
  · unfold one
    rw [if_neg, mul_zero]
    intro h
    refine hx ⟨⟨x.val % 64, by omega⟩, Finset.mem_coe.2 (Finset.mem_univ _), Fin.ext ?_⟩
    simp only [hix]
    omega
  · have h : (hix c k).val / 64 = c.val / 64 := by
      have := k.isLt
      simp only [hix]
      omega
    unfold one
    rw [if_pos h, mul_one]

/-- Both halves of the split product: the rounding error of a finite number is zero. -/
theorem split_one (y : Fin 512 → EReal) (h : ∀ c, fin (y c)) (c : Fin 512) :
    ∑ x, y x * one x c + ∑ x, (y x - y x) * one x c = hd y c := by
  rw [sum_one, Finset.sum_eq_zero (fun x _ => by rw [(h x).sub_self, zero_mul]), add_zero]

/-- A square is not negative. -/
theorem sq_nonneg (a : EReal) : 0 ≤ a * a := by
  induction a with
  | bot => simp
  | top => simp
  | coe r => rw [← EReal.coe_mul]; exact EReal.coe_nonneg.2 (mul_self_nonneg r)

/-- The RMS norm of any row is finite: a row with an infinite entry has norm zero. -/
theorem fin.rms (v : Fin 1024 → EReal) (j : Fin 1024) : fin (rms v j) := by
  obtain ⟨e, he, hk⟩ := keps
  unfold Row.rms
  rw [hk, k1024, Ideal.div_coe (by norm_num)]
  by_cases hv : ∀ k, fin (v k)
  · obtain ⟨q, hq⟩ : fin (∑ k, v k * v k) := fin.sum _ fun k => (hv k).mul (hv k)
    have h0 : 0 ≤ q := EReal.coe_nonneg.1 (hq ▸ Finset.sum_nonneg fun k _ => sq_nonneg (v k))
    rw [hq, ← EReal.coe_mul, ← EReal.coe_add, Ideal.rsqrt_coe]
    have hp : 0 < q * (1 / 1024) + e := by positivity
    rw [if_neg (not_lt.2 hp.le), if_neg hp.ne']
    exact (hv j).mul ⟨_, rfl⟩
  · rw [not_forall] at hv
    obtain ⟨k, hk⟩ := hv
    have ht : v k * v k = ⊤ := by
      generalize v k = a at hk
      induction a with
      | bot => simp
      | top => simp
      | coe r => exact (hk ⟨r, rfl⟩).elim
    have hs : ∑ k, v k * v k = ⊤ := by
      rw [← Finset.add_sum_erase _ _ (Finset.mem_univ k), ht]
      refine EReal.top_add_of_ne_bot fun hb => ?_
      have := hb ▸ Finset.sum_nonneg (s := Finset.univ.erase k) fun i _ => sq_nonneg (v i)
      exact absurd this (by simp)
    rw [hs, EReal.top_mul_coe_of_pos (by norm_num), EReal.top_add_coe]
    show fin (v j * 0)
    rw [mul_zero]
    exact ⟨0, rfl⟩

/-- The router's input is finite. -/
theorem fin.h2 (x : Fin 1024 → EReal) {n2 s m3 : Fin 1024 → EReal} (hn : ∀ j, fin (n2 j)) (hs : ∀ j, fin (s j)) (hm : ∀ j, fin (m3 j)) (j : Fin 1024) :
    fin (h2 x n2 s m3 j) :=
  (((fin.rms x j).mul (hn j)).mul (fin.one.add (hs j))).add (hm j)

theorem fin.logit {h : Fin 1024 → EReal} {rw : Fin 1024 → Fin 16 → EReal} (hh : ∀ j, fin (h j)) (hr : ∀ j e, fin (rw j e)) (e : Fin 16) : fin (logit h rw e) :=
  fin.sum _ fun k => (hh k).mul (hr k e)

/-- The largest of 16 numbers is one of them. -/
theorem mx_mem (l : Fin 16 → EReal) : ∃ e, mx l = l e := by
  obtain ⟨e, _, h⟩ := Finset.exists_mem_eq_sup Finset.univ Finset.univ_nonempty l
  exact ⟨e, h⟩

/-- 16 numbers among 128, the others `⊥`. -/
def wide (l : Fin 16 → EReal) (e : Fin 128) : EReal := if h : e.val < 16 then l ⟨e.val, h⟩ else ⊥

/-- The largest of the 128 is the largest of the 16. -/
theorem mx_wide (l : Fin 16 → EReal) : Finset.univ.fold max ⊥ (wide l) = mx l := by
  refine le_antisymm (Finset.sup_le (f := wide l) fun e _ => ?_) (Finset.sup_le (f := l) fun e _ => ?_)
  · unfold wide
    split
    · exact Finset.le_sup (f := l) (Finset.mem_univ _)
    · exact bot_le
  · have h : wide l ⟨e.val, by omega⟩ = l e := dif_pos e.isLt
    exact h ▸ Finset.le_sup (f := wide l) (Finset.mem_univ _)

/-- The sum over the 128 of the exponentials is the sum over the 16. -/
theorem sum_wide (l : Fin 16 → EReal) (M : EReal) (hM : fin M) : ∑ e, Ideal.exp (wide l e - M) = ∑ e, Ideal.exp (l e - M) := by
  symm
  refine Finset.sum_of_injOn (fun e : Fin 16 => (⟨e.val, by omega⟩ : Fin 128)) ?_ (fun _ _ => Finset.mem_coe.2 (Finset.mem_univ _)) (fun x _ hx => ?_) (fun k _ => ?_)
  · intro a _ b _ h
    have := Fin.mk.inj h
    exact Fin.ext this
  · have h : ¬ x.val < 16 := fun h => hx ⟨⟨x.val, h⟩, Finset.mem_coe.2 (Finset.mem_univ _), rfl⟩
    rw [wide, dif_neg h]
    obtain ⟨r, rfl⟩ := hM
    rfl
  · rw [wide, dif_pos k.isLt]

/-- A sum of exponentials is not zero at the largest. -/
theorem sum_exp_ne (l : Fin 16 → EReal) (hl : ∀ e, fin (l e)) : ∑ e, Ideal.exp (l e - mx l) ≠ 0 := by
  obtain ⟨e, he⟩ := mx_mem l
  have hn : ∀ x : EReal, 0 ≤ Ideal.exp x := fun x => by
    induction x with
    | bot => exact le_rfl
    | top => exact le_top
    | coe r => exact EReal.coe_nonneg.2 (Real.exp_pos r).le
  have h1 : Ideal.exp (l e - mx l) = 1 := by
    rw [he, (hl e).sub_self]
    show ((Real.exp 0 : ℝ) : EReal) = 1
    rw [Real.exp_zero]; rfl
  have := Finset.single_le_sum (f := fun e => Ideal.exp (l e - mx l)) (fun i _ => hn _) (Finset.mem_univ e)
  rw [h1] at this
  intro h0
  rw [h0] at this
  exact absurd this (by norm_num)

/-- The softmax over the 128 lanes: that over the 16, and zero on the others. -/
theorem smx_wide (l : Fin 16 → EReal) (hl : ∀ e, fin (l e)) (e : Fin 128) :
    Ideal.div (Ideal.exp (wide l e - Finset.univ.fold max ⊥ (wide l))) (∑ e', Ideal.exp (wide l e' - Finset.univ.fold max ⊥ (wide l)))
      = if h : e.val < 16 then smx l ⟨e.val, h⟩ else 0 := by
  obtain ⟨e0, he0⟩ := mx_mem l
  have hM : fin (mx l) := he0 ▸ hl e0
  rw [mx_wide, sum_wide l _ hM]
  by_cases h : e.val < 16
  · rw [dif_pos h, wide, dif_pos h]
    rfl
  · rw [dif_neg h, wide, dif_neg h]
    have hx : Ideal.exp (⊥ - mx l) = 0 := by
      obtain ⟨r, hr⟩ := hM
      rw [hr]
      rfl
    rw [hx, Ideal.div, if_neg (sum_exp_ne l hl), zero_mul]

end Cert.MergeIdeal.Row

end
-- ==== Proof.MergePay.lean ====
/-
  The kernel body's values at an index: each is one step of the row's formulas.
-/
module

public import proofs.«01_k».proof.Proof.Gen.MergeIdeal.Skeleton
public import proofs.«01_k».proof.Proof.MergeRow

@[expose] public section

set_option maxRecDepth 16384

noncomputable section

open Idealize.ShloMosaic Idealize.ShloMosaic.TcCoe Idealize.SL.Sem

namespace Cert.MergeIdeal.Pay

open Cert.MergeIdeal Cert.MergeIdeal.Gen Cert.MergeIdeal.Row

/-- The group norm, through the two-term products with the table of ones. -/
theorem pay3_at (v0 : FVec Ideal S512x512 .bf16) (v2 v4 : FVec Ideal S1x256x512 .f32) (v31 v35 : FVec Ideal S1x512 .f32) (r : Fin 256) (c : Fin 512)
    (h0 : ∀ x c, v0 (ix2 x c) = one x c) (hy : ∀ c, fin (v2 (ix3 0 r c) + v4 (ix3 0 r c) : EReal)) :
    (k0_pay3 (F := Ideal) v0 v2 v4 v31 v35 (ix2 r c) : EReal) = gn (fun c => v2 (ix3 0 r c) + v4 (ix3 0 r c)) (fun c => v31 (ix2 0 c)) (fun c => v35 (ix2 0 c)) c := by
  pointwise [k0_pay3]
  simp only [h0]
  have e1 := fun c => split_one (fun c => (v2 (ix3 0 r c) + v4 (ix3 0 r c) : EReal)) hy c
  have e2 : ∀ x, (v2 (ix3 0 r x) + v4 (ix3 0 r x) - Ideal.div (hd (fun c => (v2 (ix3 0 r c) + v4 (ix3 0 r c) : EReal)) x) (Ideal.ofBits FTy.f32 0x42800000#32) : EReal)
      = dev (fun c => (v2 (ix3 0 r c) + v4 (ix3 0 r c) : EReal)) x := fun _ => rfl
  have e3 := fun c => split_one (fun c => dev (fun c => (v2 (ix3 0 r c) + v4 (ix3 0 r c) : EReal)) c * dev (fun c => (v2 (ix3 0 r c) + v4 (ix3 0 r c) : EReal)) c)
    (fun c => (fin.dev hy c).mul (fin.dev hy c)) c
  beta_reduce at e1 e3
  simp only [e1, mul_k64', e2, e3]
  rfl

/-- The gated sum of the two projections. -/
theorem pay4_at (v38 : FVec Ideal S256x512 .f32) (v39 v43 : FVec Ideal S1x256x512 .bf16) (v47 : FVec Ideal S1x256x2048 .bf16) (v58 : FVec Ideal S1x256x512 .f32) (v61 v67 : FVec Ideal S512x1024 .bf16) (r : Fin 256) (j : Fin 1024) :
    (k0_pay4 (F := Ideal) v38 v39 v43 v47 v58 v61 v67 (ix2 r j) : EReal) = mix (fun c => v47 (ix3 0 r c)) (fun c => v58 (ix3 0 r c)) (fun c => (v38 (ix2 r c) + v39 (ix3 0 r c)) * v43 (ix3 0 r c)) (fun k j => v61 (ix2 k j)) (fun k j => v67 (ix2 k j)) j := by
  pointwise [k0_pay4, mix]
  simp only [Row.sig, zero_sub]

/-- The token after the merge. -/
theorem pay6_at (v72 : FVec Ideal S256x1024 .bf16) (v73 : FVec Ideal S1024x1024 .bf16) (v76 : FVec Ideal S1x256x1024 .f32) (v78 : FVec Ideal S1x1x1024 .f32) (v90 : FVec Ideal S1x1024 .f32) (r : Fin 256) (j : Fin 1024) :
    (k0_pay6 (F := Ideal) v72 (k0_pay5 v73) (constant S256x1024 .f32 0x00000000#32) v76 v78 v90 (ix2 r j) : EReal)
      = x1 (fun j => ∑ k, v72 (ix2 r k) * v73 (ix2 k j)) (fun j => v76 (ix3 0 r j)) (fun j => v78 (ix3 0 0 j)) (fun j => v90 (ix2 0 j)) j := by
  pointwise [k0_pay6, k0_pay5, x1, rms]

/-- Its RMS norm, with the gain. -/
theorem pay8_at (v72 : FVec Ideal S256x1024 .bf16) (v74 : FVec Ideal S1024x1024 .bf16) (cst : FVec Ideal S256x1024 .f32) (v76 : FVec Ideal S1x256x1024 .f32) (v78 : FVec Ideal S1x1x1024 .f32) (v90 v110 : FVec Ideal S1x1024 .f32) (r : Fin 256) (j : Fin 1024) :
    (k0_pay8 (F := Ideal) v72 v74 cst v76 v78 v90 v110 (ix2 r j) : EReal)
      = rms (fun j => k0_pay6 (F := Ideal) v72 v74 cst v76 v78 v90 (ix2 r j)) j * v110 (ix2 0 j) := by
  pointwise [k0_pay8, rms]

/-- The modulated input of the router. -/
theorem pay9_at (v113 : FVec Ideal S256x1024 .f32) (v114 v118 : FVec Ideal S1x1x1024 .f32) (r : Fin 256) (j : Fin 1024) :
    (k0_pay9 (F := Ideal) v113 v114 v118 (ix2 r j) : EReal) = v113 (ix2 r j) * v114 (ix3 0 0 j) + v118 (ix3 0 0 j) := by
  pointwise [k0_pay9]

/-- A masked lane's logit. -/
theorem select_wide (l : Fin 16 → EReal) (e : Fin 128) (x : EReal) (h : ∀ h : e.val < 16, x = l ⟨e.val, h⟩) :
    Scalar.select (IntOp.cmpi CmpIPredicate.slt (BitVec.ofNat 32 e.val) 16#32) x (⊥ : EReal) = wide l e := by
  have hc : IntOp.cmpi CmpIPredicate.slt (BitVec.ofNat 32 e.val) 16#32 = if e.val < 16 then 1#1 else 0#1 := by
    clear h
    revert e
    decide
  rw [hc, wide]
  by_cases h16 : e.val < 16
  · rw [if_pos h16, dif_pos h16, ← h h16]
    rfl
  · rw [if_neg h16, dif_neg h16]
    rfl

/-- The router's softmax, over 128 lanes of which 16 are read. -/
theorem pay11_at (v113 : FVec Ideal S256x1024 .f32) (v114 v118 : FVec Ideal S1x1x1024 .f32) (v125 v127 : FVec Ideal S1024x128 .bf16) (r : Fin 256) (e : Fin 128)
    (h : Fin 1024 → EReal) (rw : Fin 1024 → Fin 16 → EReal) (hh : ∀ k, (k0_pay9 (F := Ideal) v113 v114 v118 (ix2 r k) : EReal) = h k)
    (fh : ∀ k, fin (h k)) (fr : ∀ k e, fin (rw k e))
    (h5 : ∀ k (e : Fin 128) (he : e.val < 16), v125 (ix2 k e) = rw k ⟨e.val, he⟩) (h7 : ∀ k (e : Fin 128) (he : e.val < 16), v127 (ix2 k e) = (0 : EReal)) :
    (k0_pay11 (F := Ideal) v113 v114 v118 v125 v127 (ix2 r e) : EReal) = if he : e.val < 16 then smx (logit h rw) ⟨e.val, he⟩ else 0 := by
  pointwise [k0_pay11]
  have hm : Named.named (F := Ideal) (φ := .f32) κ "mask" 4048155338#32 = (⊥ : EReal) := IdealRules.named_const.ideal_named_scalar κ "mask" _ ⊥ rfl
  simp only [hm, kinf, hh]
  have hs : ∀ e : Fin 128, Scalar.select (IntOp.cmpi CmpIPredicate.slt (BitVec.ofNat 32 e.val) 16#32)
            (∑ x, h x * v125 (ix2 x e) + (∑ x, (h x - h x) * v125 (ix2 x e) + ∑ x, h x * v127 (ix2 x e))) (⊥ : EReal) = wide (logit h rw) e := fun e => by
    refine select_wide (logit h rw) e _ fun he => ?_
    rw [Finset.sum_eq_zero (fun x _ => by rw [(fh x).sub_self, zero_mul] : ∀ x ∈ Finset.univ, (h x - h x) * v125 (ix2 x e) = 0),
      Finset.sum_eq_zero (fun x _ => by rw [h7 x e he, mul_zero] : ∀ x ∈ Finset.univ, h x * v127 (ix2 x e) = 0), add_zero, add_zero]
    exact Finset.sum_congr rfl fun x _ => by rw [h5 x e he]
  simp only [hs]
  exact smx_wide _ (fin.logit fh fr) e

end Cert.MergeIdeal.Pay

end
-- ==== Proof.MergeRef.lean ====
/-
  The reference's stages at an index: each is the row's formula at that token.
-/
module

public import proofs.«01_k».proof.Proof.Gen.MergeRefIdeal.Run
public import proofs.«01_k».proof.Proof.MergeRow
public import Idealize.ShloMosaic.Lib.KernelVsHost

@[expose] public section

set_option maxRecDepth 16384

noncomputable section

open Idealize.ShloMosaic Idealize.ShloMosaic.TcCoe Idealize.SL.Sem

namespace Cert.MergeRefIdeal.Stage

open Cert.MergeRefIdeal Cert.MergeRefIdeal.Gen Cert.MergeRefIdeal.Value Cert.MergeIdeal.Row

variable (V0 : Valuation τ sig (Elt Ideal))

/-- The reference's arguments, entry by entry. -/
def args : Args where
  hy b r c := (V0 (Proc.devRef .tc main_arg0) : FVec Ideal S4x8192x512 .f32) (ix3 b r c)
  yf b r c := (V0 (Proc.devRef .tc main_arg1) : FVec Ideal S4x8192x512 .f32) (ix3 b r c)
  yb b r c := (V0 (Proc.devRef .tc main_arg2) : FVec Ideal S4x8192x512 .f32) (ix3 b r c)
  bon b r c := (V0 (Proc.devRef .tc main_arg3) : FVec Ideal S4x8192x512 .bf16) (ix3 b r c)
  g b r c := (V0 (Proc.devRef .tc main_arg4) : FVec Ideal S4x8192x512 .bf16) (ix3 b r c)
  gates b r c := (V0 (Proc.devRef .tc main_arg5) : FVec Ideal S4x8192x2048 .bf16) (ix3 b r c)
  x b r c := (V0 (Proc.devRef .tc main_arg6) : FVec Ideal S4x8192x1024 .f32) (ix3 b r c)
  P1 k j := (V0 (Proc.devRef .tc main_arg7) : FVec Ideal S512x1024 .f32) (ix2 k j)
  P2 k j := (V0 (Proc.devRef .tc main_arg8) : FVec Ideal S512x1024 .f32) (ix2 k j)
  W k j := (V0 (Proc.devRef .tc main_arg9) : FVec Ideal S1024x1024 .f32) (ix2 k j)
  lg c := (V0 (Proc.devRef .tc main_arg10) : FVec Ideal S512 .f32) (ix1 c)
  lb c := (V0 (Proc.devRef .tc main_arg11) : FVec Ideal S512 .f32) (ix1 c)
  m2 b j := (V0 (Proc.devRef .tc main_arg12) : FVec Ideal S4x1x1024 .f32) (ix3 b 0 j)
  n1 j := (V0 (Proc.devRef .tc main_arg13) : FVec Ideal S1024 .f32) (ix1 j)
  n2 j := (V0 (Proc.devRef .tc main_arg14) : FVec Ideal S1024 .f32) (ix1 j)
  s b j := (V0 (Proc.devRef .tc main_arg15) : FVec Ideal S4x1x1024 .f32) (ix3 b 0 j)
  m3 b j := (V0 (Proc.devRef .tc main_arg16) : FVec Ideal S4x1x1024 .f32) (ix3 b 0 j)
  rw k e := (V0 (Proc.devRef .tc main_arg17) : FVec Ideal S1024x16 .f32) (ix2 k e)

/-- The channel of a head's entry. -/
def ch (h : Fin 8) (k : Fin 64) : Fin 512 := ⟨h.val * 64 + k.val, by have := h.isLt; have := k.isLt; omega⟩

/-- Both directions of the scan, by heads. -/
theorem v2_at (b : Fin 4) (r : Fin 8192) (h : Fin 8) (k : Fin 64) :
    ((res_main_v2 V0 : FVec Ideal S4x8192x8x64 .f32) (ix4 b r h k) : EReal) = (args V0).Y b r (ch h k) := by
  pointwise [res_main_v2]
  rfl

/-- The channel's head and place in the head. -/
theorem ch_div (c : Fin 512) (k : Fin 64) : ch ⟨c.val / 64, by omega⟩ k = hix c k := rfl

theorem hix_mod (c : Fin 512) : hix c ⟨c.val % 64, by omega⟩ = c := Fin.ext (by simp only [hix]; omega)

theorem hd_ch (y : Fin 512 → EReal) (h : Fin 8) (k : Fin 64) : hd y (ch h k) = ∑ k', y (ch h k') := by
  refine Finset.sum_congr rfl fun k' _ => congrArg y (Fin.ext ?_)
  have := k.isLt
  simp only [ch, hix]
  omega

/-- A head's mean. -/
theorem v6_at (b : Fin 4) (r : Fin 8192) (h : Fin 8) (k : Fin 64) :
    ((res_main_v6 V0 : FVec Ideal S4x8192x8x1 .f32) (ix4 b r h 0) : EReal) = Ideal.div (hd ((args V0).Y b r) (ch h k)) (Ideal.ofBits FTy.f32 0x42800000#32) := by
  pointwise [res_main_v6]
  rw [hd_ch]
  simp only [v2_at]

/-- A channel less its head's mean. -/
theorem v8_at (b : Fin 4) (r : Fin 8192) (h : Fin 8) (k : Fin 64) :
    ((res_main_v8 V0 : FVec Ideal S4x8192x8x64 .f32) (ix4 b r h k) : EReal) = dev ((args V0).Y b r) (ch h k) := by
  pointwise [res_main_v8]
  rw [v2_at, v6_at V0 b r h k]
  rfl

/-- The merged branches through the output projection. -/
theorem v46_at (b : Fin 4) (r : Fin 8192) (j : Fin 1024) :
    ((res_main_v46 V0 : FVec Ideal S4x8192x1024 .f32) (ix3 b r j) : EReal) = (args V0).O b r j := by
  pointwise [res_main_v46, res_main_v38]
  simp only [v2_at, v8_at]
  have e6 : ∀ c : Fin 512, ((res_main_v6 V0 : FVec Ideal S4x8192x8x1 .f32) (ix4 b r (⟨c.val / 64, by omega⟩ : Fin 8) 0) : EReal) = _ := fun c => v6_at V0 b r ⟨c.val / 64, by omega⟩ ⟨c.val % 64, by omega⟩
  simp only [e6, ch_div, hix_mod]
  have f0 : ∀ c, ((V0 (Proc.devRef .tc main_arg0) : FVec Ideal S4x8192x512 .f32) (ix3 b r c) : EReal) = (args V0).hy b r c := fun _ => rfl
  have f3 : ∀ c, ((V0 (Proc.devRef .tc main_arg3) : FVec Ideal S4x8192x512 .bf16) (ix3 b r c) : EReal) = (args V0).bon b r c := fun _ => rfl
  have f4 : ∀ c, ((V0 (Proc.devRef .tc main_arg4) : FVec Ideal S4x8192x512 .bf16) (ix3 b r c) : EReal) = (args V0).g b r c := fun _ => rfl
  have f5 : ∀ c, ((V0 (Proc.devRef .tc main_arg5) : FVec Ideal S4x8192x2048 .bf16) (ix3 b r c) : EReal) = (args V0).gates b r c := fun _ => rfl
  have f7 : ∀ k j, ((V0 (Proc.devRef .tc main_arg7) : FVec Ideal S512x1024 .f32) (ix2 k j) : EReal) = (args V0).P1 k j := fun _ _ => rfl
  have f8 : ∀ k j, ((V0 (Proc.devRef .tc main_arg8) : FVec Ideal S512x1024 .f32) (ix2 k j) : EReal) = (args V0).P2 k j := fun _ _ => rfl
  have f9 : ∀ k j, ((V0 (Proc.devRef .tc main_arg9) : FVec Ideal S1024x1024 .f32) (ix2 k j) : EReal) = (args V0).W k j := fun _ _ => rfl
  have f10 : ∀ c, ((V0 (Proc.devRef .tc main_arg10) : FVec Ideal S512 .f32) (ix1 c) : EReal) = (args V0).lg c := fun _ => rfl
  have f11 : ∀ c, ((V0 (Proc.devRef .tc main_arg11) : FVec Ideal S512 .f32) (ix1 c) : EReal) = (args V0).lb c := fun _ => rfl
  simp only [f0, f3, f4, f5, f7, f8, f9, f10, f11]
  clear f0 f3 f4 f5 f7 f8 f9 f10 f11 e6
  generalize args V0 = A
  simp only [Args.O, mix, Args.Z, gn, Cert.MergeIdeal.Row.sig, dev, hd]

/-- The token after the merge. -/
theorem v62_at (b : Fin 4) (r : Fin 8192) (j : Fin 1024) :
    ((res_main_v62 V0 : FVec Ideal S4x8192x1024 .f32) (ix3 b r j) : EReal) = (args V0).X b r j := by
  pointwise [res_main_v62]
  simp only [v46_at]
  rfl

/-- The router's logits. -/
theorem v82_at (b : Fin 4) (r : Fin 8192) (e : Fin 16) :
    ((res_main_v82 V0 : FVec Ideal S4x8192x16 .f32) (ix3 b r e) : EReal) = logit ((args V0).H b r) (args V0).rw e := by
  pointwise [res_main_v82]
  simp only [v62_at]
  rfl

/-- The largest of a row of logits. -/
theorem max_at (L : FVec Ideal S4x8192x16 .f32) (b : Fin 4) (r : Fin 8192) :
    (Host.reduce (FloatOps.maximumf (F := Ideal) (φ := .f32)) L (constant (F := Ideal) S_ .f32 0xFF800000#32) reducesTo_S4x8192x16_S4x8192_d2 h_S_ (ix2 b r) : EReal)
      = mx (fun e => L (ix3 b r e)) := by
  have hr : S4x8192x16.Reduces [2] S4x8192 := by decide
  refine (congrFun (hostReduce_maximumf_eq_multiReduction (F := Ideal) L 0xFF800000#32 reducesTo_S4x8192x16_S4x8192_d2 h_S_ hr (.inl rfl) rfl) (ix2 b r)).trans ?_
  pointwise
  rw [kinf]
  rfl

/-- The affinities. -/
theorem v93_at (b : Fin 4) (r : Fin 8192) (e : Fin 16) :
    ((res_main_v93 V0 : FVec Ideal S4x8192x16 .f32) (ix3 b r e) : EReal) = (args V0).S b r e := by
  have h89 : ∀ e, ((res_main_v89 V0 : FVec Ideal S4x8192x16 .f32) (ix3 b r e) : EReal) = Ideal.exp (logit ((args V0).H b r) (args V0).rw e - mx (logit ((args V0).H b r) (args V0).rw)) := by
    intro e
    have h := max_at (res_main_v82 V0) b r
    unfold res_main_v89
    generalize (Host.reduce (FloatOps.maximumf (F := Ideal) (φ := .f32)) (res_main_v82 V0) (constant (F := Ideal) S_ .f32 0xFF800000#32) reducesTo_S4x8192x16_S4x8192_d2 h_S_ : FVec Ideal S4x8192 .f32) = M at h ⊢
    pointwise
    rw [h, v82_at, kinf]
    have hl : (fun e => ((res_main_v82 V0 : FVec Ideal S4x8192x16 .f32) (ix3 b r e) : EReal)) = logit ((args V0).H b r) (args V0).rw := funext fun e => v82_at V0 b r e
    rw [hl]
    exact congrArg _ (by simp)
  pointwise [res_main_v93]
  simp only [h89]
  rfl

end Cert.MergeRefIdeal.Stage

end
-- ==== Proof.MergeRes.lean ====
/-
  The reference's four results at an index.
-/
module

public import proofs.«01_k».proof.Proof.MergeRef
public import Idealize.ShloMosaic.Lib.Pointwise

@[expose] public section

set_option maxRecDepth 16384

noncomputable section

open Idealize.ShloMosaic Idealize.ShloMosaic.TcCoe Idealize.SL.Sem

namespace Cert.MergeRefIdeal.Stage

open Cert.MergeRefIdeal Cert.MergeRefIdeal.Gen Cert.MergeRefIdeal.Value Cert.MergeIdeal.Row

variable (V0 : Valuation τ sig (Elt Ideal))

/-- The reference's modulated norm of a token array. -/
def mod (X : FVec Ideal S4x8192x1024 .f32) (n : FVec Ideal S1024 .f32) (s t : FVec Ideal S4x1x1024 .f32) : FVec Ideal S4x8192x1024 .f32 :=
  addf (mulf (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 n))) (broadcastInDim S4x8192x1024 ![0, 1, 2] bcast_S4x1x1024_S4x8192x1024_0_1_2 (addf (broadcastInDim S4x1x1024 ![] bcast_S_S4x1x1024 (constant S_ .f32 0x3F800000#32)) s))) (broadcastInDim S4x8192x1024 ![0, 1, 2] bcast_S4x1x1024_S4x8192x1024_0_1_2 t)

/-- It is the row's formula, token by token. -/
theorem mod_at (X : FVec Ideal S4x8192x1024 .f32) (n : FVec Ideal S1024 .f32) (s t : FVec Ideal S4x1x1024 .f32) (b : Fin 4) (r : Fin 8192) (j : Fin 1024) :
    (mod X n s t (ix3 b r j) : EReal) = h2 (fun j => X (ix3 b r j)) (fun j => n (ix1 j)) (fun j => s (ix3 b 0 j)) (fun j => t (ix3 b 0 j)) j := by
  pointwise [mod, h2, rms]

/-- The router's input. -/
theorem v81_at (b : Fin 4) (r : Fin 8192) (j : Fin 1024) :
    (mod (res_main_v62 V0) (V0 (Proc.devRef .tc main_arg14)) (V0 (Proc.devRef .tc main_arg15)) (V0 (Proc.devRef .tc main_arg16)) (ix3 b r j) : EReal) = (args V0).H b r j := by
  refine (mod_at _ _ _ _ b r j).trans ?_
  have e : (fun j => ((res_main_v62 V0 : FVec Ideal S4x8192x1024 .f32) (ix3 b r j) : EReal)) = (args V0).X b r := funext fun j => v62_at V0 b r j
  rw [e]
  rfl

/-- A row of 16 padded with zeros to 128. -/
theorem pad_at (L : FVec Ideal S4x8192x16 .f32) (b : Fin 4) (r : Fin 8192) (e : Fin 128) :
    ((pad S4x8192x128 ![0, 0, 0] ![0, 0, 112] ![0, 0, 0] L (sitofp (F := Ideal) .f32 (constantI S_ 32 0#32)) pads_S4x8192x16_S4x8192x128_000_000_01120 h_S_ : FVec Ideal S4x8192x128 .f32) (ix3 b r e) : EReal)
      = if he : e.val < 16 then L (ix3 b r ⟨e.val, he⟩) else 0 := by
  pointwise
  by_cases he : e.val < 16
  · rw [dif_pos he, dif_pos he]
  · rw [dif_neg he, dif_neg he]
    show (((0 : Int) : ℝ) : EReal) = 0
    simp

/-- The affinities among 128 lanes. -/
theorem v94_at (b : Fin 4) (r : Fin 8192) (e : Fin 128) :
    ((pad S4x8192x128 ![0, 0, 0] ![0, 0, 112] ![0, 0, 0] (res_main_v93 V0 : FVec Ideal S4x8192x16 .f32) (sitofp (F := Ideal) .f32 (constantI S_ 32 0#32)) pads_S4x8192x16_S4x8192x128_000_000_01120 h_S_ : FVec Ideal S4x8192x128 .f32) (ix3 b r e) : EReal)
      = if he : e.val < 16 then (args V0).S b r ⟨e.val, he⟩ else 0 := by
  refine (pad_at (res_main_v93 V0) b r e).trans ?_
  simp only [v93_at]

/-- The affinities, experts first. -/
theorem v95_at (b : Fin 4) (e : Fin 16) (r : Fin 8192) :
    (transpose S4x16x8192 [0, 2, 1] (res_main_v93 V0) transposes_S4x8192x16_S4x16x8192_0_2_1 (ix3 b e r) : EReal) = (args V0).S b r e := by
  have hv := v93_at V0 b r e
  generalize (res_main_v93 V0 : FVec Ideal S4x8192x16 .f32) = L at hv ⊢
  pointwise
  exact hv

end Cert.MergeRefIdeal.Stage

end
-- ==== Proof.MergeBlk.lean ====
/-
  The blocks the merge's kernel reads, at an index: each is an argument's entry.
-/
module

public import proofs.«01_k».proof.Proof.Gen.MergeIdeal.Value
public import proofs.«01_k».proof.Proof.MergeRow
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Final

open Cert.MergeIdeal Cert.MergeIdeal.Gen Cert.MergeIdeal.Row

variable (m : (ℓ : Loc nD τ sig) → Buf (Elt Ideal) ℓ)

theorem idx : ∀ t : Fin cfg0.N,
    win0_0.index t = ![t.val / 32, t.val % 32, 0] ∧ win0_1.index t = ![t.val / 32, t.val % 32, 0]
    ∧ win0_2.index t = ![t.val / 32, t.val % 32, 0] ∧ win0_3.index t = ![t.val / 32, t.val % 32, 0]
    ∧ win0_4.index t = ![t.val / 32, t.val % 32, 0] ∧ win0_5.index t = ![t.val / 32, t.val % 32, 0]
    ∧ win0_6.index t = ![t.val / 32, t.val % 32, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val / 32, 0, 0]
    ∧ win0_14.index t = ![0, 0] ∧ win0_15.index t = ![0, 0] ∧ win0_16.index t = ![t.val / 32, 0, 0] ∧ win0_17.index t = ![t.val / 32, 0, 0]
    ∧ win0_18.index t = ![0, 0] ∧ win0_19.index t = ![0, 0] ∧ win0_20.index t = ![t.val / 32, t.val % 32, 0]
    ∧ win0_21.index t = ![t.val / 32, t.val % 32, 0] ∧ win0_22.index t = ![t.val / 32, t.val % 32, 0] ∧ win0_23.index t = ![t.val / 32, 0, t.val % 32] :=
  (by decide +kernel : ∀ t : Fin grid0.N, _)

/-- The sample of a point. -/
def bOf (t : Fin cfg0.N) : Fin 4 := ⟨t.val / 32, by have : cfg0.N = 128 := N_0; have := t.isLt; omega⟩

/-- The token of a row of a point's block. -/
def rOf (t : Fin cfg0.N) (r : Fin 256) : Fin 8192 := ⟨t.val % 32 * 256 + r.val, by have := r.isLt; omega⟩

/-- The kernel's arguments, entry by entry. -/
def args (c : Dev nD) : Args where
  hy b r k := (m ((c : Thread nD τ).loc main_arg0) : FVec Ideal S4x8192x512 .f32) (ix3 b r k)
  yf b r k := (m ((c : Thread nD τ).loc main_arg1) : FVec Ideal S4x8192x512 .f32) (ix3 b r k)
  yb b r k := (m ((c : Thread nD τ).loc main_arg2) : FVec Ideal S4x8192x512 .f32) (ix3 b r k)
  bon b r k := (m ((c : Thread nD τ).loc main_arg3) : FVec Ideal S4x8192x512 .bf16) (ix3 b r k)
  g b r k := (m ((c : Thread nD τ).loc main_arg4) : FVec Ideal S4x8192x512 .bf16) (ix3 b r k)
  gates b r k := (m ((c : Thread nD τ).loc main_arg5) : FVec Ideal S4x8192x2048 .bf16) (ix3 b r k)
  x b r k := (m ((c : Thread nD τ).loc main_arg6) : FVec Ideal S4x8192x1024 .f32) (ix3 b r k)
  P1 k j := (m ((c : Thread nD τ).loc main_arg7) : FVec Ideal S512x1024 .f32) (ix2 k j)
  P2 k j := (m ((c : Thread nD τ).loc main_arg8) : FVec Ideal S512x1024 .f32) (ix2 k j)
  W k j := (m ((c : Thread nD τ).loc main_arg9) : FVec Ideal S1024x1024 .f32) (ix2 k j)
  lg k := (m ((c : Thread nD τ).loc main_arg10) : FVec Ideal S512 .f32) (ix1 k)
  lb k := (m ((c : Thread nD τ).loc main_arg11) : FVec Ideal S512 .f32) (ix1 k)
  m2 b j := (m ((c : Thread nD τ).loc main_arg12) : FVec Ideal S4x1x1024 .f32) (ix3 b 0 j)
  n1 j := (m ((c : Thread nD τ).loc main_arg13) : FVec Ideal S1024 .f32) (ix1 j)
  n2 j := (m ((c : Thread nD τ).loc main_arg14) : FVec Ideal S1024 .f32) (ix1 j)
  s b j := (m ((c : Thread nD τ).loc main_arg15) : FVec Ideal S4x1x1024 .f32) (ix3 b 0 j)
  m3 b j := (m ((c : Thread nD τ).loc main_arg16) : FVec Ideal S4x1x1024 .f32) (ix3 b 0 j)
  rw k e := (m ((c : Thread nD τ).loc main_arg17) : FVec Ideal S1024x16 .f32) (ix2 k e)

/-! Each window's block at an index. -/

theorem b0 (c : Dev nD) (t : Fin cfg0.N) (r : Fin 256) (k : Fin 512) :
    ((iblk m c 0 t : FVec Ideal S1x256x512 .f32) (ix3 0 r k) : EReal) = (args m c).hy (bOf t) (rOf t r) k := by
  refine Eq.trans (b := ((m ((c : Thread nD τ).loc main_arg0) : FVec Ideal S4x8192x512 .f32) (ix3 (bOf t) (rOf t r) k) : EReal)) ?_ rfl
  blk_ext! [iblk, V, idx t, bOf, rOf]

theorem b1 (c : Dev nD) (t : Fin cfg0.N) (r : Fin 256) (k : Fin 512) :
    ((iblk m c 1 t : FVec Ideal S1x256x512 .f32) (ix3 0 r k) : EReal) = (args m c).yf (bOf t) (rOf t r) k := by
  refine Eq.trans (b := ((m ((c : Thread nD τ).loc main_arg1) : FVec Ideal S4x8192x512 .f32) (ix3 (bOf t) (rOf t r) k) : EReal)) ?_ rfl
  blk_ext! [iblk, V, idx t, bOf, rOf]

theorem b2 (c : Dev nD) (t : Fin cfg0.N) (r : Fin 256) (k : Fin 512) :
    ((iblk m c 2 t : FVec Ideal S1x256x512 .f32) (ix3 0 r k) : EReal) = (args m c).yb (bOf t) (rOf t r) k := by
  refine Eq.trans (b := ((m ((c : Thread nD τ).loc main_arg2) : FVec Ideal S4x8192x512 .f32) (ix3 (bOf t) (rOf t r) k) : EReal)) ?_ rfl
  blk_ext! [iblk, V, idx t, bOf, rOf]

theorem b3 (c : Dev nD) (t : Fin cfg0.N) (r : Fin 256) (k : Fin 512) :
    ((iblk m c 3 t : FVec Ideal S1x256x512 .bf16) (ix3 0 r k) : EReal) = (args m c).bon (bOf t) (rOf t r) k := by
  refine Eq.trans (b := ((m ((c : Thread nD τ).loc main_arg3) : FVec Ideal S4x8192x512 .bf16) (ix3 (bOf t) (rOf t r) k) : EReal)) ?_ rfl
  blk_ext! [iblk, V, idx t, bOf, rOf]

theorem b4 (c : Dev nD) (t : Fin cfg0.N) (r : Fin 256) (k : Fin 512) :
    ((iblk m c 4 t : FVec Ideal S1x256x512 .bf16) (ix3 0 r k) : EReal) = (args m c).g (bOf t) (rOf t r) k := by
  refine Eq.trans (b := ((m ((c : Thread nD τ).loc main_arg4) : FVec Ideal S4x8192x512 .bf16) (ix3 (bOf t) (rOf t r) k) : EReal)) ?_ rfl
  blk_ext! [iblk, V, idx t, bOf, rOf]

theorem b5 (c : Dev nD) (t : Fin cfg0.N) (r : Fin 256) (k : Fin 2048) :
    ((iblk m c 5 t : FVec Ideal S1x256x2048 .bf16) (ix3 0 r k) : EReal) = (args m c).gates (bOf t) (rOf t r) k := by
  refine Eq.trans (b := ((m ((c : Thread nD τ).loc main_arg5) : FVec Ideal S4x8192x2048 .bf16) (ix3 (bOf t) (rOf t r) k) : EReal)) ?_ rfl
  blk_ext! [iblk, V, idx t, bOf, rOf]

theorem b6 (c : Dev nD) (t : Fin cfg0.N) (r : Fin 256) (k : Fin 1024) :
    ((iblk m c 6 t : FVec Ideal S1x256x1024 .f32) (ix3 0 r k) : EReal) = (args m c).x (bOf t) (rOf t r) k := by
  refine Eq.trans (b := ((m ((c : Thread nD τ).loc main_arg6) : FVec Ideal S4x8192x1024 .f32) (ix3 (bOf t) (rOf t r) k) : EReal)) ?_ rfl
  blk_ext! [iblk, V, idx t, bOf, rOf]

theorem b7 (c : Dev nD) (t : Fin cfg0.N) (k : Fin 512) (j : Fin 1024) :
    ((iblk m c 7 t : FVec Ideal S512x1024 .bf16) (ix2 k j) : EReal) = (args m c).P1 k j := by
  refine Eq.trans (b := ((m ((c : Thread nD τ).loc main_arg7) : FVec Ideal S512x1024 .f32) (ix2 k j) : EReal)) ?_ rfl
  blk_ext! [iblk, V, idx t]

theorem b8 (c : Dev nD) (t : Fin cfg0.N) (k : Fin 512) (j : Fin 1024) :
    ((iblk m c 8 t : FVec Ideal S512x1024 .bf16) (ix2 k j) : EReal) = (args m c).P2 k j := by
  refine Eq.trans (b := ((m ((c : Thread nD τ).loc main_arg8) : FVec Ideal S512x1024 .f32) (ix2 k j) : EReal)) ?_ rfl
  blk_ext! [iblk, V, idx t]

theorem b9 (c : Dev nD) (t : Fin cfg0.N) (k : Fin 1024) (j : Fin 1024) :
    ((iblk m c 9 t : FVec Ideal S1024x1024 .bf16) (ix2 k j) : EReal) = (args m c).W k j := by
  refine Eq.trans (b := ((m ((c : Thread nD τ).loc main_arg9) : FVec Ideal S1024x1024 .f32) (ix2 k j) : EReal)) ?_ rfl
  blk_ext! [iblk, V, idx t]

theorem b11 (c : Dev nD) (t : Fin cfg0.N) (k : Fin 512) :
    ((iblk m c 11 t : FVec Ideal S1x512 .f32) (ix2 0 k) : EReal) = (args m c).lg k := by
  refine Eq.trans (b := ((m ((c : Thread nD τ).loc main_arg10) : FVec Ideal S512 .f32) (ix1 k) : EReal)) ?_ rfl
  blk_ext! [iblk, V, idx t]

theorem b12 (c : Dev nD) (t : Fin cfg0.N) (k : Fin 512) :
    ((iblk m c 12 t : FVec Ideal S1x512 .f32) (ix2 0 k) : EReal) = (args m c).lb k := by
  refine Eq.trans (b := ((m ((c : Thread nD τ).loc main_arg11) : FVec Ideal S512 .f32) (ix1 k) : EReal)) ?_ rfl
  blk_ext! [iblk, V, idx t]

theorem b14 (c : Dev nD) (t : Fin cfg0.N) (k : Fin 1024) :
    ((iblk m c 14 t : FVec Ideal S1x1024 .f32) (ix2 0 k) : EReal) = (args m c).n1 k := by
  refine Eq.trans (b := ((m ((c : Thread nD τ).loc main_arg13) : FVec Ideal S1024 .f32) (ix1 k) : EReal)) ?_ rfl
  blk_ext! [iblk, V, idx t]

theorem b15 (c : Dev nD) (t : Fin cfg0.N) (k : Fin 1024) :
    ((iblk m c 15 t : FVec Ideal S1x1024 .f32) (ix2 0 k) : EReal) = (args m c).n2 k := by
  refine Eq.trans (b := ((m ((c : Thread nD τ).loc main_arg14) : FVec Ideal S1024 .f32) (ix1 k) : EReal)) ?_ rfl
  blk_ext! [iblk, V, idx t]

theorem b13 (c : Dev nD) (t : Fin cfg0.N) (k : Fin 1024) :
    ((iblk m c 13 t : FVec Ideal S1x1x1024 .f32) (ix3 0 0 k) : EReal) = (args m c).m2 (bOf t) k := by
  refine Eq.trans (b := ((m ((c : Thread nD τ).loc main_arg12) : FVec Ideal S4x1x1024 .f32) (ix3 (bOf t) 0 k) : EReal)) ?_ rfl
  blk_ext! [iblk, V, idx t, bOf]

theorem b17 (c : Dev nD) (t : Fin cfg0.N) (k : Fin 1024) :
    ((iblk m c 17 t : FVec Ideal S1x1x1024 .f32) (ix3 0 0 k) : EReal) = (args m c).m3 (bOf t) k := by
  refine Eq.trans (b := ((m ((c : Thread nD τ).loc main_arg16) : FVec Ideal S4x1x1024 .f32) (ix3 (bOf t) 0 k) : EReal)) ?_ rfl
  blk_ext! [iblk, V, idx t, bOf]

/-- One plus the scale. -/
theorem b16 (c : Dev nD) (t : Fin cfg0.N) (k : Fin 1024) :
    ((iblk m c 16 t : FVec Ideal S1x1x1024 .f32) (ix3 0 0 k) : EReal) = 1 + (args m c).s (bOf t) k := by
  have hv : (V m c main_v1 : FVec Ideal S4x1x1024 .f32) = fun j => (1 : EReal) + (m ((c : Thread nD τ).loc main_arg15) : FVec Ideal S4x1x1024 .f32) j := by
    unfold V
    after_results
    funext j
    pointwise
  refine Eq.trans (b := (V m c main_v1 : FVec Ideal S4x1x1024 .f32) ((win0_16.blk t).view.emb (ix3 0 0 k))) rfl ?_
  rw [hv]
  exact congrArg (fun j => (1 : EReal) + (m ((c : Thread nD τ).loc main_arg15) : FVec Ideal S4x1x1024 .f32) j) (by blk_ext [idx t, bOf])

end Cert.MergeIdeal.Final

end
-- ==== Proof.MergeTab.lean ====
/-
  The blocks of the merge's kernel that the host computes: the table of ones and the router's matrix among 128 columns.
-/
module

public import proofs.«01_k».proof.Proof.MergeBlk
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.MergeIdeal.Final

open Cert.MergeIdeal Cert.MergeIdeal.Gen Cert.MergeIdeal.Row

variable (m : (ℓ : Loc nD τ sig) → Buf (Elt Ideal) ℓ)

/-- A channel's head, by a shift of six places. -/
theorem shift6 : ∀ x : Fin 512, IntOp.shrsi ArithUnit.host (BitVec.ofNat 32 x.val) 6#32 = BitVec.ofNat 32 (x.val / 64) := by
  decide +kernel

/-- The table of ones. -/
theorem b10 (c : Dev nD) (t : Fin cfg0.N) (x k : Fin 512) :
    ((iblk m c 10 t : FVec Ideal S512x512 .bf16) (ix2 x k) : EReal) = one x k := by
  refine Eq.trans (b := (V m c main_v13 : FVec Ideal S512x512 .bf16) ((win0_10.blk t).view.emb (ix2 x k))) rfl ?_
  have he : (win0_10.blk t).view.emb (ix2 x k) = ix2 x k := by blk_ext [idx t]
  rw [he]
  unfold V
  after_results
  pointwise
  rw [shift6, shift6, one]
  have hc : IntOp.cmpi CmpIPredicate.eq (BitVec.ofNat 32 (x.val / 64)) (BitVec.ofNat 32 (k.val / 64)) = if x.val / 64 = k.val / 64 then 1#1 else 0#1 := by
    have hx : x.val / 64 < 2 ^ 32 := by omega
    have hk : k.val / 64 < 2 ^ 32 := by omega
    by_cases h : x.val / 64 = k.val / 64
    · rw [if_pos h, h]
      show BitVec.ofBool (_ == _) = _
      simp
    · rw [if_neg h]
      show BitVec.ofBool (_ == _) = _
      have hn : ¬ BitVec.ofNat 32 (x.val / 64) = BitVec.ofNat 32 (k.val / 64) := fun q => h (by
        have := congrArg BitVec.toNat q
        rw [BitVec.toNat_ofNat, BitVec.toNat_ofNat, Nat.mod_eq_of_lt hx, Nat.mod_eq_of_lt hk] at this
        exact this)
      rw [beq_eq_false_iff_ne.2 hn]
      rfl
  rw [hc]
  split
  · show (((1 : Nat) : ℝ) : EReal) = 1
    simp
  · show (((0 : Nat) : ℝ) : EReal) = 0
    simp

/-- Where the update `(k', e')` of the router's matrix lands. -/
theorem lands (J : IVec S1 32) (hJ : J (ix1 0) = 0#32) (k k' : Fin 1024) (e : Fin 128) (e' : Fin 16) :
    scatter_S1024x128_S1_S1024x16_01_n_1_0.resultIdx? (ix2 k' e') J = some (ix2 k e) ↔ k' = k ∧ e'.val = e.val := by
  rw [Routing.resultIdx?_eq_some]
  have hsi : scatter_S1024x128_S1_S1024x16_01_n_1_0.siIdx (ix2 k' e') (0 : Fin 1) = ix1 0 := by
    funext a
    apply Fin.ext
    match a with
    | ⟨0, _⟩ => rfl
  have s0 : scatter_S1024x128_S1_S1024x16_01_n_1_0.start (ix2 k' e') J 0 = 0 := by
    unfold ScatterDims.start
    rw [dif_neg (by decide)]
  have s1 : scatter_S1024x128_S1_S1024x16_01_n_1_0.start (ix2 k' e') J 1 = 0 := by
    unfold ScatterDims.start
    rw [dif_pos (by decide)]
    refine (congrArg (fun q => (J q).toInt) hsi).trans ?_
    rw [hJ]
    rfl
  have w0 : scatter_S1024x128_S1_S1024x16_01_n_1_0.window (ix2 k' e') 0 = k'.val := by
    unfold ScatterDims.window
    rw [dif_pos (by decide)]
    rfl
  have w1 : scatter_S1024x128_S1_S1024x16_01_n_1_0.window (ix2 k' e') 1 = e'.val := by
    unfold ScatterDims.window
    rw [dif_pos (by decide)]
    rfl
  constructor
  · intro h
    have q0 := h 0
    have q1 := h 1
    rw [s0, w0] at q0
    rw [s1, w1] at q1
    exact ⟨Fin.ext (by have : (k'.val : Int) = k.val := by simpa using q0
                       omega), by have : (e'.val : Int) = e.val := by simpa using q1
                                  omega⟩
  · rintro ⟨rfl, he⟩ a
    match a with
    | ⟨0, _⟩ => exact (congrArg₂ (fun p q : Int => p + q) s0 (congrArg Nat.cast w0)).trans (zero_add _)
    | ⟨1, _⟩ => exact (congrArg₂ (fun p q : Int => p + q) s1 (congrArg Nat.cast w1)).trans ((zero_add _).trans (congrArg Nat.cast he))

/-- The router's matrix among 128 columns. -/
theorem v18_at (c : Dev nD) (k : Fin 1024) (e : Fin 128) (he : e.val < 16) :
    ((V m c main_v18 : FVec Ideal S1024x128 .f32) (ix2 k e) : EReal) = (args m c).rw k ⟨e.val, he⟩ := by
  unfold V
  after_results
  refine Routing.scatter_set_hit scatter_S1024x128_S1_S1024x16_01_n_1_0 _ _ _ _ _ (fun q hq => ?_) (ix2 k ⟨e.val, he⟩) ((lands _ rfl k k e ⟨e.val, he⟩).2 ⟨rfl, rfl⟩)
  obtain ⟨k', e', rfl⟩ : ∃ (k' : Fin 1024) (e' : Fin 16), q = ix2 k' e' := ⟨q 0, q 1, by idx_ext⟩
  obtain ⟨rfl, h⟩ := (lands _ rfl k k' e e').1 hq
  obtain rfl : e' = ⟨e.val, he⟩ := Fin.ext h
  rfl

/-- A format change is the identity. -/
theorem cast_at (S : FVec Ideal S1024x128 .f32) (j : S1024x128.Idx) : (truncf .bf16 S bitsLt_bf16_f32 j : EReal) = S j := rfl

/-- The rounding error of a number is the number less itself. -/
theorem lo_at (S : FVec Ideal S1024x128 .f32) (j : S1024x128.Idx) :
    (truncf .bf16 (subf S (extf .f32 (truncf .bf16 S bitsLt_bf16_f32) bitsLt_bf16_f32)) bitsLt_bf16_f32 j : EReal) = S j - S j := rfl

/-- The rounded router's matrix. -/
theorem b18 (c : Dev nD) (t : Fin cfg0.N) (k : Fin 1024) (e : Fin 128) (he : e.val < 16) :
    ((iblk m c 18 t : FVec Ideal S1024x128 .bf16) (ix2 k e) : EReal) = (args m c).rw k ⟨e.val, he⟩ := by
  refine Eq.trans (b := (V m c main_v19 : FVec Ideal S1024x128 .bf16) ((win0_18.blk t).view.emb (ix2 k e))) rfl ?_
  have hi : (win0_18.blk t).view.emb (ix2 k e) = ix2 k e := by blk_ext [idx t]
  rw [hi, ← v18_at m c k e he]
  unfold V
  after_results
  exact cast_at _ _

/-- Its rounding error. -/
theorem b19 (c : Dev nD) (t : Fin cfg0.N) (k : Fin 1024) (e : Fin 128) (he : e.val < 16) (hf : fin ((args m c).rw k ⟨e.val, he⟩)) :
    (iblk m c 19 t : FVec Ideal S1024x128 .bf16) (ix2 k e) = (0 : EReal) := by
  refine Eq.trans (b := (V m c main_v22 : FVec Ideal S1024x128 .bf16) ((win0_19.blk t).view.emb (ix2 k e))) rfl ?_
  have hi : (win0_19.blk t).view.emb (ix2 k e) = ix2 k e := by blk_ext [idx t]
  have h18 := v18_at m c k e he
  rw [hi]
  refine Eq.trans (b := (fun a : EReal => a - a) ((V m c main_v18 : FVec Ideal S1024x128 .f32) (ix2 k e))) ?_ ?_
  · unfold V
    after_results
    exact lo_at _ _
  · rw [h18]
    exact hf.sub_self

end Cert.MergeIdeal.Final

end
-- ==== Proof.MergePre.lean ====
/-
  The merge's precondition, read: the arguments it names are finite, entry by entry.
-/
module

public import proofs.«01_k».proof.Defs
public import proofs.«01_k».proof.Proof.Gen.Pre_merge_finite
public import proofs.«01_k».proof.Proof.MergeBlk
public import Idealize.ShloMosaic.Lib.ReduceAll

@[expose] public section

set_option maxRecDepth 16384

noncomputable section

open Idealize.ShloMosaic Idealize.ShloMosaic.TcCoe Idealize.SL.Sem

namespace Cert.MergeIdeal.Final

open Cert.MergeIdeal Cert.MergeIdeal.Gen Cert.MergeIdeal.Row

variable (m : (ℓ : Loc nD τ sig) → Buf (Elt Ideal) ℓ)

/-- The arguments the two-term products need finite. -/
structure Ok (A : Args) : Prop where
  yf : ∀ b r k, fin (A.yf b r k)
  yb : ∀ b r k, fin (A.yb b r k)
  n2 : ∀ j, fin (A.n2 j)
  s : ∀ b j, fin (A.s b j)
  m3 : ∀ b j, fin (A.m3 b j)
  rw : ∀ k e, fin (A.rw k e)

/-- A number whose magnitude is below infinity is finite. -/
theorem fin_of_lt (a : EReal) (h : FloatOps.cmpf (F := Ideal) (φ := .f32) CmpFPredicate.olt (FloatOps.absf (F := Ideal) (φ := .f32) a) (Ideal.ofBits FTy.f32 0x7F800000#32) = 1#1) : fin a := by
  rw [kpinf] at h
  have hb : ∀ p : Bool, BitVec.ofBool p = 1#1 → p = true := by decide
  have h' : max a (-a) < (⊤ : EReal) := of_decide_eq_true (hb _ h)
  induction a with
  | bot => simp at h'
  | top => simp at h'
  | coe r => exact ⟨r, rfl⟩

/-- An array all of whose entries test finite, by the conjunction over all of it. -/
theorem all_fin {s u t : Shape} [Subsingleton t.Idx] {axes : List (Fin s.rank)} (a : FVec Ideal s .f32) (b : FVec Ideal s .f32) (hb : ∀ i, b i = Ideal.ofBits FTy.f32 0x7F800000#32) (init : IVec u 1)
    (h : s.ReducesTo axes t) (hu : 0 < u.numel) (j : t.Idx) (e : Host.reduce IntOp.andi (cmpf .olt (Host.absf a) b) init h hu j = 1#1) (i : s.Idx) : fin (a i) := by
  have := (Host.reduce_andi_all _ init h hu j e) i
  refine fin_of_lt (a i) ?_
  rw [← hb i]
  exact this

instance : Subsingleton Cert.Pre_merge_finite.S_.Idx := ⟨fun _ _ => funext fun a => a.elim0⟩

/-- The precondition makes the arguments it names finite. -/
theorem ok_of_pre (h : Cert.Pre_MergeIdeal m) (c : Dev nD) : Ok (args m c) := by
  have e := congrFun (h c) (fun a => a.elim0)
  simp only [Pre_merge_finite.fn, Pre_merge_finite.fn_part1, andi, IntOp.andi_eq_one] at e
  obtain ⟨⟨⟨⟨⟨e1, e2⟩, e3⟩, e4⟩, e5⟩, e6⟩ := e
  exact {
    yf := fun b r k => all_fin _ _ (fun _ => rfl) _ _ _ _ e1 (ix3 b r k)
    yb := fun b r k => all_fin _ _ (fun _ => rfl) _ _ _ _ e2 (ix3 b r k)
    n2 := fun j => all_fin _ _ (fun _ => rfl) _ _ _ _ e3 (ix1 j)
    s := fun b j => all_fin _ _ (fun _ => rfl) _ _ _ _ e4 (ix3 b 0 j)
    m3 := fun b j => all_fin _ _ (fun _ => rfl) _ _ _ _ e5 (ix3 b 0 j)
    rw := fun k e => all_fin _ _ (fun _ => rfl) _ _ _ _ e6 (ix2 k e) }

end Cert.MergeIdeal.Final

end
-- ==== Proof.MergeValue.lean ====
/-
  The merge and the router: kernel and reference, token by token, at the extended reals.
-/
module

public import proofs.«01_k».proof.Defs
public import proofs.«01_k».proof.Proof.Gen.MergeIdeal.Value
public import proofs.«01_k».proof.Proof.Gen.MergeRefIdeal.Run
public import proofs.«01_k».proof.Proof.Gen.Merge.Frame
public import proofs.«01_k».proof.Proof.Gen.Pre_merge_finite
public import proofs.«01_k».proof.Proof.MergePay
public import proofs.«01_k».proof.Proof.MergeRes
public import proofs.«01_k».proof.Proof.MergeTab
public import proofs.«01_k».proof.Proof.MergePre
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Final

open Cert.MergeIdeal Cert.MergeIdeal.Gen Cert.MergeIdeal.Row Cert.MergeIdeal.Pay

variable (m : (ℓ : Loc nD τ sig) → Buf (Elt Ideal) ℓ)

/-- The masked constant is `⊥` at the extended reals. -/
theorem preserves : Cert.preserves_Merge_MergeIdeal :=
  IdealRules.named_const.statement κ "mask" .f32 0xF149F2CA#32 ⊥ rfl

/-- The gated sum, as the body computes it at a point. -/
abbrev MIX (c : Dev nD) (t : Fin cfg0.N) : FVec Ideal S256x1024 .bf16 :=
  k0_pay4 (k0_pay3 (iblk m c 10 t) (iblk m c 1 t) (iblk m c 2 t) (iblk m c 11 t) (iblk m c 12 t)) (iblk m c 3 t) (iblk m c 4 t) (iblk m c 5 t) (iblk m c 0 t) (iblk m c 7 t) (iblk m c 8 t)

theorem mix_at (c : Dev nD) (h : Ok (args m c)) (t : Fin cfg0.N) (r : Fin 256) (j : Fin 1024) :
    (MIX m c t (ix2 r j) : EReal) = mix ((args m c).gates (bOf t) (rOf t r)) ((args m c).hy (bOf t) (rOf t r)) ((args m c).Z (bOf t) (rOf t r)) (args m c).P1 (args m c).P2 j := by
  refine (pay4_at _ _ _ _ _ _ _ r j).trans ?_
  simp only [b5, b0, b3, b4, b7, b8]
  have h3 : ∀ k, (k0_pay3 (F := Ideal) (iblk m c 10 t) (iblk m c 1 t) (iblk m c 2 t) (iblk m c 11 t) (iblk m c 12 t) (ix2 r k) : EReal) = gn ((args m c).Y (bOf t) (rOf t r)) (args m c).lg (args m c).lb k := by
    intro k
    refine (pay3_at _ _ _ _ _ r k (fun x k => b10 m c t x k) (fun k => ?_)).trans ?_
    · rw [b1, b2]
      exact (h.yf _ _ _).add (h.yb _ _ _)
    · simp only [b1, b2, b11, b12]
      rfl
  simp only [h3]
  rfl

/-- The token after the merge, as the body computes it at a point. -/
theorem x_at (c : Dev nD) (h : Ok (args m c)) (t : Fin cfg0.N) (r : Fin 256) (j : Fin 1024) :
    (k0_pay6 (F := Ideal) (MIX m c t) (k0_pay5 (iblk m c 9 t)) (constant S256x1024 .f32 0x00000000#32) (iblk m c 6 t) (iblk m c 13 t) (iblk m c 14 t) (ix2 r j) : EReal)
      = (args m c).X (bOf t) (rOf t r) j := by
  refine (pay6_at _ _ _ _ _ r j).trans ?_
  simp only [mix_at m c h, b9, b6, b13, b14]
  rfl

/-- The normalised token, with its gain. -/
abbrev NORM (c : Dev nD) (t : Fin cfg0.N) : FVec Ideal S256x1024 .f32 :=
  k0_pay8 (MIX m c t) (k0_pay5 (iblk m c 9 t)) (constant S256x1024 .f32 0x00000000#32) (iblk m c 6 t) (iblk m c 13 t) (iblk m c 14 t) (iblk m c 15 t)

/-- The router's input, as the body computes it at a point. -/
theorem h_at (c : Dev nD) (h : Ok (args m c)) (t : Fin cfg0.N) (r : Fin 256) (j : Fin 1024) :
    (k0_pay9 (F := Ideal) (NORM m c t) (iblk m c 16 t) (iblk m c 17 t) (ix2 r j) : EReal) = (args m c).H (bOf t) (rOf t r) j := by
  refine (pay9_at _ _ _ r j).trans ?_
  refine (congrArg (fun a : EReal => a * (iblk m c 16 t : FVec Ideal S1x1x1024 .f32) (ix3 0 0 j) + (iblk m c 17 t : FVec Ideal S1x1x1024 .f32) (ix3 0 0 j)) (pay8_at _ _ _ _ _ _ _ r j)).trans ?_
  simp only [x_at m c h, b15, b16, b17]
  rfl

/-- The affinities among 128 lanes: zero beyond the 16 experts. -/
def aff (A : Args) (b : Fin 4) (r : Fin 8192) (e : Fin 128) : EReal := if he : e.val < 16 then A.S b r ⟨e.val, he⟩ else 0

/-- The affinities, as the body computes them at a point. -/
theorem s_at (c : Dev nD) (h : Ok (args m c)) (t : Fin cfg0.N) (r : Fin 256) (e : Fin 128) :
    (k0_pay11 (F := Ideal) (NORM m c t) (iblk m c 16 t) (iblk m c 17 t) (iblk m c 18 t) (iblk m c 19 t) (ix2 r e) : EReal) = aff (args m c) (bOf t) (rOf t r) e :=
  pay11_at _ _ _ _ _ r e ((args m c).H (bOf t) (rOf t r)) (args m c).rw (fun k => h_at m c h t r k)
    (fun k => fin.h2 _ h.n2 (h.s _) (h.m3 _) k) h.rw (fun k e he => b18 m c t k e he) (fun k e he => b19 m c t k e he (h.rw _ _))

theorem cast7 (v72 : FVec Ideal S256x1024 .bf16) (v74 : FVec Ideal S1024x1024 .bf16) (cst : FVec Ideal S256x1024 .f32) (v76 : FVec Ideal S1x256x1024 .f32) (v78 : FVec Ideal S1x1x1024 .f32) (v90 : FVec Ideal S1x1024 .f32) (r : Fin 256) (j : Fin 1024) :
    (k0_pay7 (F := Ideal) v72 v74 cst v76 v78 v90 (ix3 0 r j) : EReal) = k0_pay6 (F := Ideal) v72 v74 cst v76 v78 v90 (ix2 r j) := by
  pointwise [k0_pay7]

theorem cast10 (v113 : FVec Ideal S256x1024 .f32) (v114 v118 : FVec Ideal S1x1x1024 .f32) (r : Fin 256) (j : Fin 1024) :
    (k0_pay10 (F := Ideal) v113 v114 v118 (ix3 0 r j) : EReal) = k0_pay9 (F := Ideal) v113 v114 v118 (ix2 r j) := by
  pointwise [k0_pay10]

theorem cast1 (v : FVec Ideal S256x128 .f32) (r : Fin 256) (e : Fin 128) : (k0_pay1 (F := Ideal) v (ix3 0 r e) : EReal) = v (ix2 r e) := by
  pointwise [k0_pay1]

theorem cast2 (v : FVec Ideal S256x128 .f32) (r : Fin 256) (e : Fin 16) : (k0_pay2 (F := Ideal) v (ix3 0 e r) : EReal) = v (ix2 r (⟨e.val, by omega⟩ : Fin 128)) := by
  pointwise [k0_pay2]

/-- Result array 0 after the run: the token after the merge. -/
theorem final0 (c : Dev nD) (h : Ok (args m c)) : (dats m 0 c).arrAt 20 cfg0.N = fun i : S4x8192x1024.Idx => (args m c).X (i 0) (i 1) (i 2) := by
  refine (dats m 0 c).arrAt_eq_of_covers 20 _ (by decide +kernel) fun t hf y => ?_
  blk_simp
  rw [after0_20]
  unfold_out out0_20
  frame_out
  idx_vars y
  obtain rfl : y0 = 0 := Subsingleton.elim _ _
  have e : ((View.whole main_v27_0).slice (win0_20.rect t)).emb (ix3 0 y1 y2) = ix3 (bOf t) (rOf t y1) y2 := by blk_ext [idx t, bOf, rOf]
  rw [e]
  exact (cast7 _ _ _ _ _ _ y1 y2).trans (x_at m c h t y1 y2)

/-- Result array 1 after the run: the router's input. -/
theorem final1 (c : Dev nD) (h : Ok (args m c)) : (dats m 0 c).arrAt 21 cfg0.N = fun i : S4x8192x1024.Idx => (args m c).H (i 0) (i 1) (i 2) := by
  refine (dats m 0 c).arrAt_eq_of_covers 21 _ (by decide +kernel) fun t hf y => ?_
  blk_simp
  rw [after0_21]
  unfold_out out0_21
  frame_out
  idx_vars y
  obtain rfl : y0 = 0 := Subsingleton.elim _ _
  have e : ((View.whole main_v27_1).slice (win0_21.rect t)).emb (ix3 0 y1 y2) = ix3 (bOf t) (rOf t y1) y2 := by blk_ext [idx t, bOf, rOf]
  rw [e]
  exact (cast10 _ _ _ y1 y2).trans (h_at m c h t y1 y2)

/-- Result array 2 after the run: the affinities among 128 lanes. -/
theorem final2 (c : Dev nD) (h : Ok (args m c)) : (dats m 0 c).arrAt 22 cfg0.N = fun i : S4x8192x128.Idx => aff (args m c) (i 0) (i 1) (i 2) := by
  refine (dats m 0 c).arrAt_eq_of_covers 22 _ (by decide +kernel) fun t hf y => ?_
  blk_simp
  rw [after0_22]
  unfold_out out0_22
  frame_out
  idx_vars y
  obtain rfl : y0 = 0 := Subsingleton.elim _ _
  have e : ((View.whole main_v27_2).slice (win0_22.rect t)).emb (ix3 0 y1 y2) = ix3 (bOf t) (rOf t y1) y2 := by blk_ext [idx t, bOf, rOf]
  rw [e]
  exact (cast1 _ y1 y2).trans (s_at m c h t y1 y2)

/-- Result array 3 after the run: the affinities, experts first. -/
theorem final3 (c : Dev nD) (h : Ok (args m c)) : (dats m 0 c).arrAt 23 cfg0.N = fun i : S4x16x8192.Idx => (args m c).S (i 0) (i 2) (i 1) := by
  refine (dats m 0 c).arrAt_eq_of_covers 23 _ (by decide +kernel) fun t hf y => ?_
  blk_simp
  rw [after0_23]
  unfold_out out0_23
  frame_out
  idx_vars y
  obtain rfl : y0 = 0 := Subsingleton.elim _ _
  have e : ((View.whole main_v27_3).slice (win0_23.rect t)).emb (ix3 0 y1 y2) = ix3 (bOf t) y1 (rOf t y2) := by blk_ext [idx t, bOf, rOf]
  rw [e]
  exact ((cast2 _ y2 y1).trans (s_at m c h t y2 _)).trans (dif_pos y1.isLt)

/-- Kernel and reference, run from memories that agree on the arguments, end with the same four results. -/
theorem algebraic : Cert.algebraic_MergeIdeal_MergeRefIdeal := by
  intro m g m' g' hp ha
  refine ⟨fun c => (fun i : S4x8192x1024.Idx => (args m c).X (i 0) (i 1) (i 2)), fun c => (fun i : S4x8192x1024.Idx => (args m c).H (i 0) (i 1) (i 2)),
    fun c => (fun i : S4x8192x128.Idx => aff (args m c) (i 0) (i 1) (i 2)), fun c => (fun i : S4x16x8192.Idx => (args m c).S (i 0) (i 2) (i 1)), ?_, ?_⟩
  · exact (θ_run defs _ _).mono (fun r h c => ⟨(h c).1.trans (final0 m c (ok_of_pre m hp c)), (h c).2.1.trans (final1 m c (ok_of_pre m hp c)),
      (h c).2.2.1.trans (final2 m c (ok_of_pre m hp c)), (h c).2.2.2.1.trans (final3 m c (ok_of_pre m hp c)), (h c).2.2.2.2⟩)
      (Cert.MergeIdeal.Value.run_blocks m g)
  · refine (θ_run Cert.MergeRefIdeal.defs _ _).mono (fun r h c => ?_) (Cert.MergeRefIdeal.Value.run m' g')
    obtain ⟨r0, r1, r2, r3, hr⟩ := h c
    have hA : Cert.MergeRefIdeal.Stage.args (StableHlo.launchContents m' c) = args m c := by
      obtain ⟨h0, h1, h2, h3, h4, h5, h6, h7, h8, h9, h10, h11, h12, h13, h14, h15, h16, h17⟩ := ha c
      exact Args.mk.injEq .. ▸ ⟨funext fun b => funext fun r => funext fun k => congrFun h0 _,
        funext fun b => funext fun r => funext fun k => congrFun h1 _,
        funext fun b => funext fun r => funext fun k => congrFun h2 _,
        funext fun b => funext fun r => funext fun k => congrFun h3 _,
        funext fun b => funext fun r => funext fun k => congrFun h4 _,
        funext fun b => funext fun r => funext fun k => congrFun h5 _,
        funext fun b => funext fun r => funext fun k => congrFun h6 _,
        funext fun k => funext fun j => congrFun h7 _,
        funext fun k => funext fun j => congrFun h8 _,
        funext fun k => funext fun j => congrFun h9 _,
        funext fun k => congrFun h10 _,
        funext fun k => congrFun h11 _,
        funext fun b => funext fun k => congrFun h12 _,
        funext fun k => congrFun h13 _,
        funext fun k => congrFun h14 _,
        funext fun b => funext fun k => congrFun h15 _,
        funext fun b => funext fun k => congrFun h16 _,
        funext fun k => funext fun j => congrFun h17 _⟩
    refine ⟨r0.trans ?_, r1.trans ?_, r2.trans ?_, r3.trans ?_, hr⟩
    · funext i
      idx_vars i
      exact (Cert.MergeRefIdeal.Stage.v62_at _ i0 i1 i2).trans (by rw [hA])
    · funext i
      idx_vars i
      exact (Cert.MergeRefIdeal.Stage.v81_at _ i0 i1 i2).trans (by rw [hA])
    · funext i
      idx_vars i
      exact (Cert.MergeRefIdeal.Stage.v94_at _ i0 i1 i2).trans (by rw [hA]; rfl)
    · funext i
      idx_vars i
      exact (Cert.MergeRefIdeal.Stage.v95_at _ i0 i1 i2).trans (by rw [hA])

end Cert.MergeIdeal.Final

end
-- ==== Proof.PrepRow.lean ====
/-
  One token of the scan's preparation, as formulas over the extended reals: the centred mix of a token with its neighbours,
  the normalised key, the decays, the in-context rates, the modified keys, the bonus and the gate.
-/
module

public import proofs.«01_k».proof.Proof.MergeRow

@[expose] public section

noncomputable section

open Idealize.ShloMosaic

namespace Cert.PrepIdeal.Row

open Cert.MergeIdeal.Row (hd hix fin one sig)

/-- The mix of a number with its two neighbours. -/
def mixed (x p n u v : EReal) : EReal := x + u * (p - x) + v * (n - x)

/-- A softplus, as the largest of its argument and zero plus a logarithm. -/
def sp (x : EReal) : EReal := max x 0 + Ideal.log (1 + Ideal.exp (-(max x (-x))))

/-- The decay's exponential from the decay's projection. -/
def dec (x : EReal) : EReal := Ideal.exp (-(sp (-x)) - Ideal.ofBits FTy.f32 0x3F000000#32)

/-- A head's normalised key. -/
def nrm (y : Fin 512 → EReal) (c : Fin 512) : EReal :=
  y c * Ideal.rsqrt (max (hd (fun c' => y c' * y c') c) (Ideal.ofBits FTy.f32 0x179ABE15#32))

/-- The arguments, entry by entry. -/
structure Args where
  X : Fin 4 → Fin 8192 → Fin 1792 → EReal
  mu : Fin 2 → Fin 1792 → EReal
  wu : Fin 2 → Fin 64 → Fin 512 → EReal
  au : Fin 2 → Fin 64 → Fin 512 → EReal
  w0 : Fin 2 → Fin 512 → EReal
  a0 : Fin 2 → Fin 512 → EReal
  gu : Fin 128 → Fin 512 → EReal
  kk : Fin 512 → EReal
  ka : Fin 512 → EReal
  rk : Fin 8 → Fin 64 → EReal

namespace Args

variable (A : Args) (b : Fin 4) (r : Fin 8192) (d : Fin 2)

/-- The token before, zero at the start. -/
def prv (c : Fin 1792) : EReal := if r.val = 0 then 0 else A.X b ⟨r.val - 1, by have := r.isLt; omega⟩ c

/-- The token after, zero at the end. -/
def nxt (c : Fin 1792) : EReal := if h : r.val = 8191 then 0 else A.X b ⟨r.val + 1, by have := r.isLt; omega⟩ c

/-- The centred mix. -/
def Z (c : Fin 1792) : EReal := mixed (A.X b r c) (A.prv b r c) (A.nxt b r c) (A.mu 0 c) (A.mu 1 c)

/-- The receptance. -/
def R (c : Fin 512) : EReal := A.Z b r ⟨c.val, by have := c.isLt; omega⟩

/-- The key. -/
def K (c : Fin 512) : EReal := A.Z b r ⟨512 + c.val, by have := c.isLt; omega⟩

/-- The value. -/
def Vv (c : Fin 512) : EReal := A.Z b r ⟨1024 + c.val, by have := c.isLt; omega⟩

/-- The decay's low-rank input. -/
def LW (l : Fin 64) : EReal := A.Z b r ⟨1536 + l.val, by have := l.isLt; omega⟩

/-- The rate's low-rank input. -/
def LA (l : Fin 64) : EReal := A.Z b r ⟨1600 + l.val, by have := l.isLt; omega⟩

/-- The gate's low-rank input. -/
def LG (l : Fin 128) : EReal := A.Z b r ⟨1664 + l.val, by have := l.isLt; omega⟩

/-- The normalised key. -/
def KK (c : Fin 512) : EReal := nrm (fun c => A.K b r c * A.kk c) c

/-- The exponential of the decay. -/
def E (c : Fin 512) : EReal := dec ((∑ l, Ideal.tanh (A.LW b r l) * A.wu d l c) + A.w0 d c)

/-- The rate. -/
def Ar (c : Fin 512) : EReal := sig ((∑ l, A.LA b r l * A.au d l c) + A.a0 d c)

/-- The modified key. -/
def KM (c : Fin 512) : EReal := A.K b r c * (1 + (A.Ar b r d c - 1) * A.ka c)

/-- The rate times the normalised key. -/
def B (c : Fin 512) : EReal := A.KK b r c * A.Ar b r d c

/-- The gain of the bonus, channel by channel. -/
def rkc (c : Fin 512) : EReal := A.rk ⟨c.val / 64, by have := c.isLt; omega⟩ ⟨c.val % 64, by have := c.isLt; omega⟩

/-- The bonus of a direction, before the value. -/
def bo (c : Fin 512) : EReal := hd (fun c => A.R b r c * A.KM b r d c * A.rkc c) c

/-- The bonus of both directions. -/
def BO (c : Fin 512) : EReal := (A.bo b r 0 c + A.bo b r 1 c) * A.Vv b r c

/-- The gate. -/
def G (c : Fin 512) : EReal := ∑ l, sig (A.LG b r l) * A.gu l c

end Args

/-- The arguments the two-term products need finite. -/
structure Ok (A : Args) : Prop where
  X : ∀ b r c, fin (A.X b r c)
  mu : ∀ d c, fin (A.mu d c)
  wu : ∀ d l c, fin (A.wu d l c)
  au : ∀ d l c, fin (A.au d l c)
  gu : ∀ l c, fin (A.gu l c)
  kk : ∀ c, fin (A.kk c)
  ka : ∀ c, fin (A.ka c)
  rk : ∀ h k, fin (A.rk h k)

theorem fin.zero : fin 0 := ⟨0, rfl⟩

theorem fin.exp_nonneg (x : EReal) : 0 ≤ Ideal.exp x := by
  induction x with
  | bot => exact le_rfl
  | top => exact le_top
  | coe r => exact EReal.coe_nonneg.2 (Real.exp_pos r).le

/-- The logistic function is finite everywhere. -/
theorem fin.sig (x : EReal) : fin (sig x) := by
  unfold Cert.MergeIdeal.Row.sig
  have h := fin.exp_nonneg (-x)
  generalize Ideal.exp (-x) = e at h
  induction e with
  | bot => simp at h
  | top =>
    rw [show (1 : EReal) + ⊤ = ⊤ from rfl]
    rw [Ideal.div, if_neg (by simp)]
    simp
    exact fin.zero
  | coe q =>
    have hq : 0 ≤ q := EReal.coe_nonneg.1 h
    have : (1 : EReal) + (q : EReal) = ((1 + q : ℝ) : EReal) := rfl
    rw [this, Ideal.div_coe (by positivity)]
    exact Cert.MergeIdeal.Row.fin.one.mul ⟨_, rfl⟩

/-- The hyperbolic tangent of a finite number is finite. -/
theorem fin.tanh {x : EReal} (h : fin x) : fin (Ideal.tanh x) := by
  obtain ⟨q, rfl⟩ := h
  exact ⟨_, rfl⟩

namespace Ok

variable {A : Args} (h : Ok A) (b : Fin 4) (r : Fin 8192) (d : Fin 2)
include h

theorem Z (c : Fin 1792) : fin (A.Z b r c) := by
  have hp : fin (A.prv b r c) := by
    unfold Args.prv
    split
    · exact fin.zero
    · exact h.X _ _ _
  have hn : fin (A.nxt b r c) := by
    unfold Args.nxt
    split
    · exact fin.zero
    · exact h.X _ _ _
  exact ((h.X _ _ _).add ((h.mu _ _).mul (hp.sub (h.X _ _ _)))).add ((h.mu _ _).mul (hn.sub (h.X _ _ _)))

theorem KM (c : Fin 512) : fin (A.KM b r d c) :=
  (h.Z _ _ _).mul (Cert.MergeIdeal.Row.fin.one.add (((fin.sig _).sub Cert.MergeIdeal.Row.fin.one).mul (h.ka _)))

theorem bo (c : Fin 512) : fin (A.bo b r d c) :=
  Cert.MergeIdeal.Row.fin.hd (fun c => ((h.Z _ _ _).mul (h.KM b r d c)).mul (h.rk _ _)) c

/-- The bonus of both directions is the sum of each direction's. -/
theorem BO (c : Fin 512) : A.bo b r 0 c * A.Vv b r c + A.bo b r 1 c * A.Vv b r c = A.BO b r c := by
  unfold Args.BO
  obtain ⟨x, hx⟩ := h.bo b r 0 c
  obtain ⟨y, hy⟩ := h.bo b r 1 c
  obtain ⟨z, hz⟩ : fin (A.Vv b r c) := h.Z b r _
  rw [hx, hy, hz]
  norm_cast
  ring_nf

end Ok

/-- The low-rank input of both projections: 64 hyperbolic tangents, then 64 plain. -/
def tl (u : Fin 128 → EReal) (l : Fin 128) : EReal := if l.val < 64 then Ideal.tanh (u l) else u l

theorem fin.tl {u : Fin 128 → EReal} (h : ∀ l, fin (u l)) (l : Fin 128) : fin (tl u l) := by
  unfold Row.tl
  split
  · exact fin.tanh (h l)
  · exact h l

/-- The two projections' matrices as two diagonal blocks of one. -/
def w2 (w a : Fin 64 → Fin 512 → EReal) (l : Fin 128) (c : Fin 1024) : EReal :=
  if h : l.val < 64 ∧ c.val < 512 then w ⟨l.val, h.1⟩ ⟨c.val, h.2⟩
  else if h : 64 ≤ l.val ∧ 512 ≤ c.val then a ⟨l.val - 64, by have := l.isLt; omega⟩ ⟨c.val - 512, by have := c.isLt; omega⟩ else 0

/-- The left columns of the product are the decay's projection. -/
theorem sum_w2_left (u : Fin 128 → EReal) (w a : Fin 64 → Fin 512 → EReal) (c : Fin 512) :
    ∑ l, tl u l * w2 w a l ⟨c.val, by have := c.isLt; omega⟩ = ∑ l : Fin 64, Ideal.tanh (u ⟨l.val, by have := l.isLt; omega⟩) * w l c := by
  symm
  refine Finset.sum_of_injOn (fun l : Fin 64 => (⟨l.val, by omega⟩ : Fin 128)) ?_ (fun _ _ => Finset.mem_coe.2 (Finset.mem_univ _)) (fun x _ hx => ?_) (fun k _ => ?_)
  · intro x _ y _ h
    exact Fin.ext (Fin.mk.inj h)
  · have hx' : ¬ x.val < 64 := fun h => hx ⟨⟨x.val, h⟩, Finset.mem_coe.2 (Finset.mem_univ _), rfl⟩
    have hc := c.isLt
    rw [w2, dif_neg (fun h => hx' h.1), dif_neg (fun h => by have := h.2; simp only at this; omega), mul_zero]
  · rw [tl, if_pos k.isLt, w2, dif_pos ⟨k.isLt, c.isLt⟩]

/-- The right columns of the product are the rate's projection. -/
theorem sum_w2_right (u : Fin 128 → EReal) (w a : Fin 64 → Fin 512 → EReal) (c : Fin 512) :
    ∑ l, tl u l * w2 w a l ⟨512 + c.val, by have := c.isLt; omega⟩ = ∑ l : Fin 64, u ⟨64 + l.val, by have := l.isLt; omega⟩ * a l c := by
  symm
  refine Finset.sum_of_injOn (fun l : Fin 64 => (⟨64 + l.val, by omega⟩ : Fin 128)) ?_ (fun _ _ => Finset.mem_coe.2 (Finset.mem_univ _)) (fun x _ hx => ?_) (fun k _ => ?_)
  · intro x _ y _ h
    exact Fin.ext (by have := Fin.mk.inj h; omega)
  · have hx' : ¬ 64 ≤ x.val := fun h => hx ⟨⟨x.val - 64, by omega⟩, Finset.mem_coe.2 (Finset.mem_univ _), Fin.ext (by simp only; omega)⟩
    rw [w2, dif_neg (fun h => by have := h.2; simp only at this; omega), dif_neg (fun h => hx' h.1), mul_zero]
  · have h1 : ¬ 64 + k.val < 64 := by omega
    rw [tl, if_neg h1, w2, dif_neg (fun h => h1 h.1), dif_pos ⟨Nat.le_add_right _ _, Nat.le_add_right _ _⟩]
    have e1 : (⟨64 + k.val - 64, by omega⟩ : Fin 64) = k := Fin.ext (by simp only; omega)
    have e2 : (⟨512 + c.val - 512, by omega⟩ : Fin 512) = c := Fin.ext (by simp only; omega)
    rw [e1, e2]

/-- Three products whose rounding errors are zero are one. -/
theorem three (y h l : Fin 128 → EReal) (hy : ∀ x, fin (y x)) (hl : ∀ x, l x = 0) :
    ∑ x, y x * h x + (∑ x, (y x - y x) * h x + ∑ x, y x * l x) = ∑ x, y x * h x := by
  rw [Finset.sum_eq_zero (fun x _ => by rw [(hy x).sub_self, zero_mul] : ∀ x ∈ Finset.univ, (y x - y x) * h x = 0),
    Finset.sum_eq_zero (fun x _ => by rw [hl x, mul_zero] : ∀ x ∈ Finset.univ, y x * l x = 0), add_zero, add_zero]

end Cert.PrepIdeal.Row

end
-- ==== Proof.PrepPay.lean ====
/-
  The kernel body's values at an index: each is one step of the token's formulas.
-/
module

public import proofs.«01_k».proof.Proof.Gen.PrepIdeal.Skeleton
public import proofs.«01_k».proof.Proof.PrepRow

@[expose] public section

set_option maxRecDepth 16384

noncomputable section

open Idealize.ShloMosaic Idealize.ShloMosaic.TcCoe Idealize.SL.Sem

namespace Cert.PrepIdeal.Pay

open Cert.PrepIdeal Cert.PrepIdeal.Gen Cert.PrepIdeal.Row
open Cert.MergeIdeal.Row (hd hix fin one split_one)

/-- The normalised key, through the two-term product with the table of ones. -/
theorem pay11_at (v38 : FVec Ideal S512x1792 .f32) (v49 : FVec Ideal S512x512 .bf16) (v51 : FVec Ideal S1x512 .f32) (r : Fin 512) (c : Fin 512)
    (z : Fin 1792 → EReal) (hz : ∀ c, v38 (ix2 r c) = z c) (h0 : ∀ x c, v49 (ix2 x c) = one x c)
    (fy : ∀ c : Fin 512, fin (z ⟨512 + c.val, by have := c.isLt; omega⟩ * v51 (ix2 0 c))) :
    (k0_pay11 (F := Ideal) v38 v49 v51 (ix2 r c) : EReal) = nrm (fun c => z ⟨512 + c.val, by have := c.isLt; omega⟩ * v51 (ix2 0 c)) c := by
  pointwise [k0_pay11, k0_pay10, k0_pay6]
  simp only [h0, hz]
  have e3 := fun c => split_one (fun c => (z ⟨512 + c.val, by have := c.isLt; omega⟩ * v51 (ix2 0 c)) * (z ⟨512 + c.val, by have := c.isLt; omega⟩ * v51 (ix2 0 c)) : Fin 512 → EReal)
    (fun c => (fy c).mul (fy c)) c
  beta_reduce at e3
  simp only [e3]
  rfl

/-- The low-rank input of both projections. -/
theorem pay9_at (v38 : FVec Ideal S512x1792 .f32) (r : Fin 512) (l : Fin 128) (z : Fin 1792 → EReal) (hz : ∀ c, v38 (ix2 r c) = z c) :
    (k0_pay9 (F := Ideal) v38 (ix2 r l) : EReal) = tl (fun l => z ⟨1536 + l.val, by have := l.isLt; omega⟩) l := by
  pointwise [k0_pay9]
  simp only [hz]
  have hc : IntOp.cmpi CmpIPredicate.slt (BitVec.ofNat 32 l.val) 64#32 = if l.val < 64 then 1#1 else 0#1 := by
    clear hz
    revert l
    decide
  rw [hc, tl]
  by_cases h : l.val < 64
  · rw [if_pos h, if_pos h]
    rfl
  · rw [if_neg h, if_neg h]
    rfl

/-- The projections of one direction. -/
theorem pay13_at (v38 : FVec Ideal S512x1792 .f32) (v68 v70 : FVec Ideal S1x128x1024 .bf16) (r : Fin 512) (c : Fin 1024)
    (u : Fin 128 → EReal) (w a : Fin 64 → Fin 512 → EReal) (hu : ∀ l, (k0_pay9 (F := Ideal) v38 (ix2 r l) : EReal) = tl u l) (fu : ∀ l, fin (u l))
    (h1 : ∀ l c, v68 (ix3 0 l c) = w2 w a l c) (h2 : ∀ l c, v70 (ix3 0 l c) = (0 : EReal)) :
    (k0_pay13 (F := Ideal) v38 v68 v70 (ix2 r c) : EReal) = ∑ l, tl u l * w2 w a l c := by
  pointwise [k0_pay13]
  simp only [hu, h1]
  exact three _ _ _ (fin.tl fu) (fun l => h2 l c)

/-- The projections of the other direction. -/
theorem pay26_at (v48 : FVec Ideal S512x128 .f32) (v145 v147 : FVec Ideal S1x128x1024 .bf16) (r : Fin 512) (c : Fin 1024)
    (u : Fin 128 → EReal) (w a : Fin 64 → Fin 512 → EReal) (hu : ∀ l, (v48 (ix2 r l) : EReal) = tl u l) (fu : ∀ l, fin (u l))
    (h1 : ∀ l c, v145 (ix3 0 l c) = w2 w a l c) (h2 : ∀ l c, v147 (ix3 0 l c) = (0 : EReal)) :
    (k0_pay26 (F := Ideal) (k0_pay23 v48 v145) (k0_pay24 v48 v145) (k0_pay25 v48 v147) (ix2 r c) : EReal) = ∑ l, tl u l * w2 w a l c := by
  pointwise [k0_pay26, k0_pay23, k0_pay24, k0_pay25, k0_pay22, k0_pay21]
  simp only [hu, h1]
  exact three _ _ _ (fin.tl fu) (fun l => h2 l c)

theorem pay14_at (v80 : FVec Ideal S512x1024 .f32) (v86 : FVec Ideal S1x512 .f32) (r c : Fin 512) :
    (k0_pay14 (F := Ideal) v80 v86 (ix2 r c) : EReal) = Cert.MergeIdeal.Row.sig (v80 (ix2 r (⟨512 + c.val, by have := c.isLt; omega⟩ : Fin 1024)) + v86 (ix2 0 c)) := by
  pointwise [k0_pay14, Cert.MergeIdeal.Row.sig]
  simp only [zero_sub]

theorem pay27_at (v153 v154 v155 : FVec Ideal S512x1024 .f32) (v86 : FVec Ideal S1x512 .f32) (r c : Fin 512) :
    (k0_pay27 (F := Ideal) v153 v154 v155 v86 (ix2 r c) : EReal) = Cert.MergeIdeal.Row.sig (k0_pay26 (F := Ideal) v153 v154 v155 (ix2 r (⟨512 + c.val, by have := c.isLt; omega⟩ : Fin 1024)) + v86 (ix2 0 c)) := by
  pointwise [k0_pay27, Cert.MergeIdeal.Row.sig]
  simp only [zero_sub]

theorem pay15_at (v40 : FVec Ideal S512x512 .f32) (v80 : FVec Ideal S512x1024 .f32) (v86 v114 : FVec Ideal S1x512 .f32) (r c : Fin 512) :
    (k0_pay15 (F := Ideal) v40 v80 v86 v114 (ix2 r c) : EReal) = v40 (ix2 r c) * (1 + (k0_pay14 (F := Ideal) v80 v86 (ix2 r c) - 1) * v114 (ix2 0 c)) := by
  pointwise [k0_pay15]

theorem pay28_at (v40 : FVec Ideal S512x512 .f32) (v153 v154 v155 : FVec Ideal S512x1024 .f32) (v86 v114 : FVec Ideal S1x512 .f32) (r c : Fin 512) :
    (k0_pay28 (F := Ideal) v40 v153 v154 v155 v86 v114 (ix2 r c) : EReal) = v40 (ix2 r c) * (1 + (k0_pay27 (F := Ideal) v153 v154 v155 v86 (ix2 r c) - 1) * v114 (ix2 0 c)) := by
  pointwise [k0_pay28]

theorem pay16_at (v80 : FVec Ideal S512x1024 .f32) (v82 : FVec Ideal S1x512 .f32) (r c : Fin 512) :
    (k0_pay16 (F := Ideal) v80 v82 (ix2 r c) : EReal) = dec (v80 (ix2 r (⟨c.val, by have := c.isLt; omega⟩ : Fin 1024)) + v82 (ix2 0 c)) := by
  pointwise [k0_pay16, dec, sp]
  simp only [zero_sub]
  rfl

theorem pay29_at (v153 v154 v155 : FVec Ideal S512x1024 .f32) (v82 : FVec Ideal S1x512 .f32) (r c : Fin 512) :
    (k0_pay29 (F := Ideal) v153 v154 v155 v82 (ix2 r c) : EReal) = dec (k0_pay26 (F := Ideal) v153 v154 v155 (ix2 r (⟨c.val, by have := c.isLt; omega⟩ : Fin 1024)) + v82 (ix2 0 c)) := by
  pointwise [k0_pay29, dec, sp]
  simp only [zero_sub]
  rfl

/-- One direction's bonus, through the two-term product with the table of ones, after the other's. -/
theorem pay33_at (v39 : FVec Ideal S512x512 .f32) (v50 : FVec Ideal S512x512 .bf16) (v144 v197 : FVec Ideal S512x512 .f32) (v210 : FVec Ideal S1x512 .f32) (r c : Fin 512)
    (h0 : ∀ x c, v50 (ix2 x c) = one x c) (f : ∀ c, fin (v39 (ix2 r c) * v197 (ix2 r c) * v210 (ix2 0 c))) :
    (k0_pay33 (F := Ideal) v39 v50 v144 v197 v210 (ix2 r c) : EReal) = v144 (ix2 r c) + hd (fun c => v39 (ix2 r c) * v197 (ix2 r c) * v210 (ix2 0 c)) c := by
  pointwise [k0_pay33]
  simp only [h0]
  have e := split_one (fun c => v39 (ix2 r c) * v197 (ix2 r c) * v210 (ix2 0 c) : Fin 512 → EReal) f c
  exact congrArg (v144 (ix2 r c) + · : EReal → EReal) e

theorem pay20_at (v39 : FVec Ideal S512x512 .f32) (v50 : FVec Ideal S512x512 .bf16) (v120 : FVec Ideal S512x512 .f32) (v133 : FVec Ideal S1x512 .f32) (r c : Fin 512)
    (h0 : ∀ x c, v50 (ix2 x c) = one x c) (f : ∀ c, fin (v39 (ix2 r c) * v120 (ix2 r c) * v133 (ix2 0 c))) :
    (k0_pay20 (F := Ideal) v39 v50 (k0_pay12 (F := Ideal)) v120 v133 (ix2 r c) : EReal) = hd (fun c => v39 (ix2 r c) * v120 (ix2 r c) * v133 (ix2 0 c)) c := by
  pointwise [k0_pay20, k0_pay12]
  simp only [h0]
  have e := split_one (fun c => v39 (ix2 r c) * v120 (ix2 r c) * v133 (ix2 0 c) : Fin 512 → EReal) f c
  exact e

/-- The gate, through the three-term product. -/
theorem pay3_at (v43 : FVec Ideal S512x128 .f32) (v244 v246 : FVec Ideal S128x512 .bf16) (r c : Fin 512) (h2 : ∀ l c, v246 (ix2 l c) = (0 : EReal)) :
    (k0_pay3 (F := Ideal) v43 v244 v246 (ix3 0 r c) : EReal) = ∑ l, Cert.MergeIdeal.Row.sig (v43 (ix2 r l)) * v244 (ix2 l c) := by
  pointwise [k0_pay3]
  simp only [zero_sub]
  exact three (fun l => Cert.MergeIdeal.Row.sig (v43 (ix2 r l))) (fun l => v244 (ix2 l c)) _ (fun _ => fin.sig _) (fun l => h2 l c)

/-! Casts and slices. -/

theorem pay5_at (v : FVec Ideal S512x1792 .f32) (r c : Fin 512) : (k0_pay5 (F := Ideal) v (ix2 r c) : EReal) = v (ix2 r (⟨c.val, by have := c.isLt; omega⟩ : Fin 1792)) := by
  pointwise [k0_pay5]
theorem pay6_at (v : FVec Ideal S512x1792 .f32) (r c : Fin 512) : (k0_pay6 (F := Ideal) v (ix2 r c) : EReal) = v (ix2 r (⟨512 + c.val, by have := c.isLt; omega⟩ : Fin 1792)) := by
  pointwise [k0_pay6]
theorem pay7_at (v : FVec Ideal S512x1792 .f32) (r c : Fin 512) : (k0_pay7 (F := Ideal) v (ix2 r c) : EReal) = v (ix2 r (⟨1024 + c.val, by have := c.isLt; omega⟩ : Fin 1792)) := by
  pointwise [k0_pay7]
theorem pay8_at (v : FVec Ideal S512x1792 .f32) (r : Fin 512) (c : Fin 128) : (k0_pay8 (F := Ideal) v (ix2 r c) : EReal) = v (ix2 r (⟨1664 + c.val, by have := c.isLt; omega⟩ : Fin 1792)) := by
  pointwise [k0_pay8]
theorem pay10_at (v : FVec Ideal S512x512 .bf16) (r c : Fin 512) : (k0_pay10 (F := Ideal) v (ix2 r c) : EReal) = v (ix2 r c) := by
  pointwise [k0_pay10]
theorem pay1_at (v : FVec Ideal S512x512 .f32) (r c : Fin 512) : (k0_pay1 (F := Ideal) v (ix3 0 r c) : EReal) = v (ix2 r c) := by
  pointwise [k0_pay1]
theorem pay34_at (v : FVec Ideal S512x512 .f32) (r c : Fin 512) : (k0_pay34 (F := Ideal) v (ix3 0 r c) : EReal) = v (ix2 r c) := by
  pointwise [k0_pay34]
theorem pay35_at (v : FVec Ideal S512x512 .f32) (r c : Fin 512) : (k0_pay35 (F := Ideal) v (ix3 0 r c) : EReal) = v (ix2 r c) := by
  pointwise [k0_pay35]
theorem pay2_at (v w : FVec Ideal S512x512 .f32) (r c : Fin 512) : (k0_pay2 (F := Ideal) v w (ix3 0 r c) : EReal) = w (ix2 r c) * v (ix2 r c) := by
  pointwise [k0_pay2]
theorem pay17_at (v : FVec Ideal S512x512 .f32) (r c : Fin 512) : (k0_pay17 (F := Ideal) v (ix4 0 0 r c) : EReal) = v (ix2 r c) := by
  pointwise [k0_pay17]
theorem pay18_at (v : FVec Ideal S512x512 .f32) (r c : Fin 512) : (k0_pay18 (F := Ideal) v (ix4 0 0 r c) : EReal) = v (ix2 r c) := by
  pointwise [k0_pay18]
theorem pay30_at (v : FVec Ideal S512x512 .f32) (r c : Fin 512) : (k0_pay30 (F := Ideal) v (ix4 0 0 r c) : EReal) = v (ix2 r c) := by
  pointwise [k0_pay30]
theorem pay31_at (v : FVec Ideal S512x512 .f32) (r c : Fin 512) : (k0_pay31 (F := Ideal) v (ix4 0 0 r c) : EReal) = v (ix2 r c) := by
  pointwise [k0_pay31]
theorem pay19_at (v w : FVec Ideal S512x512 .f32) (r c : Fin 512) : (k0_pay19 (F := Ideal) v w (ix4 0 0 r c) : EReal) = v (ix2 r c) * w (ix2 r c) := by
  pointwise [k0_pay19]
theorem pay32_at (v w : FVec Ideal S512x512 .f32) (r c : Fin 512) : (k0_pay32 (F := Ideal) v w (ix4 0 0 r c) : EReal) = v (ix2 r c) * w (ix2 r c) := by
  pointwise [k0_pay32]

end Cert.PrepIdeal.Pay

end
-- ==== Proof.PrepMix.lean ====
/-
  The centred mix as the kernel body computes it at a point of the grid.
-/
module

public import proofs.«01_k».proof.Proof.Gen.PrepIdeal.Skeleton
public import proofs.«01_k».proof.Proof.PrepRow

@[expose] public section

set_option maxRecDepth 16384

noncomputable section

open Idealize.ShloMosaic Idealize.ShloMosaic.TcCoe Idealize.SL.Sem

namespace Cert.PrepIdeal.Pay

open Cert.PrepIdeal Cert.PrepIdeal.Gen Cert.PrepIdeal.Row

/-- The row before, as a select on the row's number. -/
theorem sel_first (r : Fin 512) (a b : EReal) : Scalar.select (IntOp.cmpi CmpIPredicate.eq (BitVec.ofNat 32 r.val) 0#32) a b = if r.val = 0 then a else b := by
  have hc : IntOp.cmpi CmpIPredicate.eq (BitVec.ofNat 32 r.val) 0#32 = if r.val = 0 then 1#1 else 0#1 := by
    revert r
    decide
  rw [hc]
  split <;> rfl

theorem sel_last (r : Fin 512) (a b : EReal) : Scalar.select (IntOp.cmpi CmpIPredicate.eq (BitVec.ofNat 32 r.val) 511#32) a b = if r.val = 511 then a else b := by
  have hc : IntOp.cmpi CmpIPredicate.eq (BitVec.ofNat 32 r.val) 511#32 = if r.val = 511 then 1#1 else 0#1 := by
    revert r
    decide
  rw [hc]
  split <;> rfl

/-- Whether there is a tile before, as a factor. -/
theorem fac_first (T : Fin 16) (a : EReal) :
    a * (((Scalar.extui (Scalar.cmpi CmpIPredicate.sgt (BitVec.ofNat 32 T.val) 0#32) : BitVec 32).toInt : ℝ) : EReal) = if T.val = 0 then 0 else a := by
  have hc : (Scalar.extui (Scalar.cmpi CmpIPredicate.sgt (BitVec.ofNat 32 T.val) 0#32) : BitVec 32).toInt = if T.val = 0 then 0 else 1 := by
    revert T
    decide
  rw [hc]
  split <;> simp

/-- Whether there is a tile after, as a factor. -/
theorem fac_last (T : Fin 16) (a : EReal) :
    a * (((Scalar.extui (Scalar.cmpi CmpIPredicate.slt (BitVec.ofNat 32 T.val) 15#32) : BitVec 32).toInt : ℝ) : EReal) = if T.val = 15 then 0 else a := by
  have hc : (Scalar.extui (Scalar.cmpi CmpIPredicate.slt (BitVec.ofNat 32 T.val) 15#32) : BitVec 32).toInt = if T.val = 15 then 0 else 1 := by
    revert T
    decide
  rw [hc]
  split <;> simp

/-- The centred mix: a row with the row before and the row after, those of the tiles beside it at the tile's ends. -/
theorem pay4_at (i : grid0.Coords) (v0 : FVec Ideal S1x512x1792 .f32) (v8 v12 : FVec Ideal S1x1x1792 .f32) (v29 v34 : FVec Ideal S1x1792 .f32) (r : Fin 512) (c : Fin 1792)
    (x p n u v : EReal) (hx : v0 (ix3 0 r c) = x) (hu : v29 (ix2 0 c) = u) (hv : v34 (ix2 0 c) = v)
    (hp0 : r.val = 0 → (if (i 1).val = 0 then 0 else v8 (ix3 0 0 c) : EReal) = p)
    (hp1 : r.val ≠ 0 → (v0 (ix3 0 (⟨r.val - 1, by have := r.isLt; omega⟩ : Fin 512) c) : EReal) = p)
    (hn0 : r.val = 511 → (if (i 1).val = 15 then 0 else v12 (ix3 0 0 c) : EReal) = n)
    (hn1 : ∀ h : r.val ≠ 511, (v0 (ix3 0 (⟨r.val + 1, by have := r.isLt; omega⟩ : Fin 512) c) : EReal) = n) :
    (k0_pay4 (F := Ideal) i v0 v8 v12 v29 v34 (ix2 r c) : EReal) = mixed x p n u v := by
  pointwise [k0_pay4]
  rw [sel_first, sel_last]
  have e1 := fac_first (i 1) (v8 (ix3 0 0 c))
  have e2 := fac_last (i 1) (v12 (ix3 0 0 c))
  have q1 : (if r.val = 0 then (v8 (ix3 0 0 c) * (((Scalar.extui (Scalar.cmpi CmpIPredicate.sgt (BitVec.ofNat 32 (i 1).val) 0#32) : BitVec 32).toInt : ℝ) : EReal) : EReal) else v0 (ix3 0 (⟨(r.val + 512 - 1) % 512, Nat.mod_lt _ (by norm_num)⟩ : Fin 512) c)) = p := by
    split
    · rename_i h
      exact e1.trans (hp0 h)
    · rename_i h
      refine Eq.trans ?_ (hp1 h)
      exact congrArg (fun q : Fin 512 => v0 (ix3 0 q c)) (Fin.ext (by have := r.isLt; simp only; omega))
  have q2 : (if r.val = 511 then (v12 (ix3 0 0 c) * (((Scalar.extui (Scalar.cmpi CmpIPredicate.slt (BitVec.ofNat 32 (i 1).val) 15#32) : BitVec 32).toInt : ℝ) : EReal) : EReal) else v0 (ix3 0 (⟨(r.val + 512 - 511) % 512, Nat.mod_lt _ (by norm_num)⟩ : Fin 512) c)) = n := by
    split
    · rename_i h
      exact e2.trans (hn0 h)
    · rename_i h
      refine Eq.trans ?_ (hn1 h)
      exact congrArg (fun q : Fin 512 => v0 (ix3 0 q c)) (Fin.ext (by have := r.isLt; simp only; omega))
  refine (congrArg₂ (fun a b : EReal => v0 (ix3 0 r c) + v29 (ix2 0 c) * (a - v0 (ix3 0 r c)) + v34 (ix2 0 c) * (b - v0 (ix3 0 r c))) q1 q2).trans ?_
  rw [hx, hu, hv]
  rfl

end Cert.PrepIdeal.Pay

end
-- ==== Proof.PrepBlk.lean ====
/-
  The blocks the preparation's kernel reads, at an index: each is an argument's entry.
-/
module

public import proofs.«01_k».proof.Proof.Gen.PrepIdeal.Value
public import proofs.«01_k».proof.Proof.PrepRow
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PrepIdeal.Final

open Cert.PrepIdeal Cert.PrepIdeal.Gen Cert.PrepIdeal.Row

variable (m : (ℓ : Loc nD τ sig) → Buf (Elt Ideal) ℓ)

/-! Loads of one row or one layer, at an index. -/

theorem ldp (x : FVec Ideal S1x8x1792 .f32) (k : Fin 1792) : (View.ld (Val := Elt Ideal) (e' := .f32) x r0_1 (ix3 0 0 k) : EReal) = x (ix3 0 7 k) :=
  congrArg x (funext fun a => Fin.ext ((Rect.idx_unit_val _ _ _ _ a).trans (by
    match a with
    | ⟨0, _⟩ => first | rfl | exact Nat.zero_add _
    | ⟨1, _⟩ => first | rfl | exact Nat.zero_add _
    | ⟨2, _⟩ => first | rfl | exact Nat.zero_add _)))

theorem ldn (x : FVec Ideal S1x8x1792 .f32) (k : Fin 1792) : (View.ld (Val := Elt Ideal) (e' := .f32) x r0_2 (ix3 0 0 k) : EReal) = x (ix3 0 0 k) :=
  congrArg x (funext fun a => Fin.ext ((Rect.idx_unit_val _ _ _ _ a).trans (by
    match a with
    | ⟨0, _⟩ => first | rfl | exact Nat.zero_add _
    | ⟨1, _⟩ => first | rfl | exact Nat.zero_add _
    | ⟨2, _⟩ => first | rfl | exact Nat.zero_add _)))

theorem ldm (x : FVec Ideal S2x1792 .f32) (k : Fin 1792) : (View.ld (Val := Elt Ideal) (e' := .f32) x r0_3 (ix2 0 k) : EReal) = x (ix2 0 k) :=
  congrArg x (funext fun a => Fin.ext ((Rect.idx_unit_val _ _ _ _ a).trans (by
    match a with
    | ⟨0, _⟩ => first | rfl | exact Nat.zero_add _
    | ⟨1, _⟩ => first | rfl | exact Nat.zero_add _)))

theorem ldm1 (x : FVec Ideal S2x1792 .f32) (k : Fin 1792) : (View.ld (Val := Elt Ideal) (e' := .f32) x r0_4 (ix2 0 k) : EReal) = x (ix2 1 k) :=
  congrArg x (funext fun a => Fin.ext ((Rect.idx_unit_val _ _ _ _ a).trans (by
    match a with
    | ⟨0, _⟩ => first | rfl | exact Nat.zero_add _
    | ⟨1, _⟩ => first | rfl | exact Nat.zero_add _)))

theorem ldv (x : FVec Ideal S2x512 .f32) (k : Fin 512) : (View.ld (Val := Elt Ideal) (e' := .f32) x r0_8 (ix2 0 k) : EReal) = x (ix2 0 k) :=
  congrArg x (funext fun a => Fin.ext ((Rect.idx_unit_val _ _ _ _ a).trans (by
    match a with
    | ⟨0, _⟩ => first | rfl | exact Nat.zero_add _
    | ⟨1, _⟩ => first | rfl | exact Nat.zero_add _)))

theorem ldv1 (x : FVec Ideal S2x512 .f32) (k : Fin 512) : (View.ld (Val := Elt Ideal) (e' := .f32) x r0_11 (ix2 0 k) : EReal) = x (ix2 1 k) :=
  congrArg x (funext fun a => Fin.ext ((Rect.idx_unit_val _ _ _ _ a).trans (by
    match a with
    | ⟨0, _⟩ => first | rfl | exact Nat.zero_add _
    | ⟨1, _⟩ => first | rfl | exact Nat.zero_add _)))

theorem ldw (x : FVec Ideal S2x128x1024 .bf16) (l : Fin 128) (k : Fin 1024) : (View.ld (Val := Elt Ideal) (e' := .bf16) x r0_7 (ix3 0 l k) : EReal) = x (ix3 0 l k) :=
  congrArg x (funext fun a => Fin.ext ((Rect.idx_unit_val _ _ _ _ a).trans (by
    match a with
    | ⟨0, _⟩ => first | rfl | exact Nat.zero_add _
    | ⟨1, _⟩ => first | rfl | exact Nat.zero_add _
    | ⟨2, _⟩ => first | rfl | exact Nat.zero_add _)))

theorem ldw1 (x : FVec Ideal S2x128x1024 .bf16) (l : Fin 128) (k : Fin 1024) : (View.ld (Val := Elt Ideal) (e' := .bf16) x r0_10 (ix3 0 l k) : EReal) = x (ix3 1 l k) :=
  congrArg x (funext fun a => Fin.ext ((Rect.idx_unit_val _ _ _ _ a).trans (by
    match a with
    | ⟨0, _⟩ => first | rfl | exact Nat.zero_add _
    | ⟨1, _⟩ => first | rfl | exact Nat.zero_add _
    | ⟨2, _⟩ => first | rfl | exact Nat.zero_add _)))

/-- The block each window reads at a point. -/
theorem idx : ∀ t : Fin cfg0.N,
    win0_0.index t = ![t.val / 16, t.val % 16, 0] ∧ win0_1.index t = ![t.val / 16, t.val % 16 * 64 - 1, 0]
    ∧ win0_2.index t = ![t.val / 16, min (t.val % 16 * 64 + 64) 1023, 0] ∧ win0_3.index t = ![0, 0]
    ∧ win0_4.index t = ![0, 0, 0] ∧ win0_5.index t = ![0, 0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![t.val / 16, t.val % 16, 0] ∧ win0_15.index t = ![t.val / 16, t.val % 16, 0] ∧ win0_16.index t = ![t.val / 16, t.val % 16, 0]
    ∧ win0_17.index t = ![0, t.val / 16, t.val % 16, 0] ∧ win0_18.index t = ![0, t.val / 16, t.val % 16, 0] ∧ win0_19.index t = ![0, t.val / 16, t.val % 16, 0]
    ∧ win0_20.index t = ![t.val / 16, t.val % 16, 0] ∧ win0_21.index t = ![t.val / 16, t.val % 16, 0] :=
  (by decide +kernel : ∀ t : Fin grid0.N, _)

/-- The second coordinate of a point. -/
theorem crd : ∀ t : Fin cfg0.N, (cfg0.grid.coords t 1).val = t.val % 16 :=
  (by decide +kernel : ∀ t : Fin grid0.N, _)

/-- The sample of a point. -/
def bOf (t : Fin cfg0.N) : Fin 4 := ⟨t.val / 16, by have : cfg0.N = 64 := N_0; have := t.isLt; omega⟩

/-- The token of a row of a point's block. -/
def rOf (t : Fin cfg0.N) (r : Fin 512) : Fin 8192 := ⟨t.val % 16 * 512 + r.val, by have := r.isLt; omega⟩

/-- The kernel's arguments, entry by entry. -/
def args (c : Dev nD) : Args where
  X b r k := (m ((c : Thread nD τ).loc main_arg0) : FVec Ideal S4x8192x1792 .f32) (ix3 b r k)
  mu d k := (m ((c : Thread nD τ).loc main_arg1) : FVec Ideal S2x1792 .f32) (ix2 d k)
  wu d l k := (m ((c : Thread nD τ).loc main_arg2) : FVec Ideal S2x64x512 .f32) (ix3 d l k)
  au d l k := (m ((c : Thread nD τ).loc main_arg3) : FVec Ideal S2x64x512 .f32) (ix3 d l k)
  w0 d k := (m ((c : Thread nD τ).loc main_arg4) : FVec Ideal S2x512 .f32) (ix2 d k)
  a0 d k := (m ((c : Thread nD τ).loc main_arg5) : FVec Ideal S2x512 .f32) (ix2 d k)
  gu l k := (m ((c : Thread nD τ).loc main_arg6) : FVec Ideal S128x512 .f32) (ix2 l k)
  kk k := (m ((c : Thread nD τ).loc main_arg7) : FVec Ideal S512 .f32) (ix1 k)
  ka k := (m ((c : Thread nD τ).loc main_arg8) : FVec Ideal S512 .f32) (ix1 k)
  rk h k := (m ((c : Thread nD τ).loc main_arg9) : FVec Ideal S8x64 .f32) (ix2 h k)

/-! Each window's block at an index. -/

theorem b0 (c : Dev nD) (t : Fin cfg0.N) (r : Fin 512) (k : Fin 1792) :
    ((iblk m c 0 t : FVec Ideal S1x512x1792 .f32) (ix3 0 r k) : EReal) = (args m c).X (bOf t) (rOf t r) k := by
  refine Eq.trans (b := ((m ((c : Thread nD τ).loc main_arg0) : FVec Ideal S4x8192x1792 .f32) (ix3 (bOf t) (rOf t r) k) : EReal)) ?_ rfl
  blk_ext! [iblk, V, idx t, bOf, rOf]

/-- The last row of the eight before the tile. -/
theorem b1 (c : Dev nD) (t : Fin cfg0.N) (k : Fin 1792) (q : Fin 8192) (hq : q.val = (t.val % 16 * 64 - 1) * 8 + 7) :
    (View.ld (iblk m c 1 t : FVec Ideal S1x8x1792 .f32) r0_1 (ix3 0 0 k) : EReal) = (args m c).X (bOf t) q k := by
  refine Eq.trans (b := ((m ((c : Thread nD τ).loc main_arg0) : FVec Ideal S4x8192x1792 .f32) (ix3 (bOf t) q k) : EReal)) ?_ rfl
  refine (ldp _ k).trans ?_
  blk_ext! [iblk, V, idx t, bOf, hq]

/-- The first row of the eight after the tile. -/
theorem b2 (c : Dev nD) (t : Fin cfg0.N) (k : Fin 1792) (q : Fin 8192) (hq : q.val = min (t.val % 16 * 64 + 64) 1023 * 8) :
    (View.ld (iblk m c 2 t : FVec Ideal S1x8x1792 .f32) r0_2 (ix3 0 0 k) : EReal) = (args m c).X (bOf t) q k := by
  refine Eq.trans (b := ((m ((c : Thread nD τ).loc main_arg0) : FVec Ideal S4x8192x1792 .f32) (ix3 (bOf t) q k) : EReal)) ?_ rfl
  refine (ldn _ k).trans ?_
  blk_ext! [iblk, V, idx t, bOf, hq]

theorem b3 (c : Dev nD) (t : Fin cfg0.N) (k : Fin 1792) :
    (View.ld (iblk m c 3 t : FVec Ideal S2x1792 .f32) r0_3 (ix2 0 k) : EReal) = (args m c).mu 0 k := by
  refine Eq.trans (b := ((m ((c : Thread nD τ).loc main_arg1) : FVec Ideal S2x1792 .f32) (ix2 0 k) : EReal)) ?_ rfl
  refine (ldm _ k).trans ?_
  blk_ext! [iblk, V, idx t]

theorem b3' (c : Dev nD) (t : Fin cfg0.N) (k : Fin 1792) :
    (View.ld (iblk m c 3 t : FVec Ideal S2x1792 .f32) r0_4 (ix2 0 k) : EReal) = (args m c).mu 1 k := by
  refine Eq.trans (b := ((m ((c : Thread nD τ).loc main_arg1) : FVec Ideal S2x1792 .f32) (ix2 1 k) : EReal)) ?_ rfl
  refine (ldm1 _ k).trans ?_
  blk_ext! [iblk, V, idx t]

theorem b6 (c : Dev nD) (t : Fin cfg0.N) (k : Fin 512) :
    (View.ld (iblk m c 6 t : FVec Ideal S2x512 .f32) r0_8 (ix2 0 k) : EReal) = (args m c).w0 0 k := by
  refine Eq.trans (b := ((m ((c : Thread nD τ).loc main_arg4) : FVec Ideal S2x512 .f32) (ix2 0 k) : EReal)) ?_ rfl
  refine (ldv _ k).trans ?_
  blk_ext! [iblk, V, idx t]

theorem b6' (c : Dev nD) (t : Fin cfg0.N) (k : Fin 512) :
    (View.ld (iblk m c 6 t : FVec Ideal S2x512 .f32) r0_11 (ix2 0 k) : EReal) = (args m c).w0 1 k := by
  refine Eq.trans (b := ((m ((c : Thread nD τ).loc main_arg4) : FVec Ideal S2x512 .f32) (ix2 1 k) : EReal)) ?_ rfl
  refine (ldv1 _ k).trans ?_
  blk_ext! [iblk, V, idx t]

theorem b7 (c : Dev nD) (t : Fin cfg0.N) (k : Fin 512) :
    (View.ld (iblk m c 7 t : FVec Ideal S2x512 .f32) r0_8 (ix2 0 k) : EReal) = (args m c).a0 0 k := by
  refine Eq.trans (b := ((m ((c : Thread nD τ).loc main_arg5) : FVec Ideal S2x512 .f32) (ix2 0 k) : EReal)) ?_ rfl
  refine (ldv _ k).trans ?_
  blk_ext! [iblk, V, idx t]

theorem b7' (c : Dev nD) (t : Fin cfg0.N) (k : Fin 512) :
    (View.ld (iblk m c 7 t : FVec Ideal S2x512 .f32) r0_11 (ix2 0 k) : EReal) = (args m c).a0 1 k := by
  refine Eq.trans (b := ((m ((c : Thread nD τ).loc main_arg5) : FVec Ideal S2x512 .f32) (ix2 1 k) : EReal)) ?_ rfl
  refine (ldv1 _ k).trans ?_
  blk_ext! [iblk, V, idx t]

theorem b8 (c : Dev nD) (t : Fin cfg0.N) (l : Fin 128) (k : Fin 512) :
    ((iblk m c 8 t : FVec Ideal S128x512 .bf16) (ix2 l k) : EReal) = (args m c).gu l k := by
  refine Eq.trans (b := ((m ((c : Thread nD τ).loc main_arg6) : FVec Ideal S128x512 .f32) (ix2 l k) : EReal)) ?_ rfl
  blk_ext! [iblk, V, idx t]

theorem b10 (c : Dev nD) (t : Fin cfg0.N) (k : Fin 512) :
    ((iblk m c 10 t : FVec Ideal S1x512 .f32) (ix2 0 k) : EReal) = (args m c).kk k := by
  refine Eq.trans (b := ((m ((c : Thread nD τ).loc main_arg7) : FVec Ideal S512 .f32) (ix1 k) : EReal)) ?_ rfl
  blk_ext! [iblk, V, idx t]

theorem b11 (c : Dev nD) (t : Fin cfg0.N) (k : Fin 512) :
    ((iblk m c 11 t : FVec Ideal S1x512 .f32) (ix2 0 k) : EReal) = (args m c).ka k := by
  refine Eq.trans (b := ((m ((c : Thread nD τ).loc main_arg8) : FVec Ideal S512 .f32) (ix1 k) : EReal)) ?_ rfl
  blk_ext! [iblk, V, idx t]

theorem b12 (c : Dev nD) (t : Fin cfg0.N) (k : Fin 512) :
    ((iblk m c 12 t : FVec Ideal S1x512 .f32) (ix2 0 k) : EReal) = (args m c).rkc k := by
  refine Eq.trans (b := (V m c main_v19 : FVec Ideal S1x512 .f32) ((win0_12.blk t).view.emb (ix2 0 k))) rfl ?_
  have he : (win0_12.blk t).view.emb (ix2 0 k) = ix2 0 k := by blk_ext [idx t]
  rw [he]
  unfold V
  after_results
  pointwise
  rfl

end Cert.PrepIdeal.Final

end
-- ==== Proof.PrepTab.lean ====
/-
  The blocks of the preparation's kernel that the host computes: the table of ones, the matrix of both projections, and the
  rounding errors.
-/
module

public import proofs.«01_k».proof.Proof.PrepBlk
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.PrepIdeal.Final

open Cert.PrepIdeal Cert.PrepIdeal.Gen Cert.PrepIdeal.Row
open Cert.MergeIdeal.Row (hd hix fin one)

variable (m : (ℓ : Loc nD τ sig) → Buf (Elt Ideal) ℓ)

/-- A channel's head, by a shift of six places. -/
theorem shift6 : ∀ x : Fin 512, IntOp.shrsi ArithUnit.host (BitVec.ofNat 32 x.val) 6#32 = BitVec.ofNat 32 (x.val / 64) := by
  decide +kernel

/-- The table of ones. -/
theorem b13 (c : Dev nD) (t : Fin cfg0.N) (x k : Fin 512) :
    ((iblk m c 13 t : FVec Ideal S512x512 .bf16) (ix2 x k) : EReal) = one x k := by
  refine Eq.trans (b := (V m c main_v28 : FVec Ideal S512x512 .bf16) ((win0_13.blk t).view.emb (ix2 x k))) rfl ?_
  have he : (win0_13.blk t).view.emb (ix2 x k) = ix2 x k := by blk_ext [idx t]
  rw [he]
  unfold V
  after_results
  pointwise
  rw [shift6, shift6, one]
  have hc : IntOp.cmpi CmpIPredicate.eq (BitVec.ofNat 32 (x.val / 64)) (BitVec.ofNat 32 (k.val / 64)) = if x.val / 64 = k.val / 64 then 1#1 else 0#1 := by
    have hx : x.val / 64 < 2 ^ 32 := by omega
    have hk : k.val / 64 < 2 ^ 32 := by omega
    by_cases h : x.val / 64 = k.val / 64
    · rw [if_pos h, h]
      show BitVec.ofBool (_ == _) = _
      simp
    · rw [if_neg h]
      show BitVec.ofBool (_ == _) = _
      have hn : ¬ BitVec.ofNat 32 (x.val / 64) = BitVec.ofNat 32 (k.val / 64) := fun q => h (by
        have := congrArg BitVec.toNat q
        rw [BitVec.toNat_ofNat, BitVec.toNat_ofNat, Nat.mod_eq_of_lt hx, Nat.mod_eq_of_lt hk] at this
        exact this)
      rw [beq_eq_false_iff_ne.2 hn]
      rfl
  rw [hc]
  split
  · show (((1 : Nat) : ℝ) : EReal) = 1
    simp
  · show (((0 : Nat) : ℝ) : EReal) = 0
    simp

/-- Where the update `(d', l', e')` of a projection's matrix lands, its corner at `(p, q)`. -/
theorem lands (J : IVec S2 32) (p q : Nat) (h0 : (J (ix1 0)).toInt = p) (h1 : (J (ix1 1)).toInt = q) (d d' : Fin 2) (l : Fin 128) (l' : Fin 64) (e : Fin 1024) (e' : Fin 512) :
    scatter_S2x128x1024_S2_S2x64x512_012_n_12_0.resultIdx? (ix3 d' l' e') J = some (ix3 d l e) ↔ d' = d ∧ p + l'.val = l.val ∧ q + e'.val = e.val := by
  rw [Routing.resultIdx?_eq_some]
  have hsi0 : scatter_S2x128x1024_S2_S2x64x512_012_n_12_0.siIdx (ix3 d' l' e') (0 : Fin 2) = ix1 0 := by
    funext a
    apply Fin.ext
    match a with
    | ⟨0, _⟩ => rfl
  have hsi1 : scatter_S2x128x1024_S2_S2x64x512_012_n_12_0.siIdx (ix3 d' l' e') (1 : Fin 2) = ix1 1 := by
    funext a
    apply Fin.ext
    match a with
    | ⟨0, _⟩ => rfl
  have s0 : scatter_S2x128x1024_S2_S2x64x512_012_n_12_0.start (ix3 d' l' e') J 0 = 0 := by
    unfold ScatterDims.start
    rw [dif_neg (by decide)]
  have s1 : scatter_S2x128x1024_S2_S2x64x512_012_n_12_0.start (ix3 d' l' e') J 1 = p := by
    unfold ScatterDims.start
    rw [dif_pos (by decide)]
    exact (congrArg (fun q => (J q).toInt) hsi0).trans h0
  have s2 : scatter_S2x128x1024_S2_S2x64x512_012_n_12_0.start (ix3 d' l' e') J 2 = q := by
    unfold ScatterDims.start
    rw [dif_pos (by decide)]
    exact (congrArg (fun q => (J q).toInt) hsi1).trans h1
  have w0 : scatter_S2x128x1024_S2_S2x64x512_012_n_12_0.window (ix3 d' l' e') 0 = d'.val := by
    unfold ScatterDims.window
    rw [dif_pos (by decide)]
    rfl
  have w1 : scatter_S2x128x1024_S2_S2x64x512_012_n_12_0.window (ix3 d' l' e') 1 = l'.val := by
    unfold ScatterDims.window
    rw [dif_pos (by decide)]
    rfl
  have w2 : scatter_S2x128x1024_S2_S2x64x512_012_n_12_0.window (ix3 d' l' e') 2 = e'.val := by
    unfold ScatterDims.window
    rw [dif_pos (by decide)]
    rfl
  constructor
  · intro h
    have q0 := h 0
    have q1 := h 1
    have q2 := h 2
    rw [s0, w0] at q0
    rw [s1, w1] at q1
    rw [s2, w2] at q2
    have r0 : (0 : Int) + d'.val = d.val := q0
    have r1 : (p : Int) + l'.val = l.val := q1
    have r2 : (q : Int) + e'.val = e.val := q2
    exact ⟨Fin.ext (by omega), by omega, by omega⟩
  · rintro ⟨rfl, hl, he⟩ a
    match a with
    | ⟨0, _⟩ => exact (congrArg₂ (fun p q : Int => p + q) s0 (congrArg Nat.cast w0)).trans (zero_add _)
    | ⟨1, _⟩ => exact (congrArg₂ (fun p q : Int => p + q) s1 (congrArg Nat.cast w1)).trans (by exact_mod_cast hl)
    | ⟨2, _⟩ => exact (congrArg₂ (fun p q : Int => p + q) s2 (congrArg Nat.cast w2)).trans (by exact_mod_cast he)

/-- Two matrices written into zeros at the corners `(0, 0)` and `(64, 512)`. -/
theorem blocks (Z : FVec Ideal S2x128x1024 .f32) (hZ : ∀ j, Z j = (0 : EReal)) (J K : IVec S2 32) (j0 : (J (ix1 0)).toInt = (0 : Nat)) (j1 : (J (ix1 1)).toInt = (0 : Nat))
    (k0 : (K (ix1 0)).toInt = (64 : Nat)) (k1 : (K (ix1 1)).toInt = (512 : Nat)) (W U : FVec Ideal S2x64x512 .f32) (d : Fin 2) (l : Fin 128) (e : Fin 1024) :
    (Host.scatter scatter_S2x128x1024_S2_S2x64x512_012_n_12_0 (fun _ b => b) (Host.scatter scatter_S2x128x1024_S2_S2x64x512_012_n_12_0 (fun _ b => b) Z J W) K U (ix3 d l e) : EReal)
      = w2 (fun l e => W (ix3 d l e)) (fun l e => U (ix3 d l e)) l e := by
  by_cases hR : 64 ≤ l.val ∧ 512 ≤ e.val
  · have hL : ¬ (l.val < 64 ∧ e.val < 512) := fun h => by omega
    rw [w2, dif_neg hL, dif_pos hR]
    refine Routing.scatter_set_hit _ _ _ _ _ _ (fun q hq => ?_) (ix3 d (⟨l.val - 64, by omega⟩ : Fin 64) (⟨e.val - 512, by omega⟩ : Fin 512)) ((lands K 64 512 k0 k1 d d l _ e _).2 ⟨rfl, by simp only; omega, by simp only; omega⟩)
    obtain ⟨d', l', e', rfl⟩ : ∃ (d' : Fin 2) (l' : Fin 64) (e' : Fin 512), q = ix3 d' l' e' := ⟨q 0, q 1, q 2, by idx_ext⟩
    obtain ⟨rfl, hl, he⟩ := (lands K 64 512 k0 k1 d d' l l' e e').1 hq
    exact congrArg₂ (fun x y => U (ix3 d' x y)) (Fin.ext (by simp only; omega)) (Fin.ext (by simp only; omega))
  · refine (Routing.scatter_set_miss _ _ _ _ _ fun q hq => ?_).trans ?_
    · obtain ⟨d', l', e', rfl⟩ : ∃ (d' : Fin 2) (l' : Fin 64) (e' : Fin 512), q = ix3 d' l' e' := ⟨q 0, q 1, q 2, by idx_ext⟩
      obtain ⟨rfl, hl, he⟩ := (lands K 64 512 k0 k1 d d' l l' e e').1 hq
      exact hR ⟨by omega, by omega⟩
    · by_cases hL : l.val < 64 ∧ e.val < 512
      · rw [w2, dif_pos hL]
        refine Routing.scatter_set_hit _ _ _ _ _ _ (fun q hq => ?_) (ix3 d (⟨l.val, hL.1⟩ : Fin 64) (⟨e.val, hL.2⟩ : Fin 512)) ((lands J 0 0 j0 j1 d d l _ e _).2 ⟨rfl, by simp only; omega, by simp only; omega⟩)
        obtain ⟨d', l', e', rfl⟩ : ∃ (d' : Fin 2) (l' : Fin 64) (e' : Fin 512), q = ix3 d' l' e' := ⟨q 0, q 1, q 2, by idx_ext⟩
        obtain ⟨rfl, hl, he⟩ := (lands J 0 0 j0 j1 d d' l l' e e').1 hq
        exact congrArg₂ (fun x y => W (ix3 d' x y)) (Fin.ext (by simp only; omega)) (Fin.ext (by simp only; omega))
      · rw [w2, dif_neg hL, dif_neg hR]
        refine (Routing.scatter_set_miss _ _ _ _ _ fun q hq => ?_).trans (hZ _)
        obtain ⟨d', l', e', rfl⟩ : ∃ (d' : Fin 2) (l' : Fin 64) (e' : Fin 512), q = ix3 d' l' e' := ⟨q 0, q 1, q 2, by idx_ext⟩
        obtain ⟨rfl, hl, he⟩ := (lands J 0 0 j0 j1 d d' l l' e e').1 hq
        have := l'.isLt
        have := e'.isLt
        exact hL ⟨by omega, by omega⟩

/-- The matrix of both projections. -/
theorem v8_at (c : Dev nD) (d : Fin 2) (l : Fin 128) (e : Fin 1024) :
    ((V m c main_v8 : FVec Ideal S2x128x1024 .f32) (ix3 d l e) : EReal) = w2 ((args m c).wu d) ((args m c).au d) l e := by
  unfold V
  after_results
  refine (blocks _ (fun _ => ?_) _ _ ?_ ?_ ?_ ?_ _ _ d l e).trans rfl
  · pointwise
  · rfl
  · rfl
  · rfl
  · rfl

/-- A format change is the identity. -/
theorem cast_at {s : Shape} (S : FVec Ideal s .f32) (j : s.Idx) : (truncf .bf16 S bitsLt_bf16_f32 j : EReal) = S j := rfl

/-- The rounding error of a number is the number less itself. -/
theorem lo_at {s : Shape} (S : FVec Ideal s .f32) (j : s.Idx) :
    (truncf .bf16 (subf S (extf .f32 (truncf .bf16 S bitsLt_bf16_f32) bitsLt_bf16_f32)) bitsLt_bf16_f32 j : EReal) = S j - S j := rfl

/-- The rounded matrix. -/
theorem b4 (c : Dev nD) (t : Fin cfg0.N) (d : Fin 2) (l : Fin 128) (e : Fin 1024) :
    ((iblk m c 4 t : FVec Ideal S2x128x1024 .bf16) (ix3 d l e) : EReal) = w2 ((args m c).wu d) ((args m c).au d) l e := by
  refine Eq.trans (b := (V m c main_v9 : FVec Ideal S2x128x1024 .bf16) ((win0_4.blk t).view.emb (ix3 d l e))) rfl ?_
  have hi : (win0_4.blk t).view.emb (ix3 d l e) = ix3 d l e := by blk_ext [idx t]
  rw [hi, ← v8_at m c d l e]
  unfold V
  after_results
  exact cast_at _ _

/-- The block matrix of finite numbers is finite. -/
theorem fin_w2 {w a : Fin 64 → Fin 512 → EReal} (hw : ∀ l e, fin (w l e)) (ha : ∀ l e, fin (a l e)) (l : Fin 128) (e : Fin 1024) : fin (w2 w a l e) := by
  unfold w2
  split
  · exact hw _ _
  · split
    · exact ha _ _
    · exact fin.zero

/-- Its rounding error. -/
theorem b5 (c : Dev nD) (h : Ok (args m c)) (t : Fin cfg0.N) (d : Fin 2) (l : Fin 128) (e : Fin 1024) :
    (iblk m c 5 t : FVec Ideal S2x128x1024 .bf16) (ix3 d l e) = (0 : EReal) := by
  refine Eq.trans (b := (V m c main_v12 : FVec Ideal S2x128x1024 .bf16) ((win0_5.blk t).view.emb (ix3 d l e))) rfl ?_
  have hi : (win0_5.blk t).view.emb (ix3 d l e) = ix3 d l e := by blk_ext [idx t]
  have h8 := v8_at m c d l e
  rw [hi]
  refine Eq.trans (b := (fun a : EReal => a - a) ((V m c main_v8 : FVec Ideal S2x128x1024 .f32) (ix3 d l e))) ?_ ?_
  · unfold V
    after_results
    exact lo_at _ _
  · rw [h8]
    exact (fin_w2 (h.wu d) (h.au d) l e).sub_self

/-- The rounding error of the gate's matrix. -/
theorem b9 (c : Dev nD) (h : Ok (args m c)) (t : Fin cfg0.N) (l : Fin 128) (e : Fin 512) :
    (iblk m c 9 t : FVec Ideal S128x512 .bf16) (ix2 l e) = (0 : EReal) := by
  refine Eq.trans (b := (V m c main_v16 : FVec Ideal S128x512 .bf16) ((win0_9.blk t).view.emb (ix2 l e))) rfl ?_
  have hi : (win0_9.blk t).view.emb (ix2 l e) = ix2 l e := by blk_ext [idx t]
  rw [hi]
  refine Eq.trans (b := (fun a : EReal => a - a) ((args m c).gu l e)) ?_ ((h.gu l e).sub_self)
  unfold V
  after_results
  exact lo_at _ _

end Cert.PrepIdeal.Final

end
-- ==== Proof.PrepPt.lean ====
/-
  The kernel body's values at a point of the grid: each is the token's formula.
-/
module

public import proofs.«01_k».proof.Proof.PrepPay
public import proofs.«01_k».proof.Proof.PrepMix
public import proofs.«01_k».proof.Proof.PrepTab
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PrepIdeal.Final

open Cert.PrepIdeal Cert.PrepIdeal.Gen Cert.PrepIdeal.Row Cert.PrepIdeal.Pay
open Cert.MergeIdeal.Row (hd hix fin one)

variable (m : (ℓ : Loc nD τ sig) → Buf (Elt Ideal) ℓ)

/-! Loads of a whole block. -/

theorem ld0 (x : FVec Ideal S1x512x1792 .f32) : View.ld (Val := Elt Ideal) (e' := .f32) x r0_0 = x := View.ld_unit_lit _ _ (by decide)
theorem ld5 (x : FVec Ideal S512x512 .bf16) : View.ld (Val := Elt Ideal) (e' := .bf16) x r0_5 = x := View.ld_unit_lit _ _ (by decide)
theorem ld6 (x : FVec Ideal S1x512 .f32) : View.ld (Val := Elt Ideal) (e' := .f32) x r0_6 = x := View.ld_unit_lit _ _ (by decide)
theorem ld14 (x : FVec Ideal S128x512 .bf16) : View.ld (Val := Elt Ideal) (e' := .bf16) x r0_14 = x := View.ld_unit_lit _ _ (by decide)

/-- A token's row before, within the tile or before it. -/
theorem prv_first (c : Dev nD) (t : Fin cfg0.N) (r : Fin 512) (k : Fin 1792) (h : r.val = 0) :
    (if (cfg0.grid.coords t 1).val = 0 then 0 else View.ld (iblk m c 1 t : FVec Ideal S1x8x1792 .f32) r0_1 (ix3 0 0 k) : EReal) = (args m c).prv (bOf t) (rOf t r) k := by
  rw [crd t]
  unfold Args.prv
  by_cases hT : t.val % 16 = 0
  · rw [if_pos hT, if_pos (by simp only [rOf]; omega)]
  · rw [if_neg hT, if_neg (by simp only [rOf]; omega)]
    exact b1 m c t k _ (by simp only [rOf]; omega)

theorem prv_in (c : Dev nD) (t : Fin cfg0.N) (r : Fin 512) (k : Fin 1792) (h : r.val ≠ 0) :
    ((iblk m c 0 t : FVec Ideal S1x512x1792 .f32) (ix3 0 (⟨r.val - 1, by have := r.isLt; omega⟩ : Fin 512) k) : EReal) = (args m c).prv (bOf t) (rOf t r) k := by
  unfold Args.prv
  rw [if_neg (by simp only [rOf]; omega)]
  refine (b0 m c t _ k).trans ?_
  exact congrArg (fun q : Fin 8192 => (args m c).X (bOf t) q k) (Fin.ext (by simp only [rOf]; omega))

/-- A token's row after, within the tile or after it. -/
theorem nxt_last (c : Dev nD) (t : Fin cfg0.N) (r : Fin 512) (k : Fin 1792) (h : r.val = 511) :
    (if (cfg0.grid.coords t 1).val = 15 then 0 else View.ld (iblk m c 2 t : FVec Ideal S1x8x1792 .f32) r0_2 (ix3 0 0 k) : EReal) = (args m c).nxt (bOf t) (rOf t r) k := by
  rw [crd t]
  unfold Args.nxt
  by_cases hT : t.val % 16 = 15
  · rw [if_pos hT, dif_pos (by simp only [rOf]; omega)]
  · rw [if_neg hT, dif_neg (by simp only [rOf]; omega)]
    exact b2 m c t k _ (by simp only [rOf]; omega)

theorem nxt_in (c : Dev nD) (t : Fin cfg0.N) (r : Fin 512) (k : Fin 1792) (h : r.val ≠ 511) :
    ((iblk m c 0 t : FVec Ideal S1x512x1792 .f32) (ix3 0 (⟨r.val + 1, by have := r.isLt; omega⟩ : Fin 512) k) : EReal) = (args m c).nxt (bOf t) (rOf t r) k := by
  unfold Args.nxt
  rw [dif_neg (by have := r.isLt; simp only [rOf]; omega)]
  refine (b0 m c t _ k).trans ?_
  exact congrArg (fun q : Fin 8192 => (args m c).X (bOf t) q k) (Fin.ext (by simp only [rOf]; omega))

/-- The centred mix, as the body computes it at a point. -/
abbrev P36 (c : Dev nD) (t : Fin cfg0.N) : FVec Ideal S512x1792 .f32 := k0_pay36 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The receptance, as the body computes it at a point. -/
abbrev P37 (c : Dev nD) (t : Fin cfg0.N) : FVec Ideal S512x512 .f32 := k0_pay37 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The key, as the body computes it at a point. -/
abbrev P38 (c : Dev nD) (t : Fin cfg0.N) : FVec Ideal S512x512 .f32 := k0_pay38 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The value, as the body computes it at a point. -/
abbrev P39 (c : Dev nD) (t : Fin cfg0.N) : FVec Ideal S512x512 .f32 := k0_pay39 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The projections' input, as the body computes it at a point. -/
abbrev P40 (c : Dev nD) (t : Fin cfg0.N) : FVec Ideal S512x128 .f32 := k0_pay40 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The table of ones, as the body computes it at a point. -/
abbrev P41 (c : Dev nD) (t : Fin cfg0.N) : FVec Ideal S512x512 .bf16 := k0_pay41 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The normalised key, as the body computes it at a point. -/
abbrev P42 (c : Dev nD) (t : Fin cfg0.N) : FVec Ideal S512x512 .f32 := k0_pay42 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The first direction's projections, as the body computes it at a point. -/
abbrev P43 (c : Dev nD) (t : Fin cfg0.N) : FVec Ideal S512x1024 .f32 := k0_pay43 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The first direction's modified key, as the body computes it at a point. -/
abbrev P44 (c : Dev nD) (t : Fin cfg0.N) : FVec Ideal S512x512 .f32 := k0_pay44 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The second direction's projections, one part, as the body computes it at a point. -/
abbrev P45 (c : Dev nD) (t : Fin cfg0.N) : FVec Ideal S512x1024 .f32 := k0_pay45 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The second direction's projections, one part, as the body computes it at a point. -/
abbrev P46 (c : Dev nD) (t : Fin cfg0.N) : FVec Ideal S512x1024 .f32 := k0_pay46 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The second direction's projections, one part, as the body computes it at a point. -/
abbrev P47 (c : Dev nD) (t : Fin cfg0.N) : FVec Ideal S512x1024 .f32 := k0_pay47 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The second direction's modified key, as the body computes it at a point. -/
abbrev P48 (c : Dev nD) (t : Fin cfg0.N) : FVec Ideal S512x512 .f32 := k0_pay48 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

variable (c : Dev nD) (t : Fin cfg0.N) (r : Fin 512)

theorem z_at (k : Fin 1792) : (P36 m c t (ix2 r k) : EReal) = (args m c).Z (bOf t) (rOf t r) k := by
  unfold P36 k0_pay36
  rw [ld0]
  exact pay4_at _ _ _ _ _ _ r k _ _ _ _ _ (b0 m c t r k) (b3 m c t k) (b3' m c t k) (prv_first m c t r k) (prv_in m c t r k) (nxt_last m c t r k) (nxt_in m c t r k)

theorem r_at (k : Fin 512) : (P37 m c t (ix2 r k) : EReal) = (args m c).R (bOf t) (rOf t r) k :=
  (pay5_at (P36 m c t) r k).trans (z_at m c t r _)

theorem k_at (k : Fin 512) : (P38 m c t (ix2 r k) : EReal) = (args m c).K (bOf t) (rOf t r) k :=
  (pay6_at (P36 m c t) r k).trans (z_at m c t r _)

theorem v_at (k : Fin 512) : (P39 m c t (ix2 r k) : EReal) = (args m c).Vv (bOf t) (rOf t r) k :=
  (pay7_at (P36 m c t) r k).trans (z_at m c t r _)

/-- The low-rank input before the hyperbolic tangent. -/
abbrev U (l : Fin 128) : EReal := (args m c).Z (bOf t) (rOf t r) ⟨1536 + l.val, by have := l.isLt; omega⟩

theorem u_at (l : Fin 128) : (P40 m c t (ix2 r l) : EReal) = tl (U m c t r) l :=
  pay9_at (P36 m c t) r l _ (z_at m c t r)

theorem one_at (x k : Fin 512) : (P41 m c t (ix2 x k) : EReal) = one x k := by
  unfold P41 k0_pay41
  rw [ld5]
  exact (pay10_at _ x k).trans (b13 m c t x k)

variable (h : Ok (args m c))
include h

theorem kk_at (k : Fin 512) : (P42 m c t (ix2 r k) : EReal) = (args m c).KK (bOf t) (rOf t r) k := by
  unfold P42 k0_pay42
  rw [ld5, ld6]
  refine (pay11_at (P36 m c t) _ _ r k _ (z_at m c t r) (b13 m c t) (fun k => ?_)).trans ?_
  · rw [b10]
    exact (h.Z _ _ _).mul (h.kk _)
  · simp only [b10]
    rfl

theorem w0_at (k : Fin 1024) : (P43 m c t (ix2 r k) : EReal) = ∑ l, tl (U m c t r) l * w2 ((args m c).wu 0) ((args m c).au 0) l k := by
  unfold P43 k0_pay43
  exact pay13_at (P36 m c t) _ _ r k (U m c t r) _ _ (u_at m c t r) (fun l => h.Z _ _ _) (fun l e => (ldw _ l e).trans (b4 m c t 0 l e)) (fun l e => (ldw _ l e).trans (b5 m c h t 0 l e))

theorem w1_at (k : Fin 1024) : (k0_pay26 (F := Ideal) (P45 m c t) (P46 m c t) (P47 m c t) (ix2 r k) : EReal) = ∑ l, tl (U m c t r) l * w2 ((args m c).wu 1) ((args m c).au 1) l k := by
  unfold P45 P46 P47 k0_pay45 k0_pay46 k0_pay47
  exact pay26_at (P40 m c t) _ _ r k (U m c t r) _ _ (u_at m c t r) (fun l => h.Z _ _ _) (fun l e => (ldw1 _ l e).trans (b4 m c t 1 l e)) (fun l e => (ldw1 _ l e).trans (b5 m c h t 1 l e))

/-- The right columns are the rate's projection. -/
theorem right (d : Fin 2) (k : Fin 512) : ∑ l, tl (U m c t r) l * w2 ((args m c).wu d) ((args m c).au d) l ⟨512 + k.val, by have := k.isLt; omega⟩ = ∑ l, (args m c).LA (bOf t) (rOf t r) l * (args m c).au d l k := by
  refine (sum_w2_right _ _ _ k).trans (Finset.sum_congr rfl fun l _ => ?_)
  exact congrArg (fun q : Fin 1792 => (args m c).Z (bOf t) (rOf t r) q * (args m c).au d l k) (Fin.ext (by simp only; omega))

theorem a0_at (k : Fin 512) : (k0_pay14 (F := Ideal) (P43 m c t) (View.ld (iblk m c 7 t : FVec Ideal S2x512 .f32) r0_8) (ix2 r k) : EReal) = (args m c).Ar (bOf t) (rOf t r) 0 k := by
  refine (pay14_at _ _ r k).trans ?_
  rw [w0_at m c t r h, right m c t r h, b7]
  rfl

theorem a1_at (k : Fin 512) : (k0_pay27 (F := Ideal) (P45 m c t) (P46 m c t) (P47 m c t) (View.ld (iblk m c 7 t : FVec Ideal S2x512 .f32) r0_11) (ix2 r k) : EReal) = (args m c).Ar (bOf t) (rOf t r) 1 k := by
  refine (pay27_at _ _ _ _ r k).trans ?_
  rw [w1_at m c t r h, right m c t r h, b7']
  rfl

theorem e0_at (k : Fin 512) : (k0_pay16 (F := Ideal) (P43 m c t) (View.ld (iblk m c 6 t : FVec Ideal S2x512 .f32) r0_8) (ix2 r k) : EReal) = (args m c).E (bOf t) (rOf t r) 0 k := by
  refine (pay16_at _ _ r k).trans ?_
  rw [w0_at m c t r h, sum_w2_left, b6]
  rfl

theorem e1_at (k : Fin 512) : (k0_pay29 (F := Ideal) (P45 m c t) (P46 m c t) (P47 m c t) (View.ld (iblk m c 6 t : FVec Ideal S2x512 .f32) r0_11) (ix2 r k) : EReal) = (args m c).E (bOf t) (rOf t r) 1 k := by
  refine (pay29_at _ _ _ _ r k).trans ?_
  rw [w1_at m c t r h, sum_w2_left, b6']
  rfl

theorem m0_at (k : Fin 512) : (P44 m c t (ix2 r k) : EReal) = (args m c).KM (bOf t) (rOf t r) 0 k := by
  unfold P44 k0_pay44
  rw [ld6]
  refine (pay15_at (P38 m c t) (P43 m c t) _ _ r k).trans ?_
  rw [k_at, b11]
  exact congrArg (fun a : EReal => (args m c).K (bOf t) (rOf t r) k * (1 + (a - 1) * (args m c).ka k)) (a0_at m c t r h k)

theorem m1_at (k : Fin 512) : (P48 m c t (ix2 r k) : EReal) = (args m c).KM (bOf t) (rOf t r) 1 k := by
  unfold P48 k0_pay48
  rw [ld6]
  refine (pay28_at (P38 m c t) (P45 m c t) (P46 m c t) (P47 m c t) _ _ r k).trans ?_
  rw [k_at, b11]
  exact congrArg (fun a : EReal => (args m c).K (bOf t) (rOf t r) k * (1 + (a - 1) * (args m c).ka k)) (a1_at m c t r h k)

/-- The bonus of both directions, before the value. -/
theorem bo_at (k : Fin 512) :
    (k0_pay33 (F := Ideal) (P37 m c t) (P41 m c t) (k0_pay20 (F := Ideal) (P37 m c t) (P41 m c t) (k0_pay12 (F := Ideal)) (P44 m c t) (iblk m c 12 t)) (P48 m c t) (iblk m c 12 t) (ix2 r k) : EReal)
      = (args m c).bo (bOf t) (rOf t r) 0 k + (args m c).bo (bOf t) (rOf t r) 1 k := by
  refine (pay33_at _ _ _ _ _ r k (one_at m c t) (fun k => ?_)).trans ?_
  · rw [r_at, m1_at m c t r h, b12]
    exact ((h.Z _ _ _).mul (h.KM _ _ _ _)).mul (h.rk _ _)
  · refine congrArg₂ (fun p q : EReal => p + q) ((pay20_at _ _ _ _ r k (one_at m c t) (fun k => ?_)).trans ?_) ?_
    · rw [r_at, m0_at m c t r h, b12]
      exact ((h.Z _ _ _).mul (h.KM _ _ _ _)).mul (h.rk _ _)
    · simp only [r_at, m0_at m c t r h, b12]
      rfl
    · simp only [r_at, m1_at m c t r h, b12]
      rfl

/-- The gate. -/
theorem g_at (k : Fin 512) : (k0_pay3 (F := Ideal) (k0_pay8 (P36 m c t)) (iblk m c 8 t) (iblk m c 9 t) (ix3 0 r k) : EReal) = (args m c).G (bOf t) (rOf t r) k := by
  refine (pay3_at _ _ _ r k (b9 m c h t)).trans ?_
  simp only [pay8_at, z_at, b8]
  rfl

omit h in
/-- A block stored in two layers. -/
theorem layers (P Q : FVec Ideal S1x1x512x512 .f32) (d : Fin 2) (r k : Fin 512) :
    ((View.canon (Val := Elt Ideal) (e := .f32) [⟨r0_12, P⟩, ⟨r0_9, Q⟩] : FVec Ideal S2x1x512x512 .f32) (ix4 d 0 r k) : EReal) = if d.val = 0 then Q (ix4 0 0 r k) else P (ix4 0 0 r k) := by
  refine View.canon_apply_of_pieces (Val := Elt Ideal) (e := .f32) (fun z : S2x1x512x512.Idx => if (z 0).val = 0 then Q (ix4 0 0 (z 2) (z 3)) else P (ix4 0 0 (z 2) (z 3))) _ (fun p hp j => ?_) (ix4 d 0 r k) (cover0_17 _ _ _)
  simp only [List.mem_cons, List.mem_nil_iff, or_false] at hp
  rcases hp with rfl | rfl
  · have e : ∀ a, ((r0_12.emb j a : Fin _) : Nat) = (![1, 0, 0, 0] : Fin 4 → Nat) a + (j a).val := fun a => Rect.idx_unit_val _ _ _ _ a
    refine Eq.trans ?_ (if_neg (fun q => by have e0 : ((r0_12.emb j 0 : Fin _) : Nat) = 1 + (j 0).val := e 0; rw [e0] at q; omega)).symm
    refine congrArg P (funext fun a => Fin.ext ?_)
    match a with
    | ⟨0, _⟩ => exact Nat.lt_one_iff.1 (j 0).isLt
    | ⟨1, _⟩ => exact Nat.lt_one_iff.1 (j 1).isLt
    | ⟨2, _⟩ => exact ((e 2).trans (Nat.zero_add _)).symm
    | ⟨3, _⟩ => exact ((e 3).trans (Nat.zero_add _)).symm
  · have e : ∀ a, ((r0_9.emb j a : Fin _) : Nat) = (![0, 0, 0, 0] : Fin 4 → Nat) a + (j a).val := fun a => Rect.idx_unit_val _ _ _ _ a
    refine Eq.trans ?_ (if_pos (((e 0).trans (Nat.zero_add _)).trans (Nat.lt_one_iff.1 (j 0).isLt))).symm
    refine congrArg Q (funext fun a => Fin.ext ?_)
    match a with
    | ⟨0, _⟩ => exact Nat.lt_one_iff.1 (j 0).isLt
    | ⟨1, _⟩ => exact Nat.lt_one_iff.1 (j 1).isLt
    | ⟨2, _⟩ => exact ((e 2).trans (Nat.zero_add _)).symm
    | ⟨3, _⟩ => exact ((e 3).trans (Nat.zero_add _)).symm

end Cert.PrepIdeal.Final

end
-- ==== Proof.PrepRef.lean ====
/-
  The reference's stages at an index: each is the token's formula.
-/
module

public import proofs.«01_k».proof.Proof.Gen.PrepRefIdeal.Run
public import proofs.«01_k».proof.Proof.PrepRow
public import Idealize.ShloMosaic.Lib.KernelVsHost

@[expose] public section

set_option maxRecDepth 16384

noncomputable section

open Idealize.ShloMosaic Idealize.ShloMosaic.TcCoe Idealize.SL.Sem

namespace Cert.PrepRefIdeal.Stage

open Cert.PrepRefIdeal Cert.PrepRefIdeal.Gen Cert.PrepRefIdeal.Value Cert.PrepIdeal.Row
open Cert.MergeIdeal.Row (hd hix fin one)

variable (V0 : Valuation τ sig (Elt Ideal))

/-- The reference's arguments, entry by entry. -/
def args : Args where
  X b r k := (V0 (Proc.devRef .tc main_arg0) : FVec Ideal S4x8192x1792 .f32) (ix3 b r k)
  mu d k := (V0 (Proc.devRef .tc main_arg1) : FVec Ideal S2x1792 .f32) (ix2 d k)
  wu d l k := (V0 (Proc.devRef .tc main_arg2) : FVec Ideal S2x64x512 .f32) (ix3 d l k)
  au d l k := (V0 (Proc.devRef .tc main_arg3) : FVec Ideal S2x64x512 .f32) (ix3 d l k)
  w0 d k := (V0 (Proc.devRef .tc main_arg4) : FVec Ideal S2x512 .f32) (ix2 d k)
  a0 d k := (V0 (Proc.devRef .tc main_arg5) : FVec Ideal S2x512 .f32) (ix2 d k)
  gu l k := (V0 (Proc.devRef .tc main_arg6) : FVec Ideal S128x512 .f32) (ix2 l k)
  kk k := (V0 (Proc.devRef .tc main_arg7) : FVec Ideal S512 .f32) (ix1 k)
  ka k := (V0 (Proc.devRef .tc main_arg8) : FVec Ideal S512 .f32) (ix1 k)
  rk h k := (V0 (Proc.devRef .tc main_arg9) : FVec Ideal S8x64 .f32) (ix2 h k)

/-- The channel of a head's entry. -/
def ch (h : Fin 8) (k : Fin 64) : Fin 512 := ⟨h.val * 64 + k.val, by have := h.isLt; have := k.isLt; omega⟩

theorem hd_ch (y : Fin 512 → EReal) (h : Fin 8) (k : Fin 64) : hd y (ch h k) = ∑ k', y (ch h k') := by
  refine Finset.sum_congr rfl fun k' _ => congrArg y (Fin.ext ?_)
  have := k.isLt
  simp only [ch, hix]
  omega

/-- A token of the array with a zero row put before it, the last row dropped. -/
theorem prv_at (X : FVec Ideal S4x8192x1792 .f32) (b : Fin 4) (r : Fin 8192) (c : Fin 1792) :
    ((extractStridedSlice S4x8192x1792 ![0, 0, 0] (pad S4x8193x1792 ![0, 1, 0] ![0, 0, 0] ![0, 0, 0] X (sitofp (F := Ideal) .f32 (constantI S_ 32 0#32)) pads_S4x8192x1792_S4x8193x1792_000_100_000 h_S_ : FVec Ideal S4x8193x1792 .f32) slices_S4x8193x1792_S4x8192x1792_0_0_0 : FVec Ideal S4x8192x1792 .f32) (ix3 b r c) : EReal)
      = if r.val = 0 then 0 else X (ix3 b ⟨r.val - 1, by have := r.isLt; omega⟩ c) := by
  pointwise
  by_cases h : r.val = 0
  · rw [dif_neg (by omega), if_pos h]
    show (((0 : Int) : ℝ) : EReal) = 0
    simp
  · rw [dif_pos (by omega), if_neg h]

/-- A token of the array with a zero row put after it, the first row dropped. -/
theorem nxt_at (X : FVec Ideal S4x8192x1792 .f32) (b : Fin 4) (r : Fin 8192) (c : Fin 1792) :
    ((extractStridedSlice S4x8192x1792 ![0, 1, 0] (pad S4x8193x1792 ![0, 0, 0] ![0, 1, 0] ![0, 0, 0] X (sitofp (F := Ideal) .f32 (constantI S_ 32 0#32)) pads_S4x8192x1792_S4x8193x1792_000_010_000 h_S_ : FVec Ideal S4x8193x1792 .f32) slices_S4x8193x1792_S4x8192x1792_0_1_0 : FVec Ideal S4x8192x1792 .f32) (ix3 b r c) : EReal)
      = if h : r.val = 8191 then 0 else X (ix3 b ⟨r.val + 1, by have := r.isLt; omega⟩ c) := by
  pointwise
  by_cases h : r.val = 8191
  · rw [dif_neg (by omega), dif_pos h]
    show (((0 : Int) : ℝ) : EReal) = 0
    simp
  · rw [dif_pos (by have := r.isLt; omega), dif_neg h]
    exact congrArg (fun q : Fin 8192 => X (ix3 b q c)) (Fin.ext (Nat.add_comm _ _))

/-- The centred mix. -/
theorem v17_at (b : Fin 4) (r : Fin 8192) (c : Fin 1792) :
    ((res_main_v17 V0 : FVec Ideal S4x8192x1792 .f32) (ix3 b r c) : EReal) = (args V0).Z b r c := by
  have hp := prv_at (V0 (Proc.devRef .tc main_arg0)) b r c
  have hn := nxt_at (V0 (Proc.devRef .tc main_arg0)) b r c
  unfold res_main_v17
  generalize (extractStridedSlice S4x8192x1792 ![0, 0, 0] (pad S4x8193x1792 ![0, 1, 0] ![0, 0, 0] ![0, 0, 0] (V0 (Proc.devRef .tc main_arg0) : FVec Ideal S4x8192x1792 .f32) (sitofp (F := Ideal) .f32 (constantI S_ 32 0#32)) pads_S4x8192x1792_S4x8193x1792_000_100_000 h_S_ : FVec Ideal S4x8193x1792 .f32) slices_S4x8193x1792_S4x8192x1792_0_0_0 : FVec Ideal S4x8192x1792 .f32) = P at hp ⊢
  generalize (extractStridedSlice S4x8192x1792 ![0, 1, 0] (pad S4x8193x1792 ![0, 0, 0] ![0, 1, 0] ![0, 0, 0] (V0 (Proc.devRef .tc main_arg0) : FVec Ideal S4x8192x1792 .f32) (sitofp (F := Ideal) .f32 (constantI S_ 32 0#32)) pads_S4x8192x1792_S4x8193x1792_000_010_000 h_S_ : FVec Ideal S4x8193x1792 .f32) slices_S4x8193x1792_S4x8192x1792_0_1_0 : FVec Ideal S4x8192x1792 .f32) = N at hn ⊢
  pointwise
  rw [hp, hn]
  rfl

/-- The key. -/
theorem v19_at (b : Fin 4) (r : Fin 8192) (c : Fin 512) :
    ((res_main_v19 V0 : FVec Ideal S4x8192x512 .f32) (ix3 b r c) : EReal) = (args V0).K b r c := by
  pointwise [res_main_v19]
  exact v17_at V0 b r _

/-- The value. -/
theorem v20_at (b : Fin 4) (r : Fin 8192) (c : Fin 512) :
    ((res_main_v20 V0 : FVec Ideal S4x8192x512 .f32) (ix3 b r c) : EReal) = (args V0).Vv b r c := by
  pointwise [res_main_v20]
  exact v17_at V0 b r _

/-- The decay's low-rank input. -/
theorem v21_at (b : Fin 4) (r : Fin 8192) (c : Fin 64) :
    ((res_main_v21 V0 : FVec Ideal S4x8192x64 .f32) (ix3 b r c) : EReal) = (args V0).LW b r c := by
  pointwise [res_main_v21]
  exact v17_at V0 b r _

/-- The rate's low-rank input. -/
theorem v22_at (b : Fin 4) (r : Fin 8192) (c : Fin 64) :
    ((res_main_v22 V0 : FVec Ideal S4x8192x64 .f32) (ix3 b r c) : EReal) = (args V0).LA b r c := by
  pointwise [res_main_v22]
  exact v17_at V0 b r _

/-- The receptance, by heads. -/
theorem v24_at (b : Fin 4) (r : Fin 8192) (h : Fin 8) (k : Fin 64) :
    ((res_main_v24 V0 : FVec Ideal S4x8192x8x64 .f32) (ix4 b r h k) : EReal) = (args V0).R b r (ch h k) := by
  pointwise [res_main_v24]
  exact v17_at V0 b r _

/-- The value, by heads. -/
theorem v25_at (b : Fin 4) (r : Fin 8192) (h : Fin 8) (k : Fin 64) :
    ((res_main_v25 V0 : FVec Ideal S4x8192x8x64 .f32) (ix4 b r h k) : EReal) = (args V0).Vv b r (ch h k) := by
  pointwise [res_main_v25]
  exact v20_at V0 b r _

/-- The scaled key, by heads. -/
theorem v29_at (b : Fin 4) (r : Fin 8192) (h : Fin 8) (k : Fin 64) :
    ((res_main_v29 V0 : FVec Ideal S4x8192x8x64 .f32) (ix4 b r h k) : EReal) = (args V0).K b r (ch h k) * (args V0).kk (ch h k) := by
  pointwise [res_main_v29]
  exact congrArg (fun a : EReal => a * (args V0).kk (ch h k)) (v19_at V0 b r (ch h k))

/-- The normalised key, by heads. -/
theorem v37_at (b : Fin 4) (r : Fin 8192) (h : Fin 8) (k : Fin 64) :
    ((res_main_v37 V0 : FVec Ideal S4x8192x8x64 .f32) (ix4 b r h k) : EReal) = (args V0).KK b r (ch h k) := by
  pointwise [res_main_v37]
  simp only [v29_at]
  unfold Args.KK nrm
  rw [hd_ch]

/-- The decay's negated projections. -/
theorem v47_at (b : Fin 4) (r : Fin 8192) (c : Fin 512) :
    ((res_main_v47 V0 : FVec Ideal S4x8192x512 .f32) (ix3 b r c) : EReal) = -((∑ l, Ideal.tanh ((args V0).LW b r l) * (args V0).wu 0 l c) + (args V0).w0 0 c) := by
  pointwise [res_main_v47]
  simp only [v21_at]
  rw [add_comm]
  rfl

theorem v97_at (b : Fin 4) (r : Fin 8192) (c : Fin 512) :
    ((res_main_v97 V0 : FVec Ideal S4x8192x512 .f32) (ix3 b r c) : EReal) = -((∑ l, Ideal.tanh ((args V0).LW b r l) * (args V0).wu 1 l c) + (args V0).w0 1 c) := by
  pointwise [res_main_v97]
  simp only [v21_at]
  rw [add_comm]
  rfl

/-- The rates. -/
theorem v65_at (b : Fin 4) (r : Fin 8192) (c : Fin 512) :
    ((res_main_v65 V0 : FVec Ideal S4x8192x512 .f32) (ix3 b r c) : EReal) = (args V0).Ar b r 0 c := by
  pointwise [res_main_v65]
  simp only [v22_at]
  unfold Args.Ar Cert.MergeIdeal.Row.sig
  rw [add_comm ((∑ l, (args V0).LA b r l * (args V0).au 0 l c))]
  rfl

theorem v115_at (b : Fin 4) (r : Fin 8192) (c : Fin 512) :
    ((res_main_v115 V0 : FVec Ideal S4x8192x512 .f32) (ix3 b r c) : EReal) = (args V0).Ar b r 1 c := by
  pointwise [res_main_v115]
  simp only [v22_at]
  unfold Args.Ar Cert.MergeIdeal.Row.sig
  rw [add_comm ((∑ l, (args V0).LA b r l * (args V0).au 1 l c))]
  rfl

/-- The modified keys, by heads. -/
theorem v74_at (b : Fin 4) (r : Fin 8192) (h : Fin 8) (k : Fin 64) :
    ((res_main_v74 V0 : FVec Ideal S4x8192x8x64 .f32) (ix4 b r h k) : EReal) = (args V0).KM b r 0 (ch h k) := by
  have e1 := v19_at V0 b r (ch h k)
  have e2 := v65_at V0 b r (ch h k)
  unfold ch at e1 e2
  pointwise [res_main_v74]
  rw [e1, e2]
  rfl

theorem v124_at (b : Fin 4) (r : Fin 8192) (h : Fin 8) (k : Fin 64) :
    ((res_main_v124 V0 : FVec Ideal S4x8192x8x64 .f32) (ix4 b r h k) : EReal) = (args V0).KM b r 1 (ch h k) := by
  have e1 := v19_at V0 b r (ch h k)
  have e2 := v115_at V0 b r (ch h k)
  unfold ch at e1 e2
  pointwise [res_main_v124]
  rw [e1, e2]
  rfl

/-- A result, array 0: the receptance. -/
theorem res0_at (b : Fin 4) (r : Fin 8192) (c : Fin 512) :
    ((extractStridedSlice S4x8192x512 ![0, 0, 0] (res_main_v17 V0) slices_S4x8192x1792_S4x8192x512_0_0_0 : FVec Ideal S4x8192x512 .f32) (ix3 b r c) : EReal) = (args V0).R b r c := by
  pointwise
  exact v17_at V0 b r _

/-- Result array 1: the value. -/
theorem res1_at (b : Fin 4) (r : Fin 8192) (c : Fin 512) :
    ((truncf .bf16 (res_main_v20 V0 : FVec Ideal S4x8192x512 .f32) bitsLt_bf16_f32 : FVec Ideal S4x8192x512 .bf16) (ix3 b r c) : EReal) = (args V0).Vv b r c :=
  v20_at V0 b r c

theorem ch_val (c : Fin 512) : ch (⟨c.val / 64, by have := c.isLt; omega⟩ : Fin 8) (⟨c.val % 64, by have := c.isLt; omega⟩ : Fin 64) = c :=
  Fin.ext (by simp only [ch]; omega)

/-- Result array 2: the normalised key. -/
theorem res2_at (b : Fin 4) (r : Fin 8192) (c : Fin 512) :
    ((shapeCast S4x8192x512 (res_main_v37 V0 : FVec Ideal S4x8192x8x64 .f32) shapeCasts_S4x8192x8x64_S4x8192x512) (ix3 b r c) : EReal) = (args V0).KK b r c := by
  pointwise
  refine (v37_at V0 b r _ _).trans ?_
  rw [ch_val]

/-- The exponential of a decay from its negated projection. -/
theorem dec_at (X : FVec Ideal S4x8192x512 .f32) (cst : FVec Ideal S_ .f32) (v3 : FVec Ideal S4x8192x512 .f32) (i : S4x8192x512.Idx) (x : EReal) (hx : X i = -x) (hc : ∀ j, cst j = (0 : EReal)) (h3 : v3 i = X i) :
    ((Host.exp (subf (Host.negf (select (cmpf .une v3 v3) (addf X (broadcastInDim S4x8192x512 ![] bcast_S_S4x8192x512 cst)) (addf (maximumf X (broadcastInDim S4x8192x512 ![] bcast_S_S4x8192x512 cst)) (Host.log1p (Host.exp (Host.negf (Host.absf v3))))))) (broadcastInDim S4x8192x512 ![] bcast_S_S4x8192x512 (constant S_ .f32 0x3F000000#32))) : FVec Ideal S4x8192x512 .f32) i : EReal) = dec x := by
  pointwise
  rw [if_neg (fun h => h rfl), h3, hx, hc]
  rfl

theorem call2_at (i : S4x8192x512.Idx) : (res_main_call2_v3 V0 i : EReal) = res_main_v47 V0 i := by
  pointwise [res_main_call2_v3, res_main_call2_cst]

theorem call3_at (i : S4x8192x512.Idx) : (res_main_call3_v3 V0 i : EReal) = res_main_v97 V0 i := by
  pointwise [res_main_call3_v3, res_main_call3_cst]

theorem cst2_at (j : S_.Idx) : (res_main_call2_cst V0 j : EReal) = (0 : EReal) := by
  pointwise [res_main_call2_cst]

theorem cst3_at (j : S_.Idx) : (res_main_call3_cst V0 j : EReal) = (0 : EReal) := by
  pointwise [res_main_call3_cst]

/-- Two arrays stacked along a new first axis. -/
theorem stack_at (P Q : FVec Ideal S4x8192x512 .f32) (d : Fin 2) (b : Fin 4) (r : Fin 8192) (c : Fin 512) :
    ((concatenate S2x4x8192x512 0 [⟨S1x4x8192x512, (broadcastInDim S1x4x8192x512 ![1, 2, 3] bcast_S4x8192x512_S1x4x8192x512_1_2_3 P)⟩, ⟨S1x4x8192x512, (broadcastInDim S1x4x8192x512 ![1, 2, 3] bcast_S4x8192x512_S1x4x8192x512_1_2_3 Q)⟩] concatenates_S1x4x8192x512_S1x4x8192x512_S2x4x8192x512_d0 : FVec Ideal S2x4x8192x512 .f32) (ix4 d b r c) : EReal)
      = if d.val = 0 then P (ix3 b r c) else Q (ix3 b r c) := by
  pointwise
  by_cases h : d.val = 0
  · rw [dif_pos (by omega), if_pos h]
  · rw [dif_neg (by omega), if_neg h]

/-- The gate. -/
theorem res7_at (b : Fin 4) (r : Fin 8192) (c : Fin 512) :
    ((truncf .bf16 (Host.dotGeneral (φ₂ := .f32) dot_S4x8192x128_S128x512_S4x8192x512_2_0_01_1_n_n none (Host.divf (broadcastInDim S4x8192x128 ![] bcast_S_S4x8192x128 (constant S_ .f32 0x3F800000#32)) (addf (broadcastInDim S4x8192x128 ![] bcast_S_S4x8192x128 (constant S_ .f32 0x3F800000#32)) (Host.exp (Host.negf (extractStridedSlice S4x8192x128 ![0, 0, 1664] (res_main_v17 V0) slices_S4x8192x1792_S4x8192x128_0_0_1664))))) (V0 (Proc.devRef .tc main_arg6) : FVec Ideal S128x512 .f32)  : FVec Ideal S4x8192x512 .f32) bitsLt_bf16_f32 : FVec Ideal S4x8192x512 .bf16) (ix3 b r c) : EReal) = (args V0).G b r c := by
  pointwise
  simp only [v17_at]
  rfl

/-- A direction's bonus, by heads. -/
theorem bonus_at (X Y : FVec Ideal S4x8192x8x64 .f32) (rk : FVec Ideal S8x64 .f32) (b : Fin 4) (r : Fin 8192) (h : Fin 8) (k : Fin 64) :
    ((broadcastInDim S4x8192x8x64 ![0, 1, 2, 3] bcast_S4x8192x8x1_S4x8192x8x64_0_1_2_3 (broadcastInDim S4x8192x8x1 ![0, 1, 2] bcast_S4x8192x8_S4x8192x8x1_0_1_2 (Host.reduceAdd (mulf (mulf X Y) (broadcastInDim S4x8192x8x64 ![0, 1, 2, 3] bcast_S1x1x8x64_S4x8192x8x64_0_1_2_3 (broadcastInDim S1x1x8x64 ![2, 3] bcast_S8x64_S1x1x8x64_2_3 rk))) (constant S_ .f32 0x00000000#32) reducesTo_S4x8192x8x64_S4x8192x8_d3 h_S_)) : FVec Ideal S4x8192x8x64 .f32) (ix4 b r h k) : EReal)
      = ∑ k, X (ix4 b r h k) * Y (ix4 b r h k) * rk (ix2 h k) := by
  pointwise

/-- Result array 3: the exponentials of the decays. -/
theorem res3_at (d : Fin 2) (b : Fin 4) (r : Fin 8192) (c : Fin 512) :
    ((concatenate S2x4x8192x512 0 [⟨S1x4x8192x512, (broadcastInDim S1x4x8192x512 ![1, 2, 3] bcast_S4x8192x512_S1x4x8192x512_1_2_3 (Host.exp (subf (Host.negf (select (cmpf .une (res_main_call2_v3 V0) (res_main_call2_v3 V0)) (addf (res_main_v47 V0) (broadcastInDim S4x8192x512 ![] bcast_S_S4x8192x512 (res_main_call2_cst V0))) (addf (maximumf (res_main_v47 V0) (broadcastInDim S4x8192x512 ![] bcast_S_S4x8192x512 (res_main_call2_cst V0))) (Host.log1p (Host.exp (Host.negf (Host.absf (res_main_call2_v3 V0)))))))) (broadcastInDim S4x8192x512 ![] bcast_S_S4x8192x512 (constant S_ .f32 0x3F000000#32)))))⟩, ⟨S1x4x8192x512, (broadcastInDim S1x4x8192x512 ![1, 2, 3] bcast_S4x8192x512_S1x4x8192x512_1_2_3 (Host.exp (subf (Host.negf (select (cmpf .une (res_main_call3_v3 V0) (res_main_call3_v3 V0)) (addf (res_main_v97 V0) (broadcastInDim S4x8192x512 ![] bcast_S_S4x8192x512 (res_main_call3_cst V0))) (addf (maximumf (res_main_v97 V0) (broadcastInDim S4x8192x512 ![] bcast_S_S4x8192x512 (res_main_call3_cst V0))) (Host.log1p (Host.exp (Host.negf (Host.absf (res_main_call3_v3 V0)))))))) (broadcastInDim S4x8192x512 ![] bcast_S_S4x8192x512 (constant S_ .f32 0x3F000000#32)))))⟩] concatenates_S1x4x8192x512_S1x4x8192x512_S2x4x8192x512_d0 : FVec Ideal S2x4x8192x512 .f32) (ix4 d b r c) : EReal) = (args V0).E b r d c := by
  refine (stack_at _ _ d b r c).trans ?_
  match d with
  | ⟨0, _⟩ => exact (if_pos rfl).trans (dec_at _ _ _ _ _ (v47_at V0 b r c) (cst2_at V0) (call2_at V0 _))
  | ⟨1, _⟩ => exact (if_neg Nat.one_ne_zero).trans (dec_at _ _ _ _ _ (v97_at V0 b r c) (cst3_at V0) (call3_at V0 _))

/-- A format change is the identity. -/
theorem trunc_at (X : FVec Ideal S4x8192x512 .f32) (j : S4x8192x512.Idx) : ((truncf .bf16 X bitsLt_bf16_f32 : FVec Ideal S4x8192x512 .bf16) j : EReal) = X j := rfl

/-- Heads joined into channels. -/
theorem join_at (X : FVec Ideal S4x8192x8x64 .f32) (b : Fin 4) (r : Fin 8192) (c : Fin 512) :
    ((shapeCast S4x8192x512 X shapeCasts_S4x8192x8x64_S4x8192x512 : FVec Ideal S4x8192x512 .f32) (ix3 b r c) : EReal)
      = X (ix4 b r (⟨c.val / 64, by have := c.isLt; omega⟩ : Fin 8) (⟨c.val % 64, by have := c.isLt; omega⟩ : Fin 64)) := by
  pointwise

/-- Channels split into heads. -/
theorem split_at (X : FVec Ideal S4x8192x512 .f32) (b : Fin 4) (r : Fin 8192) (h : Fin 8) (k : Fin 64) :
    ((shapeCast S4x8192x8x64 X shapeCasts_S4x8192x512_S4x8192x8x64 : FVec Ideal S4x8192x8x64 .f32) (ix4 b r h k) : EReal) = X (ix3 b r (ch h k)) := by
  pointwise
  rfl

/-- Result array 4: the modified keys. -/
theorem res4_at (d : Fin 2) (b : Fin 4) (r : Fin 8192) (c : Fin 512) :
    ((concatenate S2x4x8192x512 0 [⟨S1x4x8192x512, (broadcastInDim S1x4x8192x512 ![1, 2, 3] bcast_S4x8192x512_S1x4x8192x512_1_2_3 (shapeCast S4x8192x512 (res_main_v74 V0) shapeCasts_S4x8192x8x64_S4x8192x512))⟩, ⟨S1x4x8192x512, (broadcastInDim S1x4x8192x512 ![1, 2, 3] bcast_S4x8192x512_S1x4x8192x512_1_2_3 (shapeCast S4x8192x512 (res_main_v124 V0) shapeCasts_S4x8192x8x64_S4x8192x512))⟩] concatenates_S1x4x8192x512_S1x4x8192x512_S2x4x8192x512_d0 : FVec Ideal S2x4x8192x512 .f32) (ix4 d b r c) : EReal) = (args V0).KM b r d c := by
  refine (stack_at _ _ d b r c).trans ?_
  match d with
  | ⟨0, _⟩ => exact (if_pos rfl).trans ((join_at _ b r c).trans ((v74_at V0 b r _ _).trans (by rw [ch_val]; rfl)))
  | ⟨1, _⟩ => exact (if_neg Nat.one_ne_zero).trans ((join_at _ b r c).trans ((v124_at V0 b r _ _).trans (by rw [ch_val]; rfl)))

/-- A product of the normalised key with a rate, channel by channel. -/
theorem rate_at (X : FVec Ideal S4x8192x512 .f32) (d : Fin 2) (b : Fin 4) (r : Fin 8192) (c : Fin 512) (hX : (X (ix3 b r c) : EReal) = (args V0).Ar b r d c) :
    (((shapeCast S4x8192x512 (mulf (res_main_v37 V0) (shapeCast S4x8192x8x64 X shapeCasts_S4x8192x512_S4x8192x8x64)) shapeCasts_S4x8192x8x64_S4x8192x512) : FVec Ideal S4x8192x512 .f32) (ix3 b r c) : EReal) = (args V0).B b r d c := by
  refine (join_at _ b r c).trans ?_
  refine (congrArg₂ (fun p q : EReal => p * q) (v37_at V0 b r _ _) (split_at X b r _ _)).trans ?_
  rw [ch_val, hX]
  rfl

/-- Result array 5: the rates times the normalised key. -/
theorem res5_at (d : Fin 2) (b : Fin 4) (r : Fin 8192) (c : Fin 512) :
    ((concatenate S2x4x8192x512 0 [⟨S1x4x8192x512, (broadcastInDim S1x4x8192x512 ![1, 2, 3] bcast_S4x8192x512_S1x4x8192x512_1_2_3 (shapeCast S4x8192x512 (mulf (res_main_v37 V0) (shapeCast S4x8192x8x64 (res_main_v65 V0) shapeCasts_S4x8192x512_S4x8192x8x64)) shapeCasts_S4x8192x8x64_S4x8192x512))⟩, ⟨S1x4x8192x512, (broadcastInDim S1x4x8192x512 ![1, 2, 3] bcast_S4x8192x512_S1x4x8192x512_1_2_3 (shapeCast S4x8192x512 (mulf (res_main_v37 V0) (shapeCast S4x8192x8x64 (res_main_v115 V0) shapeCasts_S4x8192x512_S4x8192x8x64)) shapeCasts_S4x8192x8x64_S4x8192x512))⟩] concatenates_S1x4x8192x512_S1x4x8192x512_S2x4x8192x512_d0 : FVec Ideal S2x4x8192x512 .f32) (ix4 d b r c) : EReal) = (args V0).B b r d c := by
  refine (stack_at _ _ d b r c).trans ?_
  match d with
  | ⟨0, _⟩ => exact (if_pos rfl).trans (rate_at V0 _ 0 b r c (v65_at V0 b r c))
  | ⟨1, _⟩ => exact (if_neg Nat.one_ne_zero).trans (rate_at V0 _ 1 b r c (v115_at V0 b r c))

/-- A direction's bonus is the head's sum. -/
theorem bo_at (d : Fin 2) (b : Fin 4) (r : Fin 8192) (h : Fin 8) (k : Fin 64) :
    ∑ k, (args V0).R b r (ch h k) * (args V0).KM b r d (ch h k) * (args V0).rk h k = (args V0).bo b r d (ch h k) := by
  unfold Args.bo
  rw [hd_ch]
  refine Finset.sum_congr rfl fun k' _ => congrArg (fun a : EReal => (args V0).R b r (ch h k') * (args V0).KM b r d (ch h k') * a) ?_
  have := k'.isLt
  exact congrArg₂ (args V0).rk (Fin.ext (by simp only [ch]; omega)) (Fin.ext (by simp only [ch]; omega))

/-- Result array 6: the bonus. -/
theorem res6_at (hok : Ok (args V0)) (b : Fin 4) (r : Fin 8192) (c : Fin 512) :
    ((truncf .bf16 (shapeCast S4x8192x512 (addf (mulf (broadcastInDim S4x8192x8x64 ![0, 1, 2, 3] bcast_S4x8192x8x1_S4x8192x8x64_0_1_2_3 (broadcastInDim S4x8192x8x1 ![0, 1, 2] bcast_S4x8192x8_S4x8192x8x1_0_1_2 (Host.reduceAdd (mulf (mulf (res_main_v24 V0) (res_main_v74 V0)) (broadcastInDim S4x8192x8x64 ![0, 1, 2, 3] bcast_S1x1x8x64_S4x8192x8x64_0_1_2_3 (broadcastInDim S1x1x8x64 ![2, 3] bcast_S8x64_S1x1x8x64_2_3 (V0 (Proc.devRef .tc main_arg9) : FVec Ideal S8x64 .f32)))) (constant S_ .f32 0x00000000#32) reducesTo_S4x8192x8x64_S4x8192x8_d3 h_S_))) (res_main_v25 V0)) (mulf (broadcastInDim S4x8192x8x64 ![0, 1, 2, 3] bcast_S4x8192x8x1_S4x8192x8x64_0_1_2_3 (broadcastInDim S4x8192x8x1 ![0, 1, 2] bcast_S4x8192x8_S4x8192x8x1_0_1_2 (Host.reduceAdd (mulf (mulf (res_main_v24 V0) (res_main_v124 V0)) (broadcastInDim S4x8192x8x64 ![0, 1, 2, 3] bcast_S1x1x8x64_S4x8192x8x64_0_1_2_3 (broadcastInDim S1x1x8x64 ![2, 3] bcast_S8x64_S1x1x8x64_2_3 (V0 (Proc.devRef .tc main_arg9) : FVec Ideal S8x64 .f32)))) (constant S_ .f32 0x00000000#32) reducesTo_S4x8192x8x64_S4x8192x8_d3 h_S_))) (res_main_v25 V0))) shapeCasts_S4x8192x8x64_S4x8192x512 : FVec Ideal S4x8192x512 .f32) bitsLt_bf16_f32 : FVec Ideal S4x8192x512 .bf16) (ix3 b r c) : EReal) = (args V0).BO b r c := by
  refine Eq.trans ?_ (hok.BO b r c)
  refine (trunc_at _ _).trans ((join_at _ b r c).trans ?_)
  refine (congrArg₂ (fun p q : EReal => p + q) (congrArg₂ (fun p q : EReal => p * q) (bonus_at _ _ _ b r _ _) (v25_at V0 b r _ _))
    (congrArg₂ (fun p q : EReal => p * q) (bonus_at _ _ _ b r _ _) (v25_at V0 b r _ _))).trans ?_
  simp only [v24_at, v74_at, v124_at]
  have e0 := bo_at V0 0 b r (⟨c.val / 64, by have := c.isLt; omega⟩ : Fin 8) (⟨c.val % 64, by have := c.isLt; omega⟩ : Fin 64)
  have e1 := bo_at V0 1 b r (⟨c.val / 64, by have := c.isLt; omega⟩ : Fin 8) (⟨c.val % 64, by have := c.isLt; omega⟩ : Fin 64)
  rw [ch_val] at e0 e1 ⊢
  exact congrArg₂ (fun p q : EReal => p * (args V0).Vv b r c + q * (args V0).Vv b r c) e0 e1

end Cert.PrepRefIdeal.Stage

end
-- ==== Proof.PrepPre.lean ====
/-
  The preparation's precondition, read: the arguments it names are finite, entry by entry.
-/
module

public import proofs.«01_k».proof.Defs
public import proofs.«01_k».proof.Proof.Gen.Pre_prep_finite
public import proofs.«01_k».proof.Proof.PrepBlk
public import proofs.«01_k».proof.Proof.MergePre

@[expose] public section

set_option maxRecDepth 16384

noncomputable section

open Idealize.ShloMosaic Idealize.ShloMosaic.TcCoe Idealize.SL.Sem

namespace Cert.PrepIdeal.Final

open Cert.PrepIdeal Cert.PrepIdeal.Gen Cert.PrepIdeal.Row
open Cert.MergeIdeal.Final (all_fin)

variable (m : (ℓ : Loc nD τ sig) → Buf (Elt Ideal) ℓ)

instance : Subsingleton Cert.Pre_prep_finite.S_.Idx := ⟨fun _ _ => funext fun a => a.elim0⟩

/-- The precondition makes the arguments it names finite. -/
theorem ok_of_pre (h : Cert.Pre_PrepIdeal m) (c : Dev nD) : Ok (args m c) := by
  have e := congrFun (h c) (fun a => a.elim0)
  simp only [Pre_prep_finite.fn, Pre_prep_finite.fn_part1, Pre_prep_finite.fn_part2, andi, IntOp.andi_eq_one] at e
  obtain ⟨⟨⟨⟨⟨⟨⟨e1, e2⟩, e3⟩, e4⟩, e5⟩, e6⟩, e7⟩, e8⟩ := e
  exact {
    X := fun b r k => all_fin _ _ (fun _ => rfl) _ _ _ _ e1 (ix3 b r k)
    mu := fun d k => all_fin _ _ (fun _ => rfl) _ _ _ _ e2 (ix2 d k)
    wu := fun d l k => all_fin _ _ (fun _ => rfl) _ _ _ _ e3 (ix3 d l k)
    au := fun d l k => all_fin _ _ (fun _ => rfl) _ _ _ _ e4 (ix3 d l k)
    gu := fun l k => all_fin _ _ (fun _ => rfl) _ _ _ _ e5 (ix2 l k)
    kk := fun k => all_fin _ _ (fun _ => rfl) _ _ _ _ e6 (ix1 k)
    ka := fun k => all_fin _ _ (fun _ => rfl) _ _ _ _ e7 (ix1 k)
    rk := fun h k => all_fin _ _ (fun _ => rfl) _ _ _ _ e8 (ix2 h k) }

end Cert.PrepIdeal.Final

end
-- ==== Proof.PrepValue.lean ====
/-
  The scan's preparation: kernel and reference, token by token, at the extended reals.
-/
module

public import proofs.«01_k».proof.Defs
public import proofs.«01_k».proof.Proof.Gen.PrepIdeal.Value
public import proofs.«01_k».proof.Proof.Gen.PrepRefIdeal.Run
public import proofs.«01_k».proof.Proof.Gen.Prep.Frame
public import proofs.«01_k».proof.Proof.Gen.Pre_prep_finite
public import proofs.«01_k».proof.Proof.PrepPt
public import proofs.«01_k».proof.Proof.PrepRef
public import proofs.«01_k».proof.Proof.PrepPre
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PrepIdeal.Final

open Cert.PrepIdeal Cert.PrepIdeal.Gen Cert.PrepIdeal.Row Cert.PrepIdeal.Pay

variable (m : (ℓ : Loc nD τ sig) → Buf (Elt Ideal) ℓ)

/-! A block stored whole. -/

theorem whole (P : FVec Ideal S1x512x512 .f32) : View.canon (Val := Elt Ideal) (e := .f32) [⟨r0_13, P⟩] = P := View.canon_cons_unit_lit _ _ [] (by decide)
theorem whole16 (P : FVec Ideal S1x512x512 .bf16) : View.canon (Val := Elt Ideal) (e := .bf16) [⟨r0_13, P⟩] = P := View.canon_cons_unit_lit _ _ [] (by decide)

/-- Result array 0 after the run: the receptance. -/
theorem final0 (c : Dev nD) (h : Ok (args m c)) : (dats m 0 c).arrAt 14 cfg0.N = fun i : S4x8192x512.Idx => (args m c).R (i 0) (i 1) (i 2) := by
  refine (dats m 0 c).arrAt_eq_of_covers 14 _ (by decide +kernel) fun t hf y => ?_
  blk_simp
  rw [after0_14]
  unfold out0_14
  refine (congrFun (whole _) y).trans ?_
  idx_vars y
  obtain rfl : y0 = 0 := Subsingleton.elim _ _
  have e : ((View.whole main_v29_0).slice (win0_14.rect t)).emb (ix3 0 y1 y2) = ix3 (bOf t) (rOf t y1) y2 := by blk_ext [idx t, bOf, rOf]
  rw [e]
  exact (pay34_at _ y1 y2).trans (r_at m c t y1 y2)

/-- Result array 1 after the run: the value. -/
theorem final1 (c : Dev nD) (h : Ok (args m c)) : (dats m 0 c).arrAt 15 cfg0.N = fun i : S4x8192x512.Idx => (args m c).Vv (i 0) (i 1) (i 2) := by
  refine (dats m 0 c).arrAt_eq_of_covers 15 _ (by decide +kernel) fun t hf y => ?_
  blk_simp
  rw [after0_15]
  unfold out0_15
  refine (congrFun (whole16 _) y).trans ?_
  idx_vars y
  obtain rfl : y0 = 0 := Subsingleton.elim _ _
  have e : ((View.whole main_v29_1).slice (win0_15.rect t)).emb (ix3 0 y1 y2) = ix3 (bOf t) (rOf t y1) y2 := by blk_ext [idx t, bOf, rOf]
  rw [e]
  exact (pay35_at _ y1 y2).trans (v_at m c t y1 y2)

/-- Result array 2 after the run: the normalised key. -/
theorem final2 (c : Dev nD) (h : Ok (args m c)) : (dats m 0 c).arrAt 16 cfg0.N = fun i : S4x8192x512.Idx => (args m c).KK (i 0) (i 1) (i 2) := by
  refine (dats m 0 c).arrAt_eq_of_covers 16 _ (by decide +kernel) fun t hf y => ?_
  blk_simp
  rw [after0_16]
  unfold out0_16
  refine (congrFun (whole _) y).trans ?_
  idx_vars y
  obtain rfl : y0 = 0 := Subsingleton.elim _ _
  have e : ((View.whole main_v29_2).slice (win0_16.rect t)).emb (ix3 0 y1 y2) = ix3 (bOf t) (rOf t y1) y2 := by blk_ext [idx t, bOf, rOf]
  rw [e]
  exact (pay1_at _ y1 y2).trans (kk_at m c t y1 h y2)

/-- Result array 6 after the run: the bonus. -/
theorem final6 (c : Dev nD) (h : Ok (args m c)) : (dats m 0 c).arrAt 20 cfg0.N = fun i : S4x8192x512.Idx => (args m c).BO (i 0) (i 1) (i 2) := by
  refine (dats m 0 c).arrAt_eq_of_covers 20 _ (by decide +kernel) fun t hf y => ?_
  blk_simp
  rw [after0_20]
  unfold out0_20
  rw [ld6]
  refine (congrFun (whole16 _) y).trans ?_
  idx_vars y
  obtain rfl : y0 = 0 := Subsingleton.elim _ _
  have e : ((View.whole main_v29_6).slice (win0_20.rect t)).emb (ix3 0 y1 y2) = ix3 (bOf t) (rOf t y1) y2 := by blk_ext [idx t, bOf, rOf]
  rw [e]
  exact (pay2_at _ _ y1 y2).trans (congrArg₂ (fun p q : EReal => p * q) (bo_at m c t y1 h y2) (v_at m c t y1 y2))

/-- Result array 7 after the run: the gate. -/
theorem final7 (c : Dev nD) (h : Ok (args m c)) : (dats m 0 c).arrAt 21 cfg0.N = fun i : S4x8192x512.Idx => (args m c).G (i 0) (i 1) (i 2) := by
  refine (dats m 0 c).arrAt_eq_of_covers 21 _ (by decide +kernel) fun t hf y => ?_
  blk_simp
  rw [after0_21]
  unfold out0_21
  rw [ld14, ld14]
  refine (congrFun (whole16 _) y).trans ?_
  idx_vars y
  obtain rfl : y0 = 0 := Subsingleton.elim _ _
  have e : ((View.whole main_v29_7).slice (win0_21.rect t)).emb (ix3 0 y1 y2) = ix3 (bOf t) (rOf t y1) y2 := by blk_ext [idx t, bOf, rOf]
  rw [e]
  exact g_at m c t y1 h y2

/-- Result array 3 after the run: the exponentials of the decays. -/
theorem final3 (c : Dev nD) (h : Ok (args m c)) : (dats m 0 c).arrAt 17 cfg0.N = fun i : S2x4x8192x512.Idx => (args m c).E (i 1) (i 2) (i 0) (i 3) := by
  refine (dats m 0 c).arrAt_eq_of_covers 17 _ (by decide +kernel) fun t hf y => ?_
  blk_simp
  rw [after0_17]
  unfold out0_17
  idx_vars y
  obtain rfl : y1 = 0 := Subsingleton.elim _ _
  have e : ((View.whole main_v29_3).slice (win0_17.rect t)).emb (ix4 y0 0 y2 y3) = ix4 y0 (bOf t) (rOf t y2) y3 := by blk_ext [idx t, bOf, rOf]
  rw [e]
  refine (layers _ _ y0 y2 y3).trans ?_
  match y0 with
  | ⟨0, _⟩ => exact (if_pos rfl).trans ((pay17_at _ y2 y3).trans (e0_at m c t y2 h y3))
  | ⟨1, _⟩ => exact (if_neg Nat.one_ne_zero).trans ((pay30_at _ y2 y3).trans (e1_at m c t y2 h y3))

/-- Result array 4 after the run: the modified keys. -/
theorem final4 (c : Dev nD) (h : Ok (args m c)) : (dats m 0 c).arrAt 18 cfg0.N = fun i : S2x4x8192x512.Idx => (args m c).KM (i 1) (i 2) (i 0) (i 3) := by
  refine (dats m 0 c).arrAt_eq_of_covers 18 _ (by decide +kernel) fun t hf y => ?_
  blk_simp
  rw [after0_18]
  unfold out0_18
  idx_vars y
  obtain rfl : y1 = 0 := Subsingleton.elim _ _
  have e : ((View.whole main_v29_4).slice (win0_18.rect t)).emb (ix4 y0 0 y2 y3) = ix4 y0 (bOf t) (rOf t y2) y3 := by blk_ext [idx t, bOf, rOf]
  rw [e]
  refine (layers _ _ y0 y2 y3).trans ?_
  match y0 with
  | ⟨0, _⟩ => exact (if_pos rfl).trans ((pay18_at _ y2 y3).trans (m0_at m c t y2 h y3))
  | ⟨1, _⟩ => exact (if_neg Nat.one_ne_zero).trans ((pay31_at _ y2 y3).trans (m1_at m c t y2 h y3))

/-- Result array 5 after the run: the rates times the normalised key. -/
theorem final5 (c : Dev nD) (h : Ok (args m c)) : (dats m 0 c).arrAt 19 cfg0.N = fun i : S2x4x8192x512.Idx => (args m c).B (i 1) (i 2) (i 0) (i 3) := by
  refine (dats m 0 c).arrAt_eq_of_covers 19 _ (by decide +kernel) fun t hf y => ?_
  blk_simp
  rw [after0_19]
  unfold out0_19
  idx_vars y
  obtain rfl : y1 = 0 := Subsingleton.elim _ _
  have e : ((View.whole main_v29_5).slice (win0_19.rect t)).emb (ix4 y0 0 y2 y3) = ix4 y0 (bOf t) (rOf t y2) y3 := by blk_ext [idx t, bOf, rOf]
  rw [e]
  refine (layers _ _ y0 y2 y3).trans ?_
  match y0 with
  | ⟨0, _⟩ => exact (if_pos rfl).trans ((pay19_at _ _ y2 y3).trans (congrArg₂ (fun p q : EReal => p * q) (kk_at m c t y2 h y3) (a0_at m c t y2 h y3)))
  | ⟨1, _⟩ => exact (if_neg Nat.one_ne_zero).trans ((pay32_at _ _ y2 y3).trans (congrArg₂ (fun p q : EReal => p * q) (kk_at m c t y2 h y3) (a1_at m c t y2 h y3)))

/-- Kernel and reference, run from memories that agree on the arguments, end with the same eight results. -/
theorem algebraic : Cert.algebraic_PrepIdeal_PrepRefIdeal := by
  intro m g m' g' hp ha
  refine ⟨fun c => (fun i : S4x8192x512.Idx => (args m c).R (i 0) (i 1) (i 2)),
    fun c => (fun i : S4x8192x512.Idx => (args m c).Vv (i 0) (i 1) (i 2)),
    fun c => (fun i : S4x8192x512.Idx => (args m c).KK (i 0) (i 1) (i 2)),
    fun c => (fun i : S2x4x8192x512.Idx => (args m c).E (i 1) (i 2) (i 0) (i 3)),
    fun c => (fun i : S2x4x8192x512.Idx => (args m c).KM (i 1) (i 2) (i 0) (i 3)),
    fun c => (fun i : S2x4x8192x512.Idx => (args m c).B (i 1) (i 2) (i 0) (i 3)),
    fun c => (fun i : S4x8192x512.Idx => (args m c).BO (i 0) (i 1) (i 2)),
    fun c => (fun i : S4x8192x512.Idx => (args m c).G (i 0) (i 1) (i 2)), ?_, ?_⟩
  · exact (θ_run defs _ _).mono (fun r h c => ⟨(h c).1.trans (final0 m c (ok_of_pre m hp c)),
      (h c).2.1.trans (final1 m c (ok_of_pre m hp c)),
      (h c).2.2.1.trans (final2 m c (ok_of_pre m hp c)),
      (h c).2.2.2.1.trans (final3 m c (ok_of_pre m hp c)),
      (h c).2.2.2.2.1.trans (final4 m c (ok_of_pre m hp c)),
      (h c).2.2.2.2.2.1.trans (final5 m c (ok_of_pre m hp c)),
      (h c).2.2.2.2.2.2.1.trans (final6 m c (ok_of_pre m hp c)),
      (h c).2.2.2.2.2.2.2.1.trans (final7 m c (ok_of_pre m hp c)),
      (h c).2.2.2.2.2.2.2.2⟩)
      (Cert.PrepIdeal.Value.run_blocks m g)
  · refine (θ_run Cert.PrepRefIdeal.defs _ _).mono (fun r h c => ?_) (Cert.PrepRefIdeal.Value.run m' g')
    obtain ⟨r0, r1, r2, r3, r4, r5, r6, r7, hr⟩ := h c
    have hA : Cert.PrepRefIdeal.Stage.args (StableHlo.launchContents m' c) = args m c := by
      obtain ⟨h0, h1, h2, h3, h4, h5, h6, h7, h8, h9⟩ := ha c
      exact Args.mk.injEq .. ▸ ⟨funext fun b => funext fun r => funext fun k => congrFun h0 _,
        funext fun d => funext fun k => congrFun h1 _,
        funext fun d => funext fun l => funext fun k => congrFun h2 _,
        funext fun d => funext fun l => funext fun k => congrFun h3 _,
        funext fun d => funext fun k => congrFun h4 _,
        funext fun d => funext fun k => congrFun h5 _,
        funext fun l => funext fun k => congrFun h6 _,
        funext fun k => congrFun h7 _,
        funext fun k => congrFun h8 _,
        funext fun h => funext fun k => congrFun h9 _⟩
    have hO : Ok (Cert.PrepRefIdeal.Stage.args (StableHlo.launchContents m' c)) := hA ▸ ok_of_pre m hp c
    refine ⟨r0.trans ?_, r1.trans ?_, r2.trans ?_, r3.trans ?_, r4.trans ?_, r5.trans ?_, r6.trans ?_, r7.trans ?_, hr⟩
    · funext i
      idx_vars i
      exact (Cert.PrepRefIdeal.Stage.res0_at _ i0 i1 i2).trans (by rw [hA])
    · funext i
      idx_vars i
      exact (Cert.PrepRefIdeal.Stage.res1_at _ i0 i1 i2).trans (by rw [hA])
    · funext i
      idx_vars i
      exact (Cert.PrepRefIdeal.Stage.res2_at _ i0 i1 i2).trans (by rw [hA])
    · funext i
      idx_vars i
      exact (Cert.PrepRefIdeal.Stage.res3_at _ i0 i1 i2 i3).trans (by rw [hA])
    · funext i
      idx_vars i
      exact (Cert.PrepRefIdeal.Stage.res4_at _ i0 i1 i2 i3).trans (by rw [hA])
    · funext i
      idx_vars i
      exact (Cert.PrepRefIdeal.Stage.res5_at _ i0 i1 i2 i3).trans (by rw [hA])
    · funext i
      idx_vars i
      exact (Cert.PrepRefIdeal.Stage.res6_at _ hO i0 i1 i2).trans (by rw [hA])
    · funext i
      idx_vars i
      exact (Cert.PrepRefIdeal.Stage.res7_at _ i0 i1 i2).trans (by rw [hA])

end Cert.PrepIdeal.Final

end
-- ==== Proof.CtxprojValue.lean ====
/-
  The context's in-projection: the normalised, modulated context tokens times the recurrence's columns of the weight.
-/
module

public import proofs.«01_k».proof.Defs
public import proofs.«01_k».proof.Proof.Gen.CtxprojIdeal.Value
public import proofs.«01_k».proof.Proof.Gen.CtxprojRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CtxprojIdeal.Final

open Cert.CtxprojIdeal Cert.CtxprojIdeal.Gen

variable (m : (ℓ : Loc nD τ sig) → Buf (Elt Ideal) ℓ)

theorem idx : ∀ t : Fin cfg0.N,
    win0_0.index t = ![t.val, 0, 0] ∧ win0_1.index t = ![0, 0] ∧ win0_2.index t = ![t.val, 0, 0] ∧ win0_3.index t = ![t.val, 0, 0]
    ∧ win0_4.index t = ![0, 0] ∧ win0_5.index t = ![t.val, 0, 0] :=
  (by decide +kernel : ∀ t : Fin grid0.N, _)

/-- The reference's composed term. -/
abbrev REF (X : FVec Ideal S4x256x1024 .f32) (g sc sh : FVec Ideal S1024 .f32) (W : FVec Ideal S1024x5376 .f32) : FVec Ideal S4x256x1792 .f32 :=
  Host.dotGeneral Cert.CtxprojRefIdeal.dot_S4x256x1024_S1024x1792_S4x256x1792_2_0_01_1_n_n none (addf (mulf (mulf (mulf X (broadcastInDim Cert.CtxprojRefIdeal.S4x256x1024 ![0, 1, 2] Cert.CtxprojRefIdeal.Gen.bcast_S4x256x1_S4x256x1024_0_1_2 (Host.rsqrt (addf (Host.divf (broadcastInDim Cert.CtxprojRefIdeal.S4x256x1 ![0, 1] Cert.CtxprojRefIdeal.Gen.bcast_S4x256_S4x256x1_0_1 (Host.reduceAdd (mulf X X) (constant Cert.CtxprojRefIdeal.S_ .f32 0x00000000#32) Cert.CtxprojRefIdeal.Gen.reducesTo_S4x256x1024_S4x256_d2 Cert.CtxprojRefIdeal.Gen.h_S_)) (broadcastInDim Cert.CtxprojRefIdeal.S4x256x1 ![] Cert.CtxprojRefIdeal.Gen.bcast_S_S4x256x1 (constant Cert.CtxprojRefIdeal.S_ .f32 0x44800000#32))) (broadcastInDim Cert.CtxprojRefIdeal.S4x256x1 ![] Cert.CtxprojRefIdeal.Gen.bcast_S_S4x256x1 (constant Cert.CtxprojRefIdeal.S_ .f32 0x358637BD#32)))))) (broadcastInDim Cert.CtxprojRefIdeal.S4x256x1024 ![0, 1, 2] Cert.CtxprojRefIdeal.Gen.bcast_S1x1x1024_S4x256x1024_0_1_2 (broadcastInDim Cert.CtxprojRefIdeal.S1x1x1024 ![2] Cert.CtxprojRefIdeal.Gen.bcast_S1024_S1x1x1024_2 g))) (broadcastInDim Cert.CtxprojRefIdeal.S4x256x1024 ![0, 1, 2] Cert.CtxprojRefIdeal.Gen.bcast_S1x1x1024_S4x256x1024_0_1_2 (broadcastInDim Cert.CtxprojRefIdeal.S1x1x1024 ![2] Cert.CtxprojRefIdeal.Gen.bcast_S1024_S1x1x1024_2 (addf (broadcastInDim Cert.CtxprojRefIdeal.S1024 ![] Cert.CtxprojRefIdeal.Gen.bcast_S_S1024 (constant Cert.CtxprojRefIdeal.S_ .f32 0x3F800000#32)) sc)))) (broadcastInDim Cert.CtxprojRefIdeal.S4x256x1024 ![0, 1, 2] Cert.CtxprojRefIdeal.Gen.bcast_S1x1x1024_S4x256x1024_0_1_2 (broadcastInDim Cert.CtxprojRefIdeal.S1x1x1024 ![2] Cert.CtxprojRefIdeal.Gen.bcast_S1024_S1x1x1024_2 sh))) (extractStridedSlice Cert.CtxprojRefIdeal.S1024x1792 ![0, 1536] W Cert.CtxprojRefIdeal.Gen.slices_S1024x5376_S1024x1792_0_1536)

/-- The sample of a point. -/
def bOf (t : Fin cfg0.N) : Fin 4 := ⟨t.val, by have : cfg0.N = 4 := N_0; have := t.isLt; omega⟩

/-- The normalised, modulated token. -/
def H (X : FVec Ideal S4x256x1024 .f32) (g sc sh : FVec Ideal S1024 .f32) (b : Fin 4) (r : Fin 256) (x : Fin 1024) : EReal :=
  X (ix3 b r x) *
              Ideal.rsqrt
                (Ideal.div
                    (∑ x, X (ix3 b r x) * X (ix3 b r x))
                    (Ideal.ofBits FTy.f32 1149239296#32) +
                  Ideal.ofBits FTy.f32 897988541#32) *
            g (ix1 x) *
          (1 + sc (ix1 x)) +
        sh (ix1 x)

/-- The reference at an index: a row of the product. -/
theorem REF_at (X : FVec Ideal S4x256x1024 .f32) (g sc sh : FVec Ideal S1024 .f32) (W : FVec Ideal S1024x5376 .f32) (b : Fin 4) (r : Fin 256) (n : Fin 1792) :
    REF X g sc sh W (ix3 b r n) = ∑ x : Fin 1024, H X g sc sh b r x * W (ix2 x ⟨1536 + n.val, by have := n.isLt; omega⟩) := by
  pointwise [REF, H]

/-- The normalised tokens a point computes, at an index. -/
theorem pay1_at (c : Dev nD) (t : Fin cfg0.N) (y : Fin 256) (x : Fin 1024) :
    k0_pay1 (iblk m c 0 t) (iblk m c 1 t) (iblk m c 2 t) (iblk m c 3 t) (ix2 y x) = H (m ((c : Thread nD τ).loc main_arg0)) (m ((c : Thread nD τ).loc main_arg1)) (m ((c : Thread nD τ).loc main_arg2)) (m ((c : Thread nD τ).loc main_arg3)) (bOf t) y x := by
  have e0 (k : Fin 1024) : (iblk m c 0 t : FVec Ideal S1x256x1024 .f32) (ix3 0 y k) = m ((c : Thread nD τ).loc main_arg0) (ix3 (bOf t) y k) := by
    blk_ext! [iblk, V, idx t, bOf]
  have e1 : (iblk m c 1 t : FVec Ideal S1x1024 .f32) (ix2 0 x) = m ((c : Thread nD τ).loc main_arg1) (ix1 x) := by
    blk_ext! [iblk, V, idx t, bOf]
  have e2 : (iblk m c 2 t : FVec Ideal S1x1x1024 .f32) (ix3 0 0 x) = (1 + (m ((c : Thread nD τ).loc main_arg2) : FVec Ideal S1024 .f32) (ix1 x) : EReal) := by
    have hv : (V m c main_v5 : FVec Ideal S4x1x1024 .f32) = fun j => (1 : EReal) + (m ((c : Thread nD τ).loc main_arg2) : FVec Ideal S1024 .f32) (ix1 (j 2)) := by
      unfold V
      after_results
      funext j
      idx_vars j
      pointwise
    refine Eq.trans (b := (V m c main_v5 : FVec Ideal S4x1x1024 .f32) ((win0_2.blk t).view.emb (ix3 0 0 x))) rfl ?_
    rw [hv]
    exact congrArg (fun j => (1 : EReal) + (m ((c : Thread nD τ).loc main_arg2) : FVec Ideal S1024 .f32) j) (by blk_ext [idx t, bOf])
  have e3 : (iblk m c 3 t : FVec Ideal S1x1x1024 .f32) (ix3 0 0 x) = m ((c : Thread nD τ).loc main_arg3) (ix1 x) := by
    blk_ext! [iblk, V, idx t, bOf]
  pointwise [k0_pay1, H]
  rw [e0, e1, e2, e3]
  simp only [e0]

/-- The weight block at an index. -/
theorem wblk (c : Dev nD) (t : Fin cfg0.N) (x : Fin 1024) (k : Fin 1792) :
    (iblk m c 4 t : FVec Ideal S1024x1792 .bf16) (ix2 x k) = m ((c : Thread nD τ).loc main_arg4) (ix2 x ⟨1536 + k.val, by have := k.isLt; omega⟩) := by
  blk_ext! [iblk, V, idx t]

/-- What a point leaves in the block of the result. -/
theorem out_at (c : Dev nD) (t : Fin cfg0.N) (y : Fin 256) (k : Fin 1792) :
    outsAt0 m c t (ix3 0 y k) = REF (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t) y k) := by
  rw [REF_at]
  unfold outsAt0
  frame_out
  pointwise [k0_pay2]
  refine Finset.sum_congr rfl fun x _ => ?_
  rw [wblk m c t x k, pay1_at m c t y x]

/-- The result array after the run. -/
theorem final (c : Dev nD) : (dats m 0 c).arrAt 5 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  obtain rfl : y0 = 0 := Subsingleton.elim _ _
  refine (out_at m c t y1 y2).trans (congrArg (REF _ _ _ _ _) ?_)
  blk_ext [idx t, bOf]

/-- Kernel and reference, run from memories that agree on the arguments, end with the same result. -/
theorem algebraic : Cert.algebraic_CtxprojIdeal_CtxprojRefIdeal := by
  intro m g m' g' _ ha
  refine ⟨fun c => REF (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run defs _ _).mono (fun r h c => ⟨(h c).1.trans (final m c), (h c).2⟩) (Cert.CtxprojIdeal.Value.run_blocks m g)
  · refine (θ_run Cert.CtxprojRefIdeal.defs _ _).mono (fun r h c => ⟨(h c).1.trans ?_, (h c).2⟩) (Cert.CtxprojRefIdeal.Value.run m' g')
    obtain ⟨h0, h1, h2, h3, h4⟩ := ha c
    rw [h0, h1, h2, h3, h4]

end Cert.CtxprojIdeal.Final

end
-- ==== Proof.HypreValue.lean ====
/-
  The short convolution of the Hyena branch: a token with its two neighbours, those of a tile's ends out of the eight rows beside
  it; at the extended reals it is the reference's formula.
-/
module

public import proofs.«01_k».proof.Defs
public import proofs.«01_k».proof.Proof.Gen.HypreIdeal.Value
public import proofs.«01_k».proof.Proof.Gen.HypreRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HypreIdeal.Final

open Cert.HypreIdeal Cert.HypreIdeal.Gen

variable (m : (ℓ : Loc nD τ sig) → Buf (Elt Ideal) ℓ)

/-! Loads of a whole block and of one row of a block; a block stored whole. -/

theorem ld0 (x : FVec Ideal S1x512x1536 .f32) : View.ld (Val := Elt Ideal) (e' := .f32) x r0_0 = x := View.ld_unit_lit _ _ (by decide)

theorem ldp (x : FVec Ideal S1x8x1536 .f32) (k : Fin 1536) : (View.ld (Val := Elt Ideal) (e' := .f32) x r0_1 (ix3 0 0 k) : EReal) = x (ix3 0 7 k) :=
  congrArg x (funext fun a => Fin.ext ((Rect.idx_unit_val _ _ _ _ a).trans (by
    match a with
    | ⟨0, _⟩ => first | rfl | exact Nat.zero_add _
    | ⟨1, _⟩ => first | rfl | exact Nat.zero_add _
    | ⟨2, _⟩ => first | rfl | exact Nat.zero_add _)))

theorem ldn (x : FVec Ideal S1x8x1536 .f32) (k : Fin 1536) : (View.ld (Val := Elt Ideal) (e' := .f32) x r0_2 (ix3 0 0 k) : EReal) = x (ix3 0 0 k) :=
  congrArg x (funext fun a => Fin.ext ((Rect.idx_unit_val _ _ _ _ a).trans (by
    match a with
    | ⟨0, _⟩ => first | rfl | exact Nat.zero_add _
    | ⟨1, _⟩ => first | rfl | exact Nat.zero_add _
    | ⟨2, _⟩ => first | rfl | exact Nat.zero_add _)))

theorem ldw0 (x : FVec Ideal S3x1536 .f32) (k : Fin 1536) : (View.ld (Val := Elt Ideal) (e' := .f32) x r0_3 (ix2 0 k) : EReal) = x (ix2 0 k) :=
  congrArg x (funext fun a => Fin.ext ((Rect.idx_unit_val _ _ _ _ a).trans (by
    match a with
    | ⟨0, _⟩ => first | rfl | exact Nat.zero_add _
    | ⟨1, _⟩ => first | rfl | exact Nat.zero_add _)))

theorem ldw1 (x : FVec Ideal S3x1536 .f32) (k : Fin 1536) : (View.ld (Val := Elt Ideal) (e' := .f32) x r0_4 (ix2 0 k) : EReal) = x (ix2 1 k) :=
  congrArg x (funext fun a => Fin.ext ((Rect.idx_unit_val _ _ _ _ a).trans (by
    match a with
    | ⟨0, _⟩ => first | rfl | exact Nat.zero_add _
    | ⟨1, _⟩ => first | rfl | exact Nat.zero_add _)))

theorem ldw2 (x : FVec Ideal S3x1536 .f32) (k : Fin 1536) : (View.ld (Val := Elt Ideal) (e' := .f32) x r0_5 (ix2 0 k) : EReal) = x (ix2 2 k) :=
  congrArg x (funext fun a => Fin.ext ((Rect.idx_unit_val _ _ _ _ a).trans (by
    match a with
    | ⟨0, _⟩ => first | rfl | exact Nat.zero_add _
    | ⟨1, _⟩ => first | rfl | exact Nat.zero_add _)))

theorem ldb (x : FVec Ideal S1x1536 .f32) (k : Fin 1536) : (View.ld (Val := Elt Ideal) (e' := .f32) x r0_6 (ix2 0 k) : EReal) = x (ix2 0 k) :=
  congrArg x (funext fun a => Fin.ext ((Rect.idx_unit_val _ _ _ _ a).trans (by
    match a with
    | ⟨0, _⟩ => first | rfl | exact Nat.zero_add _
    | ⟨1, _⟩ => first | rfl | exact Nat.zero_add _)))

theorem whole (P : FVec Ideal S1x512x512 .f32) : View.canon (Val := Elt Ideal) (e := .f32) [⟨r0_7, P⟩] = P := View.canon_cons_unit_lit _ _ [] (by decide)

theorem idx : ∀ t : Fin cfg0.N,
    win0_0.index t = ![t.val / 16, t.val % 16, 0] ∧ win0_1.index t = ![t.val / 16, t.val % 16 * 64 - 1, 0]
    ∧ win0_2.index t = ![t.val / 16, min (t.val % 16 * 64 + 64) 1023, 0] ∧ win0_3.index t = ![0, 0] ∧ win0_4.index t = ![0, 0]
    ∧ win0_5.index t = ![t.val / 16, t.val % 16, 0] ∧ win0_6.index t = ![t.val / 16, t.val % 16, 0] :=
  (by decide +kernel : ∀ t : Fin grid0.N, _)

/-- The tile of a point. -/
theorem crd : ∀ t : Fin cfg0.N, (grid0.coords t 1).val = t.val % 16 :=
  (by decide +kernel : ∀ t : Fin grid0.N, _)

/-- The sample of a point. -/
def bOf (t : Fin cfg0.N) : Fin 4 := ⟨t.val / 16, by have : cfg0.N = 64 := N_0; have := t.isLt; omega⟩

/-- The token of a row of a point's block. -/
def rOf (t : Fin cfg0.N) (r : Fin 512) : Fin 8192 := ⟨t.val % 16 * 512 + r.val, by have := r.isLt; omega⟩

/-- A channel of one of the three groups. -/
def ch (g : Fin 3) (k : Fin 512) : Fin 1536 := ⟨g.val * 512 + k.val, by have := k.isLt; have := g.isLt; omega⟩

/-- The token before, zero before the first. -/
def prv (X : FVec Ideal S4x8192x1536 .f32) (b : Fin 4) (r : Fin 8192) (k : Fin 1536) : EReal :=
  if r.val = 0 then 0 else X (ix3 b ⟨r.val - 1, by have := r.isLt; omega⟩ k)

/-- The token after, zero after the last. -/
def nxt (X : FVec Ideal S4x8192x1536 .f32) (b : Fin 4) (r : Fin 8192) (k : Fin 1536) : EReal :=
  if h : r.val = 8191 then 0 else X (ix3 b ⟨r.val + 1, by have := r.isLt; omega⟩ k)

/-- The first two taps of the short convolution. -/
def tap (X : FVec Ideal S4x8192x1536 .f32) (W : FVec Ideal S3x1536 .f32) (b : Fin 4) (r : Fin 8192) (k : Fin 1536) : EReal :=
  W (ix2 0 k) * prv X b r k + W (ix2 1 k) * X (ix3 b r k)

/-- The short convolution. -/
def U (X : FVec Ideal S4x8192x1536 .f32) (W : FVec Ideal S3x1536 .f32) (B : FVec Ideal S1536 .f32) (b : Fin 4) (r : Fin 8192) (k : Fin 1536) : EReal :=
  W (ix2 0 k) * prv X b r k + W (ix2 1 k) * X (ix3 b r k) + W (ix2 2 k) * nxt X b r k + B (ix1 k)

/-- The gated channels. -/
def Z (X : FVec Ideal S4x8192x1536 .f32) (W : FVec Ideal S3x1536 .f32) (B : FVec Ideal S1536 .f32) : FVec Ideal S4x8192x512 .f32 := fun i => U X W B (i 0) (i 1) (ch 2 (i 2)) * U X W B (i 0) (i 1) (ch 1 (i 2))

/-- The channels of the second gate. -/
def X0 (X : FVec Ideal S4x8192x1536 .f32) (W : FVec Ideal S3x1536 .f32) (B : FVec Ideal S1536 .f32) : FVec Ideal S4x8192x512 .f32 := fun i => U X W B (i 0) (i 1) (ch 0 (i 2))

/-! The reference. -/

/-- A token of the array with a zero row put before it, the last row dropped. -/
theorem prv_at (X : FVec Ideal S4x8192x1536 .f32) (b : Fin 4) (r : Fin 8192) (k : Fin 1536) : (((extractStridedSlice Cert.HypreRefIdeal.S4x8192x1536 ![0, 0, 0] (pad Cert.HypreRefIdeal.S4x8193x1536 ![0, 1, 0] ![0, 0, 0] ![0, 0, 0] X (sitofp (F := Ideal) .f32 (constantI Cert.HypreRefIdeal.S_ 32 0#32)) Cert.HypreRefIdeal.Gen.pads_S4x8192x1536_S4x8193x1536_000_100_000 Cert.HypreRefIdeal.Gen.h_S_) Cert.HypreRefIdeal.Gen.slices_S4x8193x1536_S4x8192x1536_0_0_0) : FVec Ideal S4x8192x1536 .f32) (ix3 b r k) : EReal) = prv X b r k := by
  pointwise [prv]
  by_cases h : r.val = 0
  · rw [dif_neg (by omega), if_pos h]
    show (((0 : Int) : ℝ) : EReal) = 0
    simp
  · rw [dif_pos (by omega), if_neg h]

/-- A token of the array with a zero row put after it, the first row dropped. -/
theorem nxt_at (X : FVec Ideal S4x8192x1536 .f32) (b : Fin 4) (r : Fin 8192) (k : Fin 1536) : (((extractStridedSlice Cert.HypreRefIdeal.S4x8192x1536 ![0, 1, 0] (pad Cert.HypreRefIdeal.S4x8193x1536 ![0, 0, 0] ![0, 1, 0] ![0, 0, 0] X (sitofp (F := Ideal) .f32 (constantI Cert.HypreRefIdeal.S_ 32 0#32)) Cert.HypreRefIdeal.Gen.pads_S4x8192x1536_S4x8193x1536_000_010_000 Cert.HypreRefIdeal.Gen.h_S_) Cert.HypreRefIdeal.Gen.slices_S4x8193x1536_S4x8192x1536_0_1_0) : FVec Ideal S4x8192x1536 .f32) (ix3 b r k) : EReal) = nxt X b r k := by
  pointwise [nxt]
  by_cases h : r.val = 8191
  · rw [dif_neg (by omega), dif_pos h]
    show (((0 : Int) : ℝ) : EReal) = 0
    simp
  · rw [dif_pos (by have := r.isLt; omega), dif_neg h]
    exact congrArg (fun q : Fin 8192 => X (ix3 b q k)) (Fin.ext (Nat.add_comm _ _))

/-- The reference's convolution, as it is composed. -/
abbrev RU (X : FVec Ideal S4x8192x1536 .f32) (W : FVec Ideal S3x1536 .f32) (B : FVec Ideal S1536 .f32) : FVec Ideal S4x8192x1536 .f32 :=
  addf (addf (addf (mulf (broadcastInDim Cert.HypreRefIdeal.S4x8192x1536 ![0, 1, 2] Cert.HypreRefIdeal.Gen.bcast_S1x1x1536_S4x8192x1536_0_1_2 (broadcastInDim Cert.HypreRefIdeal.S1x1x1536 ![2] Cert.HypreRefIdeal.Gen.bcast_S1536_S1x1x1536_2 (shapeCast _ (extractStridedSlice Cert.HypreRefIdeal.S1x1536 ![0, 0] W Cert.HypreRefIdeal.Gen.slices_S3x1536_S1x1536_0_0) Cert.HypreRefIdeal.Gen.shapeCasts_S1x1536_S1536))) (extractStridedSlice Cert.HypreRefIdeal.S4x8192x1536 ![0, 0, 0] (pad Cert.HypreRefIdeal.S4x8193x1536 ![0, 1, 0] ![0, 0, 0] ![0, 0, 0] X (sitofp (F := Ideal) .f32 (constantI Cert.HypreRefIdeal.S_ 32 0#32)) Cert.HypreRefIdeal.Gen.pads_S4x8192x1536_S4x8193x1536_000_100_000 Cert.HypreRefIdeal.Gen.h_S_) Cert.HypreRefIdeal.Gen.slices_S4x8193x1536_S4x8192x1536_0_0_0)) (mulf (broadcastInDim Cert.HypreRefIdeal.S4x8192x1536 ![0, 1, 2] Cert.HypreRefIdeal.Gen.bcast_S1x1x1536_S4x8192x1536_0_1_2 (broadcastInDim Cert.HypreRefIdeal.S1x1x1536 ![2] Cert.HypreRefIdeal.Gen.bcast_S1536_S1x1x1536_2 (shapeCast _ (extractStridedSlice Cert.HypreRefIdeal.S1x1536 ![1, 0] W Cert.HypreRefIdeal.Gen.slices_S3x1536_S1x1536_1_0) Cert.HypreRefIdeal.Gen.shapeCasts_S1x1536_S1536))) X)) (mulf (broadcastInDim Cert.HypreRefIdeal.S4x8192x1536 ![0, 1, 2] Cert.HypreRefIdeal.Gen.bcast_S1x1x1536_S4x8192x1536_0_1_2 (broadcastInDim Cert.HypreRefIdeal.S1x1x1536 ![2] Cert.HypreRefIdeal.Gen.bcast_S1536_S1x1x1536_2 (shapeCast _ (extractStridedSlice Cert.HypreRefIdeal.S1x1536 ![2, 0] W Cert.HypreRefIdeal.Gen.slices_S3x1536_S1x1536_2_0) Cert.HypreRefIdeal.Gen.shapeCasts_S1x1536_S1536))) (extractStridedSlice Cert.HypreRefIdeal.S4x8192x1536 ![0, 1, 0] (pad Cert.HypreRefIdeal.S4x8193x1536 ![0, 0, 0] ![0, 1, 0] ![0, 0, 0] X (sitofp (F := Ideal) .f32 (constantI Cert.HypreRefIdeal.S_ 32 0#32)) Cert.HypreRefIdeal.Gen.pads_S4x8192x1536_S4x8193x1536_000_010_000 Cert.HypreRefIdeal.Gen.h_S_) Cert.HypreRefIdeal.Gen.slices_S4x8193x1536_S4x8192x1536_0_1_0))) (broadcastInDim Cert.HypreRefIdeal.S4x8192x1536 ![0, 1, 2] Cert.HypreRefIdeal.Gen.bcast_S1x1x1536_S4x8192x1536_0_1_2 (broadcastInDim Cert.HypreRefIdeal.S1x1x1536 ![2] Cert.HypreRefIdeal.Gen.bcast_S1536_S1x1x1536_2 B))

theorem RU_at (X : FVec Ideal S4x8192x1536 .f32) (W : FVec Ideal S3x1536 .f32) (B : FVec Ideal S1536 .f32) (b : Fin 4) (r : Fin 8192) (k : Fin 1536) : (RU X W B (ix3 b r k) : EReal) = U X W B b r k := by
  have hp := prv_at X b r k
  have hn := nxt_at X b r k
  unfold RU
  generalize ((extractStridedSlice Cert.HypreRefIdeal.S4x8192x1536 ![0, 0, 0] (pad Cert.HypreRefIdeal.S4x8193x1536 ![0, 1, 0] ![0, 0, 0] ![0, 0, 0] X (sitofp (F := Ideal) .f32 (constantI Cert.HypreRefIdeal.S_ 32 0#32)) Cert.HypreRefIdeal.Gen.pads_S4x8192x1536_S4x8193x1536_000_100_000 Cert.HypreRefIdeal.Gen.h_S_) Cert.HypreRefIdeal.Gen.slices_S4x8193x1536_S4x8192x1536_0_0_0) : FVec Ideal S4x8192x1536 .f32) = P at hp ⊢
  generalize ((extractStridedSlice Cert.HypreRefIdeal.S4x8192x1536 ![0, 1, 0] (pad Cert.HypreRefIdeal.S4x8193x1536 ![0, 0, 0] ![0, 1, 0] ![0, 0, 0] X (sitofp (F := Ideal) .f32 (constantI Cert.HypreRefIdeal.S_ 32 0#32)) Cert.HypreRefIdeal.Gen.pads_S4x8192x1536_S4x8193x1536_000_010_000 Cert.HypreRefIdeal.Gen.h_S_) Cert.HypreRefIdeal.Gen.slices_S4x8193x1536_S4x8192x1536_0_1_0) : FVec Ideal S4x8192x1536 .f32) = N at hn ⊢
  pointwise [U]
  rw [hp, hn]

/-- The reference's first result. -/
theorem ref0 (X : FVec Ideal S4x8192x1536 .f32) (W : FVec Ideal S3x1536 .f32) (B : FVec Ideal S1536 .f32) : (mulf (extractStridedSlice Cert.HypreRefIdeal.S4x8192x512 ![0, 0, 1024] (RU X W B) Cert.HypreRefIdeal.Gen.slices_S4x8192x1536_S4x8192x512_0_0_1024) (extractStridedSlice Cert.HypreRefIdeal.S4x8192x512 ![0, 0, 512] (RU X W B) Cert.HypreRefIdeal.Gen.slices_S4x8192x1536_S4x8192x512_0_0_512) : FVec Ideal S4x8192x512 .f32) = Z X W B := by
  have h := RU_at X W B
  generalize RU X W B = Q at h ⊢
  funext i
  idx_vars i
  pointwise [Z]
  rw [h, h]
  rfl

/-- The reference's second result. -/
theorem ref1 (X : FVec Ideal S4x8192x1536 .f32) (W : FVec Ideal S3x1536 .f32) (B : FVec Ideal S1536 .f32) : (extractStridedSlice Cert.HypreRefIdeal.S4x8192x512 ![0, 0, 0] (RU X W B) Cert.HypreRefIdeal.Gen.slices_S4x8192x1536_S4x8192x512_0_0_0 : FVec Ideal S4x8192x512 .f32) = X0 X W B := by
  have h := RU_at X W B
  generalize RU X W B = Q at h ⊢
  funext i
  idx_vars i
  pointwise [X0]
  rw [h]
  exact congrArg (U X W B i0 i1) (Fin.ext (by simp only [ch]; omega))

/-! The kernel's body. -/

/-- The row before, as a select on the row's number. -/
theorem sel_first (r : Fin 512) (a b : EReal) : Scalar.select (IntOp.cmpi CmpIPredicate.eq (BitVec.ofNat 32 r.val) 0#32) a b = if r.val = 0 then a else b := by
  have hc : IntOp.cmpi CmpIPredicate.eq (BitVec.ofNat 32 r.val) 0#32 = if r.val = 0 then 1#1 else 0#1 := by
    revert r
    decide
  rw [hc]
  split <;> rfl

theorem sel_last (r : Fin 512) (a b : EReal) : Scalar.select (IntOp.cmpi CmpIPredicate.eq (BitVec.ofNat 32 r.val) 511#32) a b = if r.val = 511 then a else b := by
  have hc : IntOp.cmpi CmpIPredicate.eq (BitVec.ofNat 32 r.val) 511#32 = if r.val = 511 then 1#1 else 0#1 := by
    revert r
    decide
  rw [hc]
  split <;> rfl

/-- Whether there is a tile before, as a factor. -/
theorem fac_first (T : Fin 16) (a : EReal) :
    a * (((Scalar.extui (Scalar.cmpi CmpIPredicate.sgt (BitVec.ofNat 32 T.val) 0#32) : BitVec 32).toInt : ℝ) : EReal) = if T.val = 0 then 0 else a := by
  have hc : (Scalar.extui (Scalar.cmpi CmpIPredicate.sgt (BitVec.ofNat 32 T.val) 0#32) : BitVec 32).toInt = if T.val = 0 then 0 else 1 := by
    revert T
    decide
  rw [hc]
  split <;> simp

/-- Whether there is a tile after, as a factor. -/
theorem fac_last (T : Fin 16) (a : EReal) :
    a * (((Scalar.extui (Scalar.cmpi CmpIPredicate.slt (BitVec.ofNat 32 T.val) 15#32) : BitVec 32).toInt : ℝ) : EReal) = if T.val = 15 then 0 else a := by
  have hc : (Scalar.extui (Scalar.cmpi CmpIPredicate.slt (BitVec.ofNat 32 T.val) 15#32) : BitVec 32).toInt = if T.val = 15 then 0 else 1 := by
    revert T
    decide
  rw [hc]
  split <;> simp

/-- The row after, that of the next tile at the tile's end. -/
theorem pay5_at (i : grid0.Coords) (v0 : FVec Ideal S1x512x1536 .f32) (v12 : FVec Ideal S1x1x1536 .f32) (r : Fin 512) (k : Fin 1536) (n : EReal)
    (hn0 : r.val = 511 → (if (i 1).val = 15 then 0 else v12 (ix3 0 0 k) : EReal) = n)
    (hn1 : ∀ h : r.val ≠ 511, (v0 (ix3 0 (⟨r.val + 1, by have := r.isLt; omega⟩ : Fin 512) k) : EReal) = n) :
    (k0_pay5 (F := Ideal) i v0 v12 (ix2 r k) : EReal) = n := by
  pointwise [k0_pay5, k0_pay4]
  rw [sel_last]
  have e2 := fac_last (i 1) (v12 (ix3 0 0 k))
  split
  · rename_i h
    exact e2.trans (hn0 h)
  · rename_i h
    refine Eq.trans ?_ (hn1 h)
    exact congrArg (fun q : Fin 512 => v0 (ix3 0 q k)) (Fin.ext (by have := r.isLt; simp only; omega))

/-- The first two taps: the row before, that of the tile before at the tile's start, and the row. -/
theorem pay6_at (i : grid0.Coords) (v0 : FVec Ideal S1x512x1536 .f32) (v8 : FVec Ideal S1x1x1536 .f32) (v29 v32 : FVec Ideal S1x1536 .f32) (r : Fin 512) (k : Fin 1536) (p : EReal)
    (hp0 : r.val = 0 → (if (i 1).val = 0 then 0 else v8 (ix3 0 0 k) : EReal) = p)
    (hp1 : r.val ≠ 0 → (v0 (ix3 0 (⟨r.val - 1, by have := r.isLt; omega⟩ : Fin 512) k) : EReal) = p) :
    (k0_pay6 (F := Ideal) i v0 v8 v29 v32 (ix2 r k) : EReal) = v29 (ix2 0 k) * p + v32 (ix2 0 k) * v0 (ix3 0 r k) := by
  pointwise [k0_pay6, k0_pay4]
  rw [sel_first]
  have e1 := fac_first (i 1) (v8 (ix3 0 0 k))
  refine congrArg (fun a : EReal => v29 (ix2 0 k) * a + v32 (ix2 0 k) * v0 (ix3 0 r k)) ?_
  split
  · rename_i h
    exact e1.trans (hp0 h)
  · rename_i h
    refine Eq.trans ?_ (hp1 h)
    exact congrArg (fun q : Fin 512 => v0 (ix3 0 q k)) (Fin.ext (by have := r.isLt; simp only; omega))

theorem pay1_at (v28 v35 : FVec Ideal S512x1536 .f32) (v36 v40 : FVec Ideal S1x1536 .f32) (r : Fin 512) (k : Fin 1536) :
    (k0_pay1 (F := Ideal) v28 v35 v36 v40 (ix2 r k) : EReal) = v35 (ix2 r k) + v36 (ix2 0 k) * v28 (ix2 r k) + v40 (ix2 0 k) := by
  pointwise [k0_pay1]

theorem pay2_at (v28 v35 : FVec Ideal S512x1536 .f32) (v36 v40 : FVec Ideal S1x1536 .f32) (r k : Fin 512) :
    (k0_pay2 (F := Ideal) v28 v35 v36 v40 (ix3 0 r k) : EReal) = k0_pay1 (F := Ideal) v28 v35 v36 v40 (ix2 r (ch 2 k)) * k0_pay1 (F := Ideal) v28 v35 v36 v40 (ix2 r (ch 1 k)) := by
  unfold k0_pay2
  generalize k0_pay1 (F := Ideal) v28 v35 v36 v40 = Q
  pointwise
  rfl

theorem pay3_at (v28 v35 : FVec Ideal S512x1536 .f32) (v36 v40 : FVec Ideal S1x1536 .f32) (r k : Fin 512) :
    (k0_pay3 (F := Ideal) v28 v35 v36 v40 (ix3 0 r k) : EReal) = k0_pay1 (F := Ideal) v28 v35 v36 v40 (ix2 r (ch 0 k)) := by
  unfold k0_pay3
  generalize k0_pay1 (F := Ideal) v28 v35 v36 v40 = Q
  pointwise
  exact congrArg (fun q : Fin 1536 => Q (ix2 r q)) (Fin.ext (by simp only [ch]; omega))

/-! The blocks of a point. -/

variable (c : Dev nD) (t : Fin cfg0.N)

theorem b0 (r : Fin 512) (k : Fin 1536) :
    ((iblk m c 0 t : FVec Ideal S1x512x1536 .f32) (ix3 0 r k) : EReal) = ((m ((c : Thread nD τ).loc main_arg0)) : FVec Ideal S4x8192x1536 .f32) (ix3 (bOf t) (rOf t r) k) := by
  blk_ext! [iblk, V, idx t, bOf, rOf]

/-- The last row of the eight before the tile. -/
theorem b1 (k : Fin 1536) (q : Fin 8192) (hq : q.val = (t.val % 16 * 64 - 1) * 8 + 7) :
    (View.ld (iblk m c 1 t : FVec Ideal S1x8x1536 .f32) r0_1 (ix3 0 0 k) : EReal) = ((m ((c : Thread nD τ).loc main_arg0)) : FVec Ideal S4x8192x1536 .f32) (ix3 (bOf t) q k) := by
  refine (ldp _ k).trans ?_
  blk_ext! [iblk, V, idx t, bOf, hq]

/-- The first row of the eight after the tile. -/
theorem b2 (k : Fin 1536) (q : Fin 8192) (hq : q.val = min (t.val % 16 * 64 + 64) 1023 * 8) :
    (View.ld (iblk m c 2 t : FVec Ideal S1x8x1536 .f32) r0_2 (ix3 0 0 k) : EReal) = ((m ((c : Thread nD τ).loc main_arg0)) : FVec Ideal S4x8192x1536 .f32) (ix3 (bOf t) q k) := by
  refine (ldn _ k).trans ?_
  blk_ext! [iblk, V, idx t, bOf, hq]

theorem w0 (k : Fin 1536) :
    (View.ld (iblk m c 3 t : FVec Ideal S3x1536 .f32) r0_3 (ix2 0 k) : EReal) = ((m ((c : Thread nD τ).loc main_arg1)) : FVec Ideal S3x1536 .f32) (ix2 0 k) := by
  refine (ldw0 _ k).trans ?_
  blk_ext! [iblk, V, idx t]

theorem w1 (k : Fin 1536) :
    (View.ld (iblk m c 3 t : FVec Ideal S3x1536 .f32) r0_4 (ix2 0 k) : EReal) = ((m ((c : Thread nD τ).loc main_arg1)) : FVec Ideal S3x1536 .f32) (ix2 1 k) := by
  refine (ldw1 _ k).trans ?_
  blk_ext! [iblk, V, idx t]

theorem w2 (k : Fin 1536) :
    (View.ld (iblk m c 3 t : FVec Ideal S3x1536 .f32) r0_5 (ix2 0 k) : EReal) = ((m ((c : Thread nD τ).loc main_arg1)) : FVec Ideal S3x1536 .f32) (ix2 2 k) := by
  refine (ldw2 _ k).trans ?_
  blk_ext! [iblk, V, idx t]

theorem bb (k : Fin 1536) :
    (View.ld (iblk m c 4 t : FVec Ideal S1x1536 .f32) r0_6 (ix2 0 k) : EReal) = ((m ((c : Thread nD τ).loc main_arg2)) : FVec Ideal S1536 .f32) (ix1 k) := by
  refine (ldb _ k).trans ?_
  blk_ext! [iblk, V, idx t]

/-- The convolution, as the body computes it at a point. -/
theorem u_at (r : Fin 512) (k : Fin 1536) :
    (k0_pay1 (F := Ideal) (k0_pay7 (grid0.coords t) (iblk m c 0 t) (iblk m c 1 t) (iblk m c 2 t) (iblk m c 3 t) (iblk m c 4 t)) (k0_pay8 (grid0.coords t) (iblk m c 0 t) (iblk m c 1 t) (iblk m c 2 t) (iblk m c 3 t) (iblk m c 4 t)) (View.ld (iblk m c 3 t : FVec Ideal S3x1536 .f32) r0_5) (View.ld (iblk m c 4 t : FVec Ideal S1x1536 .f32) r0_6) (ix2 r k) : EReal)
      = U (m ((c : Thread nD τ).loc main_arg0)) (m ((c : Thread nD τ).loc main_arg1)) (m ((c : Thread nD τ).loc main_arg2)) (bOf t) (rOf t r) k := by
  refine (pay1_at _ _ _ _ r k).trans ?_
  have hn : (k0_pay7 (F := Ideal) (grid0.coords t) (iblk m c 0 t) (iblk m c 1 t) (iblk m c 2 t) (iblk m c 3 t) (iblk m c 4 t) (ix2 r k) : EReal) = nxt (m ((c : Thread nD τ).loc main_arg0)) (bOf t) (rOf t r) k := by
    unfold k0_pay7
    rw [ld0]
    refine pay5_at _ _ _ r k _ (fun h => ?_) (fun h => ?_)
    · rw [crd t]
      unfold nxt
      by_cases hT : t.val % 16 = 15
      · rw [if_pos hT, dif_pos (by simp only [rOf]; omega)]
      · rw [if_neg hT, dif_neg (by simp only [rOf]; omega)]
        exact b2 m c t k _ (by simp only [rOf]; omega)
    · unfold nxt
      rw [dif_neg (by have := r.isLt; simp only [rOf]; omega)]
      refine (b0 m c t _ k).trans ?_
      exact congrArg (fun q : Fin 8192 => ((m ((c : Thread nD τ).loc main_arg0)) : FVec Ideal S4x8192x1536 .f32) (ix3 (bOf t) q k)) (Fin.ext (by simp only [rOf]; omega))
  have hp : (k0_pay8 (F := Ideal) (grid0.coords t) (iblk m c 0 t) (iblk m c 1 t) (iblk m c 2 t) (iblk m c 3 t) (iblk m c 4 t) (ix2 r k) : EReal)
      = tap (m ((c : Thread nD τ).loc main_arg0)) (m ((c : Thread nD τ).loc main_arg1)) (bOf t) (rOf t r) k := by
    unfold k0_pay8
    rw [ld0]
    refine (pay6_at _ _ _ _ _ r k (prv (m ((c : Thread nD τ).loc main_arg0)) (bOf t) (rOf t r) k) (fun h => ?_) (fun h => ?_)).trans ?_
    · rw [crd t]
      unfold prv
      by_cases hT : t.val % 16 = 0
      · rw [if_pos hT, if_pos (by simp only [rOf]; omega)]
      · rw [if_neg hT, if_neg (by simp only [rOf]; omega)]
        exact b1 m c t k _ (by simp only [rOf]; omega)
    · unfold prv
      rw [if_neg (by simp only [rOf]; omega)]
      refine (b0 m c t _ k).trans ?_
      exact congrArg (fun q : Fin 8192 => ((m ((c : Thread nD τ).loc main_arg0)) : FVec Ideal S4x8192x1536 .f32) (ix3 (bOf t) q k)) (Fin.ext (by simp only [rOf]; omega))
    · rw [w0 m c t k, w1 m c t k, b0 m c t r k]
      rfl
  rw [hn, hp, w2 m c t k, bb m c t k]
  rfl

/-- Result array 0 after the run: the gated channels. -/
theorem final0 (c : Dev nD) : (dats m 0 c).arrAt 5 cfg0.N = Z (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  refine (congrFun (whole _) y).trans ?_
  idx_vars y
  obtain rfl : y0 = 0 := Subsingleton.elim _ _
  have e : ((View.whole main_v1_0).slice (win0_5.rect t)).emb (ix3 0 y1 y2) = ix3 (bOf t) (rOf t y1) y2 := by blk_ext [idx t, bOf, rOf]
  rw [e]
  exact (pay2_at _ _ _ _ y1 y2).trans (congrArg₂ (fun p q : EReal => p * q) (u_at m c t y1 _) (u_at m c t y1 _))

/-- Result array 1 after the run: the second gate's channels. -/
theorem final1 (c : Dev nD) : (dats m 0 c).arrAt 6 cfg0.N = X0 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  refine (congrFun (whole _) y).trans ?_
  idx_vars y
  obtain rfl : y0 = 0 := Subsingleton.elim _ _
  have e : ((View.whole main_v1_1).slice (win0_6.rect t)).emb (ix3 0 y1 y2) = ix3 (bOf t) (rOf t y1) y2 := by blk_ext [idx t, bOf, rOf]
  rw [e]
  exact (pay3_at _ _ _ _ y1 y2).trans (u_at m c t y1 _)

/-- Kernel and reference, run from memories that agree on the arguments, end with the same two results. -/
theorem algebraic : Cert.algebraic_HypreIdeal_HypreRefIdeal := by
  intro m g m' g' _ ha
  refine ⟨fun c => Z (m ((c : Thread nD τ).loc main_arg0)) (m ((c : Thread nD τ).loc main_arg1)) (m ((c : Thread nD τ).loc main_arg2)), fun c => X0 (m ((c : Thread nD τ).loc main_arg0)) (m ((c : Thread nD τ).loc main_arg1)) (m ((c : Thread nD τ).loc main_arg2)), ?_, ?_⟩
  · exact (θ_run defs _ _).mono (fun r h c => ⟨(h c).1.trans (final0 m c), (h c).2.1.trans (final1 m c), (h c).2.2⟩) (Cert.HypreIdeal.Value.run_blocks m g)
  · refine (θ_run Cert.HypreRefIdeal.defs _ _).mono (fun r h c => ?_) (Cert.HypreRefIdeal.Value.run m' g')
    obtain ⟨h0, h1, h2⟩ := ha c
    obtain ⟨r0, r1, hr⟩ := h c
    rw [h0, h1, h2] at r0 r1
    exact ⟨r0.trans (ref0 _ _ _), r1.trans (ref1 _ _ _), hr⟩

end Cert.HypreIdeal.Final

end
-- ==== Proof.ModulValue.lean ====
/-
  The modulation: the gated conditioning times its matrix, four column blocks of it, is the reference's product at the extended reals.
-/
module

public import proofs.«01_k».proof.Defs
public import proofs.«01_k».proof.Proof.Gen.ModulIdeal.Value
public import proofs.«01_k».proof.Proof.Gen.ModulRefIdeal.Run
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ModulIdeal.Final

open Cert.ModulIdeal Cert.ModulIdeal.Gen

variable (m : (ℓ : Loc nD τ sig) → Buf (Elt Ideal) ℓ)

theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- The reference's composed term. -/
abbrev REF (X : FVec Ideal S8x1024 .f32) (W : FVec Ideal S1024x6144 .f32) (b : FVec Ideal S6144 .f32) : FVec Ideal S8x6144 .f32 :=
  addf (Host.dotGeneral Cert.ModulRefIdeal.dot_S8x1024_S1024x6144_S8x6144_1_0_0_1_n_n none (mulf X (Host.divf (broadcastInDim Cert.ModulRefIdeal.S8x1024 ![] Cert.ModulRefIdeal.Gen.bcast_S_S8x1024 (constant Cert.ModulRefIdeal.S_ .f32 0x3F800000#32)) (addf (broadcastInDim Cert.ModulRefIdeal.S8x1024 ![] Cert.ModulRefIdeal.Gen.bcast_S_S8x1024 (constant Cert.ModulRefIdeal.S_ .f32 0x3F800000#32)) (Host.exp (Host.negf X))))) W) (broadcastInDim Cert.ModulRefIdeal.S8x6144 ![0, 1] Cert.ModulRefIdeal.Gen.bcast_S1x6144_S8x6144_0_1 (broadcastInDim Cert.ModulRefIdeal.S1x6144 ![1] Cert.ModulRefIdeal.Gen.bcast_S6144_S1x6144_1 b))

/-- The result array after the run. -/
theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay1, REF]
  simp only [zero_sub]
  blk_point [iblk, V, idx t]

/-- Kernel and reference, run from memories that agree on the arguments, end with the same result. -/
theorem algebraic : Cert.algebraic_ModulIdeal_ModulRefIdeal := by
  intro m g m' g' _ ha
  refine ⟨fun c => REF (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Cert.ModulIdeal.Value.run_blocks m g)
  · refine (θ_run Cert.ModulRefIdeal.defs _ _).mono (fun r h c => ⟨(h c).1.trans ?_, (h c).2⟩) (Cert.ModulRefIdeal.Value.run m' g')
    obtain ⟨h0, h1, h2⟩ := ha c
    rw [h0, h1, h2]

end Cert.ModulIdeal.Final

end
-- ==== Proof.lean ====
/-
  The claims, each cited from its module.
-/
module

public import proofs.«01_k».proof.Defs
public import proofs.«01_k».proof.Proof.Gen.Experts
public import proofs.«01_k».proof.Proof.Gen.ExpertsIdeal
public import proofs.«01_k».proof.Proof.Gen.ExpertsRefIdeal
public import proofs.«01_k».proof.Proof.Gen.Experts.Frame
public import proofs.«01_k».proof.Proof.Gen.ExpertsIdeal.Frame
public import proofs.«01_k».proof.Proof.Gen.ExpertsRefIdeal.Run
public import proofs.«01_k».proof.Proof.ExpertsValue
public import proofs.«01_k».proof.Proof.Gen.Gather
public import proofs.«01_k».proof.Proof.Gen.GatherIdeal
public import proofs.«01_k».proof.Proof.Gen.GatherRefIdeal
public import proofs.«01_k».proof.Proof.Gen.Gather.Frame
public import proofs.«01_k».proof.Proof.Gen.GatherIdeal.Frame
public import proofs.«01_k».proof.Proof.Gen.GatherRefIdeal.Run
public import proofs.«01_k».proof.Proof.GatherValue
public import proofs.«01_k».proof.Proof.Gen.Scatter
public import proofs.«01_k».proof.Proof.Gen.ScatterIdeal
public import proofs.«01_k».proof.Proof.Gen.ScatterRefIdeal
public import proofs.«01_k».proof.Proof.Gen.Scatter.Frame
public import proofs.«01_k».proof.Proof.Gen.ScatterIdeal.Frame
public import proofs.«01_k».proof.Proof.Gen.ScatterRefIdeal.Run
public import proofs.«01_k».proof.Proof.ScatterValue
public import proofs.«01_k».proof.Proof.Gen.Final
public import proofs.«01_k».proof.Proof.Gen.FinalIdeal
public import proofs.«01_k».proof.Proof.Gen.FinalRefIdeal
public import proofs.«01_k».proof.Proof.Gen.Final.Frame
public import proofs.«01_k».proof.Proof.Gen.FinalIdeal.Frame
public import proofs.«01_k».proof.Proof.Gen.FinalRefIdeal.Run
public import proofs.«01_k».proof.Proof.FinalValue
public import proofs.«01_k».proof.Proof.Gen.Inproj
public import proofs.«01_k».proof.Proof.Gen.InprojIdeal
public import proofs.«01_k».proof.Proof.Gen.InprojRefIdeal
public import proofs.«01_k».proof.Proof.Gen.Inproj.Frame
public import proofs.«01_k».proof.Proof.Gen.InprojIdeal.Frame
public import proofs.«01_k».proof.Proof.Gen.InprojRefIdeal.Run
public import proofs.«01_k».proof.Proof.InprojValue
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Frame
public import proofs.«01_k».proof.Proof.Gen.MergeRefIdeal.Run
public import proofs.«01_k».proof.Proof.MergeValue
public import proofs.«01_k».proof.Proof.Gen.Prep
public import proofs.«01_k».proof.Proof.Gen.PrepIdeal
public import proofs.«01_k».proof.Proof.Gen.PrepRefIdeal
public import proofs.«01_k».proof.Proof.Gen.Prep.Frame
public import proofs.«01_k».proof.Proof.Gen.PrepIdeal.Frame
public import proofs.«01_k».proof.Proof.Gen.PrepRefIdeal.Run
public import proofs.«01_k».proof.Proof.PrepValue
public import proofs.«01_k».proof.Proof.Gen.Ctxproj
public import proofs.«01_k».proof.Proof.Gen.CtxprojIdeal
public import proofs.«01_k».proof.Proof.Gen.CtxprojRefIdeal
public import proofs.«01_k».proof.Proof.Gen.Ctxproj.Frame
public import proofs.«01_k».proof.Proof.Gen.CtxprojIdeal.Frame
public import proofs.«01_k».proof.Proof.Gen.CtxprojRefIdeal.Run
public import proofs.«01_k».proof.Proof.CtxprojValue
public import proofs.«01_k».proof.Proof.Gen.Hypre
public import proofs.«01_k».proof.Proof.Gen.HypreIdeal
public import proofs.«01_k».proof.Proof.Gen.HypreRefIdeal
public import proofs.«01_k».proof.Proof.Gen.Hypre.Frame
public import proofs.«01_k».proof.Proof.Gen.HypreIdeal.Frame
public import proofs.«01_k».proof.Proof.Gen.HypreRefIdeal.Run
public import proofs.«01_k».proof.Proof.HypreValue
public import proofs.«01_k».proof.Proof.Gen.Modul
public import proofs.«01_k».proof.Proof.Gen.ModulIdeal
public import proofs.«01_k».proof.Proof.Gen.ModulRefIdeal
public import proofs.«01_k».proof.Proof.Gen.Modul.Frame
public import proofs.«01_k».proof.Proof.Gen.ModulIdeal.Frame
public import proofs.«01_k».proof.Proof.Gen.ModulRefIdeal.Run
public import proofs.«01_k».proof.Proof.ModulValue
public import proofs.«01_k».proof.Proof.Gen.Pre_idx_in_range
public import proofs.«01_k».proof.Proof.Gen.Pre_idx_in_range2
public import proofs.«01_k».proof.Proof.Gen.Pre_merge_finite
public import proofs.«01_k».proof.Proof.Gen.Pre_prep_finite
public import Idealize.ShloMosaic.Adequacy
public import Idealize.ShloMosaic.Init

@[expose] public section

noncomputable section

namespace Cert.Proof

open Idealize.ShloMosaic Idealize.SL.Sem

/-- The reference of Experts runs and leaves its arguments as they were. -/
theorem ref_frame_Experts : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run m ρ)

/-- The reference of Gather runs and leaves its arguments as they were. -/
theorem ref_frame_Gather : Cert.quiescent_GatherRefIdeal := fun m ρ _ =>
  (θ_run Cert.GatherRefIdeal.defs _ _).mono (fun r h => ⟨fun c => (h c).2, Idealize.ShloMosaic.sem_eq_zero_of_no_sems (by decide) r.2⟩)
    (Cert.GatherRefIdeal.Value.run m ρ)

/-- The reference of Scatter runs and leaves its arguments as they were. -/
theorem ref_frame_Scatter : Cert.quiescent_ScatterRefIdeal := fun m ρ _ =>
  (θ_run Cert.ScatterRefIdeal.defs _ _).mono (fun r h => ⟨fun c => (h c).2, Idealize.ShloMosaic.sem_eq_zero_of_no_sems (by decide) r.2⟩)
    (Cert.ScatterRefIdeal.Value.run m ρ)

/-- The reference of Final runs and leaves its arguments as they were. -/
theorem ref_frame_Final : Cert.quiescent_FinalRefIdeal := fun m ρ _ =>
  (θ_run Cert.FinalRefIdeal.defs _ _).mono (fun r h => ⟨fun c => (h c).2, Idealize.ShloMosaic.sem_eq_zero_of_no_sems (by decide) r.2⟩)
    (Cert.FinalRefIdeal.Value.run m ρ)

/-- The reference of Inproj runs and leaves its arguments as they were. -/
theorem ref_frame_Inproj : Cert.quiescent_InprojRefIdeal := fun m ρ _ =>
  (θ_run Cert.InprojRefIdeal.defs _ _).mono (fun r h => ⟨fun c => (h c).2.2.2, Idealize.ShloMosaic.sem_eq_zero_of_no_sems (by decide) r.2⟩)
    (Cert.InprojRefIdeal.Value.run m ρ)

/-- The reference of Merge runs and leaves its arguments as they were. -/
theorem ref_frame_Merge : Cert.quiescent_MergeRefIdeal := fun m ρ _ =>
  (θ_run Cert.MergeRefIdeal.defs _ _).mono (fun r h => ⟨fun c => (h c).2.2.2.2, Idealize.ShloMosaic.sem_eq_zero_of_no_sems (by decide) r.2⟩)
    (Cert.MergeRefIdeal.Value.run m ρ)

/-- The reference of Prep runs and leaves its arguments as they were. -/
theorem ref_frame_Prep : Cert.quiescent_PrepRefIdeal := fun m ρ _ =>
  (θ_run Cert.PrepRefIdeal.defs _ _).mono (fun r h => ⟨fun c => (h c).2.2.2.2.2.2.2.2, Idealize.ShloMosaic.sem_eq_zero_of_no_sems (by decide) r.2⟩)
    (Cert.PrepRefIdeal.Value.run m ρ)

/-- The reference of Ctxproj runs and leaves its arguments as they were. -/
theorem ref_frame_Ctxproj : Cert.quiescent_CtxprojRefIdeal := fun m ρ _ =>
  (θ_run Cert.CtxprojRefIdeal.defs _ _).mono (fun r h => ⟨fun c => (h c).2, Idealize.ShloMosaic.sem_eq_zero_of_no_sems (by decide) r.2⟩)
    (Cert.CtxprojRefIdeal.Value.run m ρ)

/-- The reference of Hypre runs and leaves its arguments as they were. -/
theorem ref_frame_Hypre : Cert.quiescent_HypreRefIdeal := fun m ρ _ =>
  (θ_run Cert.HypreRefIdeal.defs _ _).mono (fun r h => ⟨fun c => (h c).2.2, Idealize.ShloMosaic.sem_eq_zero_of_no_sems (by decide) r.2⟩)
    (Cert.HypreRefIdeal.Value.run m ρ)

/-- The reference of Modul runs and leaves its arguments as they were. -/
theorem ref_frame_Modul : Cert.quiescent_ModulRefIdeal := fun m ρ _ =>
  (θ_run Cert.ModulRefIdeal.defs _ _).mono (fun r h => ⟨fun c => (h c).2, Idealize.ShloMosaic.sem_eq_zero_of_no_sems (by decide) r.2⟩)
    (Cert.ModulRefIdeal.Value.run m ρ)

/-- Every claim of the certificate: the frames, the two programs of each pair being one text, and each kernel's value. -/
theorem claim : Cert.Claim :=
  ⟨Cert.Experts.Gen.facts,
   Cert.ExpertsIdeal.Gen.facts,
   Cert.ExpertsRefIdeal.Gen.facts,
   Cert.Gather.Gen.facts,
   Cert.GatherIdeal.Gen.facts,
   Cert.GatherRefIdeal.Gen.facts,
   Cert.Scatter.Gen.facts,
   Cert.ScatterIdeal.Gen.facts,
   Cert.ScatterRefIdeal.Gen.facts,
   Cert.Final.Gen.facts,
   Cert.FinalIdeal.Gen.facts,
   Cert.FinalRefIdeal.Gen.facts,
   Cert.Inproj.Gen.facts,
   Cert.InprojIdeal.Gen.facts,
   Cert.InprojRefIdeal.Gen.facts,
   Cert.Merge.Gen.facts,
   Cert.MergeIdeal.Gen.facts,
   Cert.MergeRefIdeal.Gen.facts,
   Cert.Prep.Gen.facts,
   Cert.PrepIdeal.Gen.facts,
   Cert.PrepRefIdeal.Gen.facts,
   Cert.Ctxproj.Gen.facts,
   Cert.CtxprojIdeal.Gen.facts,
   Cert.CtxprojRefIdeal.Gen.facts,
   Cert.Hypre.Gen.facts,
   Cert.HypreIdeal.Gen.facts,
   Cert.HypreRefIdeal.Gen.facts,
   Cert.Modul.Gen.facts,
   Cert.ModulIdeal.Gen.facts,
   Cert.ModulRefIdeal.Gen.facts,
   Cert.Pre_idx_in_range.Gen.facts,
   Cert.Pre_idx_in_range2.Gen.facts,
   Cert.Pre_merge_finite.Gen.facts,
   Cert.Pre_prep_finite.Gen.facts,
   fun m ρ _ => Cert.Experts.Gen.frame m ρ,
   fun m ρ _ => Cert.ExpertsIdeal.Gen.frame m ρ,
   ref_frame_Experts,
   fun m ρ h => Cert.Gather.Gen.frame m ρ (Cert.GatherIdeal.Final.hyps_of_pre_bits m h),
   fun m ρ h => Cert.GatherIdeal.Gen.frame m ρ (Cert.GatherIdeal.Final.hyps_of_pre m h),
   ref_frame_Gather,
   fun m ρ h => Cert.Scatter.Gen.frame m ρ (Cert.ScatterIdeal.Final.hyps_of_pre_bits m h),
   fun m ρ h => Cert.ScatterIdeal.Gen.frame m ρ (Cert.ScatterIdeal.Final.hyps_of_pre m h),
   ref_frame_Scatter,
   fun m ρ _ => Cert.Final.Gen.frame m ρ,
   fun m ρ _ => Cert.FinalIdeal.Gen.frame m ρ,
   ref_frame_Final,
   fun m ρ _ => Cert.Inproj.Gen.frame m ρ,
   fun m ρ _ => Cert.InprojIdeal.Gen.frame m ρ,
   ref_frame_Inproj,
   fun m ρ _ => Cert.Merge.Gen.frame m ρ,
   fun m ρ _ => Cert.MergeIdeal.Gen.frame m ρ,
   ref_frame_Merge,
   fun m ρ _ => Cert.Prep.Gen.frame m ρ,
   fun m ρ _ => Cert.PrepIdeal.Gen.frame m ρ,
   ref_frame_Prep,
   fun m ρ _ => Cert.Ctxproj.Gen.frame m ρ,
   fun m ρ _ => Cert.CtxprojIdeal.Gen.frame m ρ,
   ref_frame_Ctxproj,
   fun m ρ _ => Cert.Hypre.Gen.frame m ρ,
   fun m ρ _ => Cert.HypreIdeal.Gen.frame m ρ,
   ref_frame_Hypre,
   fun m ρ _ => Cert.Modul.Gen.frame m ρ,
   fun m ρ _ => Cert.ModulIdeal.Gen.frame m ρ,
   ref_frame_Modul,
   trivial,
   Cert.ExpertsIdeal.Final.algebraic,
   trivial,
   Cert.GatherIdeal.Final.algebraic,
   trivial,
   Cert.ScatterIdeal.Final.algebraic,
   trivial,
   Cert.FinalIdeal.Final.algebraic,
   trivial,
   Cert.InprojIdeal.Final.algebraic,
   Cert.MergeIdeal.Final.preserves,
   Cert.MergeIdeal.Final.algebraic,
   trivial,
   Cert.PrepIdeal.Final.algebraic,
   trivial,
   Cert.CtxprojIdeal.Final.algebraic,
   trivial,
   Cert.HypreIdeal.Final.algebraic,
   trivial,
   Cert.ModulIdeal.Final.algebraic⟩

end Cert.Proof

end
